-- ==== Defs.lean ====
def Pre_KMlp12 (m : (ℓ : Loc Cert.KMlp12.nD Cert.KMlp12.τ Cert.KMlp12.sig) → Buf (Elt Bits) ℓ) : Prop :=
  True

def Pre_KMlp12Ideal (m : (ℓ : Loc Cert.KMlp12Ideal.nD Cert.KMlp12Ideal.τ Cert.KMlp12Ideal.sig) → Buf (Elt Ideal) ℓ) : Prop :=
  True

def Pre_RMlp12Ideal (m : (ℓ : Loc Cert.RMlp12Ideal.nD Cert.RMlp12Ideal.τ Cert.RMlp12Ideal.sig) → Buf (Elt Ideal) ℓ) : Prop :=
  True

def Pre_KMlp3 (m : (ℓ : Loc Cert.KMlp3.nD Cert.KMlp3.τ Cert.KMlp3.sig) → Buf (Elt Bits) ℓ) : Prop :=
  True

def Pre_KMlp3Ideal (m : (ℓ : Loc Cert.KMlp3Ideal.nD Cert.KMlp3Ideal.τ Cert.KMlp3Ideal.sig) → Buf (Elt Ideal) ℓ) : Prop :=
  True

def Pre_RMlp3Ideal (m : (ℓ : Loc Cert.RMlp3Ideal.nD Cert.RMlp3Ideal.τ Cert.RMlp3Ideal.sig) → Buf (Elt Ideal) ℓ) : Prop :=
  True

def Pre_KFinal (m : (ℓ : Loc Cert.KFinal.nD Cert.KFinal.τ Cert.KFinal.sig) → Buf (Elt Bits) ℓ) : Prop :=
  True

def Pre_KFinalIdeal (m : (ℓ : Loc Cert.KFinalIdeal.nD Cert.KFinalIdeal.τ Cert.KFinalIdeal.sig) → Buf (Elt Ideal) ℓ) : Prop :=
  True

def Pre_RFinalIdeal (m : (ℓ : Loc Cert.RFinalIdeal.nD Cert.RFinalIdeal.τ Cert.RFinalIdeal.sig) → Buf (Elt Ideal) ℓ) : Prop :=
  True

def Pre_KPrep (m : (ℓ : Loc Cert.KPrep.nD Cert.KPrep.τ Cert.KPrep.sig) → Buf (Elt Bits) ℓ) : Prop :=
  True

def Pre_KPrepIdeal (m : (ℓ : Loc Cert.KPrepIdeal.nD Cert.KPrepIdeal.τ Cert.KPrepIdeal.sig) → Buf (Elt Ideal) ℓ) : Prop :=
  True

def Pre_RPrepIdeal (m : (ℓ : Loc Cert.RPrepIdeal.nD Cert.RPrepIdeal.τ Cert.RPrepIdeal.sig) → Buf (Elt Ideal) ℓ) : Prop :=
  True

def Pre_KPrep0 (m : (ℓ : Loc Cert.KPrep0.nD Cert.KPrep0.τ Cert.KPrep0.sig) → Buf (Elt Bits) ℓ) : Prop :=
  True

def Pre_KPrep0Ideal (m : (ℓ : Loc Cert.KPrep0Ideal.nD Cert.KPrep0Ideal.τ Cert.KPrep0Ideal.sig) → Buf (Elt Ideal) ℓ) : Prop :=
  True

def Pre_RPrep0Ideal (m : (ℓ : Loc Cert.RPrep0Ideal.nD Cert.RPrep0Ideal.τ Cert.RPrep0Ideal.sig) → Buf (Elt Ideal) ℓ) : Prop :=
  True

def Pre_KBwdS (m : (ℓ : Loc Cert.KBwdS.nD Cert.KBwdS.τ Cert.KBwdS.sig) → Buf (Elt Bits) ℓ) : Prop :=
  True

def Pre_KBwdSIdeal (m : (ℓ : Loc Cert.KBwdSIdeal.nD Cert.KBwdSIdeal.τ Cert.KBwdSIdeal.sig) → Buf (Elt Ideal) ℓ) : Prop :=
  True

def Pre_KBwdSIdeal_ordered_s [hPre_ordered_s : Cert.Pre_ordered_s.Facts] (m : (ℓ : Loc Cert.KBwdSIdeal.nD Cert.KBwdSIdeal.τ Cert.KBwdSIdeal.sig) → Buf (Elt Ideal) ℓ) : Prop :=
  ∀ c : Dev Cert.KBwdSIdeal.nD,
    (Cert.Pre_ordered_s.fn (F := Ideal) (m ((c.tc : Thread Cert.KBwdSIdeal.nD Cert.KBwdSIdeal.τ).loc Cert.KBwdSIdeal.main_arg0)) (m ((c.tc : Thread Cert.KBwdSIdeal.nD Cert.KBwdSIdeal.τ).loc Cert.KBwdSIdeal.main_arg1)) (m ((c.tc : Thread Cert.KBwdSIdeal.nD Cert.KBwdSIdeal.τ).loc Cert.KBwdSIdeal.main_arg2)) (m ((c.tc : Thread Cert.KBwdSIdeal.nD Cert.KBwdSIdeal.τ).loc Cert.KBwdSIdeal.main_arg3)) (m ((c.tc : Thread Cert.KBwdSIdeal.nD Cert.KBwdSIdeal.τ).loc Cert.KBwdSIdeal.main_arg4))).1 = (fun _ => 1#1)
    ∧ (Cert.Pre_ordered_s.fn (F := Ideal) (m ((c.tc : Thread Cert.KBwdSIdeal.nD Cert.KBwdSIdeal.τ).loc Cert.KBwdSIdeal.main_arg0)) (m ((c.tc : Thread Cert.KBwdSIdeal.nD Cert.KBwdSIdeal.τ).loc Cert.KBwdSIdeal.main_arg1)) (m ((c.tc : Thread Cert.KBwdSIdeal.nD Cert.KBwdSIdeal.τ).loc Cert.KBwdSIdeal.main_arg2)) (m ((c.tc : Thread Cert.KBwdSIdeal.nD Cert.KBwdSIdeal.τ).loc Cert.KBwdSIdeal.main_arg3)) (m ((c.tc : Thread Cert.KBwdSIdeal.nD Cert.KBwdSIdeal.τ).loc Cert.KBwdSIdeal.main_arg4))).2.1 = (fun _ => 1#1)
    ∧ (Cert.Pre_ordered_s.fn (F := Ideal) (m ((c.tc : Thread Cert.KBwdSIdeal.nD Cert.KBwdSIdeal.τ).loc Cert.KBwdSIdeal.main_arg0)) (m ((c.tc : Thread Cert.KBwdSIdeal.nD Cert.KBwdSIdeal.τ).loc Cert.KBwdSIdeal.main_arg1)) (m ((c.tc : Thread Cert.KBwdSIdeal.nD Cert.KBwdSIdeal.τ).loc Cert.KBwdSIdeal.main_arg2)) (m ((c.tc : Thread Cert.KBwdSIdeal.nD Cert.KBwdSIdeal.τ).loc Cert.KBwdSIdeal.main_arg3)) (m ((c.tc : Thread Cert.KBwdSIdeal.nD Cert.KBwdSIdeal.τ).loc Cert.KBwdSIdeal.main_arg4))).2.2.1 = (fun _ => 1#1)
    ∧ (Cert.Pre_ordered_s.fn (F := Ideal) (m ((c.tc : Thread Cert.KBwdSIdeal.nD Cert.KBwdSIdeal.τ).loc Cert.KBwdSIdeal.main_arg0)) (m ((c.tc : Thread Cert.KBwdSIdeal.nD Cert.KBwdSIdeal.τ).loc Cert.KBwdSIdeal.main_arg1)) (m ((c.tc : Thread Cert.KBwdSIdeal.nD Cert.KBwdSIdeal.τ).loc Cert.KBwdSIdeal.main_arg2)) (m ((c.tc : Thread Cert.KBwdSIdeal.nD Cert.KBwdSIdeal.τ).loc Cert.KBwdSIdeal.main_arg3)) (m ((c.tc : Thread Cert.KBwdSIdeal.nD Cert.KBwdSIdeal.τ).loc Cert.KBwdSIdeal.main_arg4))).2.2.2 = (fun _ => 1#1)

def Pre_RBwdSIdeal (m : (ℓ : Loc Cert.RBwdSIdeal.nD Cert.RBwdSIdeal.τ Cert.RBwdSIdeal.sig) → Buf (Elt Ideal) ℓ) : Prop :=
  True

def Pre_RBwdSIdeal_ordered_s [hPre_ordered_s : Cert.Pre_ordered_s.Facts] (m : (ℓ : Loc Cert.RBwdSIdeal.nD Cert.RBwdSIdeal.τ Cert.RBwdSIdeal.sig) → Buf (Elt Ideal) ℓ) : Prop :=
  ∀ c : Dev Cert.RBwdSIdeal.nD,
    (Cert.Pre_ordered_s.fn (F := Ideal) (m ((c.tc : Thread Cert.RBwdSIdeal.nD Cert.RBwdSIdeal.τ).loc Cert.RBwdSIdeal.main_arg0)) (m ((c.tc : Thread Cert.RBwdSIdeal.nD Cert.RBwdSIdeal.τ).loc Cert.RBwdSIdeal.main_arg1)) (m ((c.tc : Thread Cert.RBwdSIdeal.nD Cert.RBwdSIdeal.τ).loc Cert.RBwdSIdeal.main_arg2)) (m ((c.tc : Thread Cert.RBwdSIdeal.nD Cert.RBwdSIdeal.τ).loc Cert.RBwdSIdeal.main_arg3)) (m ((c.tc : Thread Cert.RBwdSIdeal.nD Cert.RBwdSIdeal.τ).loc Cert.RBwdSIdeal.main_arg4))).1 = (fun _ => 1#1)
    ∧ (Cert.Pre_ordered_s.fn (F := Ideal) (m ((c.tc : Thread Cert.RBwdSIdeal.nD Cert.RBwdSIdeal.τ).loc Cert.RBwdSIdeal.main_arg0)) (m ((c.tc : Thread Cert.RBwdSIdeal.nD Cert.RBwdSIdeal.τ).loc Cert.RBwdSIdeal.main_arg1)) (m ((c.tc : Thread Cert.RBwdSIdeal.nD Cert.RBwdSIdeal.τ).loc Cert.RBwdSIdeal.main_arg2)) (m ((c.tc : Thread Cert.RBwdSIdeal.nD Cert.RBwdSIdeal.τ).loc Cert.RBwdSIdeal.main_arg3)) (m ((c.tc : Thread Cert.RBwdSIdeal.nD Cert.RBwdSIdeal.τ).loc Cert.RBwdSIdeal.main_arg4))).2.1 = (fun _ => 1#1)
    ∧ (Cert.Pre_ordered_s.fn (F := Ideal) (m ((c.tc : Thread Cert.RBwdSIdeal.nD Cert.RBwdSIdeal.τ).loc Cert.RBwdSIdeal.main_arg0)) (m ((c.tc : Thread Cert.RBwdSIdeal.nD Cert.RBwdSIdeal.τ).loc Cert.RBwdSIdeal.main_arg1)) (m ((c.tc : Thread Cert.RBwdSIdeal.nD Cert.RBwdSIdeal.τ).loc Cert.RBwdSIdeal.main_arg2)) (m ((c.tc : Thread Cert.RBwdSIdeal.nD Cert.RBwdSIdeal.τ).loc Cert.RBwdSIdeal.main_arg3)) (m ((c.tc : Thread Cert.RBwdSIdeal.nD Cert.RBwdSIdeal.τ).loc Cert.RBwdSIdeal.main_arg4))).2.2.1 = (fun _ => 1#1)
    ∧ (Cert.Pre_ordered_s.fn (F := Ideal) (m ((c.tc : Thread Cert.RBwdSIdeal.nD Cert.RBwdSIdeal.τ).loc Cert.RBwdSIdeal.main_arg0)) (m ((c.tc : Thread Cert.RBwdSIdeal.nD Cert.RBwdSIdeal.τ).loc Cert.RBwdSIdeal.main_arg1)) (m ((c.tc : Thread Cert.RBwdSIdeal.nD Cert.RBwdSIdeal.τ).loc Cert.RBwdSIdeal.main_arg2)) (m ((c.tc : Thread Cert.RBwdSIdeal.nD Cert.RBwdSIdeal.τ).loc Cert.RBwdSIdeal.main_arg3)) (m ((c.tc : Thread Cert.RBwdSIdeal.nD Cert.RBwdSIdeal.τ).loc Cert.RBwdSIdeal.main_arg4))).2.2.2 = (fun _ => 1#1)

def Pre_KBwdQ (m : (ℓ : Loc Cert.KBwdQ.nD Cert.KBwdQ.τ Cert.KBwdQ.sig) → Buf (Elt Bits) ℓ) : Prop :=
  True

def Pre_KBwdQIdeal (m : (ℓ : Loc Cert.KBwdQIdeal.nD Cert.KBwdQIdeal.τ Cert.KBwdQIdeal.sig) → Buf (Elt Ideal) ℓ) : Prop :=
  True

def Pre_KBwdQIdeal_ordered_q [hPre_ordered_q : Cert.Pre_ordered_q.Facts] (m : (ℓ : Loc Cert.KBwdQIdeal.nD Cert.KBwdQIdeal.τ Cert.KBwdQIdeal.sig) → Buf (Elt Ideal) ℓ) : Prop :=
  ∀ c : Dev Cert.KBwdQIdeal.nD,
    (Cert.Pre_ordered_q.fn (F := Ideal) (m ((c.tc : Thread Cert.KBwdQIdeal.nD Cert.KBwdQIdeal.τ).loc Cert.KBwdQIdeal.main_arg0)) (m ((c.tc : Thread Cert.KBwdQIdeal.nD Cert.KBwdQIdeal.τ).loc Cert.KBwdQIdeal.main_arg1)) (m ((c.tc : Thread Cert.KBwdQIdeal.nD Cert.KBwdQIdeal.τ).loc Cert.KBwdQIdeal.main_arg2)) (m ((c.tc : Thread Cert.KBwdQIdeal.nD Cert.KBwdQIdeal.τ).loc Cert.KBwdQIdeal.main_arg3)) (m ((c.tc : Thread Cert.KBwdQIdeal.nD Cert.KBwdQIdeal.τ).loc Cert.KBwdQIdeal.main_arg4))).1 = (fun _ => 1#1)
    ∧ (Cert.Pre_ordered_q.fn (F := Ideal) (m ((c.tc : Thread Cert.KBwdQIdeal.nD Cert.KBwdQIdeal.τ).loc Cert.KBwdQIdeal.main_arg0)) (m ((c.tc : Thread Cert.KBwdQIdeal.nD Cert.KBwdQIdeal.τ).loc Cert.KBwdQIdeal.main_arg1)) (m ((c.tc : Thread Cert.KBwdQIdeal.nD Cert.KBwdQIdeal.τ).loc Cert.KBwdQIdeal.main_arg2)) (m ((c.tc : Thread Cert.KBwdQIdeal.nD Cert.KBwdQIdeal.τ).loc Cert.KBwdQIdeal.main_arg3)) (m ((c.tc : Thread Cert.KBwdQIdeal.nD Cert.KBwdQIdeal.τ).loc Cert.KBwdQIdeal.main_arg4))).2.1 = (fun _ => 1#1)
    ∧ (Cert.Pre_ordered_q.fn (F := Ideal) (m ((c.tc : Thread Cert.KBwdQIdeal.nD Cert.KBwdQIdeal.τ).loc Cert.KBwdQIdeal.main_arg0)) (m ((c.tc : Thread Cert.KBwdQIdeal.nD Cert.KBwdQIdeal.τ).loc Cert.KBwdQIdeal.main_arg1)) (m ((c.tc : Thread Cert.KBwdQIdeal.nD Cert.KBwdQIdeal.τ).loc Cert.KBwdQIdeal.main_arg2)) (m ((c.tc : Thread Cert.KBwdQIdeal.nD Cert.KBwdQIdeal.τ).loc Cert.KBwdQIdeal.main_arg3)) (m ((c.tc : Thread Cert.KBwdQIdeal.nD Cert.KBwdQIdeal.τ).loc Cert.KBwdQIdeal.main_arg4))).2.2.1 = (fun _ => 1#1)
    ∧ (Cert.Pre_ordered_q.fn (F := Ideal) (m ((c.tc : Thread Cert.KBwdQIdeal.nD Cert.KBwdQIdeal.τ).loc Cert.KBwdQIdeal.main_arg0)) (m ((c.tc : Thread Cert.KBwdQIdeal.nD Cert.KBwdQIdeal.τ).loc Cert.KBwdQIdeal.main_arg1)) (m ((c.tc : Thread Cert.KBwdQIdeal.nD Cert.KBwdQIdeal.τ).loc Cert.KBwdQIdeal.main_arg2)) (m ((c.tc : Thread Cert.KBwdQIdeal.nD Cert.KBwdQIdeal.τ).loc Cert.KBwdQIdeal.main_arg3)) (m ((c.tc : Thread Cert.KBwdQIdeal.nD Cert.KBwdQIdeal.τ).loc Cert.KBwdQIdeal.main_arg4))).2.2.2 = (fun _ => 1#1)

def Pre_RBwdQIdeal (m : (ℓ : Loc Cert.RBwdQIdeal.nD Cert.RBwdQIdeal.τ Cert.RBwdQIdeal.sig) → Buf (Elt Ideal) ℓ) : Prop :=
  True

def Pre_RBwdQIdeal_ordered_q [hPre_ordered_q : Cert.Pre_ordered_q.Facts] (m : (ℓ : Loc Cert.RBwdQIdeal.nD Cert.RBwdQIdeal.τ Cert.RBwdQIdeal.sig) → Buf (Elt Ideal) ℓ) : Prop :=
  ∀ c : Dev Cert.RBwdQIdeal.nD,
    (Cert.Pre_ordered_q.fn (F := Ideal) (m ((c.tc : Thread Cert.RBwdQIdeal.nD Cert.RBwdQIdeal.τ).loc Cert.RBwdQIdeal.main_arg0)) (m ((c.tc : Thread Cert.RBwdQIdeal.nD Cert.RBwdQIdeal.τ).loc Cert.RBwdQIdeal.main_arg1)) (m ((c.tc : Thread Cert.RBwdQIdeal.nD Cert.RBwdQIdeal.τ).loc Cert.RBwdQIdeal.main_arg2)) (m ((c.tc : Thread Cert.RBwdQIdeal.nD Cert.RBwdQIdeal.τ).loc Cert.RBwdQIdeal.main_arg3)) (m ((c.tc : Thread Cert.RBwdQIdeal.nD Cert.RBwdQIdeal.τ).loc Cert.RBwdQIdeal.main_arg4))).1 = (fun _ => 1#1)
    ∧ (Cert.Pre_ordered_q.fn (F := Ideal) (m ((c.tc : Thread Cert.RBwdQIdeal.nD Cert.RBwdQIdeal.τ).loc Cert.RBwdQIdeal.main_arg0)) (m ((c.tc : Thread Cert.RBwdQIdeal.nD Cert.RBwdQIdeal.τ).loc Cert.RBwdQIdeal.main_arg1)) (m ((c.tc : Thread Cert.RBwdQIdeal.nD Cert.RBwdQIdeal.τ).loc Cert.RBwdQIdeal.main_arg2)) (m ((c.tc : Thread Cert.RBwdQIdeal.nD Cert.RBwdQIdeal.τ).loc Cert.RBwdQIdeal.main_arg3)) (m ((c.tc : Thread Cert.RBwdQIdeal.nD Cert.RBwdQIdeal.τ).loc Cert.RBwdQIdeal.main_arg4))).2.1 = (fun _ => 1#1)
    ∧ (Cert.Pre_ordered_q.fn (F := Ideal) (m ((c.tc : Thread Cert.RBwdQIdeal.nD Cert.RBwdQIdeal.τ).loc Cert.RBwdQIdeal.main_arg0)) (m ((c.tc : Thread Cert.RBwdQIdeal.nD Cert.RBwdQIdeal.τ).loc Cert.RBwdQIdeal.main_arg1)) (m ((c.tc : Thread Cert.RBwdQIdeal.nD Cert.RBwdQIdeal.τ).loc Cert.RBwdQIdeal.main_arg2)) (m ((c.tc : Thread Cert.RBwdQIdeal.nD Cert.RBwdQIdeal.τ).loc Cert.RBwdQIdeal.main_arg3)) (m ((c.tc : Thread Cert.RBwdQIdeal.nD Cert.RBwdQIdeal.τ).loc Cert.RBwdQIdeal.main_arg4))).2.2.1 = (fun _ => 1#1)
    ∧ (Cert.Pre_ordered_q.fn (F := Ideal) (m ((c.tc : Thread Cert.RBwdQIdeal.nD Cert.RBwdQIdeal.τ).loc Cert.RBwdQIdeal.main_arg0)) (m ((c.tc : Thread Cert.RBwdQIdeal.nD Cert.RBwdQIdeal.τ).loc Cert.RBwdQIdeal.main_arg1)) (m ((c.tc : Thread Cert.RBwdQIdeal.nD Cert.RBwdQIdeal.τ).loc Cert.RBwdQIdeal.main_arg2)) (m ((c.tc : Thread Cert.RBwdQIdeal.nD Cert.RBwdQIdeal.τ).loc Cert.RBwdQIdeal.main_arg3)) (m ((c.tc : Thread Cert.RBwdQIdeal.nD Cert.RBwdQIdeal.τ).loc Cert.RBwdQIdeal.main_arg4))).2.2.2 = (fun _ => 1#1)

def quiescent_KMlp12 [hKMlp12 : Cert.KMlp12.Facts] : Prop :=
  ∀ (m : (ℓ : Loc Cert.KMlp12.nD Cert.KMlp12.τ Cert.KMlp12.sig) → Buf (Elt Bits) ℓ) (g : Dev Cert.KMlp12.nD → PrngReg), Pre_KMlp12 m →
    θ_run (Cert.KMlp12.defs (F := Bits)) (onTc (τ := Cert.KMlp12.τ) (Cert.KMlp12.main (F := Bits))) ⟨m, fun _ => 0, g⟩ (fun r => (∀ c : Dev Cert.KMlp12.nD,
      r.2.mem ((c.tc : Thread Cert.KMlp12.nD Cert.KMlp12.τ).loc Cert.KMlp12.main_arg0) = m ((c.tc : Thread Cert.KMlp12.nD Cert.KMlp12.τ).loc Cert.KMlp12.main_arg0)
      ∧ r.2.mem ((c.tc : Thread Cert.KMlp12.nD Cert.KMlp12.τ).loc Cert.KMlp12.main_arg1) = m ((c.tc : Thread Cert.KMlp12.nD Cert.KMlp12.τ).loc Cert.KMlp12.main_arg1)
      ∧ r.2.mem ((c.tc : Thread Cert.KMlp12.nD Cert.KMlp12.τ).loc Cert.KMlp12.main_arg2) = m ((c.tc : Thread Cert.KMlp12.nD Cert.KMlp12.τ).loc Cert.KMlp12.main_arg2)
      ∧ r.2.mem ((c.tc : Thread Cert.KMlp12.nD Cert.KMlp12.τ).loc Cert.KMlp12.main_arg3) = m ((c.tc : Thread Cert.KMlp12.nD Cert.KMlp12.τ).loc Cert.KMlp12.main_arg3)
      ∧ r.2.mem ((c.tc : Thread Cert.KMlp12.nD Cert.KMlp12.τ).loc Cert.KMlp12.main_arg4) = m ((c.tc : Thread Cert.KMlp12.nD Cert.KMlp12.τ).loc Cert.KMlp12.main_arg4))
      ∧ r.2.sem = fun _ => 0)

def quiescent_KMlp12Ideal [hKMlp12Ideal : Cert.KMlp12Ideal.Facts] : Prop :=
  ∀ (m : (ℓ : Loc Cert.KMlp12Ideal.nD Cert.KMlp12Ideal.τ Cert.KMlp12Ideal.sig) → Buf (Elt Ideal) ℓ) (g : Dev Cert.KMlp12Ideal.nD → PrngReg), Pre_KMlp12Ideal m →
    θ_run (Cert.KMlp12Ideal.defs (F := Ideal)) (onTc (τ := Cert.KMlp12Ideal.τ) (Cert.KMlp12Ideal.main (F := Ideal))) ⟨m, fun _ => 0, g⟩ (fun r => (∀ c : Dev Cert.KMlp12Ideal.nD,
      r.2.mem ((c.tc : Thread Cert.KMlp12Ideal.nD Cert.KMlp12Ideal.τ).loc Cert.KMlp12Ideal.main_arg0) = m ((c.tc : Thread Cert.KMlp12Ideal.nD Cert.KMlp12Ideal.τ).loc Cert.KMlp12Ideal.main_arg0)
      ∧ r.2.mem ((c.tc : Thread Cert.KMlp12Ideal.nD Cert.KMlp12Ideal.τ).loc Cert.KMlp12Ideal.main_arg1) = m ((c.tc : Thread Cert.KMlp12Ideal.nD Cert.KMlp12Ideal.τ).loc Cert.KMlp12Ideal.main_arg1)
      ∧ r.2.mem ((c.tc : Thread Cert.KMlp12Ideal.nD Cert.KMlp12Ideal.τ).loc Cert.KMlp12Ideal.main_arg2) = m ((c.tc : Thread Cert.KMlp12Ideal.nD Cert.KMlp12Ideal.τ).loc Cert.KMlp12Ideal.main_arg2)
      ∧ r.2.mem ((c.tc : Thread Cert.KMlp12Ideal.nD Cert.KMlp12Ideal.τ).loc Cert.KMlp12Ideal.main_arg3) = m ((c.tc : Thread Cert.KMlp12Ideal.nD Cert.KMlp12Ideal.τ).loc Cert.KMlp12Ideal.main_arg3)
      ∧ r.2.mem ((c.tc : Thread Cert.KMlp12Ideal.nD Cert.KMlp12Ideal.τ).loc Cert.KMlp12Ideal.main_arg4) = m ((c.tc : Thread Cert.KMlp12Ideal.nD Cert.KMlp12Ideal.τ).loc Cert.KMlp12Ideal.main_arg4))
      ∧ r.2.sem = fun _ => 0)

def quiescent_RMlp12Ideal [hRMlp12Ideal : Cert.RMlp12Ideal.Facts] : Prop :=
  ∀ (m : (ℓ : Loc Cert.RMlp12Ideal.nD Cert.RMlp12Ideal.τ Cert.RMlp12Ideal.sig) → Buf (Elt Ideal) ℓ) (g : Dev Cert.RMlp12Ideal.nD → PrngReg), Pre_RMlp12Ideal m →
    θ_run (Cert.RMlp12Ideal.defs (F := Ideal)) (onTc (τ := Cert.RMlp12Ideal.τ) (Cert.RMlp12Ideal.main (F := Ideal))) ⟨m, fun _ => 0, g⟩ (fun r => (∀ c : Dev Cert.RMlp12Ideal.nD,
      r.2.mem ((c.tc : Thread Cert.RMlp12Ideal.nD Cert.RMlp12Ideal.τ).loc Cert.RMlp12Ideal.main_arg0) = m ((c.tc : Thread Cert.RMlp12Ideal.nD Cert.RMlp12Ideal.τ).loc Cert.RMlp12Ideal.main_arg0)
      ∧ r.2.mem ((c.tc : Thread Cert.RMlp12Ideal.nD Cert.RMlp12Ideal.τ).loc Cert.RMlp12Ideal.main_arg1) = m ((c.tc : Thread Cert.RMlp12Ideal.nD Cert.RMlp12Ideal.τ).loc Cert.RMlp12Ideal.main_arg1)
      ∧ r.2.mem ((c.tc : Thread Cert.RMlp12Ideal.nD Cert.RMlp12Ideal.τ).loc Cert.RMlp12Ideal.main_arg2) = m ((c.tc : Thread Cert.RMlp12Ideal.nD Cert.RMlp12Ideal.τ).loc Cert.RMlp12Ideal.main_arg2)
      ∧ r.2.mem ((c.tc : Thread Cert.RMlp12Ideal.nD Cert.RMlp12Ideal.τ).loc Cert.RMlp12Ideal.main_arg3) = m ((c.tc : Thread Cert.RMlp12Ideal.nD Cert.RMlp12Ideal.τ).loc Cert.RMlp12Ideal.main_arg3)
      ∧ r.2.mem ((c.tc : Thread Cert.RMlp12Ideal.nD Cert.RMlp12Ideal.τ).loc Cert.RMlp12Ideal.main_arg4) = m ((c.tc : Thread Cert.RMlp12Ideal.nD Cert.RMlp12Ideal.τ).loc Cert.RMlp12Ideal.main_arg4))
      ∧ r.2.sem = fun _ => 0)

def quiescent_KMlp3 [hKMlp3 : Cert.KMlp3.Facts] : Prop :=
  ∀ (m : (ℓ : Loc Cert.KMlp3.nD Cert.KMlp3.τ Cert.KMlp3.sig) → Buf (Elt Bits) ℓ) (g : Dev Cert.KMlp3.nD → PrngReg), Pre_KMlp3 m →
    θ_run (Cert.KMlp3.defs (F := Bits)) (onTc (τ := Cert.KMlp3.τ) (Cert.KMlp3.main (F := Bits))) ⟨m, fun _ => 0, g⟩ (fun r => (∀ c : Dev Cert.KMlp3.nD,
      r.2.mem ((c.tc : Thread Cert.KMlp3.nD Cert.KMlp3.τ).loc Cert.KMlp3.main_arg0) = m ((c.tc : Thread Cert.KMlp3.nD Cert.KMlp3.τ).loc Cert.KMlp3.main_arg0)
      ∧ r.2.mem ((c.tc : Thread Cert.KMlp3.nD Cert.KMlp3.τ).loc Cert.KMlp3.main_arg1) = m ((c.tc : Thread Cert.KMlp3.nD Cert.KMlp3.τ).loc Cert.KMlp3.main_arg1)
      ∧ r.2.mem ((c.tc : Thread Cert.KMlp3.nD Cert.KMlp3.τ).loc Cert.KMlp3.main_arg2) = m ((c.tc : Thread Cert.KMlp3.nD Cert.KMlp3.τ).loc Cert.KMlp3.main_arg2))
      ∧ r.2.sem = fun _ => 0)

def quiescent_KMlp3Ideal [hKMlp3Ideal : Cert.KMlp3Ideal.Facts] : Prop :=
  ∀ (m : (ℓ : Loc Cert.KMlp3Ideal.nD Cert.KMlp3Ideal.τ Cert.KMlp3Ideal.sig) → Buf (Elt Ideal) ℓ) (g : Dev Cert.KMlp3Ideal.nD → PrngReg), Pre_KMlp3Ideal m →
    θ_run (Cert.KMlp3Ideal.defs (F := Ideal)) (onTc (τ := Cert.KMlp3Ideal.τ) (Cert.KMlp3Ideal.main (F := Ideal))) ⟨m, fun _ => 0, g⟩ (fun r => (∀ c : Dev Cert.KMlp3Ideal.nD,
      r.2.mem ((c.tc : Thread Cert.KMlp3Ideal.nD Cert.KMlp3Ideal.τ).loc Cert.KMlp3Ideal.main_arg0) = m ((c.tc : Thread Cert.KMlp3Ideal.nD Cert.KMlp3Ideal.τ).loc Cert.KMlp3Ideal.main_arg0)
      ∧ r.2.mem ((c.tc : Thread Cert.KMlp3Ideal.nD Cert.KMlp3Ideal.τ).loc Cert.KMlp3Ideal.main_arg1) = m ((c.tc : Thread Cert.KMlp3Ideal.nD Cert.KMlp3Ideal.τ).loc Cert.KMlp3Ideal.main_arg1)
      ∧ r.2.mem ((c.tc : Thread Cert.KMlp3Ideal.nD Cert.KMlp3Ideal.τ).loc Cert.KMlp3Ideal.main_arg2) = m ((c.tc : Thread Cert.KMlp3Ideal.nD Cert.KMlp3Ideal.τ).loc Cert.KMlp3Ideal.main_arg2))
      ∧ r.2.sem = fun _ => 0)

def quiescent_RMlp3Ideal [hRMlp3Ideal : Cert.RMlp3Ideal.Facts] : Prop :=
  ∀ (m : (ℓ : Loc Cert.RMlp3Ideal.nD Cert.RMlp3Ideal.τ Cert.RMlp3Ideal.sig) → Buf (Elt Ideal) ℓ) (g : Dev Cert.RMlp3Ideal.nD → PrngReg), Pre_RMlp3Ideal m →
    θ_run (Cert.RMlp3Ideal.defs (F := Ideal)) (onTc (τ := Cert.RMlp3Ideal.τ) (Cert.RMlp3Ideal.main (F := Ideal))) ⟨m, fun _ => 0, g⟩ (fun r => (∀ c : Dev Cert.RMlp3Ideal.nD,
      r.2.mem ((c.tc : Thread Cert.RMlp3Ideal.nD Cert.RMlp3Ideal.τ).loc Cert.RMlp3Ideal.main_arg0) = m ((c.tc : Thread Cert.RMlp3Ideal.nD Cert.RMlp3Ideal.τ).loc Cert.RMlp3Ideal.main_arg0)
      ∧ r.2.mem ((c.tc : Thread Cert.RMlp3Ideal.nD Cert.RMlp3Ideal.τ).loc Cert.RMlp3Ideal.main_arg1) = m ((c.tc : Thread Cert.RMlp3Ideal.nD Cert.RMlp3Ideal.τ).loc Cert.RMlp3Ideal.main_arg1)
      ∧ r.2.mem ((c.tc : Thread Cert.RMlp3Ideal.nD Cert.RMlp3Ideal.τ).loc Cert.RMlp3Ideal.main_arg2) = m ((c.tc : Thread Cert.RMlp3Ideal.nD Cert.RMlp3Ideal.τ).loc Cert.RMlp3Ideal.main_arg2))
      ∧ r.2.sem = fun _ => 0)

def quiescent_KFinal [hKFinal : Cert.KFinal.Facts] : Prop :=
  ∀ (m : (ℓ : Loc Cert.KFinal.nD Cert.KFinal.τ Cert.KFinal.sig) → Buf (Elt Bits) ℓ) (g : Dev Cert.KFinal.nD → PrngReg), Pre_KFinal m →
    θ_run (Cert.KFinal.defs (F := Bits)) (onTc (τ := Cert.KFinal.τ) (Cert.KFinal.main (F := Bits))) ⟨m, fun _ => 0, g⟩ (fun r => (∀ c : Dev Cert.KFinal.nD,
      r.2.mem ((c.tc : Thread Cert.KFinal.nD Cert.KFinal.τ).loc Cert.KFinal.main_arg0) = m ((c.tc : Thread Cert.KFinal.nD Cert.KFinal.τ).loc Cert.KFinal.main_arg0)
      ∧ r.2.mem ((c.tc : Thread Cert.KFinal.nD Cert.KFinal.τ).loc Cert.KFinal.main_arg1) = m ((c.tc : Thread Cert.KFinal.nD Cert.KFinal.τ).loc Cert.KFinal.main_arg1)
      ∧ r.2.mem ((c.tc : Thread Cert.KFinal.nD Cert.KFinal.τ).loc Cert.KFinal.main_arg2) = m ((c.tc : Thread Cert.KFinal.nD Cert.KFinal.τ).loc Cert.KFinal.main_arg2))
      ∧ r.2.sem = fun _ => 0)

def quiescent_KFinalIdeal [hKFinalIdeal : Cert.KFinalIdeal.Facts] : Prop :=
  ∀ (m : (ℓ : Loc Cert.KFinalIdeal.nD Cert.KFinalIdeal.τ Cert.KFinalIdeal.sig) → Buf (Elt Ideal) ℓ) (g : Dev Cert.KFinalIdeal.nD → PrngReg), Pre_KFinalIdeal m →
    θ_run (Cert.KFinalIdeal.defs (F := Ideal)) (onTc (τ := Cert.KFinalIdeal.τ) (Cert.KFinalIdeal.main (F := Ideal))) ⟨m, fun _ => 0, g⟩ (fun r => (∀ c : Dev Cert.KFinalIdeal.nD,
      r.2.mem ((c.tc : Thread Cert.KFinalIdeal.nD Cert.KFinalIdeal.τ).loc Cert.KFinalIdeal.main_arg0) = m ((c.tc : Thread Cert.KFinalIdeal.nD Cert.KFinalIdeal.τ).loc Cert.KFinalIdeal.main_arg0)
      ∧ r.2.mem ((c.tc : Thread Cert.KFinalIdeal.nD Cert.KFinalIdeal.τ).loc Cert.KFinalIdeal.main_arg1) = m ((c.tc : Thread Cert.KFinalIdeal.nD Cert.KFinalIdeal.τ).loc Cert.KFinalIdeal.main_arg1)
      ∧ r.2.mem ((c.tc : Thread Cert.KFinalIdeal.nD Cert.KFinalIdeal.τ).loc Cert.KFinalIdeal.main_arg2) = m ((c.tc : Thread Cert.KFinalIdeal.nD Cert.KFinalIdeal.τ).loc Cert.KFinalIdeal.main_arg2))
      ∧ r.2.sem = fun _ => 0)

def quiescent_RFinalIdeal [hRFinalIdeal : Cert.RFinalIdeal.Facts] : Prop :=
  ∀ (m : (ℓ : Loc Cert.RFinalIdeal.nD Cert.RFinalIdeal.τ Cert.RFinalIdeal.sig) → Buf (Elt Ideal) ℓ) (g : Dev Cert.RFinalIdeal.nD → PrngReg), Pre_RFinalIdeal m →
    θ_run (Cert.RFinalIdeal.defs (F := Ideal)) (onTc (τ := Cert.RFinalIdeal.τ) (Cert.RFinalIdeal.main (F := Ideal))) ⟨m, fun _ => 0, g⟩ (fun r => (∀ c : Dev Cert.RFinalIdeal.nD,
      r.2.mem ((c.tc : Thread Cert.RFinalIdeal.nD Cert.RFinalIdeal.τ).loc Cert.RFinalIdeal.main_arg0) = m ((c.tc : Thread Cert.RFinalIdeal.nD Cert.RFinalIdeal.τ).loc Cert.RFinalIdeal.main_arg0)
      ∧ r.2.mem ((c.tc : Thread Cert.RFinalIdeal.nD Cert.RFinalIdeal.τ).loc Cert.RFinalIdeal.main_arg1) = m ((c.tc : Thread Cert.RFinalIdeal.nD Cert.RFinalIdeal.τ).loc Cert.RFinalIdeal.main_arg1)
      ∧ r.2.mem ((c.tc : Thread Cert.RFinalIdeal.nD Cert.RFinalIdeal.τ).loc Cert.RFinalIdeal.main_arg2) = m ((c.tc : Thread Cert.RFinalIdeal.nD Cert.RFinalIdeal.τ).loc Cert.RFinalIdeal.main_arg2))
      ∧ r.2.sem = fun _ => 0)

def quiescent_KPrep [hKPrep : Cert.KPrep.Facts] : Prop :=
  ∀ (m : (ℓ : Loc Cert.KPrep.nD Cert.KPrep.τ Cert.KPrep.sig) → Buf (Elt Bits) ℓ) (g : Dev Cert.KPrep.nD → PrngReg), Pre_KPrep m →
    θ_run (Cert.KPrep.defs (F := Bits)) (onTc (τ := Cert.KPrep.τ) (Cert.KPrep.main (F := Bits))) ⟨m, fun _ => 0, g⟩ (fun r => (∀ c : Dev Cert.KPrep.nD,
      r.2.mem ((c.tc : Thread Cert.KPrep.nD Cert.KPrep.τ).loc Cert.KPrep.main_arg0) = m ((c.tc : Thread Cert.KPrep.nD Cert.KPrep.τ).loc Cert.KPrep.main_arg0)
      ∧ r.2.mem ((c.tc : Thread Cert.KPrep.nD Cert.KPrep.τ).loc Cert.KPrep.main_arg1) = m ((c.tc : Thread Cert.KPrep.nD Cert.KPrep.τ).loc Cert.KPrep.main_arg1))
      ∧ r.2.sem = fun _ => 0)

def quiescent_KPrepIdeal [hKPrepIdeal : Cert.KPrepIdeal.Facts] : Prop :=
  ∀ (m : (ℓ : Loc Cert.KPrepIdeal.nD Cert.KPrepIdeal.τ Cert.KPrepIdeal.sig) → Buf (Elt Ideal) ℓ) (g : Dev Cert.KPrepIdeal.nD → PrngReg), Pre_KPrepIdeal m →
    θ_run (Cert.KPrepIdeal.defs (F := Ideal)) (onTc (τ := Cert.KPrepIdeal.τ) (Cert.KPrepIdeal.main (F := Ideal))) ⟨m, fun _ => 0, g⟩ (fun r => (∀ c : Dev Cert.KPrepIdeal.nD,
      r.2.mem ((c.tc : Thread Cert.KPrepIdeal.nD Cert.KPrepIdeal.τ).loc Cert.KPrepIdeal.main_arg0) = m ((c.tc : Thread Cert.KPrepIdeal.nD Cert.KPrepIdeal.τ).loc Cert.KPrepIdeal.main_arg0)
      ∧ r.2.mem ((c.tc : Thread Cert.KPrepIdeal.nD Cert.KPrepIdeal.τ).loc Cert.KPrepIdeal.main_arg1) = m ((c.tc : Thread Cert.KPrepIdeal.nD Cert.KPrepIdeal.τ).loc Cert.KPrepIdeal.main_arg1))
      ∧ r.2.sem = fun _ => 0)

def quiescent_RPrepIdeal [hRPrepIdeal : Cert.RPrepIdeal.Facts] : Prop :=
  ∀ (m : (ℓ : Loc Cert.RPrepIdeal.nD Cert.RPrepIdeal.τ Cert.RPrepIdeal.sig) → Buf (Elt Ideal) ℓ) (g : Dev Cert.RPrepIdeal.nD → PrngReg), Pre_RPrepIdeal m →
    θ_run (Cert.RPrepIdeal.defs (F := Ideal)) (onTc (τ := Cert.RPrepIdeal.τ) (Cert.RPrepIdeal.main (F := Ideal))) ⟨m, fun _ => 0, g⟩ (fun r => (∀ c : Dev Cert.RPrepIdeal.nD,
      r.2.mem ((c.tc : Thread Cert.RPrepIdeal.nD Cert.RPrepIdeal.τ).loc Cert.RPrepIdeal.main_arg0) = m ((c.tc : Thread Cert.RPrepIdeal.nD Cert.RPrepIdeal.τ).loc Cert.RPrepIdeal.main_arg0)
      ∧ r.2.mem ((c.tc : Thread Cert.RPrepIdeal.nD Cert.RPrepIdeal.τ).loc Cert.RPrepIdeal.main_arg1) = m ((c.tc : Thread Cert.RPrepIdeal.nD Cert.RPrepIdeal.τ).loc Cert.RPrepIdeal.main_arg1))
      ∧ r.2.sem = fun _ => 0)

def quiescent_KPrep0 [hKPrep0 : Cert.KPrep0.Facts] : Prop :=
  ∀ (m : (ℓ : Loc Cert.KPrep0.nD Cert.KPrep0.τ Cert.KPrep0.sig) → Buf (Elt Bits) ℓ) (g : Dev Cert.KPrep0.nD → PrngReg), Pre_KPrep0 m →
    θ_run (Cert.KPrep0.defs (F := Bits)) (onTc (τ := Cert.KPrep0.τ) (Cert.KPrep0.main (F := Bits))) ⟨m, fun _ => 0, g⟩ (fun r => (∀ c : Dev Cert.KPrep0.nD,
      r.2.mem ((c.tc : Thread Cert.KPrep0.nD Cert.KPrep0.τ).loc Cert.KPrep0.main_arg0) = m ((c.tc : Thread Cert.KPrep0.nD Cert.KPrep0.τ).loc Cert.KPrep0.main_arg0)
      ∧ r.2.mem ((c.tc : Thread Cert.KPrep0.nD Cert.KPrep0.τ).loc Cert.KPrep0.main_arg1) = m ((c.tc : Thread Cert.KPrep0.nD Cert.KPrep0.τ).loc Cert.KPrep0.main_arg1))
      ∧ r.2.sem = fun _ => 0)

def quiescent_KPrep0Ideal [hKPrep0Ideal : Cert.KPrep0Ideal.Facts] : Prop :=
  ∀ (m : (ℓ : Loc Cert.KPrep0Ideal.nD Cert.KPrep0Ideal.τ Cert.KPrep0Ideal.sig) → Buf (Elt Ideal) ℓ) (g : Dev Cert.KPrep0Ideal.nD → PrngReg), Pre_KPrep0Ideal m →
    θ_run (Cert.KPrep0Ideal.defs (F := Ideal)) (onTc (τ := Cert.KPrep0Ideal.τ) (Cert.KPrep0Ideal.main (F := Ideal))) ⟨m, fun _ => 0, g⟩ (fun r => (∀ c : Dev Cert.KPrep0Ideal.nD,
      r.2.mem ((c.tc : Thread Cert.KPrep0Ideal.nD Cert.KPrep0Ideal.τ).loc Cert.KPrep0Ideal.main_arg0) = m ((c.tc : Thread Cert.KPrep0Ideal.nD Cert.KPrep0Ideal.τ).loc Cert.KPrep0Ideal.main_arg0)
      ∧ r.2.mem ((c.tc : Thread Cert.KPrep0Ideal.nD Cert.KPrep0Ideal.τ).loc Cert.KPrep0Ideal.main_arg1) = m ((c.tc : Thread Cert.KPrep0Ideal.nD Cert.KPrep0Ideal.τ).loc Cert.KPrep0Ideal.main_arg1))
      ∧ r.2.sem = fun _ => 0)

def quiescent_RPrep0Ideal [hRPrep0Ideal : Cert.RPrep0Ideal.Facts] : Prop :=
  ∀ (m : (ℓ : Loc Cert.RPrep0Ideal.nD Cert.RPrep0Ideal.τ Cert.RPrep0Ideal.sig) → Buf (Elt Ideal) ℓ) (g : Dev Cert.RPrep0Ideal.nD → PrngReg), Pre_RPrep0Ideal m →
    θ_run (Cert.RPrep0Ideal.defs (F := Ideal)) (onTc (τ := Cert.RPrep0Ideal.τ) (Cert.RPrep0Ideal.main (F := Ideal))) ⟨m, fun _ => 0, g⟩ (fun r => (∀ c : Dev Cert.RPrep0Ideal.nD,
      r.2.mem ((c.tc : Thread Cert.RPrep0Ideal.nD Cert.RPrep0Ideal.τ).loc Cert.RPrep0Ideal.main_arg0) = m ((c.tc : Thread Cert.RPrep0Ideal.nD Cert.RPrep0Ideal.τ).loc Cert.RPrep0Ideal.main_arg0)
      ∧ r.2.mem ((c.tc : Thread Cert.RPrep0Ideal.nD Cert.RPrep0Ideal.τ).loc Cert.RPrep0Ideal.main_arg1) = m ((c.tc : Thread Cert.RPrep0Ideal.nD Cert.RPrep0Ideal.τ).loc Cert.RPrep0Ideal.main_arg1))
      ∧ r.2.sem = fun _ => 0)

def quiescent_KBwdS [hKBwdS : Cert.KBwdS.Facts] : Prop :=
  ∀ (m : (ℓ : Loc Cert.KBwdS.nD Cert.KBwdS.τ Cert.KBwdS.sig) → Buf (Elt Bits) ℓ) (g : Dev Cert.KBwdS.nD → PrngReg), Pre_KBwdS m →
    θ_run (Cert.KBwdS.defs (F := Bits)) (onTc (τ := Cert.KBwdS.τ) (Cert.KBwdS.main (F := Bits))) ⟨m, fun _ => 0, g⟩ (fun r => (∀ c : Dev Cert.KBwdS.nD,
      r.2.mem ((c.tc : Thread Cert.KBwdS.nD Cert.KBwdS.τ).loc Cert.KBwdS.main_arg0) = m ((c.tc : Thread Cert.KBwdS.nD Cert.KBwdS.τ).loc Cert.KBwdS.main_arg0)
      ∧ r.2.mem ((c.tc : Thread Cert.KBwdS.nD Cert.KBwdS.τ).loc Cert.KBwdS.main_arg1) = m ((c.tc : Thread Cert.KBwdS.nD Cert.KBwdS.τ).loc Cert.KBwdS.main_arg1)
      ∧ r.2.mem ((c.tc : Thread Cert.KBwdS.nD Cert.KBwdS.τ).loc Cert.KBwdS.main_arg2) = m ((c.tc : Thread Cert.KBwdS.nD Cert.KBwdS.τ).loc Cert.KBwdS.main_arg2)
      ∧ r.2.mem ((c.tc : Thread Cert.KBwdS.nD Cert.KBwdS.τ).loc Cert.KBwdS.main_arg3) = m ((c.tc : Thread Cert.KBwdS.nD Cert.KBwdS.τ).loc Cert.KBwdS.main_arg3)
      ∧ r.2.mem ((c.tc : Thread Cert.KBwdS.nD Cert.KBwdS.τ).loc Cert.KBwdS.main_arg4) = m ((c.tc : Thread Cert.KBwdS.nD Cert.KBwdS.τ).loc Cert.KBwdS.main_arg4))
      ∧ r.2.sem = fun _ => 0)

def quiescent_KBwdSIdeal [hKBwdSIdeal : Cert.KBwdSIdeal.Facts] : Prop :=
  ∀ (m : (ℓ : Loc Cert.KBwdSIdeal.nD Cert.KBwdSIdeal.τ Cert.KBwdSIdeal.sig) → Buf (Elt Ideal) ℓ) (g : Dev Cert.KBwdSIdeal.nD → PrngReg), Pre_KBwdSIdeal m →
    θ_run (Cert.KBwdSIdeal.defs (F := Ideal)) (onTc (τ := Cert.KBwdSIdeal.τ) (Cert.KBwdSIdeal.main (F := Ideal))) ⟨m, fun _ => 0, g⟩ (fun r => (∀ c : Dev Cert.KBwdSIdeal.nD,
      r.2.mem ((c.tc : Thread Cert.KBwdSIdeal.nD Cert.KBwdSIdeal.τ).loc Cert.KBwdSIdeal.main_arg0) = m ((c.tc : Thread Cert.KBwdSIdeal.nD Cert.KBwdSIdeal.τ).loc Cert.KBwdSIdeal.main_arg0)
      ∧ r.2.mem ((c.tc : Thread Cert.KBwdSIdeal.nD Cert.KBwdSIdeal.τ).loc Cert.KBwdSIdeal.main_arg1) = m ((c.tc : Thread Cert.KBwdSIdeal.nD Cert.KBwdSIdeal.τ).loc Cert.KBwdSIdeal.main_arg1)
      ∧ r.2.mem ((c.tc : Thread Cert.KBwdSIdeal.nD Cert.KBwdSIdeal.τ).loc Cert.KBwdSIdeal.main_arg2) = m ((c.tc : Thread Cert.KBwdSIdeal.nD Cert.KBwdSIdeal.τ).loc Cert.KBwdSIdeal.main_arg2)
      ∧ r.2.mem ((c.tc : Thread Cert.KBwdSIdeal.nD Cert.KBwdSIdeal.τ).loc Cert.KBwdSIdeal.main_arg3) = m ((c.tc : Thread Cert.KBwdSIdeal.nD Cert.KBwdSIdeal.τ).loc Cert.KBwdSIdeal.main_arg3)
      ∧ r.2.mem ((c.tc : Thread Cert.KBwdSIdeal.nD Cert.KBwdSIdeal.τ).loc Cert.KBwdSIdeal.main_arg4) = m ((c.tc : Thread Cert.KBwdSIdeal.nD Cert.KBwdSIdeal.τ).loc Cert.KBwdSIdeal.main_arg4))
      ∧ r.2.sem = fun _ => 0)

def quiescent_KBwdSIdeal_pre_ordered_s [hKBwdSIdeal : Cert.KBwdSIdeal.Facts] [hPre_ordered_s : Cert.Pre_ordered_s.Facts] : Prop :=
  ∀ (m : (ℓ : Loc Cert.KBwdSIdeal.nD Cert.KBwdSIdeal.τ Cert.KBwdSIdeal.sig) → Buf (Elt Ideal) ℓ) (g : Dev Cert.KBwdSIdeal.nD → PrngReg), Pre_KBwdSIdeal_ordered_s m →
    θ_run (Cert.KBwdSIdeal.defs (F := Ideal)) (onTc (τ := Cert.KBwdSIdeal.τ) (Cert.KBwdSIdeal.main (F := Ideal))) ⟨m, fun _ => 0, g⟩ (fun r => (∀ c : Dev Cert.KBwdSIdeal.nD,
      r.2.mem ((c.tc : Thread Cert.KBwdSIdeal.nD Cert.KBwdSIdeal.τ).loc Cert.KBwdSIdeal.main_arg0) = m ((c.tc : Thread Cert.KBwdSIdeal.nD Cert.KBwdSIdeal.τ).loc Cert.KBwdSIdeal.main_arg0)
      ∧ r.2.mem ((c.tc : Thread Cert.KBwdSIdeal.nD Cert.KBwdSIdeal.τ).loc Cert.KBwdSIdeal.main_arg1) = m ((c.tc : Thread Cert.KBwdSIdeal.nD Cert.KBwdSIdeal.τ).loc Cert.KBwdSIdeal.main_arg1)
      ∧ r.2.mem ((c.tc : Thread Cert.KBwdSIdeal.nD Cert.KBwdSIdeal.τ).loc Cert.KBwdSIdeal.main_arg2) = m ((c.tc : Thread Cert.KBwdSIdeal.nD Cert.KBwdSIdeal.τ).loc Cert.KBwdSIdeal.main_arg2)
      ∧ r.2.mem ((c.tc : Thread Cert.KBwdSIdeal.nD Cert.KBwdSIdeal.τ).loc Cert.KBwdSIdeal.main_arg3) = m ((c.tc : Thread Cert.KBwdSIdeal.nD Cert.KBwdSIdeal.τ).loc Cert.KBwdSIdeal.main_arg3)
      ∧ r.2.mem ((c.tc : Thread Cert.KBwdSIdeal.nD Cert.KBwdSIdeal.τ).loc Cert.KBwdSIdeal.main_arg4) = m ((c.tc : Thread Cert.KBwdSIdeal.nD Cert.KBwdSIdeal.τ).loc Cert.KBwdSIdeal.main_arg4))
      ∧ r.2.sem = fun _ => 0)

def quiescent_RBwdSIdeal [hRBwdSIdeal : Cert.RBwdSIdeal.Facts] : Prop :=
  ∀ (m : (ℓ : Loc Cert.RBwdSIdeal.nD Cert.RBwdSIdeal.τ Cert.RBwdSIdeal.sig) → Buf (Elt Ideal) ℓ) (g : Dev Cert.RBwdSIdeal.nD → PrngReg), Pre_RBwdSIdeal m →
    θ_run (Cert.RBwdSIdeal.defs (F := Ideal)) (onTc (τ := Cert.RBwdSIdeal.τ) (Cert.RBwdSIdeal.main (F := Ideal))) ⟨m, fun _ => 0, g⟩ (fun r => (∀ c : Dev Cert.RBwdSIdeal.nD,
      r.2.mem ((c.tc : Thread Cert.RBwdSIdeal.nD Cert.RBwdSIdeal.τ).loc Cert.RBwdSIdeal.main_arg0) = m ((c.tc : Thread Cert.RBwdSIdeal.nD Cert.RBwdSIdeal.τ).loc Cert.RBwdSIdeal.main_arg0)
      ∧ r.2.mem ((c.tc : Thread Cert.RBwdSIdeal.nD Cert.RBwdSIdeal.τ).loc Cert.RBwdSIdeal.main_arg1) = m ((c.tc : Thread Cert.RBwdSIdeal.nD Cert.RBwdSIdeal.τ).loc Cert.RBwdSIdeal.main_arg1)
      ∧ r.2.mem ((c.tc : Thread Cert.RBwdSIdeal.nD Cert.RBwdSIdeal.τ).loc Cert.RBwdSIdeal.main_arg2) = m ((c.tc : Thread Cert.RBwdSIdeal.nD Cert.RBwdSIdeal.τ).loc Cert.RBwdSIdeal.main_arg2)
      ∧ r.2.mem ((c.tc : Thread Cert.RBwdSIdeal.nD Cert.RBwdSIdeal.τ).loc Cert.RBwdSIdeal.main_arg3) = m ((c.tc : Thread Cert.RBwdSIdeal.nD Cert.RBwdSIdeal.τ).loc Cert.RBwdSIdeal.main_arg3)
      ∧ r.2.mem ((c.tc : Thread Cert.RBwdSIdeal.nD Cert.RBwdSIdeal.τ).loc Cert.RBwdSIdeal.main_arg4) = m ((c.tc : Thread Cert.RBwdSIdeal.nD Cert.RBwdSIdeal.τ).loc Cert.RBwdSIdeal.main_arg4))
      ∧ r.2.sem = fun _ => 0)

def quiescent_RBwdSIdeal_pre_ordered_s [hRBwdSIdeal : Cert.RBwdSIdeal.Facts] [hPre_ordered_s : Cert.Pre_ordered_s.Facts] : Prop :=
  ∀ (m : (ℓ : Loc Cert.RBwdSIdeal.nD Cert.RBwdSIdeal.τ Cert.RBwdSIdeal.sig) → Buf (Elt Ideal) ℓ) (g : Dev Cert.RBwdSIdeal.nD → PrngReg), Pre_RBwdSIdeal_ordered_s m →
    θ_run (Cert.RBwdSIdeal.defs (F := Ideal)) (onTc (τ := Cert.RBwdSIdeal.τ) (Cert.RBwdSIdeal.main (F := Ideal))) ⟨m, fun _ => 0, g⟩ (fun r => (∀ c : Dev Cert.RBwdSIdeal.nD,
      r.2.mem ((c.tc : Thread Cert.RBwdSIdeal.nD Cert.RBwdSIdeal.τ).loc Cert.RBwdSIdeal.main_arg0) = m ((c.tc : Thread Cert.RBwdSIdeal.nD Cert.RBwdSIdeal.τ).loc Cert.RBwdSIdeal.main_arg0)
      ∧ r.2.mem ((c.tc : Thread Cert.RBwdSIdeal.nD Cert.RBwdSIdeal.τ).loc Cert.RBwdSIdeal.main_arg1) = m ((c.tc : Thread Cert.RBwdSIdeal.nD Cert.RBwdSIdeal.τ).loc Cert.RBwdSIdeal.main_arg1)
      ∧ r.2.mem ((c.tc : Thread Cert.RBwdSIdeal.nD Cert.RBwdSIdeal.τ).loc Cert.RBwdSIdeal.main_arg2) = m ((c.tc : Thread Cert.RBwdSIdeal.nD Cert.RBwdSIdeal.τ).loc Cert.RBwdSIdeal.main_arg2)
      ∧ r.2.mem ((c.tc : Thread Cert.RBwdSIdeal.nD Cert.RBwdSIdeal.τ).loc Cert.RBwdSIdeal.main_arg3) = m ((c.tc : Thread Cert.RBwdSIdeal.nD Cert.RBwdSIdeal.τ).loc Cert.RBwdSIdeal.main_arg3)
      ∧ r.2.mem ((c.tc : Thread Cert.RBwdSIdeal.nD Cert.RBwdSIdeal.τ).loc Cert.RBwdSIdeal.main_arg4) = m ((c.tc : Thread Cert.RBwdSIdeal.nD Cert.RBwdSIdeal.τ).loc Cert.RBwdSIdeal.main_arg4))
      ∧ r.2.sem = fun _ => 0)

def quiescent_KBwdQ [hKBwdQ : Cert.KBwdQ.Facts] : Prop :=
  ∀ (m : (ℓ : Loc Cert.KBwdQ.nD Cert.KBwdQ.τ Cert.KBwdQ.sig) → Buf (Elt Bits) ℓ) (g : Dev Cert.KBwdQ.nD → PrngReg), Pre_KBwdQ m →
    θ_run (Cert.KBwdQ.defs (F := Bits)) (onTc (τ := Cert.KBwdQ.τ) (Cert.KBwdQ.main (F := Bits))) ⟨m, fun _ => 0, g⟩ (fun r => (∀ c : Dev Cert.KBwdQ.nD,
      r.2.mem ((c.tc : Thread Cert.KBwdQ.nD Cert.KBwdQ.τ).loc Cert.KBwdQ.main_arg0) = m ((c.tc : Thread Cert.KBwdQ.nD Cert.KBwdQ.τ).loc Cert.KBwdQ.main_arg0)
      ∧ r.2.mem ((c.tc : Thread Cert.KBwdQ.nD Cert.KBwdQ.τ).loc Cert.KBwdQ.main_arg1) = m ((c.tc : Thread Cert.KBwdQ.nD Cert.KBwdQ.τ).loc Cert.KBwdQ.main_arg1)
      ∧ r.2.mem ((c.tc : Thread Cert.KBwdQ.nD Cert.KBwdQ.τ).loc Cert.KBwdQ.main_arg2) = m ((c.tc : Thread Cert.KBwdQ.nD Cert.KBwdQ.τ).loc Cert.KBwdQ.main_arg2)
      ∧ r.2.mem ((c.tc : Thread Cert.KBwdQ.nD Cert.KBwdQ.τ).loc Cert.KBwdQ.main_arg3) = m ((c.tc : Thread Cert.KBwdQ.nD Cert.KBwdQ.τ).loc Cert.KBwdQ.main_arg3)
      ∧ r.2.mem ((c.tc : Thread Cert.KBwdQ.nD Cert.KBwdQ.τ).loc Cert.KBwdQ.main_arg4) = m ((c.tc : Thread Cert.KBwdQ.nD Cert.KBwdQ.τ).loc Cert.KBwdQ.main_arg4))
      ∧ r.2.sem = fun _ => 0)

def quiescent_KBwdQIdeal [hKBwdQIdeal : Cert.KBwdQIdeal.Facts] : Prop :=
  ∀ (m : (ℓ : Loc Cert.KBwdQIdeal.nD Cert.KBwdQIdeal.τ Cert.KBwdQIdeal.sig) → Buf (Elt Ideal) ℓ) (g : Dev Cert.KBwdQIdeal.nD → PrngReg), Pre_KBwdQIdeal m →
    θ_run (Cert.KBwdQIdeal.defs (F := Ideal)) (onTc (τ := Cert.KBwdQIdeal.τ) (Cert.KBwdQIdeal.main (F := Ideal))) ⟨m, fun _ => 0, g⟩ (fun r => (∀ c : Dev Cert.KBwdQIdeal.nD,
      r.2.mem ((c.tc : Thread Cert.KBwdQIdeal.nD Cert.KBwdQIdeal.τ).loc Cert.KBwdQIdeal.main_arg0) = m ((c.tc : Thread Cert.KBwdQIdeal.nD Cert.KBwdQIdeal.τ).loc Cert.KBwdQIdeal.main_arg0)
      ∧ r.2.mem ((c.tc : Thread Cert.KBwdQIdeal.nD Cert.KBwdQIdeal.τ).loc Cert.KBwdQIdeal.main_arg1) = m ((c.tc : Thread Cert.KBwdQIdeal.nD Cert.KBwdQIdeal.τ).loc Cert.KBwdQIdeal.main_arg1)
      ∧ r.2.mem ((c.tc : Thread Cert.KBwdQIdeal.nD Cert.KBwdQIdeal.τ).loc Cert.KBwdQIdeal.main_arg2) = m ((c.tc : Thread Cert.KBwdQIdeal.nD Cert.KBwdQIdeal.τ).loc Cert.KBwdQIdeal.main_arg2)
      ∧ r.2.mem ((c.tc : Thread Cert.KBwdQIdeal.nD Cert.KBwdQIdeal.τ).loc Cert.KBwdQIdeal.main_arg3) = m ((c.tc : Thread Cert.KBwdQIdeal.nD Cert.KBwdQIdeal.τ).loc Cert.KBwdQIdeal.main_arg3)
      ∧ r.2.mem ((c.tc : Thread Cert.KBwdQIdeal.nD Cert.KBwdQIdeal.τ).loc Cert.KBwdQIdeal.main_arg4) = m ((c.tc : Thread Cert.KBwdQIdeal.nD Cert.KBwdQIdeal.τ).loc Cert.KBwdQIdeal.main_arg4))
      ∧ r.2.sem = fun _ => 0)

def quiescent_KBwdQIdeal_pre_ordered_q [hKBwdQIdeal : Cert.KBwdQIdeal.Facts] [hPre_ordered_q : Cert.Pre_ordered_q.Facts] : Prop :=
  ∀ (m : (ℓ : Loc Cert.KBwdQIdeal.nD Cert.KBwdQIdeal.τ Cert.KBwdQIdeal.sig) → Buf (Elt Ideal) ℓ) (g : Dev Cert.KBwdQIdeal.nD → PrngReg), Pre_KBwdQIdeal_ordered_q m →
    θ_run (Cert.KBwdQIdeal.defs (F := Ideal)) (onTc (τ := Cert.KBwdQIdeal.τ) (Cert.KBwdQIdeal.main (F := Ideal))) ⟨m, fun _ => 0, g⟩ (fun r => (∀ c : Dev Cert.KBwdQIdeal.nD,
      r.2.mem ((c.tc : Thread Cert.KBwdQIdeal.nD Cert.KBwdQIdeal.τ).loc Cert.KBwdQIdeal.main_arg0) = m ((c.tc : Thread Cert.KBwdQIdeal.nD Cert.KBwdQIdeal.τ).loc Cert.KBwdQIdeal.main_arg0)
      ∧ r.2.mem ((c.tc : Thread Cert.KBwdQIdeal.nD Cert.KBwdQIdeal.τ).loc Cert.KBwdQIdeal.main_arg1) = m ((c.tc : Thread Cert.KBwdQIdeal.nD Cert.KBwdQIdeal.τ).loc Cert.KBwdQIdeal.main_arg1)
      ∧ r.2.mem ((c.tc : Thread Cert.KBwdQIdeal.nD Cert.KBwdQIdeal.τ).loc Cert.KBwdQIdeal.main_arg2) = m ((c.tc : Thread Cert.KBwdQIdeal.nD Cert.KBwdQIdeal.τ).loc Cert.KBwdQIdeal.main_arg2)
      ∧ r.2.mem ((c.tc : Thread Cert.KBwdQIdeal.nD Cert.KBwdQIdeal.τ).loc Cert.KBwdQIdeal.main_arg3) = m ((c.tc : Thread Cert.KBwdQIdeal.nD Cert.KBwdQIdeal.τ).loc Cert.KBwdQIdeal.main_arg3)
      ∧ r.2.mem ((c.tc : Thread Cert.KBwdQIdeal.nD Cert.KBwdQIdeal.τ).loc Cert.KBwdQIdeal.main_arg4) = m ((c.tc : Thread Cert.KBwdQIdeal.nD Cert.KBwdQIdeal.τ).loc Cert.KBwdQIdeal.main_arg4))
      ∧ r.2.sem = fun _ => 0)

def quiescent_RBwdQIdeal [hRBwdQIdeal : Cert.RBwdQIdeal.Facts] : Prop :=
  ∀ (m : (ℓ : Loc Cert.RBwdQIdeal.nD Cert.RBwdQIdeal.τ Cert.RBwdQIdeal.sig) → Buf (Elt Ideal) ℓ) (g : Dev Cert.RBwdQIdeal.nD → PrngReg), Pre_RBwdQIdeal m →
    θ_run (Cert.RBwdQIdeal.defs (F := Ideal)) (onTc (τ := Cert.RBwdQIdeal.τ) (Cert.RBwdQIdeal.main (F := Ideal))) ⟨m, fun _ => 0, g⟩ (fun r => (∀ c : Dev Cert.RBwdQIdeal.nD,
      r.2.mem ((c.tc : Thread Cert.RBwdQIdeal.nD Cert.RBwdQIdeal.τ).loc Cert.RBwdQIdeal.main_arg0) = m ((c.tc : Thread Cert.RBwdQIdeal.nD Cert.RBwdQIdeal.τ).loc Cert.RBwdQIdeal.main_arg0)
      ∧ r.2.mem ((c.tc : Thread Cert.RBwdQIdeal.nD Cert.RBwdQIdeal.τ).loc Cert.RBwdQIdeal.main_arg1) = m ((c.tc : Thread Cert.RBwdQIdeal.nD Cert.RBwdQIdeal.τ).loc Cert.RBwdQIdeal.main_arg1)
      ∧ r.2.mem ((c.tc : Thread Cert.RBwdQIdeal.nD Cert.RBwdQIdeal.τ).loc Cert.RBwdQIdeal.main_arg2) = m ((c.tc : Thread Cert.RBwdQIdeal.nD Cert.RBwdQIdeal.τ).loc Cert.RBwdQIdeal.main_arg2)
      ∧ r.2.mem ((c.tc : Thread Cert.RBwdQIdeal.nD Cert.RBwdQIdeal.τ).loc Cert.RBwdQIdeal.main_arg3) = m ((c.tc : Thread Cert.RBwdQIdeal.nD Cert.RBwdQIdeal.τ).loc Cert.RBwdQIdeal.main_arg3)
      ∧ r.2.mem ((c.tc : Thread Cert.RBwdQIdeal.nD Cert.RBwdQIdeal.τ).loc Cert.RBwdQIdeal.main_arg4) = m ((c.tc : Thread Cert.RBwdQIdeal.nD Cert.RBwdQIdeal.τ).loc Cert.RBwdQIdeal.main_arg4))
      ∧ r.2.sem = fun _ => 0)

def quiescent_RBwdQIdeal_pre_ordered_q [hRBwdQIdeal : Cert.RBwdQIdeal.Facts] [hPre_ordered_q : Cert.Pre_ordered_q.Facts] : Prop :=
  ∀ (m : (ℓ : Loc Cert.RBwdQIdeal.nD Cert.RBwdQIdeal.τ Cert.RBwdQIdeal.sig) → Buf (Elt Ideal) ℓ) (g : Dev Cert.RBwdQIdeal.nD → PrngReg), Pre_RBwdQIdeal_ordered_q m →
    θ_run (Cert.RBwdQIdeal.defs (F := Ideal)) (onTc (τ := Cert.RBwdQIdeal.τ) (Cert.RBwdQIdeal.main (F := Ideal))) ⟨m, fun _ => 0, g⟩ (fun r => (∀ c : Dev Cert.RBwdQIdeal.nD,
      r.2.mem ((c.tc : Thread Cert.RBwdQIdeal.nD Cert.RBwdQIdeal.τ).loc Cert.RBwdQIdeal.main_arg0) = m ((c.tc : Thread Cert.RBwdQIdeal.nD Cert.RBwdQIdeal.τ).loc Cert.RBwdQIdeal.main_arg0)
      ∧ r.2.mem ((c.tc : Thread Cert.RBwdQIdeal.nD Cert.RBwdQIdeal.τ).loc Cert.RBwdQIdeal.main_arg1) = m ((c.tc : Thread Cert.RBwdQIdeal.nD Cert.RBwdQIdeal.τ).loc Cert.RBwdQIdeal.main_arg1)
      ∧ r.2.mem ((c.tc : Thread Cert.RBwdQIdeal.nD Cert.RBwdQIdeal.τ).loc Cert.RBwdQIdeal.main_arg2) = m ((c.tc : Thread Cert.RBwdQIdeal.nD Cert.RBwdQIdeal.τ).loc Cert.RBwdQIdeal.main_arg2)
      ∧ r.2.mem ((c.tc : Thread Cert.RBwdQIdeal.nD Cert.RBwdQIdeal.τ).loc Cert.RBwdQIdeal.main_arg3) = m ((c.tc : Thread Cert.RBwdQIdeal.nD Cert.RBwdQIdeal.τ).loc Cert.RBwdQIdeal.main_arg3)
      ∧ r.2.mem ((c.tc : Thread Cert.RBwdQIdeal.nD Cert.RBwdQIdeal.τ).loc Cert.RBwdQIdeal.main_arg4) = m ((c.tc : Thread Cert.RBwdQIdeal.nD Cert.RBwdQIdeal.τ).loc Cert.RBwdQIdeal.main_arg4))
      ∧ r.2.sem = fun _ => 0)

def preserves_KMlp12_KMlp12Ideal : Prop :=
  True

def algebraic_KMlp12Ideal_RMlp12Ideal [hKMlp12Ideal : Cert.KMlp12Ideal.Facts] [hRMlp12Ideal : Cert.RMlp12Ideal.Facts] : Prop :=
  ∀ (m : (ℓ : Loc Cert.KMlp12Ideal.nD Cert.KMlp12Ideal.τ Cert.KMlp12Ideal.sig) → Buf (Elt Ideal) ℓ) (g : Dev Cert.KMlp12Ideal.nD → PrngReg)
    (m' : (ℓ : Loc Cert.RMlp12Ideal.nD Cert.RMlp12Ideal.τ Cert.RMlp12Ideal.sig) → Buf (Elt Ideal) ℓ) (g' : Dev Cert.RMlp12Ideal.nD → PrngReg), Pre_KMlp12Ideal m →
    (∀ c : Dev Cert.KMlp12Ideal.nD,
      m' ((c.tc : Thread Cert.RMlp12Ideal.nD Cert.RMlp12Ideal.τ).loc Cert.RMlp12Ideal.main_arg0) = m ((c.tc : Thread Cert.KMlp12Ideal.nD Cert.KMlp12Ideal.τ).loc Cert.KMlp12Ideal.main_arg0)
      ∧ m' ((c.tc : Thread Cert.RMlp12Ideal.nD Cert.RMlp12Ideal.τ).loc Cert.RMlp12Ideal.main_arg1) = m ((c.tc : Thread Cert.KMlp12Ideal.nD Cert.KMlp12Ideal.τ).loc Cert.KMlp12Ideal.main_arg1)
      ∧ m' ((c.tc : Thread Cert.RMlp12Ideal.nD Cert.RMlp12Ideal.τ).loc Cert.RMlp12Ideal.main_arg2) = m ((c.tc : Thread Cert.KMlp12Ideal.nD Cert.KMlp12Ideal.τ).loc Cert.KMlp12Ideal.main_arg2)
      ∧ m' ((c.tc : Thread Cert.RMlp12Ideal.nD Cert.RMlp12Ideal.τ).loc Cert.RMlp12Ideal.main_arg3) = m ((c.tc : Thread Cert.KMlp12Ideal.nD Cert.KMlp12Ideal.τ).loc Cert.KMlp12Ideal.main_arg3)
      ∧ m' ((c.tc : Thread Cert.RMlp12Ideal.nD Cert.RMlp12Ideal.τ).loc Cert.RMlp12Ideal.main_arg4) = m ((c.tc : Thread Cert.KMlp12Ideal.nD Cert.KMlp12Ideal.τ).loc Cert.KMlp12Ideal.main_arg4)) →
    ∃ (v0 : (c : Dev Cert.KMlp12Ideal.nD) → Buf (Elt Ideal) ((c.tc : Thread Cert.KMlp12Ideal.nD Cert.KMlp12Ideal.τ).loc Cert.KMlp12Ideal.main_v2)),
      θ_run (Cert.KMlp12Ideal.defs (F := Ideal)) (onTc (τ := Cert.KMlp12Ideal.τ) (Cert.KMlp12Ideal.main (F := Ideal))) ⟨m, fun _ => 0, g⟩ (fun r => ∀ c : Dev Cert.KMlp12Ideal.nD,
          r.2.mem ((c.tc : Thread Cert.KMlp12Ideal.nD Cert.KMlp12Ideal.τ).loc Cert.KMlp12Ideal.main_v2) = v0 c
          ∧ r.2.mem ((c.tc : Thread Cert.KMlp12Ideal.nD Cert.KMlp12Ideal.τ).loc Cert.KMlp12Ideal.main_arg0) = m ((c.tc : Thread Cert.KMlp12Ideal.nD Cert.KMlp12Ideal.τ).loc Cert.KMlp12Ideal.main_arg0)
          ∧ r.2.mem ((c.tc : Thread Cert.KMlp12Ideal.nD Cert.KMlp12Ideal.τ).loc Cert.KMlp12Ideal.main_arg1) = m ((c.tc : Thread Cert.KMlp12Ideal.nD Cert.KMlp12Ideal.τ).loc Cert.KMlp12Ideal.main_arg1)
          ∧ r.2.mem ((c.tc : Thread Cert.KMlp12Ideal.nD Cert.KMlp12Ideal.τ).loc Cert.KMlp12Ideal.main_arg2) = m ((c.tc : Thread Cert.KMlp12Ideal.nD Cert.KMlp12Ideal.τ).loc Cert.KMlp12Ideal.main_arg2)
          ∧ r.2.mem ((c.tc : Thread Cert.KMlp12Ideal.nD Cert.KMlp12Ideal.τ).loc Cert.KMlp12Ideal.main_arg3) = m ((c.tc : Thread Cert.KMlp12Ideal.nD Cert.KMlp12Ideal.τ).loc Cert.KMlp12Ideal.main_arg3)
          ∧ r.2.mem ((c.tc : Thread Cert.KMlp12Ideal.nD Cert.KMlp12Ideal.τ).loc Cert.KMlp12Ideal.main_arg4) = m ((c.tc : Thread Cert.KMlp12Ideal.nD Cert.KMlp12Ideal.τ).loc Cert.KMlp12Ideal.main_arg4))
      ∧ θ_run (Cert.RMlp12Ideal.defs (F := Ideal)) (onTc (τ := Cert.RMlp12Ideal.τ) (Cert.RMlp12Ideal.main (F := Ideal))) ⟨m', fun _ => 0, g'⟩ (fun r => ∀ c : Dev Cert.RMlp12Ideal.nD,
          r.2.mem ((c.tc : Thread Cert.RMlp12Ideal.nD Cert.RMlp12Ideal.τ).loc Cert.RMlp12Ideal.main_v9) = v0 c
          ∧ r.2.mem ((c.tc : Thread Cert.RMlp12Ideal.nD Cert.RMlp12Ideal.τ).loc Cert.RMlp12Ideal.main_arg0) = m' ((c.tc : Thread Cert.RMlp12Ideal.nD Cert.RMlp12Ideal.τ).loc Cert.RMlp12Ideal.main_arg0)
          ∧ r.2.mem ((c.tc : Thread Cert.RMlp12Ideal.nD Cert.RMlp12Ideal.τ).loc Cert.RMlp12Ideal.main_arg1) = m' ((c.tc : Thread Cert.RMlp12Ideal.nD Cert.RMlp12Ideal.τ).loc Cert.RMlp12Ideal.main_arg1)
          ∧ r.2.mem ((c.tc : Thread Cert.RMlp12Ideal.nD Cert.RMlp12Ideal.τ).loc Cert.RMlp12Ideal.main_arg2) = m' ((c.tc : Thread Cert.RMlp12Ideal.nD Cert.RMlp12Ideal.τ).loc Cert.RMlp12Ideal.main_arg2)
          ∧ r.2.mem ((c.tc : Thread Cert.RMlp12Ideal.nD Cert.RMlp12Ideal.τ).loc Cert.RMlp12Ideal.main_arg3) = m' ((c.tc : Thread Cert.RMlp12Ideal.nD Cert.RMlp12Ideal.τ).loc Cert.RMlp12Ideal.main_arg3)
          ∧ r.2.mem ((c.tc : Thread Cert.RMlp12Ideal.nD Cert.RMlp12Ideal.τ).loc Cert.RMlp12Ideal.main_arg4) = m' ((c.tc : Thread Cert.RMlp12Ideal.nD Cert.RMlp12Ideal.τ).loc Cert.RMlp12Ideal.main_arg4))

def preserves_KMlp3_KMlp3Ideal : Prop :=
  True

def algebraic_KMlp3Ideal_RMlp3Ideal [hKMlp3Ideal : Cert.KMlp3Ideal.Facts] [hRMlp3Ideal : Cert.RMlp3Ideal.Facts] : Prop :=
  ∀ (m : (ℓ : Loc Cert.KMlp3Ideal.nD Cert.KMlp3Ideal.τ Cert.KMlp3Ideal.sig) → Buf (Elt Ideal) ℓ) (g : Dev Cert.KMlp3Ideal.nD → PrngReg)
    (m' : (ℓ : Loc Cert.RMlp3Ideal.nD Cert.RMlp3Ideal.τ Cert.RMlp3Ideal.sig) → Buf (Elt Ideal) ℓ) (g' : Dev Cert.RMlp3Ideal.nD → PrngReg), Pre_KMlp3Ideal m →
    (∀ c : Dev Cert.KMlp3Ideal.nD,
      m' ((c.tc : Thread Cert.RMlp3Ideal.nD Cert.RMlp3Ideal.τ).loc Cert.RMlp3Ideal.main_arg0) = m ((c.tc : Thread Cert.KMlp3Ideal.nD Cert.KMlp3Ideal.τ).loc Cert.KMlp3Ideal.main_arg0)
      ∧ m' ((c.tc : Thread Cert.RMlp3Ideal.nD Cert.RMlp3Ideal.τ).loc Cert.RMlp3Ideal.main_arg1) = m ((c.tc : Thread Cert.KMlp3Ideal.nD Cert.KMlp3Ideal.τ).loc Cert.KMlp3Ideal.main_arg1)
      ∧ m' ((c.tc : Thread Cert.RMlp3Ideal.nD Cert.RMlp3Ideal.τ).loc Cert.RMlp3Ideal.main_arg2) = m ((c.tc : Thread Cert.KMlp3Ideal.nD Cert.KMlp3Ideal.τ).loc Cert.KMlp3Ideal.main_arg2)) →
    ∃ (v0 : (c : Dev Cert.KMlp3Ideal.nD) → Buf (Elt Ideal) ((c.tc : Thread Cert.KMlp3Ideal.nD Cert.KMlp3Ideal.τ).loc Cert.KMlp3Ideal.main_v1)),
      θ_run (Cert.KMlp3Ideal.defs (F := Ideal)) (onTc (τ := Cert.KMlp3Ideal.τ) (Cert.KMlp3Ideal.main (F := Ideal))) ⟨m, fun _ => 0, g⟩ (fun r => ∀ c : Dev Cert.KMlp3Ideal.nD,
          r.2.mem ((c.tc : Thread Cert.KMlp3Ideal.nD Cert.KMlp3Ideal.τ).loc Cert.KMlp3Ideal.main_v1) = v0 c
          ∧ r.2.mem ((c.tc : Thread Cert.KMlp3Ideal.nD Cert.KMlp3Ideal.τ).loc Cert.KMlp3Ideal.main_arg0) = m ((c.tc : Thread Cert.KMlp3Ideal.nD Cert.KMlp3Ideal.τ).loc Cert.KMlp3Ideal.main_arg0)
          ∧ r.2.mem ((c.tc : Thread Cert.KMlp3Ideal.nD Cert.KMlp3Ideal.τ).loc Cert.KMlp3Ideal.main_arg1) = m ((c.tc : Thread Cert.KMlp3Ideal.nD Cert.KMlp3Ideal.τ).loc Cert.KMlp3Ideal.main_arg1)
          ∧ r.2.mem ((c.tc : Thread Cert.KMlp3Ideal.nD Cert.KMlp3Ideal.τ).loc Cert.KMlp3Ideal.main_arg2) = m ((c.tc : Thread Cert.KMlp3Ideal.nD Cert.KMlp3Ideal.τ).loc Cert.KMlp3Ideal.main_arg2))
      ∧ θ_run (Cert.RMlp3Ideal.defs (F := Ideal)) (onTc (τ := Cert.RMlp3Ideal.τ) (Cert.RMlp3Ideal.main (F := Ideal))) ⟨m', fun _ => 0, g'⟩ (fun r => ∀ c : Dev Cert.RMlp3Ideal.nD,
          r.2.mem ((c.tc : Thread Cert.RMlp3Ideal.nD Cert.RMlp3Ideal.τ).loc Cert.RMlp3Ideal.main_v3) = v0 c
          ∧ r.2.mem ((c.tc : Thread Cert.RMlp3Ideal.nD Cert.RMlp3Ideal.τ).loc Cert.RMlp3Ideal.main_arg0) = m' ((c.tc : Thread Cert.RMlp3Ideal.nD Cert.RMlp3Ideal.τ).loc Cert.RMlp3Ideal.main_arg0)
          ∧ r.2.mem ((c.tc : Thread Cert.RMlp3Ideal.nD Cert.RMlp3Ideal.τ).loc Cert.RMlp3Ideal.main_arg1) = m' ((c.tc : Thread Cert.RMlp3Ideal.nD Cert.RMlp3Ideal.τ).loc Cert.RMlp3Ideal.main_arg1)
          ∧ r.2.mem ((c.tc : Thread Cert.RMlp3Ideal.nD Cert.RMlp3Ideal.τ).loc Cert.RMlp3Ideal.main_arg2) = m' ((c.tc : Thread Cert.RMlp3Ideal.nD Cert.RMlp3Ideal.τ).loc Cert.RMlp3Ideal.main_arg2))

def preserves_KFinal_KFinalIdeal : Prop :=
  True

def algebraic_KFinalIdeal_RFinalIdeal [hKFinalIdeal : Cert.KFinalIdeal.Facts] [hRFinalIdeal : Cert.RFinalIdeal.Facts] : Prop :=
  ∀ (m : (ℓ : Loc Cert.KFinalIdeal.nD Cert.KFinalIdeal.τ Cert.KFinalIdeal.sig) → Buf (Elt Ideal) ℓ) (g : Dev Cert.KFinalIdeal.nD → PrngReg)
    (m' : (ℓ : Loc Cert.RFinalIdeal.nD Cert.RFinalIdeal.τ Cert.RFinalIdeal.sig) → Buf (Elt Ideal) ℓ) (g' : Dev Cert.RFinalIdeal.nD → PrngReg), Pre_KFinalIdeal m →
    (∀ c : Dev Cert.KFinalIdeal.nD,
      m' ((c.tc : Thread Cert.RFinalIdeal.nD Cert.RFinalIdeal.τ).loc Cert.RFinalIdeal.main_arg0) = m ((c.tc : Thread Cert.KFinalIdeal.nD Cert.KFinalIdeal.τ).loc Cert.KFinalIdeal.main_arg0)
      ∧ m' ((c.tc : Thread Cert.RFinalIdeal.nD Cert.RFinalIdeal.τ).loc Cert.RFinalIdeal.main_arg1) = m ((c.tc : Thread Cert.KFinalIdeal.nD Cert.KFinalIdeal.τ).loc Cert.KFinalIdeal.main_arg1)
      ∧ m' ((c.tc : Thread Cert.RFinalIdeal.nD Cert.RFinalIdeal.τ).loc Cert.RFinalIdeal.main_arg2) = m ((c.tc : Thread Cert.KFinalIdeal.nD Cert.KFinalIdeal.τ).loc Cert.KFinalIdeal.main_arg2)) →
    ∃ (v0 : (c : Dev Cert.KFinalIdeal.nD) → Buf (Elt Ideal) ((c.tc : Thread Cert.KFinalIdeal.nD Cert.KFinalIdeal.τ).loc Cert.KFinalIdeal.main_v1)),
      θ_run (Cert.KFinalIdeal.defs (F := Ideal)) (onTc (τ := Cert.KFinalIdeal.τ) (Cert.KFinalIdeal.main (F := Ideal))) ⟨m, fun _ => 0, g⟩ (fun r => ∀ c : Dev Cert.KFinalIdeal.nD,
          r.2.mem ((c.tc : Thread Cert.KFinalIdeal.nD Cert.KFinalIdeal.τ).loc Cert.KFinalIdeal.main_v1) = v0 c
          ∧ r.2.mem ((c.tc : Thread Cert.KFinalIdeal.nD Cert.KFinalIdeal.τ).loc Cert.KFinalIdeal.main_arg0) = m ((c.tc : Thread Cert.KFinalIdeal.nD Cert.KFinalIdeal.τ).loc Cert.KFinalIdeal.main_arg0)
          ∧ r.2.mem ((c.tc : Thread Cert.KFinalIdeal.nD Cert.KFinalIdeal.τ).loc Cert.KFinalIdeal.main_arg1) = m ((c.tc : Thread Cert.KFinalIdeal.nD Cert.KFinalIdeal.τ).loc Cert.KFinalIdeal.main_arg1)
          ∧ r.2.mem ((c.tc : Thread Cert.KFinalIdeal.nD Cert.KFinalIdeal.τ).loc Cert.KFinalIdeal.main_arg2) = m ((c.tc : Thread Cert.KFinalIdeal.nD Cert.KFinalIdeal.τ).loc Cert.KFinalIdeal.main_arg2))
      ∧ θ_run (Cert.RFinalIdeal.defs (F := Ideal)) (onTc (τ := Cert.RFinalIdeal.τ) (Cert.RFinalIdeal.main (F := Ideal))) ⟨m', fun _ => 0, g'⟩ (fun r => ∀ c : Dev Cert.RFinalIdeal.nD,
          r.2.mem ((c.tc : Thread Cert.RFinalIdeal.nD Cert.RFinalIdeal.τ).loc Cert.RFinalIdeal.main_v17) = v0 c
          ∧ r.2.mem ((c.tc : Thread Cert.RFinalIdeal.nD Cert.RFinalIdeal.τ).loc Cert.RFinalIdeal.main_arg0) = m' ((c.tc : Thread Cert.RFinalIdeal.nD Cert.RFinalIdeal.τ).loc Cert.RFinalIdeal.main_arg0)
          ∧ r.2.mem ((c.tc : Thread Cert.RFinalIdeal.nD Cert.RFinalIdeal.τ).loc Cert.RFinalIdeal.main_arg1) = m' ((c.tc : Thread Cert.RFinalIdeal.nD Cert.RFinalIdeal.τ).loc Cert.RFinalIdeal.main_arg1)
          ∧ r.2.mem ((c.tc : Thread Cert.RFinalIdeal.nD Cert.RFinalIdeal.τ).loc Cert.RFinalIdeal.main_arg2) = m' ((c.tc : Thread Cert.RFinalIdeal.nD Cert.RFinalIdeal.τ).loc Cert.RFinalIdeal.main_arg2))

def preserves_KPrep_KPrepIdeal : Prop :=
  True

def algebraic_KPrepIdeal_RPrepIdeal [hKPrepIdeal : Cert.KPrepIdeal.Facts] [hRPrepIdeal : Cert.RPrepIdeal.Facts] : Prop :=
  ∀ (m : (ℓ : Loc Cert.KPrepIdeal.nD Cert.KPrepIdeal.τ Cert.KPrepIdeal.sig) → Buf (Elt Ideal) ℓ) (g : Dev Cert.KPrepIdeal.nD → PrngReg)
    (m' : (ℓ : Loc Cert.RPrepIdeal.nD Cert.RPrepIdeal.τ Cert.RPrepIdeal.sig) → Buf (Elt Ideal) ℓ) (g' : Dev Cert.RPrepIdeal.nD → PrngReg), Pre_KPrepIdeal m →
    (∀ c : Dev Cert.KPrepIdeal.nD,
      m' ((c.tc : Thread Cert.RPrepIdeal.nD Cert.RPrepIdeal.τ).loc Cert.RPrepIdeal.main_arg0) = m ((c.tc : Thread Cert.KPrepIdeal.nD Cert.KPrepIdeal.τ).loc Cert.KPrepIdeal.main_arg0)
      ∧ m' ((c.tc : Thread Cert.RPrepIdeal.nD Cert.RPrepIdeal.τ).loc Cert.RPrepIdeal.main_arg1) = m ((c.tc : Thread Cert.KPrepIdeal.nD Cert.KPrepIdeal.τ).loc Cert.KPrepIdeal.main_arg1)) →
    ∃ (v0 : (c : Dev Cert.KPrepIdeal.nD) → Buf (Elt Ideal) ((c.tc : Thread Cert.KPrepIdeal.nD Cert.KPrepIdeal.τ).loc Cert.KPrepIdeal.main_v0_0)) (v1 : (c : Dev Cert.KPrepIdeal.nD) → Buf (Elt Ideal) ((c.tc : Thread Cert.KPrepIdeal.nD Cert.KPrepIdeal.τ).loc Cert.KPrepIdeal.main_v0_1)) (v2 : (c : Dev Cert.KPrepIdeal.nD) → Buf (Elt Ideal) ((c.tc : Thread Cert.KPrepIdeal.nD Cert.KPrepIdeal.τ).loc Cert.KPrepIdeal.main_v0_2)),
      θ_run (Cert.KPrepIdeal.defs (F := Ideal)) (onTc (τ := Cert.KPrepIdeal.τ) (Cert.KPrepIdeal.main (F := Ideal))) ⟨m, fun _ => 0, g⟩ (fun r => ∀ c : Dev Cert.KPrepIdeal.nD,
          r.2.mem ((c.tc : Thread Cert.KPrepIdeal.nD Cert.KPrepIdeal.τ).loc Cert.KPrepIdeal.main_v0_0) = v0 c
          ∧ r.2.mem ((c.tc : Thread Cert.KPrepIdeal.nD Cert.KPrepIdeal.τ).loc Cert.KPrepIdeal.main_v0_1) = v1 c
          ∧ r.2.mem ((c.tc : Thread Cert.KPrepIdeal.nD Cert.KPrepIdeal.τ).loc Cert.KPrepIdeal.main_v0_2) = v2 c
          ∧ r.2.mem ((c.tc : Thread Cert.KPrepIdeal.nD Cert.KPrepIdeal.τ).loc Cert.KPrepIdeal.main_arg0) = m ((c.tc : Thread Cert.KPrepIdeal.nD Cert.KPrepIdeal.τ).loc Cert.KPrepIdeal.main_arg0)
          ∧ r.2.mem ((c.tc : Thread Cert.KPrepIdeal.nD Cert.KPrepIdeal.τ).loc Cert.KPrepIdeal.main_arg1) = m ((c.tc : Thread Cert.KPrepIdeal.nD Cert.KPrepIdeal.τ).loc Cert.KPrepIdeal.main_arg1))
      ∧ θ_run (Cert.RPrepIdeal.defs (F := Ideal)) (onTc (τ := Cert.RPrepIdeal.τ) (Cert.RPrepIdeal.main (F := Ideal))) ⟨m', fun _ => 0, g'⟩ (fun r => ∀ c : Dev Cert.RPrepIdeal.nD,
          r.2.mem ((c.tc : Thread Cert.RPrepIdeal.nD Cert.RPrepIdeal.τ).loc Cert.RPrepIdeal.main_v44) = v0 c
          ∧ r.2.mem ((c.tc : Thread Cert.RPrepIdeal.nD Cert.RPrepIdeal.τ).loc Cert.RPrepIdeal.main_v14) = v1 c
          ∧ r.2.mem ((c.tc : Thread Cert.RPrepIdeal.nD Cert.RPrepIdeal.τ).loc Cert.RPrepIdeal.main_v15) = v2 c
          ∧ r.2.mem ((c.tc : Thread Cert.RPrepIdeal.nD Cert.RPrepIdeal.τ).loc Cert.RPrepIdeal.main_arg0) = m' ((c.tc : Thread Cert.RPrepIdeal.nD Cert.RPrepIdeal.τ).loc Cert.RPrepIdeal.main_arg0)
          ∧ r.2.mem ((c.tc : Thread Cert.RPrepIdeal.nD Cert.RPrepIdeal.τ).loc Cert.RPrepIdeal.main_arg1) = m' ((c.tc : Thread Cert.RPrepIdeal.nD Cert.RPrepIdeal.τ).loc Cert.RPrepIdeal.main_arg1))

def preserves_KPrep0_KPrep0Ideal : Prop :=
  True

def algebraic_KPrep0Ideal_RPrep0Ideal [hKPrep0Ideal : Cert.KPrep0Ideal.Facts] [hRPrep0Ideal : Cert.RPrep0Ideal.Facts] : Prop :=
  ∀ (m : (ℓ : Loc Cert.KPrep0Ideal.nD Cert.KPrep0Ideal.τ Cert.KPrep0Ideal.sig) → Buf (Elt Ideal) ℓ) (g : Dev Cert.KPrep0Ideal.nD → PrngReg)
    (m' : (ℓ : Loc Cert.RPrep0Ideal.nD Cert.RPrep0Ideal.τ Cert.RPrep0Ideal.sig) → Buf (Elt Ideal) ℓ) (g' : Dev Cert.RPrep0Ideal.nD → PrngReg), Pre_KPrep0Ideal m →
    (∀ c : Dev Cert.KPrep0Ideal.nD,
      m' ((c.tc : Thread Cert.RPrep0Ideal.nD Cert.RPrep0Ideal.τ).loc Cert.RPrep0Ideal.main_arg0) = m ((c.tc : Thread Cert.KPrep0Ideal.nD Cert.KPrep0Ideal.τ).loc Cert.KPrep0Ideal.main_arg0)
      ∧ m' ((c.tc : Thread Cert.RPrep0Ideal.nD Cert.RPrep0Ideal.τ).loc Cert.RPrep0Ideal.main_arg1) = m ((c.tc : Thread Cert.KPrep0Ideal.nD Cert.KPrep0Ideal.τ).loc Cert.KPrep0Ideal.main_arg1)) →
    ∃ (v0 : (c : Dev Cert.KPrep0Ideal.nD) → Buf (Elt Ideal) ((c.tc : Thread Cert.KPrep0Ideal.nD Cert.KPrep0Ideal.τ).loc Cert.KPrep0Ideal.main_v0_0)) (v1 : (c : Dev Cert.KPrep0Ideal.nD) → Buf (Elt Ideal) ((c.tc : Thread Cert.KPrep0Ideal.nD Cert.KPrep0Ideal.τ).loc Cert.KPrep0Ideal.main_v0_1)) (v2 : (c : Dev Cert.KPrep0Ideal.nD) → Buf (Elt Ideal) ((c.tc : Thread Cert.KPrep0Ideal.nD Cert.KPrep0Ideal.τ).loc Cert.KPrep0Ideal.main_v0_2)) (v3 : (c : Dev Cert.KPrep0Ideal.nD) → Buf (Elt Ideal) ((c.tc : Thread Cert.KPrep0Ideal.nD Cert.KPrep0Ideal.τ).loc Cert.KPrep0Ideal.main_v0_3)),
      θ_run (Cert.KPrep0Ideal.defs (F := Ideal)) (onTc (τ := Cert.KPrep0Ideal.τ) (Cert.KPrep0Ideal.main (F := Ideal))) ⟨m, fun _ => 0, g⟩ (fun r => ∀ c : Dev Cert.KPrep0Ideal.nD,
          r.2.mem ((c.tc : Thread Cert.KPrep0Ideal.nD Cert.KPrep0Ideal.τ).loc Cert.KPrep0Ideal.main_v0_0) = v0 c
          ∧ r.2.mem ((c.tc : Thread Cert.KPrep0Ideal.nD Cert.KPrep0Ideal.τ).loc Cert.KPrep0Ideal.main_v0_1) = v1 c
          ∧ r.2.mem ((c.tc : Thread Cert.KPrep0Ideal.nD Cert.KPrep0Ideal.τ).loc Cert.KPrep0Ideal.main_v0_2) = v2 c
          ∧ r.2.mem ((c.tc : Thread Cert.KPrep0Ideal.nD Cert.KPrep0Ideal.τ).loc Cert.KPrep0Ideal.main_v0_3) = v3 c
          ∧ r.2.mem ((c.tc : Thread Cert.KPrep0Ideal.nD Cert.KPrep0Ideal.τ).loc Cert.KPrep0Ideal.main_arg0) = m ((c.tc : Thread Cert.KPrep0Ideal.nD Cert.KPrep0Ideal.τ).loc Cert.KPrep0Ideal.main_arg0)
          ∧ r.2.mem ((c.tc : Thread Cert.KPrep0Ideal.nD Cert.KPrep0Ideal.τ).loc Cert.KPrep0Ideal.main_arg1) = m ((c.tc : Thread Cert.KPrep0Ideal.nD Cert.KPrep0Ideal.τ).loc Cert.KPrep0Ideal.main_arg1))
      ∧ θ_run (Cert.RPrep0Ideal.defs (F := Ideal)) (onTc (τ := Cert.RPrep0Ideal.τ) (Cert.RPrep0Ideal.main (F := Ideal))) ⟨m', fun _ => 0, g'⟩ (fun r => ∀ c : Dev Cert.RPrep0Ideal.nD,
          r.2.mem ((c.tc : Thread Cert.RPrep0Ideal.nD Cert.RPrep0Ideal.τ).loc Cert.RPrep0Ideal.main_v47) = v0 c
          ∧ r.2.mem ((c.tc : Thread Cert.RPrep0Ideal.nD Cert.RPrep0Ideal.τ).loc Cert.RPrep0Ideal.main_v17) = v1 c
          ∧ r.2.mem ((c.tc : Thread Cert.RPrep0Ideal.nD Cert.RPrep0Ideal.τ).loc Cert.RPrep0Ideal.main_v18) = v2 c
          ∧ r.2.mem ((c.tc : Thread Cert.RPrep0Ideal.nD Cert.RPrep0Ideal.τ).loc Cert.RPrep0Ideal.main_v2) = v3 c
          ∧ r.2.mem ((c.tc : Thread Cert.RPrep0Ideal.nD Cert.RPrep0Ideal.τ).loc Cert.RPrep0Ideal.main_arg0) = m' ((c.tc : Thread Cert.RPrep0Ideal.nD Cert.RPrep0Ideal.τ).loc Cert.RPrep0Ideal.main_arg0)
          ∧ r.2.mem ((c.tc : Thread Cert.RPrep0Ideal.nD Cert.RPrep0Ideal.τ).loc Cert.RPrep0Ideal.main_arg1) = m' ((c.tc : Thread Cert.RPrep0Ideal.nD Cert.RPrep0Ideal.τ).loc Cert.RPrep0Ideal.main_arg1))

def preserves_KBwdS_KBwdSIdeal : Prop :=
  True

def algebraic_KBwdSIdeal_RBwdSIdeal_pre_ordered_s [hKBwdSIdeal : Cert.KBwdSIdeal.Facts] [hRBwdSIdeal : Cert.RBwdSIdeal.Facts] [hPre_ordered_s : Cert.Pre_ordered_s.Facts] : Prop :=
  ∀ (m : (ℓ : Loc Cert.KBwdSIdeal.nD Cert.KBwdSIdeal.τ Cert.KBwdSIdeal.sig) → Buf (Elt Ideal) ℓ) (g : Dev Cert.KBwdSIdeal.nD → PrngReg)
    (m' : (ℓ : Loc Cert.RBwdSIdeal.nD Cert.RBwdSIdeal.τ Cert.RBwdSIdeal.sig) → Buf (Elt Ideal) ℓ) (g' : Dev Cert.RBwdSIdeal.nD → PrngReg), Pre_KBwdSIdeal_ordered_s m →
    (∀ c : Dev Cert.KBwdSIdeal.nD,
      m' ((c.tc : Thread Cert.RBwdSIdeal.nD Cert.RBwdSIdeal.τ).loc Cert.RBwdSIdeal.main_arg0) = m ((c.tc : Thread Cert.KBwdSIdeal.nD Cert.KBwdSIdeal.τ).loc Cert.KBwdSIdeal.main_arg0)
      ∧ m' ((c.tc : Thread Cert.RBwdSIdeal.nD Cert.RBwdSIdeal.τ).loc Cert.RBwdSIdeal.main_arg1) = m ((c.tc : Thread Cert.KBwdSIdeal.nD Cert.KBwdSIdeal.τ).loc Cert.KBwdSIdeal.main_arg1)
      ∧ m' ((c.tc : Thread Cert.RBwdSIdeal.nD Cert.RBwdSIdeal.τ).loc Cert.RBwdSIdeal.main_arg2) = m ((c.tc : Thread Cert.KBwdSIdeal.nD Cert.KBwdSIdeal.τ).loc Cert.KBwdSIdeal.main_arg2)
      ∧ m' ((c.tc : Thread Cert.RBwdSIdeal.nD Cert.RBwdSIdeal.τ).loc Cert.RBwdSIdeal.main_arg3) = m ((c.tc : Thread Cert.KBwdSIdeal.nD Cert.KBwdSIdeal.τ).loc Cert.KBwdSIdeal.main_arg3)
      ∧ m' ((c.tc : Thread Cert.RBwdSIdeal.nD Cert.RBwdSIdeal.τ).loc Cert.RBwdSIdeal.main_arg4) = m ((c.tc : Thread Cert.KBwdSIdeal.nD Cert.KBwdSIdeal.τ).loc Cert.KBwdSIdeal.main_arg4)) →
    ∃ (v0 : (c : Dev Cert.KBwdSIdeal.nD) → Buf (Elt Ideal) ((c.tc : Thread Cert.KBwdSIdeal.nD Cert.KBwdSIdeal.τ).loc Cert.KBwdSIdeal.main_v0)),
      θ_run (Cert.KBwdSIdeal.defs (F := Ideal)) (onTc (τ := Cert.KBwdSIdeal.τ) (Cert.KBwdSIdeal.main (F := Ideal))) ⟨m, fun _ => 0, g⟩ (fun r => ∀ c : Dev Cert.KBwdSIdeal.nD,
          r.2.mem ((c.tc : Thread Cert.KBwdSIdeal.nD Cert.KBwdSIdeal.τ).loc Cert.KBwdSIdeal.main_v0) = v0 c
          ∧ r.2.mem ((c.tc : Thread Cert.KBwdSIdeal.nD Cert.KBwdSIdeal.τ).loc Cert.KBwdSIdeal.main_arg0) = m ((c.tc : Thread Cert.KBwdSIdeal.nD Cert.KBwdSIdeal.τ).loc Cert.KBwdSIdeal.main_arg0)
          ∧ r.2.mem ((c.tc : Thread Cert.KBwdSIdeal.nD Cert.KBwdSIdeal.τ).loc Cert.KBwdSIdeal.main_arg1) = m ((c.tc : Thread Cert.KBwdSIdeal.nD Cert.KBwdSIdeal.τ).loc Cert.KBwdSIdeal.main_arg1)
          ∧ r.2.mem ((c.tc : Thread Cert.KBwdSIdeal.nD Cert.KBwdSIdeal.τ).loc Cert.KBwdSIdeal.main_arg2) = m ((c.tc : Thread Cert.KBwdSIdeal.nD Cert.KBwdSIdeal.τ).loc Cert.KBwdSIdeal.main_arg2)
          ∧ r.2.mem ((c.tc : Thread Cert.KBwdSIdeal.nD Cert.KBwdSIdeal.τ).loc Cert.KBwdSIdeal.main_arg3) = m ((c.tc : Thread Cert.KBwdSIdeal.nD Cert.KBwdSIdeal.τ).loc Cert.KBwdSIdeal.main_arg3)
          ∧ r.2.mem ((c.tc : Thread Cert.KBwdSIdeal.nD Cert.KBwdSIdeal.τ).loc Cert.KBwdSIdeal.main_arg4) = m ((c.tc : Thread Cert.KBwdSIdeal.nD Cert.KBwdSIdeal.τ).loc Cert.KBwdSIdeal.main_arg4))
      ∧ θ_run (Cert.RBwdSIdeal.defs (F := Ideal)) (onTc (τ := Cert.RBwdSIdeal.τ) (Cert.RBwdSIdeal.main (F := Ideal))) ⟨m', fun _ => 0, g'⟩ (fun r => ∀ c : Dev Cert.RBwdSIdeal.nD,
          r.2.mem ((c.tc : Thread Cert.RBwdSIdeal.nD Cert.RBwdSIdeal.τ).loc Cert.RBwdSIdeal.main_v94) = v0 c
          ∧ r.2.mem ((c.tc : Thread Cert.RBwdSIdeal.nD Cert.RBwdSIdeal.τ).loc Cert.RBwdSIdeal.main_arg0) = m' ((c.tc : Thread Cert.RBwdSIdeal.nD Cert.RBwdSIdeal.τ).loc Cert.RBwdSIdeal.main_arg0)
          ∧ r.2.mem ((c.tc : Thread Cert.RBwdSIdeal.nD Cert.RBwdSIdeal.τ).loc Cert.RBwdSIdeal.main_arg1) = m' ((c.tc : Thread Cert.RBwdSIdeal.nD Cert.RBwdSIdeal.τ).loc Cert.RBwdSIdeal.main_arg1)
          ∧ r.2.mem ((c.tc : Thread Cert.RBwdSIdeal.nD Cert.RBwdSIdeal.τ).loc Cert.RBwdSIdeal.main_arg2) = m' ((c.tc : Thread Cert.RBwdSIdeal.nD Cert.RBwdSIdeal.τ).loc Cert.RBwdSIdeal.main_arg2)
          ∧ r.2.mem ((c.tc : Thread Cert.RBwdSIdeal.nD Cert.RBwdSIdeal.τ).loc Cert.RBwdSIdeal.main_arg3) = m' ((c.tc : Thread Cert.RBwdSIdeal.nD Cert.RBwdSIdeal.τ).loc Cert.RBwdSIdeal.main_arg3)
          ∧ r.2.mem ((c.tc : Thread Cert.RBwdSIdeal.nD Cert.RBwdSIdeal.τ).loc Cert.RBwdSIdeal.main_arg4) = m' ((c.tc : Thread Cert.RBwdSIdeal.nD Cert.RBwdSIdeal.τ).loc Cert.RBwdSIdeal.main_arg4))

def preserves_KBwdQ_KBwdQIdeal : Prop :=
  True

def algebraic_KBwdQIdeal_RBwdQIdeal_pre_ordered_q [hKBwdQIdeal : Cert.KBwdQIdeal.Facts] [hRBwdQIdeal : Cert.RBwdQIdeal.Facts] [hPre_ordered_q : Cert.Pre_ordered_q.Facts] : Prop :=
  ∀ (m : (ℓ : Loc Cert.KBwdQIdeal.nD Cert.KBwdQIdeal.τ Cert.KBwdQIdeal.sig) → Buf (Elt Ideal) ℓ) (g : Dev Cert.KBwdQIdeal.nD → PrngReg)
    (m' : (ℓ : Loc Cert.RBwdQIdeal.nD Cert.RBwdQIdeal.τ Cert.RBwdQIdeal.sig) → Buf (Elt Ideal) ℓ) (g' : Dev Cert.RBwdQIdeal.nD → PrngReg), Pre_KBwdQIdeal_ordered_q m →
    (∀ c : Dev Cert.KBwdQIdeal.nD,
      m' ((c.tc : Thread Cert.RBwdQIdeal.nD Cert.RBwdQIdeal.τ).loc Cert.RBwdQIdeal.main_arg0) = m ((c.tc : Thread Cert.KBwdQIdeal.nD Cert.KBwdQIdeal.τ).loc Cert.KBwdQIdeal.main_arg0)
      ∧ m' ((c.tc : Thread Cert.RBwdQIdeal.nD Cert.RBwdQIdeal.τ).loc Cert.RBwdQIdeal.main_arg1) = m ((c.tc : Thread Cert.KBwdQIdeal.nD Cert.KBwdQIdeal.τ).loc Cert.KBwdQIdeal.main_arg1)
      ∧ m' ((c.tc : Thread Cert.RBwdQIdeal.nD Cert.RBwdQIdeal.τ).loc Cert.RBwdQIdeal.main_arg2) = m ((c.tc : Thread Cert.KBwdQIdeal.nD Cert.KBwdQIdeal.τ).loc Cert.KBwdQIdeal.main_arg2)
      ∧ m' ((c.tc : Thread Cert.RBwdQIdeal.nD Cert.RBwdQIdeal.τ).loc Cert.RBwdQIdeal.main_arg3) = m ((c.tc : Thread Cert.KBwdQIdeal.nD Cert.KBwdQIdeal.τ).loc Cert.KBwdQIdeal.main_arg3)
      ∧ m' ((c.tc : Thread Cert.RBwdQIdeal.nD Cert.RBwdQIdeal.τ).loc Cert.RBwdQIdeal.main_arg4) = m ((c.tc : Thread Cert.KBwdQIdeal.nD Cert.KBwdQIdeal.τ).loc Cert.KBwdQIdeal.main_arg4)) →
    ∃ (v0 : (c : Dev Cert.KBwdQIdeal.nD) → Buf (Elt Ideal) ((c.tc : Thread Cert.KBwdQIdeal.nD Cert.KBwdQIdeal.τ).loc Cert.KBwdQIdeal.main_v0)),
      θ_run (Cert.KBwdQIdeal.defs (F := Ideal)) (onTc (τ := Cert.KBwdQIdeal.τ) (Cert.KBwdQIdeal.main (F := Ideal))) ⟨m, fun _ => 0, g⟩ (fun r => ∀ c : Dev Cert.KBwdQIdeal.nD,
          r.2.mem ((c.tc : Thread Cert.KBwdQIdeal.nD Cert.KBwdQIdeal.τ).loc Cert.KBwdQIdeal.main_v0) = v0 c
          ∧ r.2.mem ((c.tc : Thread Cert.KBwdQIdeal.nD Cert.KBwdQIdeal.τ).loc Cert.KBwdQIdeal.main_arg0) = m ((c.tc : Thread Cert.KBwdQIdeal.nD Cert.KBwdQIdeal.τ).loc Cert.KBwdQIdeal.main_arg0)
          ∧ r.2.mem ((c.tc : Thread Cert.KBwdQIdeal.nD Cert.KBwdQIdeal.τ).loc Cert.KBwdQIdeal.main_arg1) = m ((c.tc : Thread Cert.KBwdQIdeal.nD Cert.KBwdQIdeal.τ).loc Cert.KBwdQIdeal.main_arg1)
          ∧ r.2.mem ((c.tc : Thread Cert.KBwdQIdeal.nD Cert.KBwdQIdeal.τ).loc Cert.KBwdQIdeal.main_arg2) = m ((c.tc : Thread Cert.KBwdQIdeal.nD Cert.KBwdQIdeal.τ).loc Cert.KBwdQIdeal.main_arg2)
          ∧ r.2.mem ((c.tc : Thread Cert.KBwdQIdeal.nD Cert.KBwdQIdeal.τ).loc Cert.KBwdQIdeal.main_arg3) = m ((c.tc : Thread Cert.KBwdQIdeal.nD Cert.KBwdQIdeal.τ).loc Cert.KBwdQIdeal.main_arg3)
          ∧ r.2.mem ((c.tc : Thread Cert.KBwdQIdeal.nD Cert.KBwdQIdeal.τ).loc Cert.KBwdQIdeal.main_arg4) = m ((c.tc : Thread Cert.KBwdQIdeal.nD Cert.KBwdQIdeal.τ).loc Cert.KBwdQIdeal.main_arg4))
      ∧ θ_run (Cert.RBwdQIdeal.defs (F := Ideal)) (onTc (τ := Cert.RBwdQIdeal.τ) (Cert.RBwdQIdeal.main (F := Ideal))) ⟨m', fun _ => 0, g'⟩ (fun r => ∀ c : Dev Cert.RBwdQIdeal.nD,
          r.2.mem ((c.tc : Thread Cert.RBwdQIdeal.nD Cert.RBwdQIdeal.τ).loc Cert.RBwdQIdeal.main_v94) = v0 c
          ∧ r.2.mem ((c.tc : Thread Cert.RBwdQIdeal.nD Cert.RBwdQIdeal.τ).loc Cert.RBwdQIdeal.main_arg0) = m' ((c.tc : Thread Cert.RBwdQIdeal.nD Cert.RBwdQIdeal.τ).loc Cert.RBwdQIdeal.main_arg0)
          ∧ r.2.mem ((c.tc : Thread Cert.RBwdQIdeal.nD Cert.RBwdQIdeal.τ).loc Cert.RBwdQIdeal.main_arg1) = m' ((c.tc : Thread Cert.RBwdQIdeal.nD Cert.RBwdQIdeal.τ).loc Cert.RBwdQIdeal.main_arg1)
          ∧ r.2.mem ((c.tc : Thread Cert.RBwdQIdeal.nD Cert.RBwdQIdeal.τ).loc Cert.RBwdQIdeal.main_arg2) = m' ((c.tc : Thread Cert.RBwdQIdeal.nD Cert.RBwdQIdeal.τ).loc Cert.RBwdQIdeal.main_arg2)
          ∧ r.2.mem ((c.tc : Thread Cert.RBwdQIdeal.nD Cert.RBwdQIdeal.τ).loc Cert.RBwdQIdeal.main_arg3) = m' ((c.tc : Thread Cert.RBwdQIdeal.nD Cert.RBwdQIdeal.τ).loc Cert.RBwdQIdeal.main_arg3)
          ∧ r.2.mem ((c.tc : Thread Cert.RBwdQIdeal.nD Cert.RBwdQIdeal.τ).loc Cert.RBwdQIdeal.main_arg4) = m' ((c.tc : Thread Cert.RBwdQIdeal.nD Cert.RBwdQIdeal.τ).loc Cert.RBwdQIdeal.main_arg4))

def Claim : Prop :=
  ∃ (hKMlp12 : Cert.KMlp12.Facts) (hKMlp12Ideal : Cert.KMlp12Ideal.Facts) (hRMlp12Ideal : Cert.RMlp12Ideal.Facts) (hKMlp3 : Cert.KMlp3.Facts) (hKMlp3Ideal : Cert.KMlp3Ideal.Facts) (hRMlp3Ideal : Cert.RMlp3Ideal.Facts) (hKFinal : Cert.KFinal.Facts) (hKFinalIdeal : Cert.KFinalIdeal.Facts) (hRFinalIdeal : Cert.RFinalIdeal.Facts) (hKPrep : Cert.KPrep.Facts) (hKPrepIdeal : Cert.KPrepIdeal.Facts) (hRPrepIdeal : Cert.RPrepIdeal.Facts) (hKPrep0 : Cert.KPrep0.Facts) (hKPrep0Ideal : Cert.KPrep0Ideal.Facts) (hRPrep0Ideal : Cert.RPrep0Ideal.Facts) (hKBwdS : Cert.KBwdS.Facts) (hKBwdSIdeal : Cert.KBwdSIdeal.Facts) (hRBwdSIdeal : Cert.RBwdSIdeal.Facts) (hKBwdQ : Cert.KBwdQ.Facts) (hKBwdQIdeal : Cert.KBwdQIdeal.Facts) (hRBwdQIdeal : Cert.RBwdQIdeal.Facts) (hPre_ordered_s : Cert.Pre_ordered_s.Facts) (hPre_ordered_q : Cert.Pre_ordered_q.Facts),
    quiescent_KMlp12 (hKMlp12 := hKMlp12)
    ∧ quiescent_KMlp12Ideal (hKMlp12Ideal := hKMlp12Ideal)
    ∧ quiescent_RMlp12Ideal (hRMlp12Ideal := hRMlp12Ideal)
    ∧ quiescent_KMlp3 (hKMlp3 := hKMlp3)
    ∧ quiescent_KMlp3Ideal (hKMlp3Ideal := hKMlp3Ideal)
    ∧ quiescent_RMlp3Ideal (hRMlp3Ideal := hRMlp3Ideal)
    ∧ quiescent_KFinal (hKFinal := hKFinal)
    ∧ quiescent_KFinalIdeal (hKFinalIdeal := hKFinalIdeal)
    ∧ quiescent_RFinalIdeal (hRFinalIdeal := hRFinalIdeal)
    ∧ quiescent_KPrep (hKPrep := hKPrep)
    ∧ quiescent_KPrepIdeal (hKPrepIdeal := hKPrepIdeal)
    ∧ quiescent_RPrepIdeal (hRPrepIdeal := hRPrepIdeal)
    ∧ quiescent_KPrep0 (hKPrep0 := hKPrep0)
    ∧ quiescent_KPrep0Ideal (hKPrep0Ideal := hKPrep0Ideal)
    ∧ quiescent_RPrep0Ideal (hRPrep0Ideal := hRPrep0Ideal)
    ∧ quiescent_KBwdS (hKBwdS := hKBwdS)
    ∧ quiescent_KBwdSIdeal (hKBwdSIdeal := hKBwdSIdeal)
    ∧ quiescent_KBwdSIdeal_pre_ordered_s (hKBwdSIdeal := hKBwdSIdeal) (hPre_ordered_s := hPre_ordered_s)
    ∧ quiescent_RBwdSIdeal (hRBwdSIdeal := hRBwdSIdeal)
    ∧ quiescent_RBwdSIdeal_pre_ordered_s (hRBwdSIdeal := hRBwdSIdeal) (hPre_ordered_s := hPre_ordered_s)
    ∧ quiescent_KBwdQ (hKBwdQ := hKBwdQ)
    ∧ quiescent_KBwdQIdeal (hKBwdQIdeal := hKBwdQIdeal)
    ∧ quiescent_KBwdQIdeal_pre_ordered_q (hKBwdQIdeal := hKBwdQIdeal) (hPre_ordered_q := hPre_ordered_q)
    ∧ quiescent_RBwdQIdeal (hRBwdQIdeal := hRBwdQIdeal)
    ∧ quiescent_RBwdQIdeal_pre_ordered_q (hRBwdQIdeal := hRBwdQIdeal) (hPre_ordered_q := hPre_ordered_q)
    ∧ preserves_KMlp12_KMlp12Ideal
    ∧ algebraic_KMlp12Ideal_RMlp12Ideal (hKMlp12Ideal := hKMlp12Ideal) (hRMlp12Ideal := hRMlp12Ideal)
    ∧ preserves_KMlp3_KMlp3Ideal
    ∧ algebraic_KMlp3Ideal_RMlp3Ideal (hKMlp3Ideal := hKMlp3Ideal) (hRMlp3Ideal := hRMlp3Ideal)
    ∧ preserves_KFinal_KFinalIdeal
    ∧ algebraic_KFinalIdeal_RFinalIdeal (hKFinalIdeal := hKFinalIdeal) (hRFinalIdeal := hRFinalIdeal)
    ∧ preserves_KPrep_KPrepIdeal
    ∧ algebraic_KPrepIdeal_RPrepIdeal (hKPrepIdeal := hKPrepIdeal) (hRPrepIdeal := hRPrepIdeal)
    ∧ preserves_KPrep0_KPrep0Ideal
    ∧ algebraic_KPrep0Ideal_RPrep0Ideal (hKPrep0Ideal := hKPrep0Ideal) (hRPrep0Ideal := hRPrep0Ideal)
    ∧ preserves_KBwdS_KBwdSIdeal
    ∧ algebraic_KBwdSIdeal_RBwdSIdeal_pre_ordered_s (hKBwdSIdeal := hKBwdSIdeal) (hRBwdSIdeal := hRBwdSIdeal) (hPre_ordered_s := hPre_ordered_s)
    ∧ preserves_KBwdQ_KBwdQIdeal
    ∧ algebraic_KBwdQIdeal_RBwdQIdeal_pre_ordered_q (hKBwdQIdeal := hKBwdQIdeal) (hRBwdQIdeal := hRBwdQIdeal) (hPre_ordered_q := hPre_ordered_q)
-- ==== Pre_ordered_q.lean ====
abbrev S96x2640 : Shape := ⟨2, ![96, 2640]⟩
abbrev S96x32x32 : Shape := ⟨3, ![96, 32, 32]⟩
abbrev S96x64x64 : Shape := ⟨3, ![96, 64, 64]⟩
abbrev S32x512 : Shape := ⟨2, ![32, 512]⟩
abbrev S64x512 : Shape := ⟨2, ![64, 512]⟩
abbrev S96x512 : Shape := ⟨2, ![96, 512]⟩
abbrev S_ : Shape := ⟨0, ![]⟩
abbrev S96 : Shape := ⟨1, ![96]⟩
abbrev S96x1 : Shape := ⟨2, ![96, 1]⟩
abbrev S512x96 : Shape := ⟨2, ![512, 96]⟩
abbrev S96x96 : Shape := ⟨2, ![96, 96]⟩
abbrev S32x32 : Shape := ⟨2, ![32, 32]⟩
abbrev S64x64 : Shape := ⟨2, ![64, 64]⟩
abbrev S32x64 : Shape := ⟨2, ![32, 64]⟩
abbrev S32x96 : Shape := ⟨2, ![32, 96]⟩
abbrev S96x32 : Shape := ⟨2, ![96, 32]⟩
abbrev S96x64 : Shape := ⟨2, ![96, 64]⟩
abbrev S96x32x1 : Shape := ⟨3, ![96, 32, 1]⟩
abbrev S1x1x32 : Shape := ⟨3, ![1, 1, 32]⟩
abbrev S96x64x1 : Shape := ⟨3, ![96, 64, 1]⟩
abbrev S1x1x64 : Shape := ⟨3, ![1, 1, 64]⟩
abbrev S64 : Shape := ⟨1, ![64]⟩

class Facts : Prop where
  concatenates_S32x512_S64x512_S96x512_d0 : Shape.Concatenates [S32x512, S64x512] S96x512 0
  reducesTo_S96x512_S96_d1 : S96x512.ReducesTo [1] S96
  h_S_ : 0 < S_.numel
  bcast_S96_S96x1_0 : S96.BroadcastsInDim S96x1 (![0] : Fin 1 → Fin S96x1.rank)
  bcast_S_S96x1 : S_.BroadcastsInDim S96x1 (![] : Fin 0 → Fin S96x1.rank)
  bcast_S96x1_S96x512_0_1 : S96x1.BroadcastsInDim S96x512 (![0, 1] : Fin 2 → Fin S96x512.rank)
  transposes_S96x512_S512x96_1_0 : S96x512.Transposes [1, 0] S512x96
  slices_S96x96_S32x32_0_0 : S96x96.Slices ![0, 0] S32x32
  slices_S96x96_S64x64_32_32 : S96x96.Slices ![32, 32] S64x64
  slices_S96x96_S32x64_0_32 : S96x96.Slices ![0, 32] S32x64
  concatenates_S32x32_S32x64_S32x96_d1 : Shape.Concatenates [S32x32, S32x64] S32x96 1
  transposes_S32x96_S96x32_1_0 : S32x96.Transposes [1, 0] S96x32
  concatenates_S32x64_S64x64_S96x64_d0 : Shape.Concatenates [S32x64, S64x64] S96x64 0
  sliceFits_S96x64_S96x64 : S96x64.Slices (fun _ => 0) S96x64
  sliceFits_S96x32_S96x32 : S96x32.Slices (fun _ => 0) S96x32
  bcast_S96x32_S96x32x1_0_1 : S96x32.BroadcastsInDim S96x32x1 (![0, 1] : Fin 2 → Fin S96x32x1.rank)
  bcast_S96x32x1_S96x32x32_0_1_2 : S96x32x1.BroadcastsInDim S96x32x32 (![0, 1, 2] : Fin 3 → Fin S96x32x32.rank)
  bcast_S1x1x32_S96x32x32_0_1_2 : S1x1x32.BroadcastsInDim S96x32x32 (![0, 1, 2] : Fin 3 → Fin S96x32x32.rank)
  bcast_S96x64_S96x64x1_0_1 : S96x64.BroadcastsInDim S96x64x1 (![0, 1] : Fin 2 → Fin S96x64x1.rank)
  bcast_S96x64x1_S96x64x64_0_1_2 : S96x64x1.BroadcastsInDim S96x64x64 (![0, 1, 2] : Fin 3 → Fin S96x64x64.rank)
  bcast_S1x1x64_S96x64x64_0_1_2 : S1x1x64.BroadcastsInDim S96x64x64 (![0, 1, 2] : Fin 3 → Fin S96x64x64.rank)
  bcast_S_S96x2640 : S_.BroadcastsInDim S96x2640 (![] : Fin 0 → Fin S96x2640.rank)
  reducesTo_S64x512_S64_d1 : S64x512.ReducesTo [1] S64
  bcast_S_S64 : S_.BroadcastsInDim S64 (![] : Fin 0 → Fin S64.rank)
  dot_S96x512_S512x96_S96x96_1_0_0_1_n_n_wf : DotDims.WF S96x512 S512x96 S96x96 [1] [0] [0] [1] [] []

variable [Facts]

def dot_S96x512_S512x96_S96x96_1_0_0_1_n_n : DotDims S96x512 S512x96 S96x96 where
  lhsContracting := [1]
  rhsContracting := [0]
  lhsNonContracting := [0]
  rhsNonContracting := [1]
  lhsBatch := []
  rhsBatch := []
  wf := dot_S96x512_S512x96_S96x96_1_0_0_1_n_n_wf
def fn_norm {F : FTy → Type} [FloatOps F] (arg0 : FVec F S96x512 .f32) : FVec F S96x1 .f32 :=
  let v0 : FVec F S96x512 .f32 := mulf arg0 arg0
  let cst : FVec F S_ .f32 := constant S_ .f32 0x00000000#32
  let v1 : FVec F S96 .f32 := (fun x v => Host.reduceAdd x v reducesTo_S96x512_S96_d1 h_S_) v0 cst
  let v2 : FVec F S96x1 .f32 := broadcastInDim S96x1 ![0] bcast_S96_S96x1_0 v1
  let v3 : FVec F S96x1 .f32 := Host.sqrt v2
  v3

def fn_one_hot {F : FTy → Type} [FloatOps F] (arg0 : IVec S96x32 32) : FVec F S96x32x32 .f32 :=
  let v0 : IVec S96x32x1 32 := broadcastInDim S96x32x1 ![0, 1] bcast_S96x32_S96x32x1_0_1 arg0
  let v1 : IVec S1x1x32 32 := iotaInDim S1x1x32 32 2
  let v2 : IVec S96x32x32 32 := broadcastInDim S96x32x32 ![0, 1, 2] bcast_S96x32x1_S96x32x32_0_1_2 v0
  let v3 : IVec S96x32x32 32 := broadcastInDim S96x32x32 ![0, 1, 2] bcast_S1x1x32_S96x32x32_0_1_2 v1
  let v4 : IVec S96x32x32 1 := cmpi .eq v2 v3
  let v5 : FVec F S96x32x32 .f32 := uitofp .f32 v4
  v5

def fn_one_hot_0 {F : FTy → Type} [FloatOps F] (arg0 : IVec S96x64 32) : FVec F S96x64x64 .f32 :=
  let v0 : IVec S96x64x1 32 := broadcastInDim S96x64x1 ![0, 1] bcast_S96x64_S96x64x1_0_1 arg0
  let v1 : IVec S1x1x64 32 := iotaInDim S1x1x64 32 2
  let v2 : IVec S96x64x64 32 := broadcastInDim S96x64x64 ![0, 1, 2] bcast_S96x64x1_S96x64x64_0_1_2 v0
  let v3 : IVec S96x64x64 32 := broadcastInDim S96x64x64 ![0, 1, 2] bcast_S1x1x64_S96x64x64_0_1_2 v1
  let v4 : IVec S96x64x64 1 := cmpi .eq v2 v3
  let v5 : FVec F S96x64x64 .f32 := uitofp .f32 v4
  v5

def fn_norm_1 {F : FTy → Type} [FloatOps F] (arg0 : FVec F S64x512 .f32) : FVec F S64 .f32 :=
  let v0 : FVec F S64x512 .f32 := mulf arg0 arg0
  let cst : FVec F S_ .f32 := constant S_ .f32 0x00000000#32
  let v1 : FVec F S64 .f32 := (fun x v => Host.reduceAdd x v reducesTo_S64x512_S64_d1 h_S_) v0 cst
  let v2 : FVec F S64 .f32 := Host.sqrt v1
  v2

def fn_part1 {F : FTy → Type} [FloatOps F] (main_arg4 : FVec F S64x512 .f32) (main_v15 : IVec S96x32x32 1) (main_v17 : IVec S96x64x64 1) (main_v18 : FVec F S96x2640 .f32) : IVec S96x32x32 1 × IVec S96x64x64 1 × IVec S96x2640 1 × IVec S64 1 :=
  let main_cst_2 : FVec F S_ .f32 := constant S_ .f32 0x7F800000#32
  let main_v19 : FVec F S96x2640 .f32 := broadcastInDim S96x2640 ![] bcast_S_S96x2640 main_cst_2
  let main_v20 : IVec S96x2640 1 := cmpf .olt main_v18 main_v19
  let main_v21 : FVec F S64 .f32 := fn_norm_1 (F := F) main_arg4
  let main_cst_3 : FVec F S_ .f32 := constant S_ .f32 0x2B8CBCCC#32
  let main_v22 : FVec F S64 .f32 := broadcastInDim S64 ![] bcast_S_S64 main_cst_3
  let main_v23 : IVec S64 1 := cmpf .une main_v21 main_v22
  (main_v15, main_v17, main_v20, main_v23)

def fn {F : FTy → Type} [FloatOps F] (main_arg0 : FVec F S96x2640 .f32) (main_arg1 : FVec F S96x32x32 .f32) (main_arg2 : FVec F S96x64x64 .f32) (main_arg3 : FVec F S32x512 .f32) (main_arg4 : FVec F S64x512 .f32) : IVec S96x32x32 1 × IVec S96x64x64 1 × IVec S96x2640 1 × IVec S64 1 :=
  let main_v0 : FVec F S96x512 .f32 := (fun a b => concatenate S96x512 0 [⟨S32x512, a⟩, ⟨S64x512, b⟩] concatenates_S32x512_S64x512_S96x512_d0) main_arg3 main_arg4
  let main_v1 : FVec F S96x1 .f32 := fn_norm (F := F) main_v0
  let main_cst : FVec F S_ .f32 := constant S_ .f32 0x2B8CBCCC#32
  let main_v2 : FVec F S96x1 .f32 := broadcastInDim S96x1 ![] bcast_S_S96x1 main_cst
  let main_v3 : FVec F S96x1 .f32 := maximumf main_v1 main_v2
  let main_v4 : FVec F S96x512 .f32 := broadcastInDim S96x512 ![0, 1] bcast_S96x1_S96x512_0_1 main_v3
  let main_v5 : FVec F S96x512 .f32 := Host.divf main_v0 main_v4
  let main_v6 : FVec F S512x96 .f32 := (transpose S512x96 [1, 0] · transposes_S96x512_S512x96_1_0) main_v5
  let main_v7 : FVec F S96x96 .f32 := (fun l r => Host.dotGeneral dot_S96x512_S512x96_S96x96_1_0_0_1_n_n none l r) main_v5 main_v6
  let main_v8 : FVec F S32x32 .f32 := (extractStridedSlice S32x32 ![0, 0] · slices_S96x96_S32x32_0_0) main_v7
  let main_v9 : FVec F S64x64 .f32 := (extractStridedSlice S64x64 ![32, 32] · slices_S96x96_S64x64_32_32) main_v7
  let main_v10 : FVec F S32x64 .f32 := (extractStridedSlice S32x64 ![0, 32] · slices_S96x96_S32x64_0_32) main_v7
  let main_v11 : FVec F S32x96 .f32 := (fun a b => concatenate S32x96 1 [⟨S32x32, a⟩, ⟨S32x64, b⟩] concatenates_S32x32_S32x64_S32x96_d1) main_v8 main_v10
  let main_v12 : FVec F S96x32 .f32 := (transpose S96x32 [1, 0] · transposes_S32x96_S96x32_1_0) main_v11
  let main_v13 : FVec F S96x64 .f32 := (fun a b => concatenate S96x64 0 [⟨S32x64, a⟩, ⟨S64x64, b⟩] concatenates_S32x64_S64x64_S96x64_d0) main_v10 main_v9
  let main_values : FVec F S96x64 .f32 := (fun x => (Host.topK S96x64 1 (FloatOps.cmpfTotal .gt) x sliceFits_S96x64_S96x64).1) main_v13
  let main_indices : IVec S96x64 32 := (fun x => (Host.topK S96x64 1 (FloatOps.cmpfTotal .gt) x sliceFits_S96x64_S96x64).2) main_v13
  let main_values_0 : FVec F S96x32 .f32 := (fun x => (Host.topK S96x32 1 (FloatOps.cmpfTotal .gt) x sliceFits_S96x32_S96x32).1) main_v12
  let main_indices_1 : IVec S96x32 32 := (fun x => (Host.topK S96x32 1 (FloatOps.cmpfTotal .gt) x sliceFits_S96x32_S96x32).2) main_v12
  let main_v14 : FVec F S96x32x32 .f32 := fn_one_hot (F := F) main_indices_1
  let main_v15 : IVec S96x32x32 1 := cmpf .oeq main_arg1 main_v14
  let main_v16 : FVec F S96x64x64 .f32 := fn_one_hot_0 (F := F) main_indices
  let main_v17 : IVec S96x64x64 1 := cmpf .oeq main_arg2 main_v16
  let main_v18 : FVec F S96x2640 .f32 := Host.absf main_arg0
  fn_part1 (F := F) main_arg4 main_v15 main_v17 main_v18
-- ==== Pre_ordered_s.lean ====
abbrev S96x2640 : Shape := ⟨2, ![96, 2640]⟩
abbrev S96x32x32 : Shape := ⟨3, ![96, 32, 32]⟩
abbrev S96x64x64 : Shape := ⟨3, ![96, 64, 64]⟩
abbrev S32x512 : Shape := ⟨2, ![32, 512]⟩
abbrev S64x512 : Shape := ⟨2, ![64, 512]⟩
abbrev S96x512 : Shape := ⟨2, ![96, 512]⟩
abbrev S_ : Shape := ⟨0, ![]⟩
abbrev S96 : Shape := ⟨1, ![96]⟩
abbrev S96x1 : Shape := ⟨2, ![96, 1]⟩
abbrev S512x96 : Shape := ⟨2, ![512, 96]⟩
abbrev S96x96 : Shape := ⟨2, ![96, 96]⟩
abbrev S32x32 : Shape := ⟨2, ![32, 32]⟩
abbrev S64x64 : Shape := ⟨2, ![64, 64]⟩
abbrev S32x64 : Shape := ⟨2, ![32, 64]⟩
abbrev S32x96 : Shape := ⟨2, ![32, 96]⟩
abbrev S96x32 : Shape := ⟨2, ![96, 32]⟩
abbrev S96x64 : Shape := ⟨2, ![96, 64]⟩
abbrev S96x32x1 : Shape := ⟨3, ![96, 32, 1]⟩
abbrev S1x1x32 : Shape := ⟨3, ![1, 1, 32]⟩
abbrev S96x64x1 : Shape := ⟨3, ![96, 64, 1]⟩
abbrev S1x1x64 : Shape := ⟨3, ![1, 1, 64]⟩
abbrev S32 : Shape := ⟨1, ![32]⟩

class Facts : Prop where
  concatenates_S32x512_S64x512_S96x512_d0 : Shape.Concatenates [S32x512, S64x512] S96x512 0
  reducesTo_S96x512_S96_d1 : S96x512.ReducesTo [1] S96
  h_S_ : 0 < S_.numel
  bcast_S96_S96x1_0 : S96.BroadcastsInDim S96x1 (![0] : Fin 1 → Fin S96x1.rank)
  bcast_S_S96x1 : S_.BroadcastsInDim S96x1 (![] : Fin 0 → Fin S96x1.rank)
  bcast_S96x1_S96x512_0_1 : S96x1.BroadcastsInDim S96x512 (![0, 1] : Fin 2 → Fin S96x512.rank)
  transposes_S96x512_S512x96_1_0 : S96x512.Transposes [1, 0] S512x96
  slices_S96x96_S32x32_0_0 : S96x96.Slices ![0, 0] S32x32
  slices_S96x96_S64x64_32_32 : S96x96.Slices ![32, 32] S64x64
  slices_S96x96_S32x64_0_32 : S96x96.Slices ![0, 32] S32x64
  concatenates_S32x32_S32x64_S32x96_d1 : Shape.Concatenates [S32x32, S32x64] S32x96 1
  transposes_S32x96_S96x32_1_0 : S32x96.Transposes [1, 0] S96x32
  concatenates_S32x64_S64x64_S96x64_d0 : Shape.Concatenates [S32x64, S64x64] S96x64 0
  sliceFits_S96x64_S96x64 : S96x64.Slices (fun _ => 0) S96x64
  sliceFits_S96x32_S96x32 : S96x32.Slices (fun _ => 0) S96x32
  bcast_S96x32_S96x32x1_0_1 : S96x32.BroadcastsInDim S96x32x1 (![0, 1] : Fin 2 → Fin S96x32x1.rank)
  bcast_S96x32x1_S96x32x32_0_1_2 : S96x32x1.BroadcastsInDim S96x32x32 (![0, 1, 2] : Fin 3 → Fin S96x32x32.rank)
  bcast_S1x1x32_S96x32x32_0_1_2 : S1x1x32.BroadcastsInDim S96x32x32 (![0, 1, 2] : Fin 3 → Fin S96x32x32.rank)
  bcast_S96x64_S96x64x1_0_1 : S96x64.BroadcastsInDim S96x64x1 (![0, 1] : Fin 2 → Fin S96x64x1.rank)
  bcast_S96x64x1_S96x64x64_0_1_2 : S96x64x1.BroadcastsInDim S96x64x64 (![0, 1, 2] : Fin 3 → Fin S96x64x64.rank)
  bcast_S1x1x64_S96x64x64_0_1_2 : S1x1x64.BroadcastsInDim S96x64x64 (![0, 1, 2] : Fin 3 → Fin S96x64x64.rank)
  bcast_S_S96x2640 : S_.BroadcastsInDim S96x2640 (![] : Fin 0 → Fin S96x2640.rank)
  reducesTo_S32x512_S32_d1 : S32x512.ReducesTo [1] S32
  bcast_S_S32 : S_.BroadcastsInDim S32 (![] : Fin 0 → Fin S32.rank)
  dot_S96x512_S512x96_S96x96_1_0_0_1_n_n_wf : DotDims.WF S96x512 S512x96 S96x96 [1] [0] [0] [1] [] []

variable [Facts]

def dot_S96x512_S512x96_S96x96_1_0_0_1_n_n : DotDims S96x512 S512x96 S96x96 where
  lhsContracting := [1]
  rhsContracting := [0]
  lhsNonContracting := [0]
  rhsNonContracting := [1]
  lhsBatch := []
  rhsBatch := []
  wf := dot_S96x512_S512x96_S96x96_1_0_0_1_n_n_wf
def fn_norm {F : FTy → Type} [FloatOps F] (arg0 : FVec F S96x512 .f32) : FVec F S96x1 .f32 :=
  let v0 : FVec F S96x512 .f32 := mulf arg0 arg0
  let cst : FVec F S_ .f32 := constant S_ .f32 0x00000000#32
  let v1 : FVec F S96 .f32 := (fun x v => Host.reduceAdd x v reducesTo_S96x512_S96_d1 h_S_) v0 cst
  let v2 : FVec F S96x1 .f32 := broadcastInDim S96x1 ![0] bcast_S96_S96x1_0 v1
  let v3 : FVec F S96x1 .f32 := Host.sqrt v2
  v3

def fn_one_hot {F : FTy → Type} [FloatOps F] (arg0 : IVec S96x32 32) : FVec F S96x32x32 .f32 :=
  let v0 : IVec S96x32x1 32 := broadcastInDim S96x32x1 ![0, 1] bcast_S96x32_S96x32x1_0_1 arg0
  let v1 : IVec S1x1x32 32 := iotaInDim S1x1x32 32 2
  let v2 : IVec S96x32x32 32 := broadcastInDim S96x32x32 ![0, 1, 2] bcast_S96x32x1_S96x32x32_0_1_2 v0
  let v3 : IVec S96x32x32 32 := broadcastInDim S96x32x32 ![0, 1, 2] bcast_S1x1x32_S96x32x32_0_1_2 v1
  let v4 : IVec S96x32x32 1 := cmpi .eq v2 v3
  let v5 : FVec F S96x32x32 .f32 := uitofp .f32 v4
  v5

def fn_one_hot_0 {F : FTy → Type} [FloatOps F] (arg0 : IVec S96x64 32) : FVec F S96x64x64 .f32 :=
  let v0 : IVec S96x64x1 32 := broadcastInDim S96x64x1 ![0, 1] bcast_S96x64_S96x64x1_0_1 arg0
  let v1 : IVec S1x1x64 32 := iotaInDim S1x1x64 32 2
  let v2 : IVec S96x64x64 32 := broadcastInDim S96x64x64 ![0, 1, 2] bcast_S96x64x1_S96x64x64_0_1_2 v0
  let v3 : IVec S96x64x64 32 := broadcastInDim S96x64x64 ![0, 1, 2] bcast_S1x1x64_S96x64x64_0_1_2 v1
  let v4 : IVec S96x64x64 1 := cmpi .eq v2 v3
  let v5 : FVec F S96x64x64 .f32 := uitofp .f32 v4
  v5

def fn_norm_1 {F : FTy → Type} [FloatOps F] (arg0 : FVec F S32x512 .f32) : FVec F S32 .f32 :=
  let v0 : FVec F S32x512 .f32 := mulf arg0 arg0
  let cst : FVec F S_ .f32 := constant S_ .f32 0x00000000#32
  let v1 : FVec F S32 .f32 := (fun x v => Host.reduceAdd x v reducesTo_S32x512_S32_d1 h_S_) v0 cst
  let v2 : FVec F S32 .f32 := Host.sqrt v1
  v2

def fn_part1 {F : FTy → Type} [FloatOps F] (main_arg3 : FVec F S32x512 .f32) (main_v15 : IVec S96x32x32 1) (main_v17 : IVec S96x64x64 1) (main_v18 : FVec F S96x2640 .f32) : IVec S96x32x32 1 × IVec S96x64x64 1 × IVec S96x2640 1 × IVec S32 1 :=
  let main_cst_2 : FVec F S_ .f32 := constant S_ .f32 0x7F800000#32
  let main_v19 : FVec F S96x2640 .f32 := broadcastInDim S96x2640 ![] bcast_S_S96x2640 main_cst_2
  let main_v20 : IVec S96x2640 1 := cmpf .olt main_v18 main_v19
  let main_v21 : FVec F S32 .f32 := fn_norm_1 (F := F) main_arg3
  let main_cst_3 : FVec F S_ .f32 := constant S_ .f32 0x2B8CBCCC#32
  let main_v22 : FVec F S32 .f32 := broadcastInDim S32 ![] bcast_S_S32 main_cst_3
  let main_v23 : IVec S32 1 := cmpf .une main_v21 main_v22
  (main_v15, main_v17, main_v20, main_v23)

def fn {F : FTy → Type} [FloatOps F] (main_arg0 : FVec F S96x2640 .f32) (main_arg1 : FVec F S96x32x32 .f32) (main_arg2 : FVec F S96x64x64 .f32) (main_arg3 : FVec F S32x512 .f32) (main_arg4 : FVec F S64x512 .f32) : IVec S96x32x32 1 × IVec S96x64x64 1 × IVec S96x2640 1 × IVec S32 1 :=
  let main_v0 : FVec F S96x512 .f32 := (fun a b => concatenate S96x512 0 [⟨S32x512, a⟩, ⟨S64x512, b⟩] concatenates_S32x512_S64x512_S96x512_d0) main_arg3 main_arg4
  let main_v1 : FVec F S96x1 .f32 := fn_norm (F := F) main_v0
  let main_cst : FVec F S_ .f32 := constant S_ .f32 0x2B8CBCCC#32
  let main_v2 : FVec F S96x1 .f32 := broadcastInDim S96x1 ![] bcast_S_S96x1 main_cst
  let main_v3 : FVec F S96x1 .f32 := maximumf main_v1 main_v2
  let main_v4 : FVec F S96x512 .f32 := broadcastInDim S96x512 ![0, 1] bcast_S96x1_S96x512_0_1 main_v3
  let main_v5 : FVec F S96x512 .f32 := Host.divf main_v0 main_v4
  let main_v6 : FVec F S512x96 .f32 := (transpose S512x96 [1, 0] · transposes_S96x512_S512x96_1_0) main_v5
  let main_v7 : FVec F S96x96 .f32 := (fun l r => Host.dotGeneral dot_S96x512_S512x96_S96x96_1_0_0_1_n_n none l r) main_v5 main_v6
  let main_v8 : FVec F S32x32 .f32 := (extractStridedSlice S32x32 ![0, 0] · slices_S96x96_S32x32_0_0) main_v7
  let main_v9 : FVec F S64x64 .f32 := (extractStridedSlice S64x64 ![32, 32] · slices_S96x96_S64x64_32_32) main_v7
  let main_v10 : FVec F S32x64 .f32 := (extractStridedSlice S32x64 ![0, 32] · slices_S96x96_S32x64_0_32) main_v7
  let main_v11 : FVec F S32x96 .f32 := (fun a b => concatenate S32x96 1 [⟨S32x32, a⟩, ⟨S32x64, b⟩] concatenates_S32x32_S32x64_S32x96_d1) main_v8 main_v10
  let main_v12 : FVec F S96x32 .f32 := (transpose S96x32 [1, 0] · transposes_S32x96_S96x32_1_0) main_v11
  let main_v13 : FVec F S96x64 .f32 := (fun a b => concatenate S96x64 0 [⟨S32x64, a⟩, ⟨S64x64, b⟩] concatenates_S32x64_S64x64_S96x64_d0) main_v10 main_v9
  let main_values : FVec F S96x64 .f32 := (fun x => (Host.topK S96x64 1 (FloatOps.cmpfTotal .gt) x sliceFits_S96x64_S96x64).1) main_v13
  let main_indices : IVec S96x64 32 := (fun x => (Host.topK S96x64 1 (FloatOps.cmpfTotal .gt) x sliceFits_S96x64_S96x64).2) main_v13
  let main_values_0 : FVec F S96x32 .f32 := (fun x => (Host.topK S96x32 1 (FloatOps.cmpfTotal .gt) x sliceFits_S96x32_S96x32).1) main_v12
  let main_indices_1 : IVec S96x32 32 := (fun x => (Host.topK S96x32 1 (FloatOps.cmpfTotal .gt) x sliceFits_S96x32_S96x32).2) main_v12
  let main_v14 : FVec F S96x32x32 .f32 := fn_one_hot (F := F) main_indices_1
  let main_v15 : IVec S96x32x32 1 := cmpf .oeq main_arg1 main_v14
  let main_v16 : FVec F S96x64x64 .f32 := fn_one_hot_0 (F := F) main_indices
  let main_v17 : IVec S96x64x64 1 := cmpf .oeq main_arg2 main_v16
  let main_v18 : FVec F S96x2640 .f32 := Host.absf main_arg0
  fn_part1 (F := F) main_arg3 main_v15 main_v17 main_v18
-- ==== KMlp12.lean ====
abbrev S96x2640 : Shape := ⟨2, ![96, 2640]⟩
abbrev S2640x4096 : Shape := ⟨2, ![2640, 4096]⟩
abbrev S4096 : Shape := ⟨1, ![4096]⟩
abbrev S4096x4096 : Shape := ⟨2, ![4096, 4096]⟩
abbrev S1x4096 : Shape := ⟨2, ![1, 4096]⟩
abbrev S96x4096 : Shape := ⟨2, ![96, 4096]⟩
abbrev S2640x512 : Shape := ⟨2, ![2640, 512]⟩
abbrev S1x512 : Shape := ⟨2, ![1, 512]⟩
abbrev S512x4096 : Shape := ⟨2, ![512, 4096]⟩
abbrev S96x512 : Shape := ⟨2, ![96, 512]⟩

abbrev nBuf : Space → Nat
  | .hbm => 8
  | .vmem => 10
  | .smem => 0
  | _ => 0

abbrev bufTy : (tb : Table) → Fin (tcTables nBuf tb) → BufTy
  | .hbm, ⟨0, _⟩ => ⟨S96x2640, .f32⟩
  | .hbm, ⟨1, _⟩ => ⟨S2640x4096, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S1x4096, .f32⟩
  | .hbm, ⟨6, _⟩ => ⟨S1x4096, .f32⟩
  | .hbm, ⟨7, _⟩ => ⟨S96x4096, .f32⟩
  | .local _ .vmem, ⟨0, _⟩ => ⟨S96x2640, .f32⟩
  | .local _ .vmem, ⟨1, _⟩ => ⟨S2640x512, .f32⟩
  | .local _ .vmem, ⟨2, _⟩ => ⟨S2640x512, .f32⟩
  | .local _ .vmem, ⟨3, _⟩ => ⟨S1x512, .f32⟩
  | .local _ .vmem, ⟨4, _⟩ => ⟨S1x512, .f32⟩
  | .local _ .vmem, ⟨5, _⟩ => ⟨S512x4096, .f32⟩
  | .local _ .vmem, ⟨6, _⟩ => ⟨S512x4096, .f32⟩
  | .local _ .vmem, ⟨7, _⟩ => ⟨S1x4096, .f32⟩
  | .local _ .vmem, ⟨8, _⟩ => ⟨S96x4096, .f32⟩
  | .local _ .vmem, ⟨9, _⟩ => ⟨S96x4096, .f32⟩
  | _, _ => ⟨S96x2640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v19 : BitVec 1 := Scalar.cmpi .eq arg0 c7_i32
  let v20 : BitVec 32 := Scalar.extui v19
  let c0_i32_14 : BitVec 32 := 0#32
  let v21 : BitVec 1 := Scalar.cmpi .ne v20 c0_i32_14
  v21

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S96x2640 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2640x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S96x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== RMlp12Ideal.lean ====
abbrev S96x2640 : Shape := ⟨2, ![96, 2640]⟩
abbrev S2640x4096 : Shape := ⟨2, ![2640, 4096]⟩
abbrev S4096 : Shape := ⟨1, ![4096]⟩
abbrev S4096x4096 : Shape := ⟨2, ![4096, 4096]⟩
abbrev S96x4096 : Shape := ⟨2, ![96, 4096]⟩
abbrev S1x4096 : Shape := ⟨2, ![1, 4096]⟩
abbrev S_ : Shape := ⟨0, ![]⟩

abbrev nBuf : Space → Nat
  | .hbm => 19
  | .vmem => 0
  | .smem => 0
  | _ => 0

abbrev bufTy : (tb : Table) → Fin (tcTables nBuf tb) → BufTy
  | .hbm, ⟨0, _⟩ => ⟨S96x2640, .f32⟩
  | .hbm, ⟨1, _⟩ => ⟨S2640x4096, .f32⟩
  | .hbm, ⟨2, _⟩ => ⟨S4096, .f32⟩
  | .hbm, ⟨3, _⟩ => ⟨S4096x4096, .f32⟩
  | .hbm, ⟨4, _⟩ => ⟨S4096, .f32⟩
  | .hbm, ⟨5, _⟩ => ⟨S96x4096, .f32⟩
  | .hbm, ⟨6, _⟩ => ⟨S1x4096, .f32⟩
  | .hbm, ⟨7, _⟩ => ⟨S96x4096, .f32⟩
  | .hbm, ⟨8, _⟩ => ⟨S96x4096, .f32⟩
  | .hbm, ⟨9, _⟩ => ⟨S_, .f32⟩
  | .hbm, ⟨10, _⟩ => ⟨S96x4096, .f32⟩
  | .hbm, ⟨11, _⟩ => ⟨S96x4096, .f32⟩
  | .hbm, ⟨12, _⟩ => ⟨S96x4096, .f32⟩
  | .hbm, ⟨13, _⟩ => ⟨S1x4096, .f32⟩
  | .hbm, ⟨14, _⟩ => ⟨S96x4096, .f32⟩
  | .hbm, ⟨15, _⟩ => ⟨S96x4096, .f32⟩
  | .hbm, ⟨16, _⟩ => ⟨S_, .f32⟩
  | .hbm, ⟨17, _⟩ => ⟨S96x4096, .f32⟩
  | .hbm, ⟨18, _⟩ => ⟨S96x4096, .f32⟩
  | _, _ => ⟨S96x2640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_cst : Ref sig .tc := ⟨.hbm, 9, rfl⟩
abbrev main_call0_v0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_call1_cst : Ref sig .tc := ⟨.hbm, 16, rfl⟩
abbrev main_call1_v0 : Ref sig .tc := ⟨.hbm, 17, rfl⟩
abbrev main_v9 : Ref sig .tc := ⟨.hbm, 18, rfl⟩

abbrev nD : Nat := 1
abbrev τ : Topo := Topo.v7x

variable {F : FTy → Type} [FloatOps F]
-- ==== KMlp3.lean ====
abbrev S96x4096 : Shape := ⟨2, ![96, 4096]⟩
abbrev S4096x2640 : Shape := ⟨2, ![4096, 2640]⟩
abbrev S2640 : Shape := ⟨1, ![2640]⟩
abbrev S1x2640 : Shape := ⟨2, ![1, 2640]⟩
abbrev S96x2640 : Shape := ⟨2, ![96, 2640]⟩
abbrev S96x512 : Shape := ⟨2, ![96, 512]⟩
abbrev S512x2640 : Shape := ⟨2, ![512, 2640]⟩

abbrev nBuf : Space → Nat
  | .hbm => 5
  | .vmem => 6
  | .smem => 0
  | _ => 0

abbrev bufTy : (tb : Table) → Fin (tcTables nBuf tb) → BufTy
  | .hbm, ⟨0, _⟩ => ⟨S96x4096, .f32⟩
  | .hbm, ⟨1, _⟩ => ⟨S4096x2640, .f32⟩
  | .hbm, ⟨2, _⟩ => ⟨S2640, .f32⟩
  | .hbm, ⟨3, _⟩ => ⟨S1x2640, .f32⟩
  | .hbm, ⟨4, _⟩ => ⟨S96x2640, .f32⟩
  | .local _ .vmem, ⟨0, _⟩ => ⟨S96x512, .f32⟩
  | .local _ .vmem, ⟨1, _⟩ => ⟨S96x512, .f32⟩
  | .local _ .vmem, ⟨2, _⟩ => ⟨S512x2640, .f32⟩
  | .local _ .vmem, ⟨3, _⟩ => ⟨S512x2640, .f32⟩
  | .local _ .vmem, ⟨4, _⟩ => ⟨S1x2640, .f32⟩
  | .local _ .vmem, ⟨5, _⟩ => ⟨S96x2640, .f32⟩
  | _, _ => ⟨S96x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S96x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2640 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S96x2640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== RMlp3Ideal.lean ====
abbrev S96x4096 : Shape := ⟨2, ![96, 4096]⟩
abbrev S4096x2640 : Shape := ⟨2, ![4096, 2640]⟩
abbrev S2640 : Shape := ⟨1, ![2640]⟩
abbrev S96x2640 : Shape := ⟨2, ![96, 2640]⟩
abbrev S1x2640 : Shape := ⟨2, ![1, 2640]⟩

abbrev nBuf : Space → Nat
  | .hbm => 7
  | .vmem => 0
  | .smem => 0
  | _ => 0

abbrev bufTy : (tb : Table) → Fin (tcTables nBuf tb) → BufTy
  | .hbm, ⟨0, _⟩ => ⟨S96x4096, .f32⟩
  | .hbm, ⟨1, _⟩ => ⟨S4096x2640, .f32⟩
  | .hbm, ⟨2, _⟩ => ⟨S2640, .f32⟩
  | .hbm, ⟨3, _⟩ => ⟨S96x2640, .f32⟩
  | .hbm, ⟨4, _⟩ => ⟨S1x2640, .f32⟩
  | .hbm, ⟨5, _⟩ => ⟨S96x2640, .f32⟩
  | .hbm, ⟨6, _⟩ => ⟨S96x2640, .f32⟩
  | _, _ => ⟨S96x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== KFinal.lean ====
abbrev S32x512 : Shape := ⟨2, ![32, 512]⟩
abbrev S64x512 : Shape := ⟨2, ![64, 512]⟩
abbrev S1 : Shape := ⟨1, ![1]⟩
abbrev S1x1 : Shape := ⟨2, ![1, 1]⟩
abbrev S64x32 : Shape := ⟨2, ![64, 32]⟩
abbrev S32 : Shape := ⟨1, ![32]⟩
abbrev S32x1 : Shape := ⟨2, ![32, 1]⟩
abbrev S64 : Shape := ⟨1, ![64]⟩
abbrev S64x1 : Shape := ⟨2, ![64, 1]⟩
abbrev S512x32 : Shape := ⟨2, ![512, 32]⟩

abbrev nBuf : Space → Nat
  | .hbm => 5
  | .vmem => 4
  | .smem => 0
  | _ => 0

abbrev bufTy : (tb : Table) → Fin (tcTables nBuf tb) → BufTy
  | .hbm, ⟨0, _⟩ => ⟨S32x512, .f32⟩
  | .hbm, ⟨1, _⟩ => ⟨S64x512, .f32⟩
  | .hbm, ⟨2, _⟩ => ⟨S1, .f32⟩
  | .hbm, ⟨3, _⟩ => ⟨S1x1, .f32⟩
  | .hbm, ⟨4, _⟩ => ⟨S64x32, .f32⟩
  | .local _ .vmem, ⟨0, _⟩ => ⟨S32x512, .f32⟩
  | .local _ .vmem, ⟨1, _⟩ => ⟨S64x512, .f32⟩
  | .local _ .vmem, ⟨2, _⟩ => ⟨S1x1, .f32⟩
  | .local _ .vmem, ⟨3, _⟩ => ⟨S64x32, .f32⟩
  | _, _ => ⟨S32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S32x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== RFinalIdeal.lean ====
abbrev S32x512 : Shape := ⟨2, ![32, 512]⟩
abbrev S64x512 : Shape := ⟨2, ![64, 512]⟩
abbrev S1 : Shape := ⟨1, ![1]⟩
abbrev S96x512 : Shape := ⟨2, ![96, 512]⟩
abbrev S_ : Shape := ⟨0, ![]⟩
abbrev S96 : Shape := ⟨1, ![96]⟩
abbrev S96x1 : Shape := ⟨2, ![96, 1]⟩
abbrev S512x96 : Shape := ⟨2, ![512, 96]⟩
abbrev S96x96 : Shape := ⟨2, ![96, 96]⟩
abbrev S32x32 : Shape := ⟨2, ![32, 32]⟩
abbrev S64x64 : Shape := ⟨2, ![64, 64]⟩
abbrev S32x64 : Shape := ⟨2, ![32, 64]⟩
abbrev S32x96 : Shape := ⟨2, ![32, 96]⟩
abbrev S96x32 : Shape := ⟨2, ![96, 32]⟩
abbrev S96x64 : Shape := ⟨2, ![96, 64]⟩
abbrev S1x1 : Shape := ⟨2, ![1, 1]⟩
abbrev S64x32 : Shape := ⟨2, ![64, 32]⟩

abbrev nBuf : Space → Nat
  | .hbm => 26
  | .vmem => 0
  | .smem => 0
  | _ => 0

abbrev bufTy : (tb : Table) → Fin (tcTables nBuf tb) → BufTy
  | .hbm, ⟨0, _⟩ => ⟨S32x512, .f32⟩
  | .hbm, ⟨1, _⟩ => ⟨S64x512, .f32⟩
  | .hbm, ⟨2, _⟩ => ⟨S1, .f32⟩
  | .hbm, ⟨3, _⟩ => ⟨S96x512, .f32⟩
  | .hbm, ⟨4, _⟩ => ⟨S96x512, .f32⟩
  | .hbm, ⟨5, _⟩ => ⟨S_, .f32⟩
  | .hbm, ⟨6, _⟩ => ⟨S96, .f32⟩
  | .hbm, ⟨7, _⟩ => ⟨S96x1, .f32⟩
  | .hbm, ⟨8, _⟩ => ⟨S96x1, .f32⟩
  | .hbm, ⟨9, _⟩ => ⟨S_, .f32⟩
  | .hbm, ⟨10, _⟩ => ⟨S96x1, .f32⟩
  | .hbm, ⟨11, _⟩ => ⟨S96x1, .f32⟩
  | .hbm, ⟨12, _⟩ => ⟨S96x512, .f32⟩
  | .hbm, ⟨13, _⟩ => ⟨S96x512, .f32⟩
  | .hbm, ⟨14, _⟩ => ⟨S512x96, .f32⟩
  | .hbm, ⟨15, _⟩ => ⟨S96x96, .f32⟩
  | .hbm, ⟨16, _⟩ => ⟨S32x32, .f32⟩
  | .hbm, ⟨17, _⟩ => ⟨S64x64, .f32⟩
  | .hbm, ⟨18, _⟩ => ⟨S32x64, .f32⟩
  | .hbm, ⟨19, _⟩ => ⟨S32x96, .f32⟩
  | .hbm, ⟨20, _⟩ => ⟨S96x32, .f32⟩
  | .hbm, ⟨21, _⟩ => ⟨S96x64, .f32⟩
  | .hbm, ⟨22, _⟩ => ⟨S1x1, .f32⟩
  | .hbm, ⟨23, _⟩ => ⟨S32x64, .f32⟩
  | .hbm, ⟨24, _⟩ => ⟨S32x64, .f32⟩
  | .hbm, ⟨25, _⟩ => ⟨S64x32, .f32⟩
  | _, _ => ⟨S32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]
-- ==== KPrep.lean ====
abbrev S32x512 : Shape := ⟨2, ![32, 512]⟩
abbrev S64x512 : Shape := ⟨2, ![64, 512]⟩
abbrev S96x2640 : Shape := ⟨2, ![96, 2640]⟩
abbrev S96x32x32 : Shape := ⟨3, ![96, 32, 32]⟩
abbrev S96x64x64 : Shape := ⟨3, ![96, 64, 64]⟩
abbrev S96x512 : Shape := ⟨2, ![96, 512]⟩
abbrev S96 : Shape := ⟨1, ![96]⟩
abbrev S96x1 : Shape := ⟨2, ![96, 1]⟩
abbrev S512x96 : Shape := ⟨2, ![512, 96]⟩
abbrev S96x96 : Shape := ⟨2, ![96, 96]⟩
abbrev S96x32 : Shape := ⟨2, ![96, 32]⟩
abbrev S96x64 : Shape := ⟨2, ![96, 64]⟩
abbrev S96x1x32 : Shape := ⟨3, ![96, 1, 32]⟩
abbrev S96x32x1 : Shape := ⟨3, ![96, 32, 1]⟩
abbrev S96x1x64 : Shape := ⟨3, ![96, 1, 64]⟩
abbrev S96x64x1 : Shape := ⟨3, ![96, 64, 1]⟩
abbrev S32x32 : Shape := ⟨2, ![32, 32]⟩
abbrev S32x64 : Shape := ⟨2, ![32, 64]⟩
abbrev S3072x32 : Shape := ⟨2, ![3072, 32]⟩
abbrev S3072x64 : Shape := ⟨2, ![3072, 64]⟩
abbrev S96x32x64 : Shape := ⟨3, ![96, 32, 64]⟩
abbrev S96x1x31 : Shape := ⟨3, ![96, 1, 31]⟩
abbrev S96x31 : Shape := ⟨2, ![96, 31]⟩
abbrev S96x1x30 : Shape := ⟨3, ![96, 1, 30]⟩
abbrev S96x30 : Shape := ⟨2, ![96, 30]⟩
abbrev S96x1x29 : Shape := ⟨3, ![96, 1, 29]⟩
abbrev S96x29 : Shape := ⟨2, ![96, 29]⟩
abbrev S96x1x28 : Shape := ⟨3, ![96, 1, 28]⟩
abbrev S96x28 : Shape := ⟨2, ![96, 28]⟩
abbrev S96x1x27 : Shape := ⟨3, ![96, 1, 27]⟩
abbrev S96x27 : Shape := ⟨2, ![96, 27]⟩
abbrev S96x1x26 : Shape := ⟨3, ![96, 1, 26]⟩
abbrev S96x26 : Shape := ⟨2, ![96, 26]⟩
abbrev S96x1x25 : Shape := ⟨3, ![96, 1, 25]⟩
abbrev S96x25 : Shape := ⟨2, ![96, 25]⟩
abbrev S96x1x24 : Shape := ⟨3, ![96, 1, 24]⟩
abbrev S96x24 : Shape := ⟨2, ![96, 24]⟩
abbrev S96x1x23 : Shape := ⟨3, ![96, 1, 23]⟩
abbrev S96x23 : Shape := ⟨2, ![96, 23]⟩
abbrev S96x1x22 : Shape := ⟨3, ![96, 1, 22]⟩
abbrev S96x22 : Shape := ⟨2, ![96, 22]⟩
abbrev S96x1x21 : Shape := ⟨3, ![96, 1, 21]⟩
abbrev S96x21 : Shape := ⟨2, ![96, 21]⟩
abbrev S96x1x20 : Shape := ⟨3, ![96, 1, 20]⟩
abbrev S96x20 : Shape := ⟨2, ![96, 20]⟩
abbrev S96x1x19 : Shape := ⟨3, ![96, 1, 19]⟩
abbrev S96x19 : Shape := ⟨2, ![96, 19]⟩
abbrev S96x1x18 : Shape := ⟨3, ![96, 1, 18]⟩
abbrev S96x18 : Shape := ⟨2, ![96, 18]⟩
abbrev S96x1x17 : Shape := ⟨3, ![96, 1, 17]⟩
abbrev S96x17 : Shape := ⟨2, ![96, 17]⟩
abbrev S96x1x16 : Shape := ⟨3, ![96, 1, 16]⟩
abbrev S96x16 : Shape := ⟨2, ![96, 16]⟩
abbrev S96x1x15 : Shape := ⟨3, ![96, 1, 15]⟩
abbrev S96x15 : Shape := ⟨2, ![96, 15]⟩
abbrev S96x1x14 : Shape := ⟨3, ![96, 1, 14]⟩
abbrev S96x14 : Shape := ⟨2, ![96, 14]⟩
abbrev S96x1x13 : Shape := ⟨3, ![96, 1, 13]⟩
abbrev S96x13 : Shape := ⟨2, ![96, 13]⟩
abbrev S96x1x12 : Shape := ⟨3, ![96, 1, 12]⟩
abbrev S96x12 : Shape := ⟨2, ![96, 12]⟩
abbrev S96x1x11 : Shape := ⟨3, ![96, 1, 11]⟩
abbrev S96x11 : Shape := ⟨2, ![96, 11]⟩
abbrev S96x1x10 : Shape := ⟨3, ![96, 1, 10]⟩
abbrev S96x10 : Shape := ⟨2, ![96, 10]⟩
abbrev S96x1x9 : Shape := ⟨3, ![96, 1, 9]⟩
abbrev S96x9 : Shape := ⟨2, ![96, 9]⟩
abbrev S96x1x8 : Shape := ⟨3, ![96, 1, 8]⟩
abbrev S96x8 : Shape := ⟨2, ![96, 8]⟩
abbrev S96x1x7 : Shape := ⟨3, ![96, 1, 7]⟩
abbrev S96x7 : Shape := ⟨2, ![96, 7]⟩
abbrev S96x1x6 : Shape := ⟨3, ![96, 1, 6]⟩
abbrev S96x6 : Shape := ⟨2, ![96, 6]⟩
abbrev S96x1x5 : Shape := ⟨3, ![96, 1, 5]⟩
abbrev S96x5 : Shape := ⟨2, ![96, 5]⟩
abbrev S96x1x4 : Shape := ⟨3, ![96, 1, 4]⟩
abbrev S96x4 : Shape := ⟨2, ![96, 4]⟩
abbrev S96x1x3 : Shape := ⟨3, ![96, 1, 3]⟩
abbrev S96x3 : Shape := ⟨2, ![96, 3]⟩
abbrev S96x1x2 : Shape := ⟨3, ![96, 1, 2]⟩
abbrev S96x2 : Shape := ⟨2, ![96, 2]⟩
abbrev S96x1x1 : Shape := ⟨3, ![96, 1, 1]⟩

abbrev nBuf : Space → Nat
  | .hbm => 5
  | .vmem => 5
  | .smem => 0
  | _ => 0

abbrev bufTy : (tb : Table) → Fin (tcTables nBuf tb) → BufTy
  | .hbm, ⟨0, _⟩ => ⟨S32x512, .f32⟩
  | .hbm, ⟨1, _⟩ => ⟨S64x512, .f32⟩
  | .hbm, ⟨2, _⟩ => ⟨S96x2640, .f32⟩
  | .hbm, ⟨3, _⟩ => ⟨S96x32x32, .f32⟩
  | .hbm, ⟨4, _⟩ => ⟨S96x64x64, .f32⟩
  | .local _ .vmem, ⟨0, _⟩ => ⟨S32x512, .f32⟩
  | .local _ .vmem, ⟨1, _⟩ => ⟨S64x512, .f32⟩
  | .local _ .vmem, ⟨2, _⟩ => ⟨S96x2640, .f32⟩
  | .local _ .vmem, ⟨3, _⟩ => ⟨S96x32x32, .f32⟩
  | .local _ .vmem, ⟨4, _⟩ => ⟨S96x64x64, .f32⟩
  | _, _ => ⟨S32x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S32x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S96x2640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S96x32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S96x64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== RPrepIdeal.lean ====
abbrev S32x512 : Shape := ⟨2, ![32, 512]⟩
abbrev S64x512 : Shape := ⟨2, ![64, 512]⟩
abbrev S2640 : Shape := ⟨1, ![2640]⟩
abbrev S96x512 : Shape := ⟨2, ![96, 512]⟩
abbrev S_ : Shape := ⟨0, ![]⟩
abbrev S96 : Shape := ⟨1, ![96]⟩
abbrev S96x1 : Shape := ⟨2, ![96, 1]⟩
abbrev S512x96 : Shape := ⟨2, ![512, 96]⟩
abbrev S96x96 : Shape := ⟨2, ![96, 96]⟩
abbrev S32x32 : Shape := ⟨2, ![32, 32]⟩
abbrev S64x64 : Shape := ⟨2, ![64, 64]⟩
abbrev S32x64 : Shape := ⟨2, ![32, 64]⟩
abbrev S32x96 : Shape := ⟨2, ![32, 96]⟩
abbrev S96x32 : Shape := ⟨2, ![96, 32]⟩
abbrev S96x64 : Shape := ⟨2, ![96, 64]⟩
abbrev S96x32x1 : Shape := ⟨3, ![96, 32, 1]⟩
abbrev S1x1x32 : Shape := ⟨3, ![1, 1, 32]⟩
abbrev S96x32x32 : Shape := ⟨3, ![96, 32, 32]⟩
abbrev S96x64x1 : Shape := ⟨3, ![96, 64, 1]⟩
abbrev S1x1x64 : Shape := ⟨3, ![1, 1, 64]⟩
abbrev S96x64x64 : Shape := ⟨3, ![96, 64, 64]⟩
abbrev S96x97 : Shape := ⟨2, ![96, 97]⟩
abbrev S96x97x1 : Shape := ⟨3, ![96, 97, 1]⟩
abbrev S96x97x96 : Shape := ⟨3, ![96, 97, 96]⟩
abbrev S96x97x97 : Shape := ⟨3, ![96, 97, 97]⟩
abbrev S96x9409 : Shape := ⟨2, ![96, 9409]⟩
abbrev S2640x1 : Shape := ⟨2, ![2640, 1]⟩
abbrev S96x2640 : Shape := ⟨2, ![96, 2640]⟩

abbrev nBuf : Space → Nat
  | .hbm => 74
  | .vmem => 0
  | .smem => 0
  | _ => 0

abbrev bufTy : (tb : Table) → Fin (tcTables nBuf tb) → BufTy
  | .hbm, ⟨0, _⟩ => ⟨S32x512, .f32⟩
  | .hbm, ⟨1, _⟩ => ⟨S64x512, .f32⟩
  | .hbm, ⟨2, _⟩ => ⟨S2640, .i32⟩
  | .hbm, ⟨3, _⟩ => ⟨S96x512, .f32⟩
  | .hbm, ⟨4, _⟩ => ⟨S96x512, .f32⟩
  | .hbm, ⟨5, _⟩ => ⟨S_, .f32⟩
  | .hbm, ⟨6, _⟩ => ⟨S96, .f32⟩
  | .hbm, ⟨7, _⟩ => ⟨S96x1, .f32⟩
  | .hbm, ⟨8, _⟩ => ⟨S96x1, .f32⟩
  | .hbm, ⟨9, _⟩ => ⟨S_, .f32⟩
  | .hbm, ⟨10, _⟩ => ⟨S96x1, .f32⟩
  | .hbm, ⟨11, _⟩ => ⟨S96x1, .f32⟩
  | .hbm, ⟨12, _⟩ => ⟨S96x512, .f32⟩
  | .hbm, ⟨13, _⟩ => ⟨S96x512, .f32⟩
  | .hbm, ⟨14, _⟩ => ⟨S512x96, .f32⟩
  | .hbm, ⟨15, _⟩ => ⟨S96x96, .f32⟩
  | .hbm, ⟨16, _⟩ => ⟨S32x32, .f32⟩
  | .hbm, ⟨17, _⟩ => ⟨S64x64, .f32⟩
  | .hbm, ⟨18, _⟩ => ⟨S32x64, .f32⟩
  | .hbm, ⟨19, _⟩ => ⟨S32x96, .f32⟩
  | .hbm, ⟨20, _⟩ => ⟨S96x32, .f32⟩
  | .hbm, ⟨21, _⟩ => ⟨S96x64, .f32⟩
  | .hbm, ⟨22, _⟩ => ⟨S96x64, .f32⟩
  | .hbm, ⟨23, _⟩ => ⟨S96x64, .i32⟩
  | .hbm, ⟨24, _⟩ => ⟨S96x32, .f32⟩
  | .hbm, ⟨25, _⟩ => ⟨S96x32, .i32⟩
  | .hbm, ⟨26, _⟩ => ⟨S96x32x1, .i32⟩
  | .hbm, ⟨27, _⟩ => ⟨S1x1x32, .i32⟩
  | .hbm, ⟨28, _⟩ => ⟨S96x32x32, .i32⟩
  | .hbm, ⟨29, _⟩ => ⟨S96x32x32, .i32⟩
  | .hbm, ⟨30, _⟩ => ⟨S96x32x32, .i1⟩
  | .hbm, ⟨31, _⟩ => ⟨S96x32x32, .f32⟩
  | .hbm, ⟨32, _⟩ => ⟨S96x64x1, .i32⟩
  | .hbm, ⟨33, _⟩ => ⟨S1x1x64, .i32⟩
  | .hbm, ⟨34, _⟩ => ⟨S96x64x64, .i32⟩
  | .hbm, ⟨35, _⟩ => ⟨S96x64x64, .i32⟩
  | .hbm, ⟨36, _⟩ => ⟨S96x64x64, .i1⟩
  | .hbm, ⟨37, _⟩ => ⟨S96x64x64, .f32⟩
  | .hbm, ⟨38, _⟩ => ⟨S_, .i32⟩
  | .hbm, ⟨39, _⟩ => ⟨S96x64, .i32⟩
  | .hbm, ⟨40, _⟩ => ⟨S96x64, .i32⟩
  | .hbm, ⟨41, _⟩ => ⟨S96x96, .i32⟩
  | .hbm, ⟨42, _⟩ => ⟨S96x96, .f32⟩
  | .hbm, ⟨43, _⟩ => ⟨S96, .i32⟩
  | .hbm, ⟨44, _⟩ => ⟨S96x1, .i32⟩
  | .hbm, ⟨45, _⟩ => ⟨S96x97, .i32⟩
  | .hbm, ⟨46, _⟩ => ⟨S_, .i32⟩
  | .hbm, ⟨47, _⟩ => ⟨S96x97, .i32⟩
  | .hbm, ⟨48, _⟩ => ⟨S96x97, .i1⟩
  | .hbm, ⟨49, _⟩ => ⟨S_, .i32⟩
  | .hbm, ⟨50, _⟩ => ⟨S96x97, .i32⟩
  | .hbm, ⟨51, _⟩ => ⟨S96x97, .i32⟩
  | .hbm, ⟨52, _⟩ => ⟨S96x97, .i32⟩
  | .hbm, ⟨53, _⟩ => ⟨S96x97x1, .i32⟩
  | .hbm, ⟨54, _⟩ => ⟨S96x97x96, .f32⟩
  | .hbm, ⟨55, _⟩ => ⟨S_, .i32⟩
  | .hbm, ⟨56, _⟩ => ⟨S96x97, .i32⟩
  | .hbm, ⟨57, _⟩ => ⟨S96x97, .i1⟩
  | .hbm, ⟨58, _⟩ => ⟨S_, .i32⟩
  | .hbm, ⟨59, _⟩ => ⟨S96x97, .i32⟩
  | .hbm, ⟨60, _⟩ => ⟨S96x97, .i32⟩
  | .hbm, ⟨61, _⟩ => ⟨S96x97, .i32⟩
  | .hbm, ⟨62, _⟩ => ⟨S96x97x1, .i32⟩
  | .hbm, ⟨63, _⟩ => ⟨S96x97x97, .f32⟩
  | .hbm, ⟨64, _⟩ => ⟨S96x9409, .f32⟩
  | .hbm, ⟨65, _⟩ => ⟨S_, .i32⟩
  | .hbm, ⟨66, _⟩ => ⟨S2640, .i32⟩
  | .hbm, ⟨67, _⟩ => ⟨S2640, .i1⟩
  | .hbm, ⟨68, _⟩ => ⟨S_, .i32⟩
  | .hbm, ⟨69, _⟩ => ⟨S2640, .i32⟩
  | .hbm, ⟨70, _⟩ => ⟨S2640, .i32⟩
  | .hbm, ⟨71, _⟩ => ⟨S2640, .i32⟩
  | .hbm, ⟨72, _⟩ => ⟨S2640x1, .i32⟩
  | .hbm, ⟨73, _⟩ => ⟨S96x2640, .f32⟩
  | _, _ => ⟨S32x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_call0_v0 : Ref sig .tc := ⟨.hbm, 4, rfl⟩
abbrev main_call0_cst : Ref sig .tc := ⟨.hbm, 5, rfl⟩
abbrev main_call0_v1 : Ref sig .tc := ⟨.hbm, 6, rfl⟩
abbrev main_call0_v2 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_values : Ref sig .tc := ⟨.hbm, 22, rfl⟩
abbrev main_indices : Ref sig .tc := ⟨.hbm, 23, rfl⟩
abbrev main_values_0 : Ref sig .tc := ⟨.hbm, 24, rfl⟩
abbrev main_indices_1 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v14 : Ref sig .tc := ⟨.hbm, 31, rfl⟩
abbrev main_call2_v0 : Ref sig .tc := ⟨.hbm, 32, rfl⟩
abbrev main_call2_v1 : Ref sig .tc := ⟨.hbm, 33, rfl⟩
abbrev main_call2_v2 : Ref sig .tc := ⟨.hbm, 34, rfl⟩
abbrev main_call2_v3 : Ref sig .tc := ⟨.hbm, 35, rfl⟩
abbrev main_call2_v4 : Ref sig .tc := ⟨.hbm, 36, rfl⟩
abbrev main_v15 : Ref sig .tc := ⟨.hbm, 37, rfl⟩
abbrev main_c_2 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_c_3 : Ref sig .tc := ⟨.hbm, 46, rfl⟩
abbrev main_v23 : Ref sig .tc := ⟨.hbm, 47, rfl⟩
abbrev main_v24 : Ref sig .tc := ⟨.hbm, 48, rfl⟩
abbrev main_c_4 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_c_5 : Ref sig .tc := ⟨.hbm, 55, rfl⟩
abbrev main_v30 : Ref sig .tc := ⟨.hbm, 56, rfl⟩
abbrev main_v31 : Ref sig .tc := ⟨.hbm, 57, rfl⟩
abbrev main_c_6 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_c_7 : Ref sig .tc := ⟨.hbm, 65, rfl⟩
abbrev main_v38 : Ref sig .tc := ⟨.hbm, 66, rfl⟩
abbrev main_v39 : Ref sig .tc := ⟨.hbm, 67, rfl⟩
abbrev main_c_8 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩

abbrev nD : Nat := 1
abbrev τ : Topo := Topo.v7x

variable {F : FTy → Type} [FloatOps F]
-- ==== KPrep0.lean ====
abbrev S32x5x512 : Shape := ⟨3, ![32, 5, 512]⟩
abbrev S64x512 : Shape := ⟨2, ![64, 512]⟩
abbrev S96x2640 : Shape := ⟨2, ![96, 2640]⟩
abbrev S96x32x32 : Shape := ⟨3, ![96, 32, 32]⟩
abbrev S96x64x64 : Shape := ⟨3, ![96, 64, 64]⟩
abbrev S32x512 : Shape := ⟨2, ![32, 512]⟩
abbrev S96x512 : Shape := ⟨2, ![96, 512]⟩
abbrev S96 : Shape := ⟨1, ![96]⟩
abbrev S96x1 : Shape := ⟨2, ![96, 1]⟩
abbrev S512x96 : Shape := ⟨2, ![512, 96]⟩
abbrev S96x96 : Shape := ⟨2, ![96, 96]⟩
abbrev S96x32 : Shape := ⟨2, ![96, 32]⟩
abbrev S96x64 : Shape := ⟨2, ![96, 64]⟩
abbrev S96x1x32 : Shape := ⟨3, ![96, 1, 32]⟩
abbrev S96x32x1 : Shape := ⟨3, ![96, 32, 1]⟩
abbrev S96x1x64 : Shape := ⟨3, ![96, 1, 64]⟩
abbrev S96x64x1 : Shape := ⟨3, ![96, 64, 1]⟩
abbrev S32x32 : Shape := ⟨2, ![32, 32]⟩
abbrev S32x64 : Shape := ⟨2, ![32, 64]⟩
abbrev S3072x32 : Shape := ⟨2, ![3072, 32]⟩
abbrev S3072x64 : Shape := ⟨2, ![3072, 64]⟩
abbrev S96x32x64 : Shape := ⟨3, ![96, 32, 64]⟩
abbrev S96x1x31 : Shape := ⟨3, ![96, 1, 31]⟩
abbrev S96x31 : Shape := ⟨2, ![96, 31]⟩
abbrev S96x1x30 : Shape := ⟨3, ![96, 1, 30]⟩
abbrev S96x30 : Shape := ⟨2, ![96, 30]⟩
abbrev S96x1x29 : Shape := ⟨3, ![96, 1, 29]⟩
abbrev S96x29 : Shape := ⟨2, ![96, 29]⟩
abbrev S96x1x28 : Shape := ⟨3, ![96, 1, 28]⟩
abbrev S96x28 : Shape := ⟨2, ![96, 28]⟩
abbrev S96x1x27 : Shape := ⟨3, ![96, 1, 27]⟩
abbrev S96x27 : Shape := ⟨2, ![96, 27]⟩
abbrev S96x1x26 : Shape := ⟨3, ![96, 1, 26]⟩
abbrev S96x26 : Shape := ⟨2, ![96, 26]⟩
abbrev S96x1x25 : Shape := ⟨3, ![96, 1, 25]⟩
abbrev S96x25 : Shape := ⟨2, ![96, 25]⟩
abbrev S96x1x24 : Shape := ⟨3, ![96, 1, 24]⟩
abbrev S96x24 : Shape := ⟨2, ![96, 24]⟩
abbrev S96x1x23 : Shape := ⟨3, ![96, 1, 23]⟩
abbrev S96x23 : Shape := ⟨2, ![96, 23]⟩
abbrev S96x1x22 : Shape := ⟨3, ![96, 1, 22]⟩
abbrev S96x22 : Shape := ⟨2, ![96, 22]⟩
abbrev S96x1x21 : Shape := ⟨3, ![96, 1, 21]⟩
abbrev S96x21 : Shape := ⟨2, ![96, 21]⟩
abbrev S96x1x20 : Shape := ⟨3, ![96, 1, 20]⟩
abbrev S96x20 : Shape := ⟨2, ![96, 20]⟩
abbrev S96x1x19 : Shape := ⟨3, ![96, 1, 19]⟩
abbrev S96x19 : Shape := ⟨2, ![96, 19]⟩
abbrev S96x1x18 : Shape := ⟨3, ![96, 1, 18]⟩
abbrev S96x18 : Shape := ⟨2, ![96, 18]⟩
abbrev S96x1x17 : Shape := ⟨3, ![96, 1, 17]⟩
abbrev S96x17 : Shape := ⟨2, ![96, 17]⟩
abbrev S96x1x16 : Shape := ⟨3, ![96, 1, 16]⟩
abbrev S96x16 : Shape := ⟨2, ![96, 16]⟩
abbrev S96x1x15 : Shape := ⟨3, ![96, 1, 15]⟩
abbrev S96x15 : Shape := ⟨2, ![96, 15]⟩
abbrev S96x1x14 : Shape := ⟨3, ![96, 1, 14]⟩
abbrev S96x14 : Shape := ⟨2, ![96, 14]⟩
abbrev S96x1x13 : Shape := ⟨3, ![96, 1, 13]⟩
abbrev S96x13 : Shape := ⟨2, ![96, 13]⟩
abbrev S96x1x12 : Shape := ⟨3, ![96, 1, 12]⟩
abbrev S96x12 : Shape := ⟨2, ![96, 12]⟩
abbrev S96x1x11 : Shape := ⟨3, ![96, 1, 11]⟩
abbrev S96x11 : Shape := ⟨2, ![96, 11]⟩
abbrev S96x1x10 : Shape := ⟨3, ![96, 1, 10]⟩
abbrev S96x10 : Shape := ⟨2, ![96, 10]⟩
abbrev S96x1x9 : Shape := ⟨3, ![96, 1, 9]⟩
abbrev S96x9 : Shape := ⟨2, ![96, 9]⟩
abbrev S96x1x8 : Shape := ⟨3, ![96, 1, 8]⟩
abbrev S96x8 : Shape := ⟨2, ![96, 8]⟩
abbrev S96x1x7 : Shape := ⟨3, ![96, 1, 7]⟩
abbrev S96x7 : Shape := ⟨2, ![96, 7]⟩
abbrev S96x1x6 : Shape := ⟨3, ![96, 1, 6]⟩
abbrev S96x6 : Shape := ⟨2, ![96, 6]⟩
abbrev S96x1x5 : Shape := ⟨3, ![96, 1, 5]⟩
abbrev S96x5 : Shape := ⟨2, ![96, 5]⟩
abbrev S96x1x4 : Shape := ⟨3, ![96, 1, 4]⟩
abbrev S96x4 : Shape := ⟨2, ![96, 4]⟩
abbrev S96x1x3 : Shape := ⟨3, ![96, 1, 3]⟩
abbrev S96x3 : Shape := ⟨2, ![96, 3]⟩
abbrev S96x1x2 : Shape := ⟨3, ![96, 1, 2]⟩
abbrev S96x2 : Shape := ⟨2, ![96, 2]⟩
abbrev S96x1x1 : Shape := ⟨3, ![96, 1, 1]⟩

abbrev nBuf : Space → Nat
  | .hbm => 6
  | .vmem => 6
  | .smem => 0
  | _ => 0

abbrev bufTy : (tb : Table) → Fin (tcTables nBuf tb) → BufTy
  | .hbm, ⟨0, _⟩ => ⟨S32x5x512, .f32⟩
  | .hbm, ⟨1, _⟩ => ⟨S64x512, .f32⟩
  | .hbm, ⟨2, _⟩ => ⟨S96x2640, .f32⟩
  | .hbm, ⟨3, _⟩ => ⟨S96x32x32, .f32⟩
  | .hbm, ⟨4, _⟩ => ⟨S96x64x64, .f32⟩
  | .hbm, ⟨5, _⟩ => ⟨S32x512, .f32⟩
  | .local _ .vmem, ⟨0, _⟩ => ⟨S32x5x512, .f32⟩
  | .local _ .vmem, ⟨1, _⟩ => ⟨S64x512, .f32⟩
  | .local _ .vmem, ⟨2, _⟩ => ⟨S96x2640, .f32⟩
  | .local _ .vmem, ⟨3, _⟩ => ⟨S96x32x32, .f32⟩
  | .local _ .vmem, ⟨4, _⟩ => ⟨S96x64x64, .f32⟩
  | .local _ .vmem, ⟨5, _⟩ => ⟨S32x512, .f32⟩
  | _, _ => ⟨S32x5x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S32x5x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S96x2640 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S96x32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S96x64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== RPrep0Ideal.lean ====
abbrev S32x5x512 : Shape := ⟨3, ![32, 5, 512]⟩
abbrev S64x512 : Shape := ⟨2, ![64, 512]⟩
abbrev S2640 : Shape := ⟨1, ![2640]⟩
abbrev S_ : Shape := ⟨0, ![]⟩
abbrev S32x512 : Shape := ⟨2, ![32, 512]⟩
abbrev S96x512 : Shape := ⟨2, ![96, 512]⟩
abbrev S96 : Shape := ⟨1, ![96]⟩
abbrev S96x1 : Shape := ⟨2, ![96, 1]⟩
abbrev S512x96 : Shape := ⟨2, ![512, 96]⟩
abbrev S96x96 : Shape := ⟨2, ![96, 96]⟩
abbrev S32x32 : Shape := ⟨2, ![32, 32]⟩
abbrev S64x64 : Shape := ⟨2, ![64, 64]⟩
abbrev S32x64 : Shape := ⟨2, ![32, 64]⟩
abbrev S32x96 : Shape := ⟨2, ![32, 96]⟩
abbrev S96x32 : Shape := ⟨2, ![96, 32]⟩
abbrev S96x64 : Shape := ⟨2, ![96, 64]⟩
abbrev S96x32x1 : Shape := ⟨3, ![96, 32, 1]⟩
abbrev S1x1x32 : Shape := ⟨3, ![1, 1, 32]⟩
abbrev S96x32x32 : Shape := ⟨3, ![96, 32, 32]⟩
abbrev S96x64x1 : Shape := ⟨3, ![96, 64, 1]⟩
abbrev S1x1x64 : Shape := ⟨3, ![1, 1, 64]⟩
abbrev S96x64x64 : Shape := ⟨3, ![96, 64, 64]⟩
abbrev S96x97 : Shape := ⟨2, ![96, 97]⟩
abbrev S96x97x1 : Shape := ⟨3, ![96, 97, 1]⟩
abbrev S96x97x96 : Shape := ⟨3, ![96, 97, 96]⟩
abbrev S96x97x97 : Shape := ⟨3, ![96, 97, 97]⟩
abbrev S96x9409 : Shape := ⟨2, ![96, 9409]⟩
abbrev S2640x1 : Shape := ⟨2, ![2640, 1]⟩
abbrev S96x2640 : Shape := ⟨2, ![96, 2640]⟩

abbrev nBuf : Space → Nat
  | .hbm => 79
  | .vmem => 0
  | .smem => 0
  | _ => 0

abbrev bufTy : (tb : Table) → Fin (tcTables nBuf tb) → BufTy
  | .hbm, ⟨0, _⟩ => ⟨S32x5x512, .f32⟩
  | .hbm, ⟨1, _⟩ => ⟨S64x512, .f32⟩
  | .hbm, ⟨2, _⟩ => ⟨S2640, .i32⟩
  | .hbm, ⟨3, _⟩ => ⟨S_, .f32⟩
  | .hbm, ⟨4, _⟩ => ⟨S32x512, .f32⟩
  | .hbm, ⟨5, _⟩ => ⟨S_, .f32⟩
  | .hbm, ⟨6, _⟩ => ⟨S32x512, .f32⟩
  | .hbm, ⟨7, _⟩ => ⟨S32x512, .f32⟩
  | .hbm, ⟨8, _⟩ => ⟨S96x512, .f32⟩
  | .hbm, ⟨9, _⟩ => ⟨S96x512, .f32⟩
  | .hbm, ⟨10, _⟩ => ⟨S_, .f32⟩
  | .hbm, ⟨11, _⟩ => ⟨S96, .f32⟩
  | .hbm, ⟨12, _⟩ => ⟨S96x1, .f32⟩
  | .hbm, ⟨13, _⟩ => ⟨S96x1, .f32⟩
  | .hbm, ⟨14, _⟩ => ⟨S_, .f32⟩
  | .hbm, ⟨15, _⟩ => ⟨S96x1, .f32⟩
  | .hbm, ⟨16, _⟩ => ⟨S96x1, .f32⟩
  | .hbm, ⟨17, _⟩ => ⟨S96x512, .f32⟩
  | .hbm, ⟨18, _⟩ => ⟨S96x512, .f32⟩
  | .hbm, ⟨19, _⟩ => ⟨S512x96, .f32⟩
  | .hbm, ⟨20, _⟩ => ⟨S96x96, .f32⟩
  | .hbm, ⟨21, _⟩ => ⟨S32x32, .f32⟩
  | .hbm, ⟨22, _⟩ => ⟨S64x64, .f32⟩
  | .hbm, ⟨23, _⟩ => ⟨S32x64, .f32⟩
  | .hbm, ⟨24, _⟩ => ⟨S32x96, .f32⟩
  | .hbm, ⟨25, _⟩ => ⟨S96x32, .f32⟩
  | .hbm, ⟨26, _⟩ => ⟨S96x64, .f32⟩
  | .hbm, ⟨27, _⟩ => ⟨S96x64, .f32⟩
  | .hbm, ⟨28, _⟩ => ⟨S96x64, .i32⟩
  | .hbm, ⟨29, _⟩ => ⟨S96x32, .f32⟩
  | .hbm, ⟨30, _⟩ => ⟨S96x32, .i32⟩
  | .hbm, ⟨31, _⟩ => ⟨S96x32x1, .i32⟩
  | .hbm, ⟨32, _⟩ => ⟨S1x1x32, .i32⟩
  | .hbm, ⟨33, _⟩ => ⟨S96x32x32, .i32⟩
  | .hbm, ⟨34, _⟩ => ⟨S96x32x32, .i32⟩
  | .hbm, ⟨35, _⟩ => ⟨S96x32x32, .i1⟩
  | .hbm, ⟨36, _⟩ => ⟨S96x32x32, .f32⟩
  | .hbm, ⟨37, _⟩ => ⟨S96x64x1, .i32⟩
  | .hbm, ⟨38, _⟩ => ⟨S1x1x64, .i32⟩
  | .hbm, ⟨39, _⟩ => ⟨S96x64x64, .i32⟩
  | .hbm, ⟨40, _⟩ => ⟨S96x64x64, .i32⟩
  | .hbm, ⟨41, _⟩ => ⟨S96x64x64, .i1⟩
  | .hbm, ⟨42, _⟩ => ⟨S96x64x64, .f32⟩
  | .hbm, ⟨43, _⟩ => ⟨S_, .i32⟩
  | .hbm, ⟨44, _⟩ => ⟨S96x64, .i32⟩
  | .hbm, ⟨45, _⟩ => ⟨S96x64, .i32⟩
  | .hbm, ⟨46, _⟩ => ⟨S96x96, .i32⟩
  | .hbm, ⟨47, _⟩ => ⟨S96x96, .f32⟩
  | .hbm, ⟨48, _⟩ => ⟨S96, .i32⟩
  | .hbm, ⟨49, _⟩ => ⟨S96x1, .i32⟩
  | .hbm, ⟨50, _⟩ => ⟨S96x97, .i32⟩
  | .hbm, ⟨51, _⟩ => ⟨S_, .i32⟩
  | .hbm, ⟨52, _⟩ => ⟨S96x97, .i32⟩
  | .hbm, ⟨53, _⟩ => ⟨S96x97, .i1⟩
  | .hbm, ⟨54, _⟩ => ⟨S_, .i32⟩
  | .hbm, ⟨55, _⟩ => ⟨S96x97, .i32⟩
  | .hbm, ⟨56, _⟩ => ⟨S96x97, .i32⟩
  | .hbm, ⟨57, _⟩ => ⟨S96x97, .i32⟩
  | .hbm, ⟨58, _⟩ => ⟨S96x97x1, .i32⟩
  | .hbm, ⟨59, _⟩ => ⟨S96x97x96, .f32⟩
  | .hbm, ⟨60, _⟩ => ⟨S_, .i32⟩
  | .hbm, ⟨61, _⟩ => ⟨S96x97, .i32⟩
  | .hbm, ⟨62, _⟩ => ⟨S96x97, .i1⟩
  | .hbm, ⟨63, _⟩ => ⟨S_, .i32⟩
  | .hbm, ⟨64, _⟩ => ⟨S96x97, .i32⟩
  | .hbm, ⟨65, _⟩ => ⟨S96x97, .i32⟩
  | .hbm, ⟨66, _⟩ => ⟨S96x97, .i32⟩
  | .hbm, ⟨67, _⟩ => ⟨S96x97x1, .i32⟩
  | .hbm, ⟨68, _⟩ => ⟨S96x97x97, .f32⟩
  | .hbm, ⟨69, _⟩ => ⟨S96x9409, .f32⟩
  | .hbm, ⟨70, _⟩ => ⟨S_, .i32⟩
  | .hbm, ⟨71, _⟩ => ⟨S2640, .i32⟩
  | .hbm, ⟨72, _⟩ => ⟨S2640, .i1⟩
  | .hbm, ⟨73, _⟩ => ⟨S_, .i32⟩
  | .hbm, ⟨74, _⟩ => ⟨S2640, .i32⟩
  | .hbm, ⟨75, _⟩ => ⟨S2640, .i32⟩
  | .hbm, ⟨76, _⟩ => ⟨S2640, .i32⟩
  | .hbm, ⟨77, _⟩ => ⟨S2640x1, .i32⟩
  | .hbm, ⟨78, _⟩ => ⟨S96x2640, .f32⟩
  | _, _ => ⟨S32x5x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_cst : Ref sig .tc := ⟨.hbm, 3, rfl⟩
abbrev main_v0 : Ref sig .tc := ⟨.hbm, 4, rfl⟩
abbrev main_cst_0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_cst : Ref sig .tc := ⟨.hbm, 10, rfl⟩
abbrev main_call0_v1 : Ref sig .tc := ⟨.hbm, 11, rfl⟩
abbrev main_call0_v2 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_values : Ref sig .tc := ⟨.hbm, 27, rfl⟩
abbrev main_indices : Ref sig .tc := ⟨.hbm, 28, rfl⟩
abbrev main_values_2 : Ref sig .tc := ⟨.hbm, 29, rfl⟩
abbrev main_indices_3 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_v17 : Ref sig .tc := ⟨.hbm, 36, rfl⟩
abbrev main_call2_v0 : Ref sig .tc := ⟨.hbm, 37, rfl⟩
abbrev main_call2_v1 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_v18 : Ref sig .tc := ⟨.hbm, 42, rfl⟩
abbrev main_c_4 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_v25 : Ref sig .tc := ⟨.hbm, 50, rfl⟩
abbrev main_c_5 : Ref sig .tc := ⟨.hbm, 51, rfl⟩
abbrev main_v26 : Ref sig .tc := ⟨.hbm, 52, rfl⟩
abbrev main_v27 : Ref sig .tc := ⟨.hbm, 53, rfl⟩
abbrev main_c_6 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_c_7 : Ref sig .tc := ⟨.hbm, 60, rfl⟩
abbrev main_v33 : Ref sig .tc := ⟨.hbm, 61, rfl⟩
abbrev main_v34 : Ref sig .tc := ⟨.hbm, 62, rfl⟩
abbrev main_c_8 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_c_9 : Ref sig .tc := ⟨.hbm, 70, rfl⟩
abbrev main_v41 : Ref sig .tc := ⟨.hbm, 71, rfl⟩
abbrev main_v42 : Ref sig .tc := ⟨.hbm, 72, rfl⟩
abbrev main_c_10 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩

abbrev nD : Nat := 1
abbrev τ : Topo := Topo.v7x

variable {F : FTy → Type} [FloatOps F]
-- ==== KBwdS.lean ====
abbrev S96x2640 : Shape := ⟨2, ![96, 2640]⟩
abbrev S96x32x32 : Shape := ⟨3, ![96, 32, 32]⟩
abbrev S96x64x64 : Shape := ⟨3, ![96, 64, 64]⟩
abbrev S32x512 : Shape := ⟨2, ![32, 512]⟩
abbrev S64x512 : Shape := ⟨2, ![64, 512]⟩
abbrev S96x32x64 : Shape := ⟨3, ![96, 32, 64]⟩
abbrev S96x512 : Shape := ⟨2, ![96, 512]⟩
abbrev S96 : Shape := ⟨1, ![96]⟩
abbrev S96x1 : Shape := ⟨2, ![96, 1]⟩
abbrev S96x32 : Shape := ⟨2, ![96, 32]⟩
abbrev S96x64 : Shape := ⟨2, ![96, 64]⟩
abbrev S96x31 : Shape := ⟨2, ![96, 31]⟩
abbrev S96x1x31 : Shape := ⟨3, ![96, 1, 31]⟩
abbrev S96x1x64 : Shape := ⟨3, ![96, 1, 64]⟩
abbrev S96x30 : Shape := ⟨2, ![96, 30]⟩
abbrev S96x1x30 : Shape := ⟨3, ![96, 1, 30]⟩
abbrev S96x29 : Shape := ⟨2, ![96, 29]⟩
abbrev S96x1x29 : Shape := ⟨3, ![96, 1, 29]⟩
abbrev S96x28 : Shape := ⟨2, ![96, 28]⟩
abbrev S96x1x28 : Shape := ⟨3, ![96, 1, 28]⟩
abbrev S96x27 : Shape := ⟨2, ![96, 27]⟩
abbrev S96x1x27 : Shape := ⟨3, ![96, 1, 27]⟩
abbrev S96x26 : Shape := ⟨2, ![96, 26]⟩
abbrev S96x1x26 : Shape := ⟨3, ![96, 1, 26]⟩
abbrev S96x25 : Shape := ⟨2, ![96, 25]⟩
abbrev S96x1x25 : Shape := ⟨3, ![96, 1, 25]⟩
abbrev S96x24 : Shape := ⟨2, ![96, 24]⟩
abbrev S96x1x24 : Shape := ⟨3, ![96, 1, 24]⟩
abbrev S96x23 : Shape := ⟨2, ![96, 23]⟩
abbrev S96x1x23 : Shape := ⟨3, ![96, 1, 23]⟩
abbrev S96x22 : Shape := ⟨2, ![96, 22]⟩
abbrev S96x1x22 : Shape := ⟨3, ![96, 1, 22]⟩
abbrev S96x21 : Shape := ⟨2, ![96, 21]⟩
abbrev S96x1x21 : Shape := ⟨3, ![96, 1, 21]⟩
abbrev S96x20 : Shape := ⟨2, ![96, 20]⟩
abbrev S96x1x20 : Shape := ⟨3, ![96, 1, 20]⟩
abbrev S96x19 : Shape := ⟨2, ![96, 19]⟩
abbrev S96x1x19 : Shape := ⟨3, ![96, 1, 19]⟩
abbrev S96x18 : Shape := ⟨2, ![96, 18]⟩
abbrev S96x1x18 : Shape := ⟨3, ![96, 1, 18]⟩
abbrev S96x17 : Shape := ⟨2, ![96, 17]⟩
abbrev S96x1x17 : Shape := ⟨3, ![96, 1, 17]⟩
abbrev S96x16 : Shape := ⟨2, ![96, 16]⟩
abbrev S96x1x16 : Shape := ⟨3, ![96, 1, 16]⟩
abbrev S96x15 : Shape := ⟨2, ![96, 15]⟩
abbrev S96x1x15 : Shape := ⟨3, ![96, 1, 15]⟩
abbrev S96x14 : Shape := ⟨2, ![96, 14]⟩
abbrev S96x1x14 : Shape := ⟨3, ![96, 1, 14]⟩
abbrev S96x13 : Shape := ⟨2, ![96, 13]⟩
abbrev S96x1x13 : Shape := ⟨3, ![96, 1, 13]⟩
abbrev S96x12 : Shape := ⟨2, ![96, 12]⟩
abbrev S96x1x12 : Shape := ⟨3, ![96, 1, 12]⟩
abbrev S96x11 : Shape := ⟨2, ![96, 11]⟩
abbrev S96x1x11 : Shape := ⟨3, ![96, 1, 11]⟩
abbrev S96x10 : Shape := ⟨2, ![96, 10]⟩
abbrev S96x1x10 : Shape := ⟨3, ![96, 1, 10]⟩
abbrev S96x9 : Shape := ⟨2, ![96, 9]⟩
abbrev S96x1x9 : Shape := ⟨3, ![96, 1, 9]⟩
abbrev S96x8 : Shape := ⟨2, ![96, 8]⟩
abbrev S96x1x8 : Shape := ⟨3, ![96, 1, 8]⟩
abbrev S96x7 : Shape := ⟨2, ![96, 7]⟩
abbrev S96x1x7 : Shape := ⟨3, ![96, 1, 7]⟩
abbrev S96x6 : Shape := ⟨2, ![96, 6]⟩
abbrev S96x1x6 : Shape := ⟨3, ![96, 1, 6]⟩
abbrev S96x5 : Shape := ⟨2, ![96, 5]⟩
abbrev S96x1x5 : Shape := ⟨3, ![96, 1, 5]⟩
abbrev S96x4 : Shape := ⟨2, ![96, 4]⟩
abbrev S96x1x4 : Shape := ⟨3, ![96, 1, 4]⟩
abbrev S96x3 : Shape := ⟨2, ![96, 3]⟩
abbrev S96x1x3 : Shape := ⟨3, ![96, 1, 3]⟩
abbrev S96x2 : Shape := ⟨2, ![96, 2]⟩
abbrev S96x1x2 : Shape := ⟨3, ![96, 1, 2]⟩
abbrev S96x1x1 : Shape := ⟨3, ![96, 1, 1]⟩
abbrev S96x32x1 : Shape := ⟨3, ![96, 32, 1]⟩
abbrev S96x64x1 : Shape := ⟨3, ![96, 64, 1]⟩
abbrev S32x32 : Shape := ⟨2, ![32, 32]⟩
abbrev S32x64 : Shape := ⟨2, ![32, 64]⟩
abbrev S96x96 : Shape := ⟨2, ![96, 96]⟩
abbrev S32x96 : Shape := ⟨2, ![32, 96]⟩
abbrev S64x96 : Shape := ⟨2, ![64, 96]⟩

abbrev nBuf : Space → Nat
  | .hbm => 6
  | .vmem => 8
  | .smem => 0
  | _ => 0

abbrev bufTy : (tb : Table) → Fin (tcTables nBuf tb) → BufTy
  | .hbm, ⟨0, _⟩ => ⟨S96x2640, .f32⟩
  | .hbm, ⟨1, _⟩ => ⟨S96x32x32, .f32⟩
  | .hbm, ⟨2, _⟩ => ⟨S96x64x64, .f32⟩
  | .hbm, ⟨3, _⟩ => ⟨S32x512, .f32⟩
  | .hbm, ⟨4, _⟩ => ⟨S64x512, .f32⟩
  | .hbm, ⟨5, _⟩ => ⟨S32x512, .f32⟩
  | .local _ .vmem, ⟨0, _⟩ => ⟨S96x2640, .f32⟩
  | .local _ .vmem, ⟨1, _⟩ => ⟨S96x32x32, .f32⟩
  | .local _ .vmem, ⟨2, _⟩ => ⟨S96x64x64, .f32⟩
  | .local _ .vmem, ⟨3, _⟩ => ⟨S32x512, .f32⟩
  | .local _ .vmem, ⟨4, _⟩ => ⟨S64x512, .f32⟩
  | .local _ .vmem, ⟨5, _⟩ => ⟨S32x512, .f32⟩
  | .local _ .vmem, ⟨6, _⟩ => ⟨S96x32x32, .f32⟩
  | .local _ .vmem, ⟨7, _⟩ => ⟨S96x32x64, .f32⟩
  | _, _ => ⟨S96x2640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S96x2640 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S96x32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S96x64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== RBwdSIdeal.lean ====
abbrev S96x2640 : Shape := ⟨2, ![96, 2640]⟩
abbrev S96x32x32 : Shape := ⟨3, ![96, 32, 32]⟩
abbrev S96x64x64 : Shape := ⟨3, ![96, 64, 64]⟩
abbrev S32x512 : Shape := ⟨2, ![32, 512]⟩
abbrev S64x512 : Shape := ⟨2, ![64, 512]⟩
abbrev S2640 : Shape := ⟨1, ![2640]⟩
abbrev S96x512 : Shape := ⟨2, ![96, 512]⟩
abbrev S_ : Shape := ⟨0, ![]⟩
abbrev S96 : Shape := ⟨1, ![96]⟩
abbrev S96x1 : Shape := ⟨2, ![96, 1]⟩
abbrev S512x96 : Shape := ⟨2, ![512, 96]⟩
abbrev S96x96 : Shape := ⟨2, ![96, 96]⟩
abbrev S32x32 : Shape := ⟨2, ![32, 32]⟩
abbrev S64x64 : Shape := ⟨2, ![64, 64]⟩
abbrev S32x64 : Shape := ⟨2, ![32, 64]⟩
abbrev S32x96 : Shape := ⟨2, ![32, 96]⟩
abbrev S96x32 : Shape := ⟨2, ![96, 32]⟩
abbrev S96x64 : Shape := ⟨2, ![96, 64]⟩
abbrev S96x64x1 : Shape := ⟨3, ![96, 64, 1]⟩
abbrev S96x32x1 : Shape := ⟨3, ![96, 32, 1]⟩
abbrev S96x97 : Shape := ⟨2, ![96, 97]⟩
abbrev S2640x1 : Shape := ⟨2, ![2640, 1]⟩
abbrev S96x2640x1 : Shape := ⟨3, ![96, 2640, 1]⟩
abbrev S96x2640x2 : Shape := ⟨3, ![96, 2640, 2]⟩

abbrev nBuf : Space → Nat
  | .hbm => 142
  | .vmem => 0
  | .smem => 0
  | _ => 0

abbrev hbmTy0_0 (i : Nat) : BufTy := match i % 128 with
  | 0 => ⟨S96x2640, .f32⟩
  | 1 => ⟨S96x32x32, .f32⟩
  | 2 => ⟨S96x64x64, .f32⟩
  | 3 => ⟨S32x512, .f32⟩
  | 4 => ⟨S64x512, .f32⟩
  | 5 => ⟨S2640, .i32⟩
  | 6 => ⟨S2640, .i1⟩
  | 7 => ⟨S2640, .i32⟩
  | 8 => ⟨S2640, .i1⟩
  | 9 => ⟨S96x512, .f32⟩
  | 10 => ⟨S_, .f32⟩
  | 11 => ⟨S64x512, .f32⟩
  | 12 => ⟨S96x512, .f32⟩
  | 13 => ⟨S_, .f32⟩
  | 14 => ⟨S96, .f32⟩
  | 15 => ⟨S96x1, .f32⟩
  | 16 => ⟨S96x1, .f32⟩
  | 17 => ⟨S_, .f32⟩
  | 18 => ⟨S96x1, .f32⟩
  | 19 => ⟨S96x1, .f32⟩
  | 20 => ⟨S_, .f32⟩
  | 21 => ⟨S96x1, .f32⟩
  | 22 => ⟨S96x1, .f32⟩
  | 23 => ⟨S_, .f32⟩
  | 24 => ⟨S96x1, .f32⟩
  | 25 => ⟨S96x1, .i1⟩
  | 26 => ⟨S_, .f32⟩
  | 27 => ⟨S96x1, .f32⟩
  | 28 => ⟨S96x1, .i1⟩
  | 29 => ⟨S_, .f32⟩
  | 30 => ⟨S96x1, .f32⟩
  | 31 => ⟨S_, .f32⟩
  | 32 => ⟨S96x1, .f32⟩
  | 33 => ⟨S_, .f32⟩
  | 34 => ⟨S96x1, .f32⟩
  | 35 => ⟨S96x1, .f32⟩
  | 36 => ⟨S96x1, .f32⟩
  | 37 => ⟨S96x512, .f32⟩
  | 38 => ⟨S96x512, .f32⟩
  | 39 => ⟨S96x1, .f32⟩
  | 40 => ⟨S_, .f32⟩
  | 41 => ⟨S96x1, .f32⟩
  | 42 => ⟨S96x1, .f32⟩
  | 43 => ⟨S512x96, .f32⟩
  | 44 => ⟨S96x96, .f32⟩
  | 45 => ⟨S32x32, .f32⟩
  | 46 => ⟨S64x64, .f32⟩
  | 47 => ⟨S32x64, .f32⟩
  | 48 => ⟨S32x96, .f32⟩
  | 49 => ⟨S96x32, .f32⟩
  | 50 => ⟨S96x64, .f32⟩
  | 51 => ⟨S96x64, .f32⟩
  | 52 => ⟨S96x64, .i32⟩
  | 53 => ⟨S96x64x1, .i32⟩
  | 54 => ⟨S96x32, .f32⟩
  | 55 => ⟨S96x32, .i32⟩
  | 56 => ⟨S96x32x1, .i32⟩
  | 57 => ⟨S96, .i32⟩
  | 58 => ⟨S96x1, .i32⟩
  | 59 => ⟨S_, .i32⟩
  | 60 => ⟨S96x64, .i32⟩
  | 61 => ⟨S96x64, .i32⟩
  | 62 => ⟨S96x97, .i32⟩
  | 63 => ⟨S96x96, .f32⟩
  | 64 => ⟨S_, .i32⟩
  | 65 => ⟨S2640, .i32⟩
  | 66 => ⟨S2640, .i32⟩
  | 67 => ⟨S2640, .i32⟩
  | 68 => ⟨S2640x1, .i32⟩
  | 69 => ⟨S96x2640, .i32⟩
  | 70 => ⟨S_, .i32⟩
  | 71 => ⟨S2640, .i32⟩
  | 72 => ⟨S2640, .i32⟩
  | 73 => ⟨S2640, .i32⟩
  | 74 => ⟨S2640x1, .i32⟩
  | 75 => ⟨S96x2640, .i32⟩
  | 76 => ⟨S_, .i32⟩
  | 77 => ⟨S96x2640, .i32⟩
  | 78 => ⟨S96x2640, .i1⟩
  | 79 => ⟨S_, .i32⟩
  | 80 => ⟨S96x2640, .i32⟩
  | 81 => ⟨S96x2640, .i32⟩
  | 82 => ⟨S96x2640, .i32⟩
  | 83 => ⟨S_, .i32⟩
  | 84 => ⟨S96x2640, .i32⟩
  | 85 => ⟨S96x2640, .i1⟩
  | 86 => ⟨S_, .i32⟩
  | 87 => ⟨S96x2640, .i32⟩
  | 88 => ⟨S96x2640, .i32⟩
  | 89 => ⟨S96x2640, .i32⟩
  | 90 => ⟨S96x2640x1, .i32⟩
  | 91 => ⟨S96x2640x1, .i32⟩
  | 92 => ⟨S96x2640x2, .i32⟩
  | 93 => ⟨S96x2640, .f32⟩
  | 94 => ⟨S_, .f32⟩
  | 95 => ⟨S96x96, .f32⟩
  | 96 => ⟨S96x96, .f32⟩
  | 97 => ⟨S96x32, .f32⟩
  | 98 => ⟨S96x64, .f32⟩
  | 99 => ⟨S32x64, .f32⟩
  | 100 => ⟨S64x64, .f32⟩
  | 101 => ⟨S32x96, .f32⟩
  | 102 => ⟨S32x32, .f32⟩
  | 103 => ⟨S32x64, .f32⟩
  | 104 => ⟨S32x64, .f32⟩
  | 105 => ⟨S_, .f32⟩
  | 106 => ⟨S96x96, .f32⟩
  | 107 => ⟨S_, .f32⟩
  | 108 => ⟨S96x96, .f32⟩
  | 109 => ⟨S96x96, .f32⟩
  | 110 => ⟨S_, .f32⟩
  | 111 => ⟨S96x96, .f32⟩
  | 112 => ⟨S96x96, .f32⟩
  | 113 => ⟨S96x512, .f32⟩
  | 114 => ⟨S512x96, .f32⟩
  | 115 => ⟨S96x512, .f32⟩
  | 116 => ⟨S96x512, .f32⟩
  | 117 => ⟨S96x512, .f32⟩
  | 118 => ⟨S96x512, .f32⟩
  | 119 => ⟨S96x512, .f32⟩
  | 120 => ⟨S96x512, .f32⟩
  | 121 => ⟨S_, .f32⟩
  | 122 => ⟨S96, .f32⟩
  | 123 => ⟨S96x1, .f32⟩
  | 124 => ⟨S96x1, .f32⟩
  | 125 => ⟨S96x512, .f32⟩
  | 126 => ⟨S96x512, .f32⟩
  | 127 => ⟨S96x1, .f32⟩
  | _ => ⟨S96x2640, .f32⟩

abbrev hbmTy0_1 (i : Nat) : BufTy := match i % 128 with
  | 0 => ⟨S96x1, .f32⟩
  | 1 => ⟨S_, .f32⟩
  | 2 => ⟨S96, .f32⟩
  | 3 => ⟨S96x512, .f32⟩
  | 4 => ⟨S96x512, .f32⟩
  | 5 => ⟨S96x512, .f32⟩
  | 6 => ⟨S96x512, .f32⟩
  | 7 => ⟨S96x512, .f32⟩
  | 8 => ⟨S32x512, .f32⟩
  | 9 => ⟨S64x512, .f32⟩
  | 10 => ⟨S_, .f32⟩
  | 11 => ⟨S32x512, .f32⟩
  | 12 => ⟨S32x512, .f32⟩
  | 13 => ⟨S32x512, .f32⟩
  | _ => ⟨S96x2640, .f32⟩

abbrev hbmTy (i : Nat) : BufTy := match i / 128 with
  | 0 => hbmTy0_0 i
  | 1 => hbmTy0_1 i
  | _ => ⟨S96x2640, .f32⟩

abbrev bufTy : (tb : Table) → Fin (tcTables nBuf tb) → BufTy
  | .hbm, ⟨i, _⟩ => hbmTy i
  | _, _ => ⟨S96x2640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_c_2 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_call0_v0 : Ref sig .tc := ⟨.hbm, 12, rfl⟩
abbrev main_call0_cst : Ref sig .tc := ⟨.hbm, 13, rfl⟩
abbrev main_call0_v1 : Ref sig .tc := ⟨.hbm, 14, rfl⟩
abbrev main_call0_v2 : Ref sig .tc := ⟨.hbm, 15, rfl⟩
abbrev main_v2_0 : Ref sig .tc := ⟨.hbm, 16, rfl⟩
abbrev main_call0_cst_0 : Ref sig .tc := ⟨.hbm, 17, rfl⟩
abbrev main_call0_v4 : Ref sig .tc := ⟨.hbm, 18, rfl⟩
abbrev main_v2_1 : Ref sig .tc := ⟨.hbm, 19, rfl⟩
abbrev main_cst_3 : Ref sig .tc := ⟨.hbm, 20, rfl⟩
abbrev main_v3 : Ref sig .tc := ⟨.hbm, 21, rfl⟩
abbrev main_v4 : Ref sig .tc := ⟨.hbm, 22, rfl⟩
abbrev main_cst_4 : Ref sig .tc := ⟨.hbm, 23, rfl⟩
abbrev main_v5 : Ref sig .tc := ⟨.hbm, 24, rfl⟩
abbrev main_v6 : Ref sig .tc := ⟨.hbm, 25, rfl⟩
abbrev main_cst_5 : Ref sig .tc := ⟨.hbm, 26, rfl⟩
abbrev main_v7 : Ref sig .tc := ⟨.hbm, 27, rfl⟩
abbrev main_v8 : Ref sig .tc := ⟨.hbm, 28, rfl⟩
abbrev main_cst_6 : Ref sig .tc := ⟨.hbm, 29, rfl⟩
abbrev main_v9 : Ref sig .tc := ⟨.hbm, 30, rfl⟩
abbrev main_cst_7 : Ref sig .tc := ⟨.hbm, 31, rfl⟩
abbrev main_v10 : Ref sig .tc := ⟨.hbm, 32, rfl⟩
abbrev main_cst_8 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_cst_9 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_values : Ref sig .tc := ⟨.hbm, 51, rfl⟩
abbrev main_indices : Ref sig .tc := ⟨.hbm, 52, rfl⟩
abbrev main_v27 : Ref sig .tc := ⟨.hbm, 53, rfl⟩
abbrev main_values_10 : Ref sig .tc := ⟨.hbm, 54, rfl⟩
abbrev main_indices_11 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_c_12 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_c_13 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_c_14 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_c_15 : Ref sig .tc := ⟨.hbm, 76, rfl⟩
abbrev main_v45 : Ref sig .tc := ⟨.hbm, 77, rfl⟩
abbrev main_v46 : Ref sig .tc := ⟨.hbm, 78, rfl⟩
abbrev main_c_16 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_c_17 : Ref sig .tc := ⟨.hbm, 83, rfl⟩
abbrev main_v50 : Ref sig .tc := ⟨.hbm, 84, rfl⟩
abbrev main_v51 : Ref sig .tc := ⟨.hbm, 85, rfl⟩
abbrev main_c_18 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_19 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_cst_20 : Ref sig .tc := ⟨.hbm, 105, rfl⟩
abbrev main_v69 : Ref sig .tc := ⟨.hbm, 106, rfl⟩
abbrev main_cst_21 : Ref sig .tc := ⟨.hbm, 107, rfl⟩
abbrev main_v70 : Ref sig .tc := ⟨.hbm, 108, rfl⟩
abbrev main_v71 : Ref sig .tc := ⟨.hbm, 109, rfl⟩
abbrev main_cst_22 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_23 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_call1_v0 : Ref sig .tc := ⟨.hbm, 128, rfl⟩
abbrev main_call1_cst : Ref sig .tc := ⟨.hbm, 129, rfl⟩
abbrev main_call1_v1 : Ref sig .tc := ⟨.hbm, 130, rfl⟩
abbrev main_call1_v2 : Ref sig .tc := ⟨.hbm, 131, rfl⟩
abbrev main_call1_v3 : Ref sig .tc := ⟨.hbm, 132, rfl⟩
abbrev main_call1_v4 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_cst_24 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩

abbrev nD : Nat := 1
abbrev τ : Topo := Topo.v7x

variable {F : FTy → Type} [FloatOps F]
-- ==== KBwdQ.lean ====
abbrev S96x2640 : Shape := ⟨2, ![96, 2640]⟩
abbrev S96x32x32 : Shape := ⟨3, ![96, 32, 32]⟩
abbrev S96x64x64 : Shape := ⟨3, ![96, 64, 64]⟩
abbrev S32x512 : Shape := ⟨2, ![32, 512]⟩
abbrev S64x512 : Shape := ⟨2, ![64, 512]⟩
abbrev S96x32x64 : Shape := ⟨3, ![96, 32, 64]⟩
abbrev S96x512 : Shape := ⟨2, ![96, 512]⟩
abbrev S96 : Shape := ⟨1, ![96]⟩
abbrev S96x1 : Shape := ⟨2, ![96, 1]⟩
abbrev S96x32 : Shape := ⟨2, ![96, 32]⟩
abbrev S96x64 : Shape := ⟨2, ![96, 64]⟩
abbrev S96x31 : Shape := ⟨2, ![96, 31]⟩
abbrev S96x1x31 : Shape := ⟨3, ![96, 1, 31]⟩
abbrev S96x1x64 : Shape := ⟨3, ![96, 1, 64]⟩
abbrev S96x30 : Shape := ⟨2, ![96, 30]⟩
abbrev S96x1x30 : Shape := ⟨3, ![96, 1, 30]⟩
abbrev S96x29 : Shape := ⟨2, ![96, 29]⟩
abbrev S96x1x29 : Shape := ⟨3, ![96, 1, 29]⟩
abbrev S96x28 : Shape := ⟨2, ![96, 28]⟩
abbrev S96x1x28 : Shape := ⟨3, ![96, 1, 28]⟩
abbrev S96x27 : Shape := ⟨2, ![96, 27]⟩
abbrev S96x1x27 : Shape := ⟨3, ![96, 1, 27]⟩
abbrev S96x26 : Shape := ⟨2, ![96, 26]⟩
abbrev S96x1x26 : Shape := ⟨3, ![96, 1, 26]⟩
abbrev S96x25 : Shape := ⟨2, ![96, 25]⟩
abbrev S96x1x25 : Shape := ⟨3, ![96, 1, 25]⟩
abbrev S96x24 : Shape := ⟨2, ![96, 24]⟩
abbrev S96x1x24 : Shape := ⟨3, ![96, 1, 24]⟩
abbrev S96x23 : Shape := ⟨2, ![96, 23]⟩
abbrev S96x1x23 : Shape := ⟨3, ![96, 1, 23]⟩
abbrev S96x22 : Shape := ⟨2, ![96, 22]⟩
abbrev S96x1x22 : Shape := ⟨3, ![96, 1, 22]⟩
abbrev S96x21 : Shape := ⟨2, ![96, 21]⟩
abbrev S96x1x21 : Shape := ⟨3, ![96, 1, 21]⟩
abbrev S96x20 : Shape := ⟨2, ![96, 20]⟩
abbrev S96x1x20 : Shape := ⟨3, ![96, 1, 20]⟩
abbrev S96x19 : Shape := ⟨2, ![96, 19]⟩
abbrev S96x1x19 : Shape := ⟨3, ![96, 1, 19]⟩
abbrev S96x18 : Shape := ⟨2, ![96, 18]⟩
abbrev S96x1x18 : Shape := ⟨3, ![96, 1, 18]⟩
abbrev S96x17 : Shape := ⟨2, ![96, 17]⟩
abbrev S96x1x17 : Shape := ⟨3, ![96, 1, 17]⟩
abbrev S96x16 : Shape := ⟨2, ![96, 16]⟩
abbrev S96x1x16 : Shape := ⟨3, ![96, 1, 16]⟩
abbrev S96x15 : Shape := ⟨2, ![96, 15]⟩
abbrev S96x1x15 : Shape := ⟨3, ![96, 1, 15]⟩
abbrev S96x14 : Shape := ⟨2, ![96, 14]⟩
abbrev S96x1x14 : Shape := ⟨3, ![96, 1, 14]⟩
abbrev S96x13 : Shape := ⟨2, ![96, 13]⟩
abbrev S96x1x13 : Shape := ⟨3, ![96, 1, 13]⟩
abbrev S96x12 : Shape := ⟨2, ![96, 12]⟩
abbrev S96x1x12 : Shape := ⟨3, ![96, 1, 12]⟩
abbrev S96x11 : Shape := ⟨2, ![96, 11]⟩
abbrev S96x1x11 : Shape := ⟨3, ![96, 1, 11]⟩
abbrev S96x10 : Shape := ⟨2, ![96, 10]⟩
abbrev S96x1x10 : Shape := ⟨3, ![96, 1, 10]⟩
abbrev S96x9 : Shape := ⟨2, ![96, 9]⟩
abbrev S96x1x9 : Shape := ⟨3, ![96, 1, 9]⟩
abbrev S96x8 : Shape := ⟨2, ![96, 8]⟩
abbrev S96x1x8 : Shape := ⟨3, ![96, 1, 8]⟩
abbrev S96x7 : Shape := ⟨2, ![96, 7]⟩
abbrev S96x1x7 : Shape := ⟨3, ![96, 1, 7]⟩
abbrev S96x6 : Shape := ⟨2, ![96, 6]⟩
abbrev S96x1x6 : Shape := ⟨3, ![96, 1, 6]⟩
abbrev S96x5 : Shape := ⟨2, ![96, 5]⟩
abbrev S96x1x5 : Shape := ⟨3, ![96, 1, 5]⟩
abbrev S96x4 : Shape := ⟨2, ![96, 4]⟩
abbrev S96x1x4 : Shape := ⟨3, ![96, 1, 4]⟩
abbrev S96x3 : Shape := ⟨2, ![96, 3]⟩
abbrev S96x1x3 : Shape := ⟨3, ![96, 1, 3]⟩
abbrev S96x2 : Shape := ⟨2, ![96, 2]⟩
abbrev S96x1x2 : Shape := ⟨3, ![96, 1, 2]⟩
abbrev S96x1x1 : Shape := ⟨3, ![96, 1, 1]⟩
abbrev S96x32x1 : Shape := ⟨3, ![96, 32, 1]⟩
abbrev S96x64x1 : Shape := ⟨3, ![96, 64, 1]⟩
abbrev S32x32 : Shape := ⟨2, ![32, 32]⟩
abbrev S32x64 : Shape := ⟨2, ![32, 64]⟩
abbrev S96x96 : Shape := ⟨2, ![96, 96]⟩
abbrev S32x96 : Shape := ⟨2, ![32, 96]⟩
abbrev S64x96 : Shape := ⟨2, ![64, 96]⟩

abbrev nBuf : Space → Nat
  | .hbm => 6
  | .vmem => 8
  | .smem => 0
  | _ => 0

abbrev bufTy : (tb : Table) → Fin (tcTables nBuf tb) → BufTy
  | .hbm, ⟨0, _⟩ => ⟨S96x2640, .f32⟩
  | .hbm, ⟨1, _⟩ => ⟨S96x32x32, .f32⟩
  | .hbm, ⟨2, _⟩ => ⟨S96x64x64, .f32⟩
  | .hbm, ⟨3, _⟩ => ⟨S32x512, .f32⟩
  | .hbm, ⟨4, _⟩ => ⟨S64x512, .f32⟩
  | .hbm, ⟨5, _⟩ => ⟨S64x512, .f32⟩
  | .local _ .vmem, ⟨0, _⟩ => ⟨S96x2640, .f32⟩
  | .local _ .vmem, ⟨1, _⟩ => ⟨S96x32x32, .f32⟩
  | .local _ .vmem, ⟨2, _⟩ => ⟨S96x64x64, .f32⟩
  | .local _ .vmem, ⟨3, _⟩ => ⟨S32x512, .f32⟩
  | .local _ .vmem, ⟨4, _⟩ => ⟨S64x512, .f32⟩
  | .local _ .vmem, ⟨5, _⟩ => ⟨S64x512, .f32⟩
  | .local _ .vmem, ⟨6, _⟩ => ⟨S96x32x32, .f32⟩
  | .local _ .vmem, ⟨7, _⟩ => ⟨S96x32x64, .f32⟩
  | _, _ => ⟨S96x2640, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S96x2640 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S96x32x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S96x64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== RBwdQIdeal.lean ====
abbrev S96x2640 : Shape := ⟨2, ![96, 2640]⟩
abbrev S96x32x32 : Shape := ⟨3, ![96, 32, 32]⟩
abbrev S96x64x64 : Shape := ⟨3, ![96, 64, 64]⟩
abbrev S32x512 : Shape := ⟨2, ![32, 512]⟩
abbrev S64x512 : Shape := ⟨2, ![64, 512]⟩
abbrev S2640 : Shape := ⟨1, ![2640]⟩
abbrev S96x512 : Shape := ⟨2, ![96, 512]⟩
abbrev S_ : Shape := ⟨0, ![]⟩
abbrev S96 : Shape := ⟨1, ![96]⟩
abbrev S96x1 : Shape := ⟨2, ![96, 1]⟩
abbrev S512x96 : Shape := ⟨2, ![512, 96]⟩
abbrev S96x96 : Shape := ⟨2, ![96, 96]⟩
abbrev S32x32 : Shape := ⟨2, ![32, 32]⟩
abbrev S64x64 : Shape := ⟨2, ![64, 64]⟩
abbrev S32x64 : Shape := ⟨2, ![32, 64]⟩
abbrev S32x96 : Shape := ⟨2, ![32, 96]⟩
abbrev S96x32 : Shape := ⟨2, ![96, 32]⟩
abbrev S96x64 : Shape := ⟨2, ![96, 64]⟩
abbrev S96x64x1 : Shape := ⟨3, ![96, 64, 1]⟩
abbrev S96x32x1 : Shape := ⟨3, ![96, 32, 1]⟩
abbrev S96x97 : Shape := ⟨2, ![96, 97]⟩
abbrev S2640x1 : Shape := ⟨2, ![2640, 1]⟩
abbrev S96x2640x1 : Shape := ⟨3, ![96, 2640, 1]⟩
abbrev S96x2640x2 : Shape := ⟨3, ![96, 2640, 2]⟩

abbrev nBuf : Space → Nat
  | .hbm => 142
  | .vmem => 0
  | .smem => 0
  | _ => 0

abbrev hbmTy0_0 (i : Nat) : BufTy := match i % 128 with
  | 0 => ⟨S96x2640, .f32⟩
  | 1 => ⟨S96x32x32, .f32⟩
  | 2 => ⟨S96x64x64, .f32⟩
  | 3 => ⟨S32x512, .f32⟩
  | 4 => ⟨S64x512, .f32⟩
  | 5 => ⟨S2640, .i32⟩
  | 6 => ⟨S2640, .i1⟩
  | 7 => ⟨S2640, .i32⟩
  | 8 => ⟨S2640, .i1⟩
  | 9 => ⟨S96x512, .f32⟩
  | 10 => ⟨S_, .f32⟩
  | 11 => ⟨S32x512, .f32⟩
  | 12 => ⟨S96x512, .f32⟩
  | 13 => ⟨S_, .f32⟩
  | 14 => ⟨S96, .f32⟩
  | 15 => ⟨S96x1, .f32⟩
  | 16 => ⟨S96x1, .f32⟩
  | 17 => ⟨S_, .f32⟩
  | 18 => ⟨S96x1, .f32⟩
  | 19 => ⟨S96x1, .f32⟩
  | 20 => ⟨S_, .f32⟩
  | 21 => ⟨S96x1, .f32⟩
  | 22 => ⟨S96x1, .f32⟩
  | 23 => ⟨S_, .f32⟩
  | 24 => ⟨S96x1, .f32⟩
  | 25 => ⟨S96x1, .i1⟩
  | 26 => ⟨S_, .f32⟩
  | 27 => ⟨S96x1, .f32⟩
  | 28 => ⟨S96x1, .i1⟩
  | 29 => ⟨S_, .f32⟩
  | 30 => ⟨S96x1, .f32⟩
  | 31 => ⟨S_, .f32⟩
  | 32 => ⟨S96x1, .f32⟩
  | 33 => ⟨S_, .f32⟩
  | 34 => ⟨S96x1, .f32⟩
  | 35 => ⟨S96x1, .f32⟩
  | 36 => ⟨S96x1, .f32⟩
  | 37 => ⟨S96x512, .f32⟩
  | 38 => ⟨S96x512, .f32⟩
  | 39 => ⟨S96x1, .f32⟩
  | 40 => ⟨S_, .f32⟩
  | 41 => ⟨S96x1, .f32⟩
  | 42 => ⟨S96x1, .f32⟩
  | 43 => ⟨S512x96, .f32⟩
  | 44 => ⟨S96x96, .f32⟩
  | 45 => ⟨S32x32, .f32⟩
  | 46 => ⟨S64x64, .f32⟩
  | 47 => ⟨S32x64, .f32⟩
  | 48 => ⟨S32x96, .f32⟩
  | 49 => ⟨S96x32, .f32⟩
  | 50 => ⟨S96x64, .f32⟩
  | 51 => ⟨S96x64, .f32⟩
  | 52 => ⟨S96x64, .i32⟩
  | 53 => ⟨S96x64x1, .i32⟩
  | 54 => ⟨S96x32, .f32⟩
  | 55 => ⟨S96x32, .i32⟩
  | 56 => ⟨S96x32x1, .i32⟩
  | 57 => ⟨S96, .i32⟩
  | 58 => ⟨S96x1, .i32⟩
  | 59 => ⟨S_, .i32⟩
  | 60 => ⟨S96x64, .i32⟩
  | 61 => ⟨S96x64, .i32⟩
  | 62 => ⟨S96x97, .i32⟩
  | 63 => ⟨S96x96, .f32⟩
  | 64 => ⟨S_, .i32⟩
  | 65 => ⟨S2640, .i32⟩
  | 66 => ⟨S2640, .i32⟩
  | 67 => ⟨S2640, .i32⟩
  | 68 => ⟨S2640x1, .i32⟩
  | 69 => ⟨S96x2640, .i32⟩
  | 70 => ⟨S_, .i32⟩
  | 71 => ⟨S2640, .i32⟩
  | 72 => ⟨S2640, .i32⟩
  | 73 => ⟨S2640, .i32⟩
  | 74 => ⟨S2640x1, .i32⟩
  | 75 => ⟨S96x2640, .i32⟩
  | 76 => ⟨S_, .i32⟩
  | 77 => ⟨S96x2640, .i32⟩
  | 78 => ⟨S96x2640, .i1⟩
  | 79 => ⟨S_, .i32⟩
  | 80 => ⟨S96x2640, .i32⟩
  | 81 => ⟨S96x2640, .i32⟩
  | 82 => ⟨S96x2640, .i32⟩
  | 83 => ⟨S_, .i32⟩
  | 84 => ⟨S96x2640, .i32⟩
  | 85 => ⟨S96x2640, .i1⟩
  | 86 => ⟨S_, .i32⟩
  | 87 => ⟨S96x2640, .i32⟩
  | 88 => ⟨S96x2640, .i32⟩
  | 89 => ⟨S96x2640, .i32⟩
  | 90 => ⟨S96x2640x1, .i32⟩
  | 91 => ⟨S96x2640x1, .i32⟩
  | 92 => ⟨S96x2640x2, .i32⟩
  | 93 => ⟨S96x2640, .f32⟩
  | 94 => ⟨S_, .f32⟩
  | 95 => ⟨S96x96, .f32⟩
  | 96 => ⟨S96x96, .f32⟩
  | 97 => ⟨S96x32, .f32⟩
  | 98 => ⟨S96x64, .f32⟩
  | 99 => ⟨S32x64, .f32⟩
  | 100 => ⟨S64x64, .f32⟩
  | 101 => ⟨S32x96, .f32⟩
  | 102 => ⟨S32x32, .f32⟩
  | 103 => ⟨S32x64, .f32⟩
  | 104 => ⟨S32x64, .f32⟩
  | 105 => ⟨S_, .f32⟩
  | 106 => ⟨S96x96, .f32⟩
  | 107 => ⟨S_, .f32⟩
  | 108 => ⟨S96x96, .f32⟩
  | 109 => ⟨S96x96, .f32⟩
  | 110 => ⟨S_, .f32⟩
  | 111 => ⟨S96x96, .f32⟩
  | 112 => ⟨S96x96, .f32⟩
  | 113 => ⟨S96x512, .f32⟩
  | 114 => ⟨S512x96, .f32⟩
  | 115 => ⟨S96x512, .f32⟩
  | 116 => ⟨S96x512, .f32⟩
  | 117 => ⟨S96x512, .f32⟩
  | 118 => ⟨S96x512, .f32⟩
  | 119 => ⟨S96x512, .f32⟩
  | 120 => ⟨S96x512, .f32⟩
  | 121 => ⟨S_, .f32⟩
  | 122 => ⟨S96, .f32⟩
  | 123 => ⟨S96x1, .f32⟩
  | 124 => ⟨S96x1, .f32⟩
  | 125 => ⟨S96x512, .f32⟩
  | 126 => ⟨S96x512, .f32⟩
  | 127 => ⟨S96x1, .f32⟩
  | _ => ⟨S96x2640, .f32⟩

abbrev hbmTy0_1 (i : Nat) : BufTy := match i % 128 with
  | 0 => ⟨S96x1, .f32⟩
  | 1 => ⟨S_, .f32⟩
  | 2 => ⟨S96, .f32⟩
  | 3 => ⟨S96x512, .f32⟩
  | 4 => ⟨S96x512, .f32⟩
  | 5 => ⟨S96x512, .f32⟩
  | 6 => ⟨S96x512, .f32⟩
  | 7 => ⟨S96x512, .f32⟩
  | 8 => ⟨S32x512, .f32⟩
  | 9 => ⟨S64x512, .f32⟩
  | 10 => ⟨S_, .f32⟩
  | 11 => ⟨S64x512, .f32⟩
  | 12 => ⟨S64x512, .f32⟩
  | 13 => ⟨S64x512, .f32⟩
  | _ => ⟨S96x2640, .f32⟩

abbrev hbmTy (i : Nat) : BufTy := match i / 128 with
  | 0 => hbmTy0_0 i
  | 1 => hbmTy0_1 i
  | _ => ⟨S96x2640, .f32⟩

abbrev bufTy : (tb : Table) → Fin (tcTables nBuf tb) → BufTy
  | .hbm, ⟨i, _⟩ => hbmTy i
  | _, _ => ⟨S96x2640, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_c_1 : Ref sig .tc := ⟨.hbm, 7, rfl⟩
abbrev main_c_2 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_call0_v0 : Ref sig .tc := ⟨.hbm, 12, rfl⟩
abbrev main_call0_cst : Ref sig .tc := ⟨.hbm, 13, rfl⟩
abbrev main_call0_v1 : Ref sig .tc := ⟨.hbm, 14, rfl⟩
abbrev main_call0_v2 : Ref sig .tc := ⟨.hbm, 15, rfl⟩
abbrev main_v2_0 : Ref sig .tc := ⟨.hbm, 16, rfl⟩
abbrev main_call0_cst_0 : Ref sig .tc := ⟨.hbm, 17, rfl⟩
abbrev main_call0_v4 : Ref sig .tc := ⟨.hbm, 18, rfl⟩
abbrev main_v2_1 : Ref sig .tc := ⟨.hbm, 19, rfl⟩
abbrev main_cst_3 : Ref sig .tc := ⟨.hbm, 20, rfl⟩
abbrev main_v3 : Ref sig .tc := ⟨.hbm, 21, rfl⟩
abbrev main_v4 : Ref sig .tc := ⟨.hbm, 22, rfl⟩
abbrev main_cst_4 : Ref sig .tc := ⟨.hbm, 23, rfl⟩
abbrev main_v5 : Ref sig .tc := ⟨.hbm, 24, rfl⟩
abbrev main_v6 : Ref sig .tc := ⟨.hbm, 25, rfl⟩
abbrev main_cst_5 : Ref sig .tc := ⟨.hbm, 26, rfl⟩
abbrev main_v7 : Ref sig .tc := ⟨.hbm, 27, rfl⟩
abbrev main_v8 : Ref sig .tc := ⟨.hbm, 28, rfl⟩
abbrev main_cst_6 : Ref sig .tc := ⟨.hbm, 29, rfl⟩
abbrev main_v9 : Ref sig .tc := ⟨.hbm, 30, rfl⟩
abbrev main_cst_7 : Ref sig .tc := ⟨.hbm, 31, rfl⟩
abbrev main_v10 : Ref sig .tc := ⟨.hbm, 32, rfl⟩
abbrev main_cst_8 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_cst_9 : Ref sig .tc := ⟨.hbm, 40, rfl⟩
abbrev main_v17 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_values : Ref sig .tc := ⟨.hbm, 51, rfl⟩
abbrev main_indices : Ref sig .tc := ⟨.hbm, 52, rfl⟩
abbrev main_v27 : Ref sig .tc := ⟨.hbm, 53, rfl⟩
abbrev main_values_10 : Ref sig .tc := ⟨.hbm, 54, rfl⟩
abbrev main_indices_11 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_c_12 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_c_13 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_c_14 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_c_15 : Ref sig .tc := ⟨.hbm, 76, rfl⟩
abbrev main_v45 : Ref sig .tc := ⟨.hbm, 77, rfl⟩
abbrev main_v46 : Ref sig .tc := ⟨.hbm, 78, rfl⟩
abbrev main_c_16 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_c_17 : Ref sig .tc := ⟨.hbm, 83, rfl⟩
abbrev main_v50 : Ref sig .tc := ⟨.hbm, 84, rfl⟩
abbrev main_v51 : Ref sig .tc := ⟨.hbm, 85, rfl⟩
abbrev main_c_18 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩
abbrev main_cst_19 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_v62 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_cst_20 : Ref sig .tc := ⟨.hbm, 105, rfl⟩
abbrev main_v69 : Ref sig .tc := ⟨.hbm, 106, rfl⟩
abbrev main_cst_21 : Ref sig .tc := ⟨.hbm, 107, rfl⟩
abbrev main_v70 : Ref sig .tc := ⟨.hbm, 108, rfl⟩
abbrev main_v71 : Ref sig .tc := ⟨.hbm, 109, rfl⟩
abbrev main_cst_22 : Ref sig .tc := ⟨.hbm, 110, rfl⟩
abbrev main_v72 : Ref sig .tc := ⟨.hbm, 111, rfl⟩
abbrev main_v73 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_v77 : Ref sig .tc := ⟨.hbm, 116, rfl⟩
abbrev main_v78 : Ref sig .tc := ⟨.hbm, 117, rfl⟩
abbrev main_v79 : Ref sig .tc := ⟨.hbm, 118, rfl⟩
abbrev main_v80 : Ref sig .tc := ⟨.hbm, 119, rfl⟩
abbrev main_v81 : Ref sig .tc := ⟨.hbm, 120, rfl⟩
abbrev main_cst_23 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_call1_v0 : Ref sig .tc := ⟨.hbm, 128, rfl⟩
abbrev main_call1_cst : Ref sig .tc := ⟨.hbm, 129, rfl⟩
abbrev main_call1_v1 : Ref sig .tc := ⟨.hbm, 130, rfl⟩
abbrev main_call1_v2 : Ref sig .tc := ⟨.hbm, 131, rfl⟩
abbrev main_call1_v3 : Ref sig .tc := ⟨.hbm, 132, rfl⟩
abbrev main_call1_v4 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_v91 : Ref sig .tc := ⟨.hbm, 137, rfl⟩
abbrev main_cst_24 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩

abbrev nD : Nat := 1
abbrev τ : Topo := Topo.v7x

variable {F : FTy → Type} [FloatOps F]
-- ==== Proof.Blocks.lean ====
/-
  Sums over 4096 terms taken in 8 blocks of 512, as both MLP calls take them.
-/
module

public import Mathlib.Algebra.BigOperators.Fin
public import Mathlib.Logic.Equiv.Fin.Basic

@[expose] public section

namespace Cert.Blocks

/-- The place of entry `k` of block `n` on the axis of 4096: `512 n + k` (the remainder keeps the index in range for
    every `n`; it changes nothing for the eight blocks there are). -/
def at512 (n : ℕ) (k : Fin 512) : Fin 4096 := ⟨(512 * n + k.val) % 4096, Nat.mod_lt _ (by decide)⟩

/-- For one of the eight blocks the place is `512 n + k` itself. -/
theorem at512_val (n : ℕ) (hn : n < 8) (k : Fin 512) : (at512 n k).val = 512 * n + k.val := by
  have := k.isLt
  simp only [at512]
  omega

/-- Eight partial sums over blocks of 512 terms add up to the sum over all 4096 terms, in any commutative addition. -/
theorem sum_blocks {β : Type*} [AddCommMonoid β] (f : Fin 4096 → β) :
    ∑ s ∈ Finset.range (7 + 1), ∑ k : Fin 512, f (at512 (0 + s) k) = ∑ k : Fin 4096, f k := by
  rw [Finset.sum_range, ← Fintype.sum_prod_type', ← Equiv.sum_comp (finProdFinEquiv (m := 8) (n := 512)) f]
  refine Finset.sum_congr rfl fun p _ => congrArg f (Fin.ext ?_)
  rw [at512_val _ (by have := p.1.isLt; omega)]
  simp only [finProdFinEquiv_apply_val]
  omega

end Cert.Blocks

end
-- ==== Proof.Mlp12Value.lean ====
/-
  The first two layers of the MLP, `relu(relu(x · W1 + b1) · W2 + b2)`: what the blocked call leaves, read at an entry,
  and its equation with the two whole products of the reference.
-/
module

public import proofs.«01_k».proof.Defs
public import proofs.«01_k».proof.Proof.Blocks
public import proofs.«01_k».proof.Proof.Gen.KMlp12Ideal.Value
public import proofs.«01_k».proof.Proof.Gen.RMlp12Ideal.Run
public import Idealize.ShloMosaic.Lib.Pointwise
public import Idealize.ShloMosaic.Lib.Claim

@[expose] public section

set_option maxRecDepth 16384

noncomputable section

namespace Cert.Mlp12

open Cert.KMlp12Ideal Cert.KMlp12Ideal.Gen Cert.KMlp12Ideal.Value Cert.Blocks
open Idealize.ShloMosaic Idealize.ShloMosaic.TcCoe Idealize.SL.Sem
open Idealize.ShloMosaic.Pipeline (Dat)

variable (m : (ℓ : Loc nD τ sig) → Buf (Elt Ideal) ℓ)

/-- The MLP's input `x`, as launched. -/
abbrev aX (c : Dev nD) : S96x2640.Idx → EReal := m ((c : Thread nD τ).loc main_arg0)
/-- The weights `W1`, as launched. -/
abbrev aW1 (c : Dev nD) : S2640x4096.Idx → EReal := m ((c : Thread nD τ).loc main_arg1)
/-- The bias `b1`, as launched. -/
abbrev aB1 (c : Dev nD) : S4096.Idx → EReal := m ((c : Thread nD τ).loc main_arg2)
/-- The weights `W2`, as launched. -/
abbrev aW2 (c : Dev nD) : S4096x4096.Idx → EReal := m ((c : Thread nD τ).loc main_arg3)
/-- The bias `b2`, as launched. -/
abbrev aB2 (c : Dev nD) : S4096.Idx → EReal := m ((c : Thread nD τ).loc main_arg4)

/-! ## The blocks -/

/-- The block of `x` at every grid point is `x`. -/
theorem blk_x (c : Dev nD) (t : Fin cfg0.N) (a : Fin 96) (k : Fin 2640) :
    iblk m c 0 t (ix2 a k) = aX m c (ix2 a k) := by
  have hi : ∀ t : Fin cfg0.N, win0_0.index t 0 = 0 ∧ win0_0.index t 1 = 0 := (by decide +kernel : ∀ t : Fin grid0.N, _)
  unfold iblk
  rw [View.read_apply]
  show V m c main_arg0 _ = _
  rw [V_main_arg0]
  refine congrArg (aX m c) (funext fun b => Fin.ext ?_)
  match b with
  | ⟨0, _⟩ => show win0_0.index t 0 * 96 + 1 * a.val = a.val; rw [(hi t).1]; omega
  | ⟨1, _⟩ => show win0_0.index t 1 * 2640 + 1 * k.val = k.val; rw [(hi t).2]; omega

/-- The block of `W1` at grid point `t` is its columns `512 t … 512 t + 511`. -/
theorem blk_w1 (c : Dev nD) (t : Fin cfg0.N) (k : Fin 2640) (b : Fin 512) :
    iblk m c 1 t (ix2 k b) = aW1 m c (ix2 k (at512 t.val b)) := by
  have ht : t.val < 8 := lt_of_lt_of_eq t.isLt N_0
  have hi : ∀ t : Fin cfg0.N, win0_1.index t 0 = 0 ∧ win0_1.index t 1 = t.val := (by decide +kernel : ∀ t : Fin grid0.N, _)
  unfold iblk
  rw [View.read_apply]
  show V m c main_arg1 _ = _
  rw [V_main_arg1]
  refine congrArg (aW1 m c) (funext fun e => Fin.ext ?_)
  match e with
  | ⟨0, _⟩ => show win0_1.index t 0 * 2640 + 1 * k.val = k.val; rw [(hi t).1]; omega
  | ⟨1, _⟩ => show win0_1.index t 1 * 512 + 1 * b.val = (at512 t.val b).val; rw [(hi t).2, at512_val _ ht]; omega

/-- The block of `b1` at grid point `t` is its entries `512 t … 512 t + 511`, as one row. -/
theorem blk_b1 (c : Dev nD) (t : Fin cfg0.N) (b : Fin 512) :
    iblk m c 2 t (ix2 0 b) = aB1 m c (ix1 (at512 t.val b)) := by
  have ht : t.val < 8 := lt_of_lt_of_eq t.isLt N_0
  have hi : ∀ t : Fin cfg0.N, win0_2.index t 0 = 0 ∧ win0_2.index t 1 = t.val := (by decide +kernel : ∀ t : Fin grid0.N, _)
  have hV : (V m c main_v0 : S1x4096.Idx → Elt Ideal .f32) = shapeCast S1x4096 (aB1 m c) shapeCasts_S4096_S1x4096 := by
    unfold V hostOps0; after_results; rfl
  have he : (iblk m c 2 t (ix2 0 b) : Elt Ideal .f32) = (V m c main_v0 : S1x4096.Idx → Elt Ideal .f32) (ix2 0 (at512 t.val b)) := by
    unfold iblk
    rw [View.read_apply]
    show V m c main_v0 _ = _
    refine congrArg (V m c main_v0) (funext fun e => Fin.ext ?_)
    match e with
    | ⟨0, _⟩ => show win0_2.index t 0 * 1 + 1 * 0 = 0; rw [(hi t).1]
    | ⟨1, _⟩ => show win0_2.index t 1 * 512 + 1 * b.val = (at512 t.val b).val; rw [(hi t).2, at512_val _ ht]; omega
  rw [he, hV]
  pointwise

/-- The block of `W2` at grid point `t` is its rows `512 t … 512 t + 511`. -/
theorem blk_w2 (c : Dev nD) (t : Fin cfg0.N) (k : Fin 512) (b : Fin 4096) :
    iblk m c 3 t (ix2 k b) = aW2 m c (ix2 (at512 t.val k) b) := by
  have ht : t.val < 8 := lt_of_lt_of_eq t.isLt N_0
  have hi : ∀ t : Fin cfg0.N, win0_3.index t 0 = t.val ∧ win0_3.index t 1 = 0 := (by decide +kernel : ∀ t : Fin grid0.N, _)
  unfold iblk
  rw [View.read_apply]
  show V m c main_arg3 _ = _
  rw [V_main_arg3]
  refine congrArg (aW2 m c) (funext fun e => Fin.ext ?_)
  match e with
  | ⟨0, _⟩ => show win0_3.index t 0 * 512 + 1 * k.val = (at512 t.val k).val; rw [(hi t).1, at512_val _ ht]; omega
  | ⟨1, _⟩ => show win0_3.index t 1 * 4096 + 1 * b.val = b.val; rw [(hi t).2]; omega

/-- The block of `b2` at every grid point is `b2`, as one row. -/
theorem blk_b2 (c : Dev nD) (t : Fin cfg0.N) (b : Fin 4096) :
    iblk m c 4 t (ix2 0 b) = aB2 m c (ix1 b) := by
  have hi : ∀ t : Fin cfg0.N, win0_4.index t 0 = 0 ∧ win0_4.index t 1 = 0 := (by decide +kernel : ∀ t : Fin grid0.N, _)
  have hV : (V m c main_v1 : S1x4096.Idx → Elt Ideal .f32) = shapeCast S1x4096 (aB2 m c) shapeCasts_S4096_S1x4096 := by
    unfold V hostOps0; after_results; rfl
  have he : (iblk m c 4 t (ix2 0 b) : Elt Ideal .f32) = (V m c main_v1 : S1x4096.Idx → Elt Ideal .f32) (ix2 0 b) := by
    unfold iblk
    rw [View.read_apply]
    show V m c main_v1 _ = _
    refine congrArg (V m c main_v1) (funext fun e => Fin.ext ?_)
    match e with
    | ⟨0, _⟩ => show win0_4.index t 0 * 1 + 1 * 0 = 0; rw [(hi t).1]
    | ⟨1, _⟩ => show win0_4.index t 1 * 4096 + 1 * b.val = b.val; rw [(hi t).2]; omega
  rw [he, hV]
  pointwise

/-! ## What one grid point leaves -/

/-- The offsets of a whole block are zero. -/
theorem hz2 : (![0, 0] : Fin 2 → Nat) = fun _ => 0 := funext fun a => by fin_cases a <;> rfl

/-- The first grid point leaves in the scratch its product over the zero block. -/
theorem scratch_first (c : Dev nD) (t : Fin cfg0.N) (h0 : t.val % 8 = 0) :
    (outsAt0 m c t.val t.isLt).2 = k0_pay2 (iblk m c 0 t) (iblk m c 1 t) (iblk m c 2 t) (k0_pay1 (F := Ideal)) (iblk m c 3 t) := by
  rw [outsAt0_A m c t h0 (by omega)]
  dsimp only
  unfold sout0_A_0
  rw [View.read_writes_eq_canon _ _ _ (scover0_A_0 _ _ _ _ _ _ _ _ _ _ _ _ _ _ _ _ _ _ _ _ _ _ _)]
  unfold kernelRun0_A
  dsimp only
  try sl_unfold_words
  rw [View.canon_cons_unit_zero (S := S96x4096) hz2, View.readCov_unit_zero (S := S96x4096) _ hz2]
  simp only [View.readAt_eq_ld, (hs0_0 t).read_unread, (hs0_1 t).read_unread, (hs0_2 t).read_unread, (hs0_3 t).read_unread,
    View.ld_unit_zero (S := S96x2640) hz2, View.ld_unit_zero (S := S2640x512) hz2, View.ld_unit_zero (S := S1x512) hz2,
    View.ld_unit_zero (S := S512x4096) hz2, shapeCast_self]

/-- A middle grid point adds its product to what it found in the scratch. -/
theorem scratch_middle (c : Dev nD) (t : Fin cfg0.N) (h0 : ¬t.val % 8 = 0) (h1 : ¬t.val % 8 = 7) :
    (outsAt0 m c t.val t.isLt).2 = k0_pay2 (iblk m c 0 t) (iblk m c 1 t) (iblk m c 2 t)
      (outsAt0 m c (t.val - 1) (Nat.lt_of_le_of_lt (Nat.sub_le _ _) t.isLt)).2 (iblk m c 3 t) := by
  rw [outsAt0_B m c t h0 h1]
  dsimp only
  unfold sout0_B_0
  rw [View.read_writes_eq_canon _ _ _ (scover0_B_0 _ _ _ _ _ _ _ _ _ _ _ _ _ _ _ _ _ _ _ _ _ _ _ _)]
  unfold kernelRun0_B
  dsimp only
  try sl_unfold_words
  rw [View.canon_unit_zero hz2]
  simp only [View.readAt_eq_ld, (hs0_0 t).read_unread, (hs0_1 t).read_unread, (hs0_2 t).read_unread, (hs0_3 t).read_unread,
    (hs0_4 t).read_unread, (Memref.isWhole_whole cc0_scratch0).read_unread, View.ld_unit_zero (S := S96x4096) hz2, View.ld_unit_zero (S := S1x4096) hz2,
    View.ld_unit_zero (S := S96x2640) hz2, View.ld_unit_zero (S := S2640x512) hz2, View.ld_unit_zero (S := S1x512) hz2,
    View.ld_unit_zero (S := S512x4096) hz2, shapeCast_self]

/-- The last grid point adds its product to what it found in the scratch … -/
theorem scratch_last (c : Dev nD) (t : Fin cfg0.N) (h0 : ¬t.val % 8 = 0) (h1 : t.val % 8 = 7) :
    (outsAt0 m c t.val t.isLt).2 = k0_pay2 (iblk m c 0 t) (iblk m c 1 t) (iblk m c 2 t)
      (outsAt0 m c (t.val - 1) (Nat.lt_of_le_of_lt (Nat.sub_le _ _) t.isLt)).2 (iblk m c 3 t) := by
  rw [outsAt0_C m c t h0 h1]
  dsimp only
  unfold sout0_C_0
  rw [View.read_writes_eq_canon _ _ _ (scover0_C_0 _ _ _ _ _ _ _ _ _ _ _ _ _ _ _ _ _ _ _ _ _ _ _ _)]
  unfold kernelRun0_C
  dsimp only
  try sl_unfold_words
  rw [View.canon_unit_zero hz2]
  simp only [View.readAt_eq_ld, (hs0_0 t).read_unread, (hs0_1 t).read_unread, (hs0_2 t).read_unread, (hs0_3 t).read_unread,
    (hs0_4 t).read_unread, (Memref.isWhole_whole cc0_scratch0).read_unread, View.ld_unit_zero (S := S96x4096) hz2, View.ld_unit_zero (S := S1x4096) hz2,
    View.ld_unit_zero (S := S96x2640) hz2, View.ld_unit_zero (S := S2640x512) hz2, View.ld_unit_zero (S := S1x512) hz2,
    View.ld_unit_zero (S := S512x4096) hz2, shapeCast_self]

/-- … and stores the finished activations. -/
theorem output_last (c : Dev nD) (t : Fin cfg0.N) (h0 : ¬t.val % 8 = 0) (h1 : t.val % 8 = 7) :
    (outsAt0 m c t.val t.isLt).1 = k0_pay3 (outsAt0 m c t.val t.isLt).2 (iblk m c 4 t) := by
  rw [scratch_last m c t h0 h1, outsAt0_C m c t h0 h1]
  dsimp only
  unfold out0_C_5
  rw [View.read_writes_eq_canon _ _ _ (cover0_C_5 _ _ _ _ _ _ _ _ _ _ _ _ _ _ _ _ _ _ _ _ _ _ _ _)]
  unfold kernelRun0_C
  dsimp only
  try sl_unfold_words
  rw [View.canon_unit_zero hz2, View.readCov_unit_zero (S := S96x4096) _ hz2]
  simp only [View.readAt_eq_ld, (hs0_0 t).read_unread, (hs0_1 t).read_unread, (hs0_2 t).read_unread, (hs0_3 t).read_unread,
    (hs0_4 t).read_unread, (Memref.isWhole_whole cc0_scratch0).read_unread, View.ld_unit_zero (S := S96x4096) hz2, View.ld_unit_zero (S := S1x4096) hz2,
    View.ld_unit_zero (S := S96x2640) hz2, View.ld_unit_zero (S := S2640x512) hz2, View.ld_unit_zero (S := S1x512) hz2,
    View.ld_unit_zero (S := S512x4096) hz2, shapeCast_self]

/-! ## The fold, read at an entry -/

/-- Entry `(a, k)` of the first hidden layer, `relu(x · W1 + b1)`. -/
def hidden (c : Dev nD) (a : Fin 96) (k : Fin 4096) : EReal :=
  max ((∑ l : Fin 2640, aX m c (ix2 a l) * aW1 m c (ix2 l k)) + aB1 m c (ix1 k)) 0

/-- What grid point `n` adds to entry `i` of the scratch: its 512 products of the second layer. -/
def addend (c : Dev nD) (n : ℕ) (i : S96x4096.Idx) : EReal :=
  ∑ k : Fin 512, hidden m c (i 0) (at512 n k) * aW2 m c (ix2 (at512 n k) (i 1))

/-- One grid point's product, added to what the scratch holds. -/
theorem step_apply (c : Dev nD) (t : Fin cfg0.N) (acc : Vec Ideal S96x4096 .f32) (i : S96x4096.Idx) :
    k0_pay2 (iblk m c 0 t) (iblk m c 1 t) (iblk m c 2 t) acc (iblk m c 3 t) i = acc i + addend m c t.val i := by
  idx_vars i
  unfold addend hidden
  unfold_payloads
  pointwise
  refine congrArg _ (Finset.sum_congr rfl fun k _ => ?_)
  rw [blk_w2, blk_b1]
  simp only [blk_x, blk_w1]

/-- After grid point `n` the scratch holds the sum of the addends so far. -/
theorem scratch_apply (c : Dev nD) : ∀ (n : ℕ) (hn : n < cfg0.N) (i : S96x4096.Idx),
    (outsAt0 m c n hn).2 i = ∑ s ∈ Finset.range (n + 1), addend m c (0 + s) i
  | 0, hn, i => by
    rw [scratch_first m c ⟨0, hn⟩ rfl, step_apply, Finset.sum_range_one]
    unfold_payloads
    pointwise
  | n + 1, hn, i => by
    have hN : n + 1 < 8 := lt_of_lt_of_eq hn N_0
    have h0 : ¬(n + 1) % 8 = 0 := by omega
    have e : (outsAt0 m c (n + 1) hn).2 = k0_pay2 (iblk m c 0 ⟨n + 1, hn⟩) (iblk m c 1 ⟨n + 1, hn⟩) (iblk m c 2 ⟨n + 1, hn⟩)
        (outsAt0 m c n (Nat.lt_of_succ_lt hn)).2 (iblk m c 3 ⟨n + 1, hn⟩) := by
      by_cases h1 : (n + 1) % 8 = 7
      · exact scratch_last m c ⟨n + 1, hn⟩ h0 h1
      · exact scratch_middle m c ⟨n + 1, hn⟩ h0 h1
    rw [e, step_apply, scratch_apply c n (Nat.lt_of_succ_lt hn) i, Finset.sum_range_succ _ (n + 1), Nat.zero_add]

/-- What the call leaves at entry `i`: the second layer over all 4096 hidden entries. -/
theorem result_apply (c : Dev nD) (i : S96x4096.Idx) :
    (G5 m c i : EReal) = max ((∑ k : Fin 4096, hidden m c (i 0) k * aW2 m c (ix2 k (i 1))) + aB2 m c (ix1 (i 1))) 0 := by
  have h7 : 7 < cfg0.N := lt_of_lt_of_eq (by decide) N_0.symm
  obtain ⟨t, ht⟩ : ∃ t : Fin cfg0.N, t.val = 7 := ⟨⟨7, h7⟩, rfl⟩
  have e : G5 m c = (outsAt0 m c t.val t.isLt).1 := by
    obtain ⟨n, hn⟩ := t
    obtain rfl : n = 7 := ht
    rw [G5_last, outsAt0_sweep]
  rw [e, output_last m c t (by omega) (by omega)]
  idx_vars i
  unfold_payloads
  pointwise
  rw [blk_b2, scratch_apply, ht]
  unfold addend
  exact congrArg (fun z : EReal => max (z + aB2 m c (ix1 i1)) 0) (sum_blocks fun k => hidden m c i0 k * aW2 m c (ix2 k i1))

/-! ## The equation -/

/-- The reference's result, from its arguments. -/
abbrev ref (x : S96x2640.Idx → EReal) (w1 : S2640x4096.Idx → EReal) (b1 : S4096.Idx → EReal) (w2 : S4096x4096.Idx → EReal)
    (b2 : S4096.Idx → EReal) : S96x4096.Idx → EReal :=
  maximumf (F := Ideal) (φ := .f32) (addf (Host.dotGeneral (F := Ideal) (φ₁ := .f32) (φ₂ := .f32) Cert.RMlp12Ideal.dot_S96x4096_S4096x4096_S96x4096_1_0_0_1_n_n none
    (maximumf (addf (Host.dotGeneral (F := Ideal) (φ₁ := .f32) (φ₂ := .f32) Cert.RMlp12Ideal.dot_S96x2640_S2640x4096_S96x4096_1_0_0_1_n_n none x w1)
      (broadcastInDim S96x4096 ![0, 1] Cert.RMlp12Ideal.Gen.bcast_S1x4096_S96x4096_0_1 (broadcastInDim S1x4096 ![1] Cert.RMlp12Ideal.Gen.bcast_S4096_S1x4096_1 b1)))
      (broadcastInDim S96x4096 ![] Cert.RMlp12Ideal.Gen.bcast_S_S96x4096 (constant Cert.RMlp12Ideal.S_ .f32 0x00000000#32))) w2)
    (broadcastInDim S96x4096 ![0, 1] Cert.RMlp12Ideal.Gen.bcast_S1x4096_S96x4096_0_1 (broadcastInDim S1x4096 ![1] Cert.RMlp12Ideal.Gen.bcast_S4096_S1x4096_1 b2)))
    (broadcastInDim S96x4096 ![] Cert.RMlp12Ideal.Gen.bcast_S_S96x4096 (constant Cert.RMlp12Ideal.S_ .f32 0x00000000#32))

/-- The blocked call leaves what the reference computes. -/
theorem result_eq (c : Dev nD) : G5 m c = ref (aX m c) (aW1 m c) (aB1 m c) (aW2 m c) (aB2 m c) := by
  funext i
  refine (result_apply m c i).trans ?_
  unfold ref hidden
  idx_vars i
  pointwise

/-- The claim: from equal arguments the blocked call and the reference end with equal results, their arguments kept. -/
theorem algebraic : Cert.algebraic_KMlp12Ideal_RMlp12Ideal (hKMlp12Ideal := Cert.KMlp12Ideal.Gen.facts) (hRMlp12Ideal := Cert.RMlp12Ideal.Gen.facts) :=
  fun m ρ m' ρ' _ hag => ⟨fun c => G5 m c, Cert.KMlp12Ideal.Value.run m ρ,
    (θ_run _ _ _).mono (fun _ h c => ⟨(h c).1.trans (by
      rw [(hag c).1, (hag c).2.1, (hag c).2.2.1, (hag c).2.2.2.1, (hag c).2.2.2.2]
      exact (result_eq m c).symm), (h c).2⟩) (Cert.RMlp12Ideal.Value.run m' ρ')⟩

end Cert.Mlp12

end
-- ==== Proof.Mlp3Value.lean ====
/-
  The last layer of the MLP, `h · W3 + b3`: what the blocked call leaves, read at an entry, and its equation with the
  one product of the reference.
-/
module

public import proofs.«01_k».proof.Defs
public import proofs.«01_k».proof.Proof.Blocks
public import proofs.«01_k».proof.Proof.Gen.KMlp3Ideal.Value
public import proofs.«01_k».proof.Proof.Gen.RMlp3Ideal.Run
public import Idealize.ShloMosaic.Lib.Pointwise
public import Idealize.ShloMosaic.Lib.Claim

@[expose] public section

set_option maxRecDepth 16384

noncomputable section

namespace Cert.Mlp3

open Cert.KMlp3Ideal Cert.KMlp3Ideal.Gen Cert.KMlp3Ideal.Value Cert.Blocks
open Idealize.ShloMosaic Idealize.ShloMosaic.TcCoe Idealize.SL.Sem
open Idealize.ShloMosaic.Pipeline (Dat)

variable (m : (ℓ : Loc nD τ sig) → Buf (Elt Ideal) ℓ)

/-- The hidden activations `h`, as launched. -/
abbrev aH (c : Dev nD) : S96x4096.Idx → EReal := m ((c : Thread nD τ).loc main_arg0)
/-- The weights `W3`, as launched. -/
abbrev aW (c : Dev nD) : S4096x2640.Idx → EReal := m ((c : Thread nD τ).loc main_arg1)
/-- The bias `b3`, as launched. -/
abbrev aB (c : Dev nD) : S2640.Idx → EReal := m ((c : Thread nD τ).loc main_arg2)

/-- The block of `h` at grid point `t` is its columns `512 t … 512 t + 511`. -/
theorem blk_h (c : Dev nD) (t : Fin cfg0.N) (a : Fin 96) (k : Fin 512) :
    iblk m c 0 t (ix2 a k) = aH m c (ix2 a (at512 t.val k)) := by
  have ht : t.val < 8 := lt_of_lt_of_eq t.isLt N_0
  have hi : ∀ t : Fin cfg0.N, win0_0.index t 0 = 0 ∧ win0_0.index t 1 = t.val := (by decide +kernel : ∀ t : Fin grid0.N, _)
  unfold iblk
  rw [View.read_apply]
  show V m c main_arg0 _ = _
  rw [V_main_arg0]
  refine congrArg (aH m c) (funext fun b => Fin.ext ?_)
  match b with
  | ⟨0, _⟩ => show win0_0.index t 0 * 96 + 1 * a.val = a.val; rw [(hi t).1]; omega
  | ⟨1, _⟩ => show win0_0.index t 1 * 512 + 1 * k.val = (at512 t.val k).val; rw [(hi t).2, at512_val _ ht]; omega

/-- The block of `W3` at grid point `t` is its rows `512 t … 512 t + 511`. -/
theorem blk_w (c : Dev nD) (t : Fin cfg0.N) (k : Fin 512) (b : Fin 2640) :
    iblk m c 1 t (ix2 k b) = aW m c (ix2 (at512 t.val k) b) := by
  have ht : t.val < 8 := lt_of_lt_of_eq t.isLt N_0
  have hi : ∀ t : Fin cfg0.N, win0_1.index t 0 = t.val ∧ win0_1.index t 1 = 0 := (by decide +kernel : ∀ t : Fin grid0.N, _)
  unfold iblk
  rw [View.read_apply]
  show V m c main_arg1 _ = _
  rw [V_main_arg1]
  refine congrArg (aW m c) (funext fun e => Fin.ext ?_)
  match e with
  | ⟨0, _⟩ => show win0_1.index t 0 * 512 + 1 * k.val = (at512 t.val k).val; rw [(hi t).1, at512_val _ ht]; omega
  | ⟨1, _⟩ => show win0_1.index t 1 * 2640 + 1 * b.val = b.val; rw [(hi t).2]; omega

/-- The block of the bias at every grid point is the bias vector, as one row. -/
theorem blk_b (c : Dev nD) (t : Fin cfg0.N) (b : Fin 2640) :
    iblk m c 2 t (ix2 0 b) = aB m c (ix1 b) := by
  have hi : ∀ t : Fin cfg0.N, win0_2.index t 0 = 0 ∧ win0_2.index t 1 = 0 := (by decide +kernel : ∀ t : Fin grid0.N, _)
  have hV : (V m c main_v0 : S1x2640.Idx → Elt Ideal .f32) = shapeCast S1x2640 (aB m c) shapeCasts_S2640_S1x2640 := by
    unfold V hostOps0; after_results; rfl
  have he : (iblk m c 2 t (ix2 0 b) : Elt Ideal .f32) = (V m c main_v0 : S1x2640.Idx → Elt Ideal .f32) (ix2 0 b) := by
    unfold iblk
    rw [View.read_apply]
    show V m c main_v0 _ = _
    refine congrArg (V m c main_v0) (funext fun e => Fin.ext ?_)
    match e with
    | ⟨0, _⟩ => show win0_2.index t 0 * 1 + 1 * 0 = 0; rw [(hi t).1]
    | ⟨1, _⟩ => show win0_2.index t 1 * 2640 + 1 * b.val = b.val; rw [(hi t).2]; omega
  rw [he, hV]
  pointwise

/-- What grid point `n` adds to entry `i` of the result: its 512 products. -/
def addend (c : Dev nD) (n : ℕ) (i : S96x2640.Idx) : EReal :=
  ∑ k : Fin 512, aH m c (ix2 (i 0) (at512 n k)) * aW m c (ix2 (at512 n k) (i 1))

/-- What a later grid point leaves: what it found plus its addend. -/
theorem step_apply (c : Dev nD) (n : ℕ) (h : n < cfg0.N) (acc : Vec Ideal S96x2640 .f32) (i : S96x2640.Idx) :
    step3 m c n h acc i = acc i + addend m c n i := by
  idx_vars i
  unfold step3 addend
  unfold_payloads
  pointwise
  refine congrArg _ (Finset.sum_congr rfl fun k _ => ?_)
  rw [blk_h, blk_w]

/-- What the first grid point leaves: the bias plus its addend. -/
theorem reset_apply (c : Dev nD) (n : ℕ) (h : n < cfg0.N) (i : S96x2640.Idx) :
    reset3 m c n h i = aB m c (ix1 (i 1)) + addend m c n i := by
  idx_vars i
  unfold reset3 addend
  unfold_payloads
  pointwise
  rw [blk_b]
  refine congrArg _ (Finset.sum_congr rfl fun k _ => ?_)
  rw [blk_h, blk_w]

/-- What the call leaves at entry `i`: the bias plus the sum over all 4096 products. -/
theorem result_apply (c : Dev nD) (i : S96x2640.Idx) :
    (G3 m c i : EReal) = aB m c (ix1 (i 1))
      + ∑ k : Fin 4096, aH m c (ix2 (i 0) k) * aW m c (ix2 k (i 1)) := by
  idx_vars i
  have hrun : run3Of (ix2 i0 i1) = 0 := by
    show 1 * (i0.val / 96 - 0) + 1 * (i1.val / 2640 - 0) = 0
    have := i0.isLt; have := i1.isLt; omega
  have hloc : loc3Of (ix2 i0 i1) = ix2 i0 i1 := by
    funext a
    match a with
    | ⟨0, _⟩ => exact Fin.ext (Nat.mod_eq_of_lt i0.isLt)
    | ⟨1, _⟩ => exact Fin.ext (Nat.mod_eq_of_lt i1.isLt)
  unfold G3
  rw [dif_pos (by rw [hrun]; decide), hloc]
  have e : ∀ (b : ℕ) (h : b + 7 < cfg0.N), b = 0 → Pipeline.accAt (reset3 m c) (step3 m c) b 7 h (ix2 i0 i1)
      = Pipeline.accAt (reset3 m c) (step3 m c) 0 7 (by decide) (ix2 i0 i1) := by
    intro b h hb; subst hb; rfl
  rw [e _ _ (by rw [hrun]),
    Pipeline.accAt_add_apply _ _ (fun i => aB m c (ix1 (i 1))) (addend m c) 0 7
      (fun h i => reset_apply m c 0 h i) (fun n h acc i _ _ => step_apply m c n h acc i) 7 le_rfl]
  unfold addend
  exact congrArg _ (sum_blocks fun k => aH m c (ix2 i0 k) * aW m c (ix2 k i1))

/-- The reference's result, from its arguments. -/
abbrev ref (x : S96x4096.Idx → EReal) (w : S4096x2640.Idx → EReal) (b : S2640.Idx → EReal) : S96x2640.Idx → EReal :=
  addf (F := Ideal) (φ := .f32) (Host.dotGeneral (F := Ideal) (φ₁ := .f32) (φ₂ := .f32) Cert.RMlp3Ideal.dot_S96x4096_S4096x2640_S96x2640_1_0_0_1_n_n none x w)
    (broadcastInDim S96x2640 ![0, 1] Cert.RMlp3Ideal.Gen.bcast_S1x2640_S96x2640_0_1 (broadcastInDim S1x2640 ![1] Cert.RMlp3Ideal.Gen.bcast_S2640_S1x2640_1 b))

/-- The blocked call leaves what the reference computes. -/
theorem result_eq (c : Dev nD) : G3 m c = ref (aH m c) (aW m c) (aB m c) := by
  funext i
  refine (result_apply m c i).trans ?_
  unfold ref
  idx_vars i
  pointwise
  exact add_comm (G := EReal) _ _

/-- The claim: from equal arguments the blocked call and the reference end with equal results, their arguments kept. -/
theorem algebraic : Cert.algebraic_KMlp3Ideal_RMlp3Ideal (hKMlp3Ideal := Cert.KMlp3Ideal.Gen.facts) (hRMlp3Ideal := Cert.RMlp3Ideal.Gen.facts) :=
  fun m ρ m' ρ' _ hag => ⟨fun c => G3 m c, Cert.KMlp3Ideal.Value.run m ρ,
    (θ_run _ _ _).mono (fun _ h c => ⟨(h c).1.trans (by
      rw [(hag c).1, (hag c).2.1, (hag c).2.2]
      exact (result_eq m c).symm), (h c).2⟩) (Cert.RMlp3Ideal.Value.run m' ρ')⟩

end Cert.Mlp3

end
-- ==== Proof.FinalValue.lean ====
/-
  The last call: the cosine similarities of the queries with the class features, scaled — the classification scores.
-/
module

public import proofs.«01_k».proof.Defs
public import proofs.«01_k».proof.Proof.Gen.KFinalIdeal.Value
public import proofs.«01_k».proof.Proof.Gen.RFinalIdeal.Run
public import Idealize.ShloMosaic.Lib.Pointwise
public import Idealize.ShloMosaic.Lib.Claim

@[expose] public section

set_option maxRecDepth 16384

noncomputable section

namespace Cert.Final

open Cert.KFinalIdeal Cert.KFinalIdeal.Gen Cert.KFinalIdeal.Value
open Idealize.ShloMosaic Idealize.ShloMosaic.TcCoe Idealize.SL.Sem
open Idealize.ShloMosaic.Pipeline (Dat)

variable (m : (ℓ : Loc nD τ sig) → Buf (Elt Ideal) ℓ)

/-- The class features, as launched. -/
abbrev aS (c : Dev nD) : S32x512.Idx → EReal := m ((c : Thread nD τ).loc main_arg0)
/-- The query features, as launched. -/
abbrev aQ (c : Dev nD) : S64x512.Idx → EReal := m ((c : Thread nD τ).loc main_arg1)
/-- The scale, as launched. -/
abbrev aC (c : Dev nD) : S1.Idx → EReal := m ((c : Thread nD τ).loc main_arg2)

/-! ## The blocks: the whole arrays -/

/-- The call reads the whole of its first argument. -/
theorem blk_s (c : Dev nD) (t : Fin cfg0.N) (a : Fin 32) (k : Fin 512) : iblk m c 0 t (ix2 a k) = aS m c (ix2 a k) := by
  have hi : ∀ t : Fin cfg0.N, win0_0.index t 0 = 0 ∧ win0_0.index t 1 = 0 := (by decide +kernel : ∀ t : Fin grid0.N, _)
  unfold iblk
  rw [View.read_apply]
  show V m c main_arg0 _ = _
  rw [V_main_arg0]
  refine congrArg (aS m c) (funext fun b => Fin.ext ?_)
  match b with
  | ⟨0, _⟩ => show win0_0.index t 0 * 32 + 1 * a.val = a.val; rw [(hi t).1]; omega
  | ⟨1, _⟩ => show win0_0.index t 1 * 512 + 1 * k.val = k.val; rw [(hi t).2]; omega

/-- The call reads the whole of its second argument. -/
theorem blk_q (c : Dev nD) (t : Fin cfg0.N) (a : Fin 64) (k : Fin 512) : iblk m c 1 t (ix2 a k) = aQ m c (ix2 a k) := by
  have hi : ∀ t : Fin cfg0.N, win0_1.index t 0 = 0 ∧ win0_1.index t 1 = 0 := (by decide +kernel : ∀ t : Fin grid0.N, _)
  unfold iblk
  rw [View.read_apply]
  show V m c main_arg1 _ = _
  rw [V_main_arg1]
  refine congrArg (aQ m c) (funext fun b => Fin.ext ?_)
  match b with
  | ⟨0, _⟩ => show win0_1.index t 0 * 64 + 1 * a.val = a.val; rw [(hi t).1]; omega
  | ⟨1, _⟩ => show win0_1.index t 1 * 512 + 1 * k.val = k.val; rw [(hi t).2]; omega

/-- The call reads its third argument, the scale. -/
theorem blk_c (c : Dev nD) (t : Fin cfg0.N) : iblk m c 2 t (ix2 0 0) = aC m c (ix1 0) := by
  have hi : ∀ t : Fin cfg0.N, win0_2.index t 0 = 0 ∧ win0_2.index t 1 = 0 := (by decide +kernel : ∀ t : Fin grid0.N, _)
  have hV : (V m c main_v0 : S1x1.Idx → Elt Ideal .f32) = shapeCast S1x1 (aC m c) shapeCasts_S1_S1x1 := by
    unfold V hostOps0; after_results; rfl
  have he : (iblk m c 2 t (ix2 0 0) : Elt Ideal .f32) = (V m c main_v0 : S1x1.Idx → Elt Ideal .f32) (ix2 0 0) := by
    unfold iblk
    rw [View.read_apply]
    show V m c main_v0 _ = _
    refine congrArg (V m c main_v0) (funext fun e => Fin.ext ?_)
    match e with
    | ⟨0, _⟩ => show win0_2.index t 0 * 1 + 1 * 0 = 0; rw [(hi t).1]
    | ⟨1, _⟩ => show win0_2.index t 1 * 1 + 1 * 0 = 0; rw [(hi t).2]
  rw [he, hV]
  pointwise

/-- The offsets of a whole block are zero. -/
theorem hz2 : (![0, 0] : Fin 2 → Nat) = fun _ => 0 := funext fun a => by fin_cases a <;> rfl

/-! ## The array after the call -/

/-- What the call stores, from the arguments. -/
abbrev stored (c : Dev nD) : S64x32.Idx → EReal := k0_pay1 (F := Ideal) (iblk m c 0 t0_0) (iblk m c 1 t0_0) (iblk m c 2 t0_0)

/-- The call leaves its one stored block. -/
theorem result (c : Dev nD) : (dats m 0 c).arrAt 3 cfg0.N = stored m c := by
  have hi : ∀ t : Fin cfg0.N, win0_3.index t 0 = 0 ∧ win0_3.index t 1 = 0 := (by decide +kernel : ∀ t : Fin grid0.N, _)
  have hemb : ∀ (t : Fin cfg0.N) (y : S64x32.Idx), ((cfg0.win 3).blk t).view.emb y = y := by
    intro t y
    refine funext fun b => Fin.ext ?_
    match b with
    | ⟨0, _⟩ => show win0_3.index t 0 * 64 + 1 * (y 0).val = (y 0).val; rw [(hi t).1]; omega
    | ⟨1, _⟩ => show win0_3.index t 1 * 32 + 1 * (y 1).val = (y 1).val; rw [(hi t).2]; omega
  refine (dats m 0 c).arrAt_eq_of_cover 3 (stored m c) (fun t _ => ?_) (fun i => ⟨t0_0, flush0_3 t0_0, ?_⟩)
  · rw [flushed3]
    obtain rfl := fin_N0 t
    funext y
    rw [View.read_apply]
    have e : out0_3 (iblk m c 0 t0_0) (iblk m c 1 t0_0) (iblk m c 2 t0_0) = stored m c := by
      unfold out0_3
      rw [View.canon_unit_zero hz2, View.ld_unit_zero (S := S32x512) hz2, View.ld_unit_zero (S := S64x512) hz2, View.ld_unit_zero (S := S1x1) hz2]
    rw [e]
    exact (congrArg (stored m c) (hemb t0_0 y)).symm
  · have h := ((cfg0.win 3).blk t0_0).view.emb_mem_set i
    rwa [hemb t0_0 i] at h

/-- The reference's result, from its arguments: both feature sets stacked, each row divided by its norm (at least
    `1e-12`), the rows' products with one another, of those the class rows' with the query columns', scaled, transposed. -/
abbrev ref (s : S32x512.Idx → EReal) (q : S64x512.Idx → EReal) (k : S1.Idx → EReal) : S64x32.Idx → EReal :=
  transpose Cert.RFinalIdeal.S64x32 [1, 0] (mulf (extractStridedSlice Cert.RFinalIdeal.S32x64 ![0, 32] (Host.dotGeneral (F := Ideal) (φ₁ := .f32) (φ₂ := .f32) Cert.RFinalIdeal.dot_S96x512_S512x96_S96x96_1_0_0_1_n_n none (Host.divf (concatenate Cert.RFinalIdeal.S96x512 0 [⟨Cert.RFinalIdeal.S32x512, s⟩, ⟨Cert.RFinalIdeal.S64x512, q⟩] Cert.RFinalIdeal.Gen.concatenates_S32x512_S64x512_S96x512_d0) (broadcastInDim Cert.RFinalIdeal.S96x512 ![0, 1] Cert.RFinalIdeal.Gen.bcast_S96x1_S96x512_0_1 (maximumf (Host.sqrt (broadcastInDim Cert.RFinalIdeal.S96x1 ![0] Cert.RFinalIdeal.Gen.bcast_S96_S96x1_0 (Host.reduceAdd (mulf (concatenate Cert.RFinalIdeal.S96x512 0 [⟨Cert.RFinalIdeal.S32x512, s⟩, ⟨Cert.RFinalIdeal.S64x512, q⟩] Cert.RFinalIdeal.Gen.concatenates_S32x512_S64x512_S96x512_d0) (concatenate Cert.RFinalIdeal.S96x512 0 [⟨Cert.RFinalIdeal.S32x512, s⟩, ⟨Cert.RFinalIdeal.S64x512, q⟩] Cert.RFinalIdeal.Gen.concatenates_S32x512_S64x512_S96x512_d0)) (constant Cert.RFinalIdeal.S_ .f32 0x00000000#32) Cert.RFinalIdeal.Gen.reducesTo_S96x512_S96_d1 Cert.RFinalIdeal.Gen.h_S_))) (broadcastInDim Cert.RFinalIdeal.S96x1 ![] Cert.RFinalIdeal.Gen.bcast_S_S96x1 (constant Cert.RFinalIdeal.S_ .f32 0x2B8CBCCC#32))))) (transpose Cert.RFinalIdeal.S512x96 [1, 0] (Host.divf (concatenate Cert.RFinalIdeal.S96x512 0 [⟨Cert.RFinalIdeal.S32x512, s⟩, ⟨Cert.RFinalIdeal.S64x512, q⟩] Cert.RFinalIdeal.Gen.concatenates_S32x512_S64x512_S96x512_d0) (broadcastInDim Cert.RFinalIdeal.S96x512 ![0, 1] Cert.RFinalIdeal.Gen.bcast_S96x1_S96x512_0_1 (maximumf (Host.sqrt (broadcastInDim Cert.RFinalIdeal.S96x1 ![0] Cert.RFinalIdeal.Gen.bcast_S96_S96x1_0 (Host.reduceAdd (mulf (concatenate Cert.RFinalIdeal.S96x512 0 [⟨Cert.RFinalIdeal.S32x512, s⟩, ⟨Cert.RFinalIdeal.S64x512, q⟩] Cert.RFinalIdeal.Gen.concatenates_S32x512_S64x512_S96x512_d0) (concatenate Cert.RFinalIdeal.S96x512 0 [⟨Cert.RFinalIdeal.S32x512, s⟩, ⟨Cert.RFinalIdeal.S64x512, q⟩] Cert.RFinalIdeal.Gen.concatenates_S32x512_S64x512_S96x512_d0)) (constant Cert.RFinalIdeal.S_ .f32 0x00000000#32) Cert.RFinalIdeal.Gen.reducesTo_S96x512_S96_d1 Cert.RFinalIdeal.Gen.h_S_))) (broadcastInDim Cert.RFinalIdeal.S96x1 ![] Cert.RFinalIdeal.Gen.bcast_S_S96x1 (constant Cert.RFinalIdeal.S_ .f32 0x2B8CBCCC#32))))) Cert.RFinalIdeal.Gen.transposes_S96x512_S512x96_1_0)) Cert.RFinalIdeal.Gen.slices_S96x96_S32x64_0_32) (broadcastInDim Cert.RFinalIdeal.S32x64 ![0, 1] Cert.RFinalIdeal.Gen.bcast_S1x1_S32x64_0_1 (broadcastInDim Cert.RFinalIdeal.S1x1 ![1] Cert.RFinalIdeal.Gen.bcast_S1_S1x1_1 k))) Cert.RFinalIdeal.Gen.transposes_S32x64_S64x32_1_0

/-- The call leaves what the reference computes. -/
theorem result_eq (c : Dev nD) : stored m c = ref (aS m c) (aQ m c) (aC m c) := by
  funext i
  unfold ref stored
  idx_vars i
  unfold_payloads
  pointwise
  simp only [blk_s, blk_q, extractAt]
  rw [show (iblk m c 2 t0_0 (ix2 0 0) : EReal) = aC m c (ix1 0) from blk_c m c t0_0]
  refine (mul_comm (G := EReal) _ _).trans ?_
  refine congrArg (fun z : EReal => z * aC m c (ix1 0)) (Finset.sum_congr rfl fun k _ => ?_)
  exact mul_comm (G := EReal) _ _

/-- The claim: from equal arguments the call and the reference end with equal results, their arguments kept. -/
theorem algebraic : Cert.algebraic_KFinalIdeal_RFinalIdeal (hKFinalIdeal := Cert.KFinalIdeal.Gen.facts) (hRFinalIdeal := Cert.RFinalIdeal.Gen.facts) :=
  fun m ρ m' ρ' _ hag => ⟨fun c => stored m c, (θ_run _ _ _).mono (fun _ h c => ⟨(h c).1.trans (result m c), (h c).2⟩) (Cert.KFinalIdeal.Value.run_blocks m ρ),
    (θ_run _ _ _).mono (fun _ h c => ⟨(h c).1.trans (by
      rw [(hag c).1, (hag c).2.1, (hag c).2.2]
      exact (result_eq m c).symm), (h c).2⟩) (Cert.RFinalIdeal.Value.run m' ρ')⟩

end Cert.Final

end
-- ==== Proof.Rank.lean ====
/-
  Sorting a row in descending order, equal entries in index order: the entry that lands at position `a` is the one
  with `a` entries before it.
-/
module

public import Idealize.ShloMosaic.PureOps
public import Idealize.ShloMosaic.Lib.SortFacts
public import Idealize.ShloMosaic.Lib.ValueIdx
public import Idealize.ShloMosaic.Lib.WordSum

@[expose] public section

noncomputable section

namespace Cert.Rank

open Idealize.ShloMosaic Idealize.ShloMosaic.ValueIdx

variable {n : ℕ} (v : Fin n → EReal)

/-- Entry `k` stands before entry `j`: it is greater, or equal and at a lower index. -/
def Above (k j : Fin n) : Prop := v j < v k ∨ (v k = v j ∧ k < j)

/-- How many entries stand before entry `j`. -/
def rank (j : Fin n) : ℕ := by
  classical exact (Finset.univ.filter fun k => Above v k j).card

/-- The entry that the descending sort puts at position `a`. -/
def top (a : Fin n) : Fin n := sortedFrom (fun k k' => decide (v k' < v k)) a

/-- No entry stands before itself. -/
theorem not_above_self (k : Fin n) : ¬Above v k k := by
  rintro (h | ⟨-, h⟩)
  · exact lt_irrefl _ h
  · exact lt_irrefl _ h

/-- Of two entries at most one stands before the other. -/
theorem above_asymm {k j : Fin n} (h : Above v k j) : ¬Above v j k := by
  rintro (h' | ⟨h', h''⟩) <;> rcases h with h | ⟨h, h3⟩
  · exact lt_asymm h h'
  · exact absurd h (ne_of_lt h')
  · exact absurd h' (ne_of_lt h)
  · exact lt_asymm h3 h''

/-- Inserting an entry of a lower index than those of an ordered list keeps the list ordered. -/
theorem ordered_insert (a : Fin n) (l : List (Fin n)) (ha : ∀ b ∈ l, a < b) (hl : l.Pairwise (Above v)) :
    (insertBefore (fun k k' => decide (v k' < v k)) a l).Pairwise (Above v) := by
  induction l with
  | nil => simp [insertBefore]
  | cons b l ih =>
    have hb := (List.pairwise_cons.mp hl).1
    have hl' := (List.pairwise_cons.mp hl).2
    unfold insertBefore
    by_cases h : v a < v b
    · rw [if_pos (by simpa using h)]
      refine List.pairwise_cons.mpr ⟨fun x hx => ?_, ih (fun x hx => ha x (List.mem_cons_of_mem _ hx)) hl'⟩
      have hx' : x = a ∨ x ∈ l := by simpa using (perm_insertBefore (fun k k' => decide (v k' < v k)) a l).mem_iff.mp hx
      rcases hx' with rfl | hx'
      · exact Or.inl h
      · exact hb x hx'
    · rw [if_neg (by simpa using h)]
      have hba : v b ≤ v a := not_lt.mp h
      refine List.pairwise_cons.mpr ⟨fun x hx => ?_, hl⟩
      have hxb : v x ≤ v b := by
        have hx' : x = b ∨ x ∈ l := by simpa using hx
        rcases hx' with rfl | hx'
        · exact le_rfl
        · rcases hb x hx' with h1 | ⟨h1, -⟩
          · exact h1.le
          · exact h1.ge
      rcases (hxb.trans hba).lt_or_eq with h1 | h1
      · exact Or.inl h1
      · exact Or.inr ⟨h1.symm, ha x hx⟩

/-- The sort leaves its entries in order. -/
theorem ordered_sort (l : List (Fin n)) (hl : l.Pairwise (· < ·)) :
    (stableSort (fun k k' => decide (v k' < v k)) l).Pairwise (Above v) := by
  induction l with
  | nil => simp [stableSort]
  | cons a l ih =>
    have h := List.pairwise_cons.mp hl
    unfold stableSort
    exact ordered_insert v a _ (fun b hb => h.1 b ((perm_stableSort _ l).mem_iff.mp hb)) (ih h.2)

/-- An earlier position's entry stands before a later one's. -/
theorem above_of_lt {a b : Fin n} (h : a < b) : Above v (top v a) (top v b) := by
  have hp : (sortPositions n (fun k k' => decide (v k' < v k))).Pairwise (Above v) :=
    ordered_sort v _ (List.pairwise_lt_finRange n)
  exact List.pairwise_iff_get.mp hp _ _ (by simpa using h)

/-- The sort is a bijection of the positions. -/
theorem top_bijective : Function.Bijective (top v) := ⟨sortedFrom_injective _, sortedFrom_surjective _⟩

/-- The entries before the one at position `a` are those at earlier positions. -/
theorem above_top_iff (a b : Fin n) : Above v (top v b) (top v a) ↔ b < a := by
  refine ⟨fun h => ?_, above_of_lt v⟩
  by_contra hn
  rcases (not_lt.mp hn).lt_or_eq with h1 | h1
  · exact above_asymm v h (above_of_lt v h1)
  · subst h1; exact not_above_self v _ h

/-- The entry at position `a` has `a` entries before it. -/
theorem rank_top (a : Fin n) : rank v (top v a) = a.val := by
  classical
  have e : (Finset.univ.filter fun k => Above v k (top v a)) = (Finset.univ.filter fun b : Fin n => b < a).map ⟨top v, (top_bijective v).1⟩ := by
    ext k
    obtain ⟨b, rfl⟩ := (top_bijective v).2 k
    simp only [Finset.mem_filter, Finset.mem_univ, true_and, Finset.mem_map, Function.Embedding.coeFn_mk]
    rw [above_top_iff]
    constructor
    · exact fun h => ⟨b, h, rfl⟩
    · rintro ⟨b', h, h'⟩; rwa [← (top_bijective v).1 h']
  unfold rank
  rw [show (Finset.univ.filter fun k => Above v k (top v a)).card = _ from by rw [e, Finset.card_map]]
  rw [show (Finset.univ.filter fun b : Fin n => b < a) = Finset.Iio a from by ext; simp]
  simp

/-- Entry `j` lands at position `a` exactly if `a` entries stand before it. -/
theorem top_eq_iff (a j : Fin n) : top v a = j ↔ rank v j = a.val := by
  constructor
  · rintro rfl; exact rank_top v a
  · intro h
    obtain ⟨b, rfl⟩ := (top_bijective v).2 j
    rw [rank_top] at h
    rw [Fin.ext h]

/-- A rank is below the number of entries. -/
theorem rank_lt (j : Fin n) : rank v j < n := by
  obtain ⟨b, rfl⟩ := (top_bijective v).2 j
  rw [rank_top]; exact b.isLt

/-- The positions that the host's top-k of a whole row returns are the sort's. -/
theorem topK_idx {n0 : ℕ} (x : (⟨2, ![n0, n]⟩ : Shape).Idx → EReal)
    (h : (⟨2, ![n0, n]⟩ : Shape).Slices (fun _ => 0) (⟨2, ![n0, n]⟩ : Shape)) (i : Fin n0) (a : Fin n) :
    (Host.topK (⟨2, ![n0, n]⟩ : Shape) 1 (FloatOps.cmpfTotal (F := Ideal) (φ := .f32) .gt) x h).2 (ix2 i a)
      = BitVec.ofNat 32 (top (fun j => x (ix2 i j)) a).val := by
  have hcmp : ∀ y z : EReal, (FloatOps.cmpfTotal (F := Ideal) (φ := .f32) .gt y z == 1#1) = decide (z < y) := by
    intro y z
    show (BitVec.ofBool (decide (z < y)) == 1#1) = _
    cases decide (z < y) <;> rfl
  have hal : ∀ k : Fin n, Shape.Idx.along (s := (⟨2, ![n0, n]⟩ : Shape)) (ix2 i a) 1 k = ix2 i k := by
    intro k
    funext b
    match b with
    | ⟨0, _⟩ => rfl
    | ⟨1, _⟩ => rfl
  have hidx : (fun b => ⟨(0 : ℕ) + (ix2 i a (b.cast h.1.symm)).val, Nat.lt_of_lt_of_le (Nat.add_lt_add_left (ix2 i a _).isLt _) (h.2 b)⟩
      : (⟨2, ![n0, n]⟩ : Shape).Idx) = ix2 i a := by
    funext b
    exact Fin.ext (Nat.zero_add _)
  unfold Host.topK Host.sort2
  simp only [dif_pos (show 1 < (⟨2, ![n0, n]⟩ : Shape).rank from Nat.one_lt_two)]
  unfold extractStridedSlice
  rw [hidx]
  show BitVec.ofNat 32 (sortedFrom (fun k k' : Fin n => FloatOps.cmpfTotal (F := Ideal) (φ := .f32) .gt
    (x (Shape.Idx.along (s := (⟨2, ![n0, n]⟩ : Shape)) (ix2 i a) 1 k)) (x (Shape.Idx.along (s := (⟨2, ![n0, n]⟩ : Shape)) (ix2 i a) 1 k')) == 1#1) a).val = _
  unfold top
  simp only [hcmp, hal]

end Cert.Rank
-- ==== Proof.PrepKernel.lean ====
/-
  The arithmetic of the call that builds a half-step's graph rows, entry by entry: the products of the scaled rows, each
  row's order as one-hot rows, and the products read in that order.
-/
module
public import proofs.«01_k».proof.Defs
public import proofs.«01_k».proof.Proof.Gen.KPrepIdeal.Value
public import proofs.«01_k».proof.Proof.Rank
public import Idealize.ShloMosaic.Lib.Pointwise
public import Idealize.ShloMosaic.Lib.Claim

@[expose] public section

set_option maxRecDepth 16384

noncomputable section

namespace Cert.Prep

open Cert.KPrepIdeal Cert.KPrepIdeal.Gen Cert.Rank
open Idealize.ShloMosaic Idealize.ShloMosaic.TcCoe Idealize.SL.Sem

/-- The bit of a decision is one exactly when the proposition holds. -/
theorem ofBool_iff (p : Prop) [Decidable p] : BitVec.ofBool (decide p) = 1#1 ↔ p := by
  by_cases h : p <;> simp [h]

/-- Counting, in 32-bit words, the entries that stand before entry `j` gives the rank of entry `j`. -/
theorem fold_rank {n : ℕ} (v : Fin n → EReal) (j : Fin n) (f : Fin n → BitVec 32)
    (h1 : ∀ x, Above v x j → f x = 1#32) (h0 : ∀ x, ¬Above v x j → f x = 0#32) :
    Finset.fold IntOp.addi (0#32) f Finset.univ = BitVec.ofNat 32 (rank v j) := by
  classical
  have key : ∀ S : Finset (Fin n), Finset.fold IntOp.addi (0#32) f S = BitVec.ofNat 32 ((S.filter fun k => Above v k j).card) := by
    intro S
    induction S using Finset.induction_on with
    | empty => simp
    | insert a S ha ih =>
      rw [Finset.fold_insert ha, ih, Finset.filter_insert]
      by_cases hA : Above v a j
      · rw [if_pos hA, h1 a hA, Finset.card_insert_of_notMem (by simp [ha])]
        show 1#32 + _ = _
        rw [BitVec.add_comm, ← BitVec.ofNat_add]
      · rw [if_neg hA, h0 a hA]
        exact BitVec.zero_add _
  unfold rank
  convert key Finset.univ

/-- The word that tells whether one entry stands before another. -/
theorem above_word {n : ℕ} (hn : n ≤ 2 ^ 31) (v : Fin n → EReal) (j x : Fin n) (b1 b2 : BitVec 1)
    (e1 : b1 = 1#1 ↔ v j < v x) (e2 : b2 = 1#1 ↔ v x = v j) :
    (Above v x j → BitVec.setWidth 32 (IntOp.ori b1 (IntOp.andi b2 (IntOp.cmpi .slt (BitVec.ofNat 32 x.val) (BitVec.ofNat 32 j.val)))) = 1#32) ∧
    (¬Above v x j → BitVec.setWidth 32 (IntOp.ori b1 (IntOp.andi b2 (IntOp.cmpi .slt (BitVec.ofNat 32 x.val) (BitVec.ofNat 32 j.val)))) = 0#32) := by
  have hb : ∀ b : BitVec 1, b = 0#1 ∨ b = 1#1 := by decide
  have hs : IntOp.cmpi .slt (BitVec.ofNat 32 x.val) (BitVec.ofNat 32 j.val) = BitVec.ofBool (decide (x < j)) := by
    have hx := x.isLt; have hj := j.isLt
    show BitVec.ofBool (BitVec.slt _ _) = _
    congr 1
    rw [BitVec.slt_eq_decide]
    rw [BitVec.toInt_eq_toNat_of_lt (by simp; omega), BitVec.toInt_eq_toNat_of_lt (by simp; omega)]
    simp only [BitVec.toNat_ofNat]
    rw [Nat.mod_eq_of_lt (by omega), Nat.mod_eq_of_lt (by omega)]
    simp
  rw [hs]
  unfold Above
  by_cases h3 : x < j
  · rw [decide_eq_true h3]
    rcases hb b1 with rfl | rfl <;> rcases hb b2 with rfl | rfl <;> simp_all [IntOp.ori, IntOp.andi]
  · rw [decide_eq_false h3]
    clear hs
    rcases hb b1 with rfl | rfl <;> rcases hb b2 with rfl | rfl <;> simp_all [IntOp.ori, IntOp.andi]

variable (s : S32x512.Idx → EReal) (q : S64x512.Idx → EReal)

/-- The products of the scaled rows with one another. -/
abbrev gram : S96x96.Idx → EReal := k0_pay2 (F := Ideal) s q

/-- The products are symmetric. -/
theorem gram_symm (i j : Fin 96) : gram s q (ix2 i j) = gram s q (ix2 j i) := by
  unfold gram k0_pay2
  pointwise
  exact Finset.sum_congr rfl fun k _ => mul_comm (G := EReal) _ _

/-- A support row, as a row of the whole. -/
abbrev sx (j : Fin 32) : Fin 96 := ⟨j.val, by omega⟩
/-- A query row, as a row of the whole. -/
abbrev qx (j : Fin 64) : Fin 96 := ⟨32 + j.val, by omega⟩

/-- The kernel's first columns are the products with the support rows. -/
theorem svals_at (n : Fin 96) (j : Fin 32) : k0_pay3 (F := Ideal) s q (ix2 n j) = gram s q (ix2 n (sx j)) := by
  unfold k0_pay3
  pointwise
/-- The kernel's other columns are the products with the query rows. -/
theorem qvals_at (n : Fin 96) (j : Fin 64) : k0_pay4 (F := Ideal) s q (ix2 n j) = gram s q (ix2 n (qx j)) := by
  unfold k0_pay4
  pointwise

/-- The products of row `n` with the support rows. -/
abbrev srow (n : Fin 96) : Fin 32 → EReal := fun j => gram s q (ix2 n (sx j))
/-- The products of row `n` with the query rows. -/
abbrev qrow (n : Fin 96) : Fin 64 → EReal := fun j => gram s q (ix2 n (qx j))

/-- Equal 32-bit words of two numbers that fit are equal numbers. -/
theorem word_inj {a b : ℕ} (ha : a < 2 ^ 32) (hb : b < 2 ^ 32) (h : BitVec.ofNat 32 a = BitVec.ofNat 32 b) : a = b := by
  have := congrArg BitVec.toNat h
  simp only [BitVec.toNat_ofNat] at this
  rwa [Nat.mod_eq_of_lt ha, Nat.mod_eq_of_lt hb] at this

/-- Comparing a position with an entry's rank tells whether the sort puts that entry there. -/
theorem onehot_sel {n : ℕ} (hn : n ≤ 2 ^ 31) (v : Fin n → EReal) (a j : Fin n) (x y : EReal) :
    Scalar.select (IntOp.cmpi .eq (BitVec.ofNat 32 a.val) (BitVec.ofNat 32 (rank v j))) x y
      = if top v a = j then x else y := by
  have hr := rank_lt v j
  have ha := a.isLt
  by_cases h : top v a = j
  · rw [if_pos h, (top_eq_iff v a j).mp h]
    simp [Scalar.select, IntOp.cmpi]
  · rw [if_neg h]
    have : BitVec.ofNat 32 a.val ≠ BitVec.ofNat 32 (rank v j) := fun e =>
      h ((top_eq_iff v a j).mpr (word_inj (by omega) (by omega) e).symm)
    simp [Scalar.select, IntOp.cmpi, beq_eq_false_iff_ne.mpr this]

/-- The kernel's one-hot row `(n, a)` points at the support row that the sort puts at position `a`. -/
theorem ps_at (n : Fin 96) (a j : Fin 32) :
    k0_pay5 (F := Ideal) s q (ix3 n a j) = if top (srow s q n) a = j then 1 else 0 := by
  unfold k0_pay5
  pointwise
  simp only [svals_at]
  rw [fold_rank (srow s q n) j]
  · exact onehot_sel (by norm_num) _ _ _ _ _
  · intro x
    refine (above_word (by norm_num) (srow s q n) j x _ _ ?_ ?_).1 <;> exact ofBool_iff _
  · intro x
    refine (above_word (by norm_num) (srow s q n) j x _ _ ?_ ?_).2 <;> exact ofBool_iff _

/-- The one-hot rows of the query products, as the kernel computes them. -/
abbrev pq : S96x64x64.Idx → EReal :=
  k0_pay8 (F := Ideal) (k0_pay6 (F := Ideal) s q) (k0_pay7 (F := Ideal) s q) (iota .tc S96x64x64 32 [2] iota_S96x64x64_d2_w32)

/-- The same for the query rows. -/
theorem pq_at (n : Fin 96) (a j : Fin 64) :
    pq s q (ix3 n a j) = if top (qrow s q n) a = j then 1 else 0 := by
  unfold pq k0_pay8 k0_pay7 k0_pay6
  pointwise
  simp only [qvals_at]
  rw [fold_rank (qrow s q n) j]
  · exact onehot_sel (by norm_num) _ _ _ _ _
  · intro x
    refine (above_word (by norm_num) (qrow s q n) j x _ _ ?_ ?_).1 <;> exact ofBool_iff _
  · intro x
    refine (above_word (by norm_num) (qrow s q n) j x _ _ ?_ ?_).2 <;> exact ofBool_iff _

/-- A sum against a one-hot row is the entry that the row points at. -/
theorem sum_onehot {n : ℕ} (i : Fin n) (x : Fin n → EReal) : ∑ j, (if i = j then (1 : EReal) else 0) * x j = x i := by
  classical
  simp

/-- The same with the factors in the other order. -/
theorem sum_onehot' {n : ℕ} (i : Fin n) (x : Fin n → EReal) : ∑ j, x j * (if i = j then (1 : EReal) else 0) = x i := by
  classical
  simp

/-- Row `n`'s products with its support rows, in descending order. -/
theorem vs_at (n : Fin 96) (a : Fin 32) :
    k0_pay9 (F := Ideal) (k0_pay3 (F := Ideal) s q) (k0_pay5 (F := Ideal) s q) (ix2 n a) = gram s q (ix2 n (sx (top (srow s q n) a))) := by
  unfold k0_pay9
  pointwise
  simp only [svals_at, ps_at]
  exact sum_onehot _ _

/-- Row `n`'s products with its query rows, in descending order. -/
theorem vq_at (n : Fin 96) (a : Fin 64) :
    k0_pay10 (F := Ideal) (k0_pay4 (F := Ideal) s q) (k0_pay6 (F := Ideal) s q) (k0_pay7 (F := Ideal) s q) (iota .tc S96x64x64 32 [2] iota_S96x64x64_d2_w32) (ix2 n a) = gram s q (ix2 n (qx (top (qrow s q n) a))) := by
  unfold k0_pay10
  pointwise
  have h := pq_at s q n a
  unfold pq at h
  simp only [qvals_at, h]
  exact sum_onehot _ _

/-- The first two axes as one: row `32 n + a` is row `(n, a)`. -/
theorem flat_at {α : Type} (v : S96x32x32.Idx → α) (n : Fin 96) (a : Fin 32) (k : Fin 32) :
    shapeCast S3072x32 v shapeCasts_S96x32x32_S3072x32 (ix2 ⟨32 * n.val + a.val, by omega⟩ k) = v (ix3 n a k) := by
  refine shapeCast_apply _ _ _ _ ?_
  rw [Shape.rowMajor_val_three, Shape.rowMajor_val_two]
  show ((n.val * 32 + a.val) * 32 + k.val) = (32 * n.val + a.val) * 32 + k.val
  omega

/-- One axis as two: row `(n, a)` is row `32 n + a`. -/
theorem unflat_s_at {α : Type} (v : S3072x32.Idx → α) (n : Fin 96) (a : Fin 32) (k : Fin 32) :
    shapeCast S96x32x32 v shapeCasts_S3072x32_S96x32x32 (ix3 n a k) = v (ix2 ⟨32 * n.val + a.val, by omega⟩ k) := by
  refine shapeCast_apply _ _ _ _ ?_
  rw [Shape.rowMajor_val_three, Shape.rowMajor_val_two]
  show (32 * n.val + a.val) * 32 + k.val = ((n.val * 32 + a.val) * 32 + k.val)
  omega

/-- The same for rows of 64. -/
theorem unflat_q_at {α : Type} (v : S3072x64.Idx → α) (n : Fin 96) (a : Fin 32) (k : Fin 64) :
    shapeCast S96x32x64 v shapeCasts_S3072x64_S96x32x64 (ix3 n a k) = v (ix2 ⟨32 * n.val + a.val, by omega⟩ k) := by
  refine shapeCast_apply _ _ _ _ ?_
  rw [Shape.rowMajor_val_three, Shape.rowMajor_val_two]
  show (32 * n.val + a.val) * 64 + k.val = ((n.val * 32 + a.val) * 64 + k.val)
  omega

/-- Row by row, the product of a matrix with the other's transpose. -/
theorem mm_s_at (x y : S96x32x32.Idx → EReal) (n : Fin 96) (a b : Fin 32) :
    matmul (F := Ideal) (φ₁ := .f32) (φ₂ := .f32) dot_S96x32x32_S96x32x32_S96x32x32_2_2_1_1_0_0 none x y
      (constant S96x32x32 .f32 0x00000000#32) (ix3 n a b) = ∑ k : Fin 32, x (ix3 n a k) * y (ix3 n b k) := by
  pointwise

/-- The same with a right factor of 64 rows. -/
theorem mm_q_at (x : S96x32x64.Idx → EReal) (y : S96x64x64.Idx → EReal) (n : Fin 96) (a : Fin 32) (b : Fin 64) :
    matmul (F := Ideal) (φ₁ := .f32) (φ₂ := .f32) dot_S96x32x64_S96x64x64_S96x32x64_2_2_1_1_0_0 none x y
      (constant S96x32x64 .f32 0x00000000#32) (ix3 n a b) = ∑ k : Fin 64, x (ix3 n a k) * y (ix3 n b k) := by
  pointwise

/-- Rows times the products among the support rows. -/
theorem rows_s_at (x : S3072x32.Idx → EReal) (g : S96x96.Idx → EReal) (r : Fin 3072) (k : Fin 32) :
    matmul (F := Ideal) (φ₁ := .f32) (φ₂ := .f32) dot_S3072x32_S32x32_S3072x32_1_0_0_1_n_n none x
      (extractStridedSlice S32x32 ![0, 0] g slices_S96x96_o0_0_S32x32)
      (constant S3072x32 .f32 0x00000000#32) (ix2 r k) = ∑ j : Fin 32, x (ix2 r j) * g (ix2 (sx j) (sx k)) := by
  pointwise

/-- Rows times the products of the support rows with the query rows. -/
theorem rows_q_at (x : S3072x32.Idx → EReal) (g : S96x96.Idx → EReal) (r : Fin 3072) (k : Fin 64) :
    matmul (F := Ideal) (φ₁ := .f32) (φ₂ := .f32) dot_S3072x32_S32x64_S3072x64_1_0_0_1_n_n none x
      (extractStridedSlice S32x64 ![0, 32] g slices_S96x96_o0_32_S32x64)
      (constant S3072x64 .f32 0x00000000#32) (ix2 r k) = ∑ j : Fin 32, x (ix2 r j) * g (ix2 (sx j) (qx k)) := by
  pointwise

/-- The products among row `n`'s support rows, both taken in row `n`'s order. -/
theorem ss_at (n : Fin 96) (a b : Fin 32) :
    k0_pay11 (F := Ideal) (gram s q) (k0_pay5 (F := Ideal) s q) (ix3 n a b)
      = gram s q (ix2 (sx (top (srow s q n) a)) (sx (top (srow s q n) b))) := by
  refine (mm_s_at _ _ n a b).trans ?_
  simp only [unflat_s_at, rows_s_at, flat_at, ps_at]
  rw [sum_onehot' (top (srow s q n) b)]
  exact sum_onehot _ _

/-- The products of row `n`'s support rows with its query rows, both taken in row `n`'s order. -/
theorem sq_at (n : Fin 96) (a : Fin 32) (b : Fin 64) :
    k0_pay12 (F := Ideal) (gram s q) (k0_pay5 (F := Ideal) s q) (k0_pay6 (F := Ideal) s q) (k0_pay7 (F := Ideal) s q)
        (iota .tc S96x64x64 32 [2] iota_S96x64x64_d2_w32) (ix3 n a b)
      = gram s q (ix2 (sx (top (srow s q n) a)) (qx (top (qrow s q n) b))) := by
  refine (mm_q_at _ _ n a b).trans ?_
  have h := pq_at s q n b
  unfold pq at h
  simp only [unflat_q_at, rows_q_at, flat_at, ps_at, h]
  rw [sum_onehot' (top (qrow s q n) b)]
  exact sum_onehot _ _

end Cert.Prep
-- ==== Proof.PrepTri.lean ====
/-
  Which pairs of a 97-vertex graph are kept, in the order in which they are kept: row 0 with all later columns, then
  row `a + 1`, for `a` below 32, with the columns after it.
-/
module

public import Idealize.ShloMosaic.PureOps

@[expose] public section

namespace Cert.Tri

/-- Where row `a + 1` of the pairs begins among the kept pairs. -/
def rowStart (a : ℕ) : ℕ := 96 + 95 * a - a * (a - 1) / 2

/-- The row of the `p`-th kept pair: how many rows begin at or before it, besides the first. -/
def triRow (p : ℕ) : ℕ := ((List.range 32).filter fun a => decide (rowStart a ≤ p)).length

/-- The column of the `p`-th kept pair. -/
def triCol (p : ℕ) : ℕ := if triRow p = 0 then p + 1 else p - rowStart (triRow p - 1) + triRow p + 1

end Cert.Tri
-- ==== Proof.PrepBlock.lean ====
/-
  What the kernel stores in its three results, from the two arrays it reads.
-/
module
public import proofs.«01_k».proof.Proof.PrepKernel
public import proofs.«01_k».proof.Proof.PrepTri

@[expose] public section

set_option maxRecDepth 16384

noncomputable section

namespace Cert.Prep

open Cert.KPrepIdeal Cert.KPrepIdeal.Gen Cert.Rank Cert.Tri
open Idealize.ShloMosaic Idealize.ShloMosaic.TcCoe Idealize.SL.Sem

/-- The origin of a plane. -/
theorem hz2 : (![0, 0] : Fin 2 → ℕ) = 0 := by funext i; fin_cases i <;> rfl
/-- The origin of a space. -/
theorem hz3 : (![0, 0, 0] : Fin 3 → ℕ) = 0 := by funext i; fin_cases i <;> rfl

variable (s : S32x512.Idx → EReal) (q : S64x512.Idx → EReal)

/-- Vertex `k` of row `n`'s graph, as a row of the whole: the row itself, then its support rows in descending order of
    their products with it, then its query rows. -/
def vertex (n : Fin 96) (k : ℕ) : Fin 96 :=
  if k = 0 then n
  else if h : k - 1 < 32 then sx (top (srow s q n) ⟨k - 1, h⟩)
  else if h : k - 33 < 64 then qx (top (qrow s q n) ⟨k - 33, h⟩)
  else n

/-- Vertex zero is the row itself. -/
theorem vertex_zero (n : Fin 96) : vertex s q n 0 = n := rfl

/-- The next 32 vertices are the support rows in row `n`'s order. -/
theorem vertex_s (n : Fin 96) (a : Fin 32) (k : ℕ) (hk : k = a.val + 1) : vertex s q n k = sx (top (srow s q n) a) := by
  subst hk
  unfold vertex
  rw [if_neg (by omega), dif_pos (show a.val + 1 - 1 < 32 by omega)]
  rfl

/-- The last 64 vertices are the query rows in row `n`'s order. -/
theorem vertex_q (n : Fin 96) (b : Fin 64) (k : ℕ) (hk : k = b.val + 33) : vertex s q n k = qx (top (qrow s q n) b) := by
  subst hk
  unfold vertex
  rw [if_neg (by omega), dif_neg (by omega), dif_pos (show b.val + 33 - 33 < 64 by omega)]
  congr 3

/-- What the kernel puts in its first result: for each row the products of its kept pairs of vertices. -/
def pairs (i : S96x2640.Idx) : EReal :=
  gram s q (ix2 (vertex s q (i 0) (triRow (i 1).val)) (vertex s q (i 0) (triCol (i 1).val)))

/-- What the first result holds in a band of columns. -/
theorem piece_at (off w : ℕ) (inb) (n : Fin 96) (j : Fin w) (r k : ℕ) (hr : triRow (off + j.val) = r) (hk : triCol (off + j.val) = k) :
    pairs s q ((Rect.unit (s := S96x2640) ![0, off] ![96, w] inb).emb (ix2 n j))
      = gram s q (ix2 (vertex s q n r) (vertex s q n k)) := by
  subst hr hk
  have e0 : ((Rect.unit (s := S96x2640) ![0, off] ![96, w] inb).emb (ix2 n j)) 0 = n := Fin.ext (by show 0 + 1 * n.val = n.val; omega)
  have e1 : (((Rect.unit (s := S96x2640) ![0, off] ![96, w] inb).emb (ix2 n j)) 1).val = off + j.val := by show off + 1 * j.val = _; omega
  unfold pairs
  rw [e0, e1]

/-- The products of a row's vertex `a` with the support vertices after it. -/
theorem piece_s (a off w : ℕ) (ha : a + 1 + w ≤ 32) (inb) (P : (⟨2, ![96, w]⟩ : Shape).Idx → EReal)
    (hP : ∀ (n : Fin 96) (j : Fin w), P (ix2 n j)
      = k0_pay11 (F := Ideal) (gram s q) (k0_pay5 (F := Ideal) s q) (ix3 n ⟨a, by omega⟩ ⟨a + 1 + j.val, by omega⟩))
    (hT : ∀ j : Fin w, triRow (off + j.val) = a + 1 ∧ triCol (off + j.val) = a + 2 + j.val) (x : (⟨2, ![96, w]⟩ : Shape).Idx) :
    P x = pairs s q ((Rect.unit (s := S96x2640) ![0, off] ![96, w] inb).emb x) := by
  obtain ⟨n, j, rfl⟩ : ∃ n j, x = ix2 n j := ⟨x 0, x 1, by funext k; fin_cases k <;> rfl⟩
  rw [hP, ss_at, piece_at s q off w inb n j _ _ (hT j).1 (hT j).2]
  rw [vertex_s s q n ⟨a, by omega⟩ _ rfl, vertex_s s q n ⟨a + 1 + j.val, by omega⟩ _ (by simp only; omega)]

/-- The products of a row's vertex `a` with the query vertices. -/
theorem piece_q (a off : ℕ) (ha : a < 32) (inb) (P : (⟨2, ![96, 64]⟩ : Shape).Idx → EReal)
    (hP : ∀ (n : Fin 96) (j : Fin 64), P (ix2 n j)
      = k0_pay12 (F := Ideal) (gram s q) (k0_pay5 (F := Ideal) s q) (k0_pay6 (F := Ideal) s q) (k0_pay7 (F := Ideal) s q)
        (iota .tc S96x64x64 32 [2] iota_S96x64x64_d2_w32) (ix3 n ⟨a, ha⟩ j))
    (hT : ∀ j : Fin 64, triRow (off + j.val) = a + 1 ∧ triCol (off + j.val) = j.val + 33) (x : (⟨2, ![96, 64]⟩ : Shape).Idx) :
    P x = pairs s q ((Rect.unit (s := S96x2640) ![0, off] ![96, 64] inb).emb x) := by
  obtain ⟨n, j, rfl⟩ : ∃ n j, x = ix2 n j := ⟨x 0, x 1, by funext k; fin_cases k <;> rfl⟩
  rw [hP, sq_at, piece_at s q off 64 inb n j _ _ (hT j).1 (hT j).2]
  rw [vertex_s s q n ⟨a, ha⟩ _ rfl, vertex_q s q n j _ rfl]

/-- The products of a row with its support vertices. -/
theorem piece_vs (inb) (x : (⟨2, ![96, 32]⟩ : Shape).Idx) :
    k0_pay9 (F := Ideal) (k0_pay3 (F := Ideal) s q) (k0_pay5 (F := Ideal) s q) x
      = pairs s q ((Rect.unit (s := S96x2640) ![0, 0] ![96, 32] inb).emb x) := by
  obtain ⟨n, j, rfl⟩ : ∃ n j, x = ix2 n j := ⟨x 0, x 1, by funext k; fin_cases k <;> rfl⟩
  have hT : ∀ j : Fin 32, triRow (0 + j.val) = 0 ∧ triCol (0 + j.val) = j.val + 1 := by decide +kernel
  rw [piece_at s q 0 32 inb n j _ _ (hT j).1 (hT j).2, vertex_zero, vertex_s s q n j _ rfl]
  exact vs_at s q n j

/-- The products of a row with its query vertices. -/
theorem piece_vq (inb) (x : (⟨2, ![96, 64]⟩ : Shape).Idx) :
    k0_pay10 (F := Ideal) (k0_pay4 (F := Ideal) s q) (k0_pay6 (F := Ideal) s q) (k0_pay7 (F := Ideal) s q) (iota .tc S96x64x64 32 [2] iota_S96x64x64_d2_w32) x
      = pairs s q ((Rect.unit (s := S96x2640) ![0, 32] ![96, 64] inb).emb x) := by
  obtain ⟨n, j, rfl⟩ : ∃ n j, x = ix2 n j := ⟨x 0, x 1, by funext k; fin_cases k <;> rfl⟩
  have hT : ∀ j : Fin 64, triRow (32 + j.val) = 0 ∧ triCol (32 + j.val) = j.val + 33 := by decide +kernel
  rw [piece_at s q 32 64 inb n j _ _ (hT j).1 (hT j).2, vertex_zero, vertex_q s q n j _ rfl]
  exact vq_at s q n j

section
variable (c : Dev nD) (a0 : Memref sig .tc .vmem S32x512 .f32) (h0 : a0.IsWhole) (a1 : Memref sig .tc .vmem S64x512 .f32) (h1 : a1.IsWhole) (a2 : Memref sig .tc .vmem S96x2640 .f32) (h2 : a2.IsWhole) (a3 : Memref sig .tc .vmem S96x32x32 .f32) (h3 : a3.IsWhole) (a4 : Memref sig .tc .vmem S96x64x64 .f32) (h4 : a4.IsWhole)

/-- The kernel stores the one-hot rows of the support products … -/
theorem block_ps : out0_A_3 (F := Ideal) c a0 h0 a1 h1 a2 h2 a3 h3 a4 h4 s q = k0_pay5 (F := Ideal) s q := by
  unfold out0_A_3
  rw [View.read_writes_eq_canon _ _ _ (cover0_A_3 _ _ _ _ _ _ _ _ _ _ _ _ _)]
  unfold kernelRun0_A
  dsimp only
  try sl_unfold_words
  rw [View.canon_unit_zero hz3]
  simp only [View.readAt_eq_ld, h0.read_unread, h1.read_unread, View.ld_unit_zero (S := S32x512) hz2, View.ld_unit_zero (S := S64x512) hz2, shapeCast_self]

/-- … those of the query products … -/
theorem block_pq : out0_A_4 (F := Ideal) c a0 h0 a1 h1 a2 h2 a3 h3 a4 h4 s q = pq s q := by
  unfold out0_A_4
  rw [View.read_writes_eq_canon _ _ _ (cover0_A_4 _ _ _ _ _ _ _ _ _ _ _ _ _)]
  unfold kernelRun0_A
  dsimp only
  try sl_unfold_words
  rw [View.canon_unit_zero hz3]
  simp only [View.readAt_eq_ld, h0.read_unread, h1.read_unread, View.ld_unit_zero (S := S32x512) hz2, View.ld_unit_zero (S := S64x512) hz2, shapeCast_self]

/-- … and the products of the kept pairs of vertices. -/
theorem block_pairs : out0_A_2 (F := Ideal) c a0 h0 a1 h1 a2 h2 a3 h3 a4 h4 s q = pairs s q := by
  unfold out0_A_2
  rw [View.read_writes_eq_canon _ _ _ (cover0_A_2 _ _ _ _ _ _ _ _ _ _ _ _ _)]
  funext y
  refine View.canon_apply_of_pieces (Val := Elt Ideal) (e := .f32) (pairs s q) _ ?_ y (cover0_A_2 _ _ _ _ _ _ _ _ _ _ _ _ _ y)
  unfold kernelRun0_A
  dsimp only
  try sl_unfold_words
  simp only [View.readAt_eq_ld, h0.read_unread, h1.read_unread, View.ld_unit_zero (S := S32x512) hz2, View.ld_unit_zero (S := S64x512) hz2, shapeCast_self]
  refine List.forall_mem_cons.2 ⟨?_, ?_⟩
  · exact fun x => piece_q s q 31 2576 (by decide) inb_S96x2640_S96x64_0_2576 _ (fun n j => by unfold k0_pay1; pointwise) (by decide +kernel) x
  refine List.forall_mem_cons.2 ⟨?_, ?_⟩
  · exact fun x => piece_q s q 30 2512 (by decide) inb_S96x2640_S96x64_0_2512 _ (fun n j => by unfold k0_pay74; pointwise) (by decide +kernel) x
  refine List.forall_mem_cons.2 ⟨?_, ?_⟩
  · exact fun x => piece_s s q 30 2511 1 (by decide) inb_S96x2640_S96x1_0_2511 _ (fun n j => by unfold k0_pay73; pointwise) (by decide +kernel) x
  refine List.forall_mem_cons.2 ⟨?_, ?_⟩
  · exact fun x => piece_q s q 29 2447 (by decide) inb_S96x2640_S96x64_0_2447 _ (fun n j => by unfold k0_pay72; pointwise) (by decide +kernel) x
  refine List.forall_mem_cons.2 ⟨?_, ?_⟩
  · exact fun x => piece_s s q 29 2445 2 (by decide) inb_S96x2640_S96x2_0_2445 _ (fun n j => by unfold k0_pay71; pointwise) (by decide +kernel) x
  refine List.forall_mem_cons.2 ⟨?_, ?_⟩
  · exact fun x => piece_q s q 28 2381 (by decide) inb_S96x2640_S96x64_0_2381 _ (fun n j => by unfold k0_pay70; pointwise) (by decide +kernel) x
  refine List.forall_mem_cons.2 ⟨?_, ?_⟩
  · exact fun x => piece_s s q 28 2378 3 (by decide) inb_S96x2640_S96x3_0_2378 _ (fun n j => by unfold k0_pay69; pointwise) (by decide +kernel) x
  refine List.forall_mem_cons.2 ⟨?_, ?_⟩
  · exact fun x => piece_q s q 27 2314 (by decide) inb_S96x2640_S96x64_0_2314 _ (fun n j => by unfold k0_pay68; pointwise) (by decide +kernel) x
  refine List.forall_mem_cons.2 ⟨?_, ?_⟩
  · exact fun x => piece_s s q 27 2310 4 (by decide) inb_S96x2640_S96x4_0_2310 _ (fun n j => by unfold k0_pay67; pointwise) (by decide +kernel) x
  refine List.forall_mem_cons.2 ⟨?_, ?_⟩
  · exact fun x => piece_q s q 26 2246 (by decide) inb_S96x2640_S96x64_0_2246 _ (fun n j => by unfold k0_pay66; pointwise) (by decide +kernel) x
  refine List.forall_mem_cons.2 ⟨?_, ?_⟩
  · exact fun x => piece_s s q 26 2241 5 (by decide) inb_S96x2640_S96x5_0_2241 _ (fun n j => by unfold k0_pay65; pointwise) (by decide +kernel) x
  refine List.forall_mem_cons.2 ⟨?_, ?_⟩
  · exact fun x => piece_q s q 25 2177 (by decide) inb_S96x2640_S96x64_0_2177 _ (fun n j => by unfold k0_pay64; pointwise) (by decide +kernel) x
  refine List.forall_mem_cons.2 ⟨?_, ?_⟩
  · exact fun x => piece_s s q 25 2171 6 (by decide) inb_S96x2640_S96x6_0_2171 _ (fun n j => by unfold k0_pay63; pointwise) (by decide +kernel) x
  refine List.forall_mem_cons.2 ⟨?_, ?_⟩
  · exact fun x => piece_q s q 24 2107 (by decide) inb_S96x2640_S96x64_0_2107 _ (fun n j => by unfold k0_pay62; pointwise) (by decide +kernel) x
  refine List.forall_mem_cons.2 ⟨?_, ?_⟩
  · exact fun x => piece_s s q 24 2100 7 (by decide) inb_S96x2640_S96x7_0_2100 _ (fun n j => by unfold k0_pay61; pointwise) (by decide +kernel) x
  refine List.forall_mem_cons.2 ⟨?_, ?_⟩
  · exact fun x => piece_q s q 23 2036 (by decide) inb_S96x2640_S96x64_0_2036 _ (fun n j => by unfold k0_pay60; pointwise) (by decide +kernel) x
  refine List.forall_mem_cons.2 ⟨?_, ?_⟩
  · exact fun x => piece_s s q 23 2028 8 (by decide) inb_S96x2640_S96x8_0_2028 _ (fun n j => by unfold k0_pay59; pointwise) (by decide +kernel) x
  refine List.forall_mem_cons.2 ⟨?_, ?_⟩
  · exact fun x => piece_q s q 22 1964 (by decide) inb_S96x2640_S96x64_0_1964 _ (fun n j => by unfold k0_pay58; pointwise) (by decide +kernel) x
  refine List.forall_mem_cons.2 ⟨?_, ?_⟩
  · exact fun x => piece_s s q 22 1955 9 (by decide) inb_S96x2640_S96x9_0_1955 _ (fun n j => by unfold k0_pay57; pointwise) (by decide +kernel) x
  refine List.forall_mem_cons.2 ⟨?_, ?_⟩
  · exact fun x => piece_q s q 21 1891 (by decide) inb_S96x2640_S96x64_0_1891 _ (fun n j => by unfold k0_pay56; pointwise) (by decide +kernel) x
  refine List.forall_mem_cons.2 ⟨?_, ?_⟩
  · exact fun x => piece_s s q 21 1881 10 (by decide) inb_S96x2640_S96x10_0_1881 _ (fun n j => by unfold k0_pay55; pointwise) (by decide +kernel) x
  refine List.forall_mem_cons.2 ⟨?_, ?_⟩
  · exact fun x => piece_q s q 20 1817 (by decide) inb_S96x2640_S96x64_0_1817 _ (fun n j => by unfold k0_pay54; pointwise) (by decide +kernel) x
  refine List.forall_mem_cons.2 ⟨?_, ?_⟩
  · exact fun x => piece_s s q 20 1806 11 (by decide) inb_S96x2640_S96x11_0_1806 _ (fun n j => by unfold k0_pay53; pointwise) (by decide +kernel) x
  refine List.forall_mem_cons.2 ⟨?_, ?_⟩
  · exact fun x => piece_q s q 19 1742 (by decide) inb_S96x2640_S96x64_0_1742 _ (fun n j => by unfold k0_pay52; pointwise) (by decide +kernel) x
  refine List.forall_mem_cons.2 ⟨?_, ?_⟩
  · exact fun x => piece_s s q 19 1730 12 (by decide) inb_S96x2640_S96x12_0_1730 _ (fun n j => by unfold k0_pay51; pointwise) (by decide +kernel) x
  refine List.forall_mem_cons.2 ⟨?_, ?_⟩
  · exact fun x => piece_q s q 18 1666 (by decide) inb_S96x2640_S96x64_0_1666 _ (fun n j => by unfold k0_pay50; pointwise) (by decide +kernel) x
  refine List.forall_mem_cons.2 ⟨?_, ?_⟩
  · exact fun x => piece_s s q 18 1653 13 (by decide) inb_S96x2640_S96x13_0_1653 _ (fun n j => by unfold k0_pay49; pointwise) (by decide +kernel) x
  refine List.forall_mem_cons.2 ⟨?_, ?_⟩
  · exact fun x => piece_q s q 17 1589 (by decide) inb_S96x2640_S96x64_0_1589 _ (fun n j => by unfold k0_pay48; pointwise) (by decide +kernel) x
  refine List.forall_mem_cons.2 ⟨?_, ?_⟩
  · exact fun x => piece_s s q 17 1575 14 (by decide) inb_S96x2640_S96x14_0_1575 _ (fun n j => by unfold k0_pay47; pointwise) (by decide +kernel) x
  refine List.forall_mem_cons.2 ⟨?_, ?_⟩
  · exact fun x => piece_q s q 16 1511 (by decide) inb_S96x2640_S96x64_0_1511 _ (fun n j => by unfold k0_pay46; pointwise) (by decide +kernel) x
  refine List.forall_mem_cons.2 ⟨?_, ?_⟩
  · exact fun x => piece_s s q 16 1496 15 (by decide) inb_S96x2640_S96x15_0_1496 _ (fun n j => by unfold k0_pay45; pointwise) (by decide +kernel) x
  refine List.forall_mem_cons.2 ⟨?_, ?_⟩
  · exact fun x => piece_q s q 15 1432 (by decide) inb_S96x2640_S96x64_0_1432 _ (fun n j => by unfold k0_pay44; pointwise) (by decide +kernel) x
  refine List.forall_mem_cons.2 ⟨?_, ?_⟩
  · exact fun x => piece_s s q 15 1416 16 (by decide) inb_S96x2640_S96x16_0_1416 _ (fun n j => by unfold k0_pay43; pointwise) (by decide +kernel) x
  refine List.forall_mem_cons.2 ⟨?_, ?_⟩
  · exact fun x => piece_q s q 14 1352 (by decide) inb_S96x2640_S96x64_0_1352 _ (fun n j => by unfold k0_pay42; pointwise) (by decide +kernel) x
  refine List.forall_mem_cons.2 ⟨?_, ?_⟩
  · exact fun x => piece_s s q 14 1335 17 (by decide) inb_S96x2640_S96x17_0_1335 _ (fun n j => by unfold k0_pay41; pointwise) (by decide +kernel) x
  refine List.forall_mem_cons.2 ⟨?_, ?_⟩
  · exact fun x => piece_q s q 13 1271 (by decide) inb_S96x2640_S96x64_0_1271 _ (fun n j => by unfold k0_pay40; pointwise) (by decide +kernel) x
  refine List.forall_mem_cons.2 ⟨?_, ?_⟩
  · exact fun x => piece_s s q 13 1253 18 (by decide) inb_S96x2640_S96x18_0_1253 _ (fun n j => by unfold k0_pay39; pointwise) (by decide +kernel) x
  refine List.forall_mem_cons.2 ⟨?_, ?_⟩
  · exact fun x => piece_q s q 12 1189 (by decide) inb_S96x2640_S96x64_0_1189 _ (fun n j => by unfold k0_pay38; pointwise) (by decide +kernel) x
  refine List.forall_mem_cons.2 ⟨?_, ?_⟩
  · exact fun x => piece_s s q 12 1170 19 (by decide) inb_S96x2640_S96x19_0_1170 _ (fun n j => by unfold k0_pay37; pointwise) (by decide +kernel) x
  refine List.forall_mem_cons.2 ⟨?_, ?_⟩
  · exact fun x => piece_q s q 11 1106 (by decide) inb_S96x2640_S96x64_0_1106 _ (fun n j => by unfold k0_pay36; pointwise) (by decide +kernel) x
  refine List.forall_mem_cons.2 ⟨?_, ?_⟩
  · exact fun x => piece_s s q 11 1086 20 (by decide) inb_S96x2640_S96x20_0_1086 _ (fun n j => by unfold k0_pay35; pointwise) (by decide +kernel) x
  refine List.forall_mem_cons.2 ⟨?_, ?_⟩
  · exact fun x => piece_q s q 10 1022 (by decide) inb_S96x2640_S96x64_0_1022 _ (fun n j => by unfold k0_pay34; pointwise) (by decide +kernel) x
  refine List.forall_mem_cons.2 ⟨?_, ?_⟩
  · exact fun x => piece_s s q 10 1001 21 (by decide) inb_S96x2640_S96x21_0_1001 _ (fun n j => by unfold k0_pay33; pointwise) (by decide +kernel) x
  refine List.forall_mem_cons.2 ⟨?_, ?_⟩
  · exact fun x => piece_q s q 9 937 (by decide) inb_S96x2640_S96x64_0_937 _ (fun n j => by unfold k0_pay32; pointwise) (by decide +kernel) x
  refine List.forall_mem_cons.2 ⟨?_, ?_⟩
  · exact fun x => piece_s s q 9 915 22 (by decide) inb_S96x2640_S96x22_0_915 _ (fun n j => by unfold k0_pay31; pointwise) (by decide +kernel) x
  refine List.forall_mem_cons.2 ⟨?_, ?_⟩
  · exact fun x => piece_q s q 8 851 (by decide) inb_S96x2640_S96x64_0_851 _ (fun n j => by unfold k0_pay30; pointwise) (by decide +kernel) x
  refine List.forall_mem_cons.2 ⟨?_, ?_⟩
  · exact fun x => piece_s s q 8 828 23 (by decide) inb_S96x2640_S96x23_0_828 _ (fun n j => by unfold k0_pay29; pointwise) (by decide +kernel) x
  refine List.forall_mem_cons.2 ⟨?_, ?_⟩
  · exact fun x => piece_q s q 7 764 (by decide) inb_S96x2640_S96x64_0_764 _ (fun n j => by unfold k0_pay28; pointwise) (by decide +kernel) x
  refine List.forall_mem_cons.2 ⟨?_, ?_⟩
  · exact fun x => piece_s s q 7 740 24 (by decide) inb_S96x2640_S96x24_0_740 _ (fun n j => by unfold k0_pay27; pointwise) (by decide +kernel) x
  refine List.forall_mem_cons.2 ⟨?_, ?_⟩
  · exact fun x => piece_q s q 6 676 (by decide) inb_S96x2640_S96x64_0_676 _ (fun n j => by unfold k0_pay26; pointwise) (by decide +kernel) x
  refine List.forall_mem_cons.2 ⟨?_, ?_⟩
  · exact fun x => piece_s s q 6 651 25 (by decide) inb_S96x2640_S96x25_0_651 _ (fun n j => by unfold k0_pay25; pointwise) (by decide +kernel) x
  refine List.forall_mem_cons.2 ⟨?_, ?_⟩
  · exact fun x => piece_q s q 5 587 (by decide) inb_S96x2640_S96x64_0_587 _ (fun n j => by unfold k0_pay24; pointwise) (by decide +kernel) x
  refine List.forall_mem_cons.2 ⟨?_, ?_⟩
  · exact fun x => piece_s s q 5 561 26 (by decide) inb_S96x2640_S96x26_0_561 _ (fun n j => by unfold k0_pay23; pointwise) (by decide +kernel) x
  refine List.forall_mem_cons.2 ⟨?_, ?_⟩
  · exact fun x => piece_q s q 4 497 (by decide) inb_S96x2640_S96x64_0_497 _ (fun n j => by unfold k0_pay22; pointwise) (by decide +kernel) x
  refine List.forall_mem_cons.2 ⟨?_, ?_⟩
  · exact fun x => piece_s s q 4 470 27 (by decide) inb_S96x2640_S96x27_0_470 _ (fun n j => by unfold k0_pay21; pointwise) (by decide +kernel) x
  refine List.forall_mem_cons.2 ⟨?_, ?_⟩
  · exact fun x => piece_q s q 3 406 (by decide) inb_S96x2640_S96x64_0_406 _ (fun n j => by unfold k0_pay20; pointwise) (by decide +kernel) x
  refine List.forall_mem_cons.2 ⟨?_, ?_⟩
  · exact fun x => piece_s s q 3 378 28 (by decide) inb_S96x2640_S96x28_0_378 _ (fun n j => by unfold k0_pay19; pointwise) (by decide +kernel) x
  refine List.forall_mem_cons.2 ⟨?_, ?_⟩
  · exact fun x => piece_q s q 2 314 (by decide) inb_S96x2640_S96x64_0_314 _ (fun n j => by unfold k0_pay18; pointwise) (by decide +kernel) x
  refine List.forall_mem_cons.2 ⟨?_, ?_⟩
  · exact fun x => piece_s s q 2 285 29 (by decide) inb_S96x2640_S96x29_0_285 _ (fun n j => by unfold k0_pay17; pointwise) (by decide +kernel) x
  refine List.forall_mem_cons.2 ⟨?_, ?_⟩
  · exact fun x => piece_q s q 1 221 (by decide) inb_S96x2640_S96x64_0_221 _ (fun n j => by unfold k0_pay16; pointwise) (by decide +kernel) x
  refine List.forall_mem_cons.2 ⟨?_, ?_⟩
  · exact fun x => piece_s s q 1 191 30 (by decide) inb_S96x2640_S96x30_0_191 _ (fun n j => by unfold k0_pay15; pointwise) (by decide +kernel) x
  refine List.forall_mem_cons.2 ⟨?_, ?_⟩
  · exact fun x => piece_q s q 0 127 (by decide) inb_S96x2640_S96x64_0_127 _ (fun n j => by unfold k0_pay14; pointwise) (by decide +kernel) x
  refine List.forall_mem_cons.2 ⟨?_, ?_⟩
  · exact fun x => piece_s s q 0 96 31 (by decide) inb_S96x2640_S96x31_0_96 _ (fun n j => by unfold k0_pay13; pointwise) (by decide +kernel) x
  refine List.forall_mem_cons.2 ⟨?_, ?_⟩
  · exact fun x => piece_vq s q inb_S96x2640_S96x64_0_32 x
  refine List.forall_mem_cons.2 ⟨?_, ?_⟩
  · exact fun x => piece_vs s q inb_S96x2640_S96x32_0_0 x
  exact fun p hp => absurd hp List.not_mem_nil

end
end Cert.Prep
-- ==== Proof.PrepRef.lean ====
/-
  What the reference computes: the products of the scaled rows, each row's descending order of its products, and the
  products among the rows so ordered, read through the three gathers.
-/
module
public import proofs.«01_k».proof.Defs
public import proofs.«01_k».proof.Proof.Gen.RPrepIdeal.Run
public import proofs.«01_k».proof.Proof.Rank
public import proofs.«01_k».proof.Proof.PrepTri
public import Idealize.ShloMosaic.Lib.Pointwise
public import Idealize.ShloMosaic.Lib.Claim

@[expose] public section

set_option maxRecDepth 16384

noncomputable section

namespace Cert.PrepRef

open Cert.RPrepIdeal Cert.RPrepIdeal.Gen Cert.RPrepIdeal.Value Cert.Rank Cert.Tri
open Idealize.ShloMosaic Idealize.ShloMosaic.TcCoe Idealize.SL.Sem

/-- The rows of both arrays, one after the other. -/
def stacked (s : S32x512.Idx → EReal) (q : S64x512.Idx → EReal) : S96x512.Idx → EReal :=
  concatenate S96x512 0 [⟨S32x512, s⟩, ⟨S64x512, q⟩] concatenates_S32x512_S64x512_S96x512_d0

/-- Each row divided by its norm. -/
def scaled (f : S96x512.Idx → EReal) : S96x512.Idx → EReal :=
  Host.divf (F := Ideal) (φ := .f32) f (broadcastInDim S96x512 ![0, 1] bcast_S96x1_S96x512_0_1 (maximumf (F := Ideal) (φ := .f32) (Host.sqrt (F := Ideal) (φ := .f32) (broadcastInDim S96x1 ![0] bcast_S96_S96x1_0 (Host.reduceAdd (F := Ideal) (φ := .f32) (mulf (F := Ideal) (φ := .f32) f f) (constant S_ .f32 0x00000000#32) reducesTo_S96x512_S96_d1 h_S_))) (broadcastInDim S96x1 ![] bcast_S_S96x1 (constant S_ .f32 0x2B8CBCCC#32))))

/-- The products of the scaled rows with one another. -/
def gram (s : S32x512.Idx → EReal) (q : S64x512.Idx → EReal) : S96x96.Idx → EReal :=
  Host.dotGeneral (F := Ideal) (φ₁ := .f32) (φ₂ := .f32) dot_S96x512_S512x96_S96x96_1_0_0_1_n_n none (scaled (stacked s q)) (transpose S512x96 [1, 0] (scaled (stacked s q)) transposes_S96x512_S512x96_1_0)

section
variable (g : S96x96.Idx → EReal)

/-- Every row's products with the support rows. -/
def toSupp : S96x32.Idx → EReal :=
  transpose S96x32 [1, 0] (concatenate S32x96 1 [⟨S32x32, extractStridedSlice S32x32 ![0, 0] g slices_S96x96_S32x32_0_0⟩, ⟨S32x64, extractStridedSlice S32x64 ![0, 32] g slices_S96x96_S32x64_0_32⟩] concatenates_S32x32_S32x64_S32x96_d1) transposes_S32x96_S96x32_1_0

/-- Every row's products with the query rows. -/
def toQuery : S96x64.Idx → EReal :=
  concatenate S96x64 0 [⟨S32x64, extractStridedSlice S32x64 ![0, 32] g slices_S96x96_S32x64_0_32⟩, ⟨S64x64, extractStridedSlice S64x64 ![32, 32] g slices_S96x96_S64x64_32_32⟩] concatenates_S32x64_S64x64_S96x64_d0

/-- The support rows of each row in descending order of their products with it. -/
def orderS : IVec S96x32 32 := (Host.topK S96x32 1 (FloatOps.cmpfTotal (F := Ideal) (φ := .f32) .gt) (toSupp g) sliceFits_S96x32_S96x32).2

/-- The query rows of each row in descending order of their products with it. -/
def orderQ : IVec S96x64 32 := (Host.topK S96x64 1 (FloatOps.cmpfTotal (F := Ideal) (φ := .f32) .gt) (toQuery g) sliceFits_S96x64_S96x64).2

/-- The vertices of each row's graph. -/
def vertices : IVec S96x97 32 :=
  concatenate S96x97 1 [⟨S96x1, broadcastInDim S96x1 ![0] bcast_S96_S96x1_0 (iotaInDim S96 32 0)⟩, ⟨S96x96, concatenate S96x96 1 [⟨S96x32, orderS g⟩, ⟨S96x64, addi (orderQ g) (broadcastInDim S96x64 ![] bcast_S_S96x64 (constantI S_ 32 32#32))⟩] concatenates_S96x32_S96x64_S96x96_d1⟩] concatenates_S96x1_S96x96_S96x97_d1

/-- The same as start indices of a gather. -/
def starts : IVec S96x97x1 32 :=
  broadcastInDim S96x97x1 ![0, 1] bcast_S96x97_S96x97x1_0_1 (select (cmpi .slt (vertices g) (broadcastInDim S96x97 ![] bcast_S_S96x97 (constantI S_ 32 0#32))) (addi (vertices g) (broadcastInDim S96x97 ![] bcast_S_S96x97 (constantI S_ 32 96#32))) (vertices g))

/-- All the products, put together again. -/
def whole : S96x96.Idx → EReal :=
  concatenate S96x96 1 [⟨S96x32, toSupp g⟩, ⟨S96x64, toQuery g⟩] concatenates_S96x32_S96x64_S96x96_d1

/-- The rows of the products at the vertices. -/
def rows : S96x97x96.Idx → EReal := Host.gather gather_S96x96_S96x97x1_S96x97x96_2_0_n_n_0_2_196 (whole g) (starts g)

/-- The products at the pairs of vertices. -/
def square : S96x97x97.Idx → EReal := Host.gather gather_S96x97x96_S96x97x1_S96x97x97_1_2_0_0_2_2_1971 (rows g) (starts g)

/-- The positions of the kept pairs. -/
def kept : IVec S2640 32 := fun i => lit0 (S2640.rowMajor i)

/-- The same as start indices of a gather. -/
def keptStarts : IVec S2640x1 32 :=
  broadcastInDim S2640x1 ![0] bcast_S2640_S2640x1_0 (select (cmpi .slt kept (broadcastInDim S2640 ![] bcast_S_S2640 (constantI S_ 32 0#32))) (addi kept (broadcastInDim S2640 ![] bcast_S_S2640 (constantI S_ 32 9409#32))) kept)

/-- The products at the kept pairs. -/
def result : S96x2640.Idx → EReal := Host.gather gather_S96x9409_S2640x1_S96x2640_0_1_n_n_1_1_961 (shapeCast S96x9409 (square g) shapeCasts_S96x97x97_S96x9409) keptStarts

/-- The order of the support rows, one-hot. -/
def onehotS : S96x32x32.Idx → EReal :=
  uitofp (F := Ideal) .f32 (cmpi .eq (broadcastInDim S96x32x32 ![0, 1, 2] bcast_S96x32x1_S96x32x32_0_1_2 (broadcastInDim S96x32x1 ![0, 1] bcast_S96x32_S96x32x1_0_1 (orderS g))) (broadcastInDim S96x32x32 ![0, 1, 2] bcast_S1x1x32_S96x32x32_0_1_2 (iotaInDim S1x1x32 32 2)))

/-- The order of the query rows, one-hot. -/
def onehotQ : S96x64x64.Idx → EReal :=
  uitofp (F := Ideal) .f32 (cmpi .eq (broadcastInDim S96x64x64 ![0, 1, 2] bcast_S96x64x1_S96x64x64_0_1_2 (broadcastInDim S96x64x1 ![0, 1] bcast_S96x64_S96x64x1_0_1 (orderQ g))) (broadcastInDim S96x64x64 ![0, 1, 2] bcast_S1x1x64_S96x64x64_0_1_2 (iotaInDim S1x1x64 32 2)))

end

section
variable (m : (ℓ : Loc nD τ sig) → Buf (Elt Ideal) ℓ) (c : Dev nD)

/-- The support rows, as launched. -/
abbrev aS : S32x512.Idx → EReal := m ((c.tc : Thread nD τ).loc main_arg0)
/-- The query rows, as launched. -/
abbrev aQ : S64x512.Idx → EReal := m ((c.tc : Thread nD τ).loc main_arg1)

/-- The first result, in these words. -/
theorem out0_eq : res_main_v44 (F := Ideal) m c = result (gram (aS m c) (aQ m c)) := rfl

/-- The second result, in these words. -/
theorem out1_eq : res_main_v14 (F := Ideal) m c = onehotS (gram (aS m c) (aQ m c)) := rfl

/-- The third result, in these words. -/
theorem out2_eq : res_main_v15 (F := Ideal) m c = onehotQ (gram (aS m c) (aQ m c)) := rfl

end

section
variable (g : S96x96.Idx → EReal)

/-- Row `n`'s products with the support rows. -/
abbrev srow (n : Fin 96) : Fin 32 → EReal := fun j => g (ix2 n ⟨j.val, by omega⟩)
/-- Row `n`'s products with the query rows. -/
abbrev qrow (n : Fin 96) : Fin 64 → EReal := fun j => g (ix2 n ⟨32 + j.val, by omega⟩)

/-- Vertex `k` of row `n`'s graph: the row itself, then its support rows in descending order of their products with it,
    then its query rows. -/
def vertex (n : Fin 96) (k : ℕ) : Fin 96 :=
  if k = 0 then n
  else if h : k - 1 < 32 then ⟨(top (srow g n) ⟨k - 1, h⟩).val, by omega⟩
  else if h : k - 33 < 64 then ⟨32 + (top (qrow g n) ⟨k - 33, h⟩).val, by omega⟩
  else n

/-- A small word is not negative, so it is taken as it is. -/
theorem select_nonneg (k : ℕ) (hk : k < 2 ^ 31) (y : BitVec 32) :
    Scalar.select (IntOp.cmpi .slt (BitVec.ofNat 32 k) 0#32) y (BitVec.ofNat 32 k) = BitVec.ofNat 32 k := by
  have h : IntOp.cmpi .slt (BitVec.ofNat 32 k) 0#32 = 0#1 := by
    show BitVec.ofBool (BitVec.slt _ _) = _
    rw [BitVec.slt_eq_decide, BitVec.toInt_eq_toNat_of_lt (by simp; omega)]
    simp only [BitVec.toNat_ofNat, BitVec.toInt_zero]
    rw [decide_eq_false (by omega)]
    rfl
  rw [h]
  rfl

/-- A small word read signed. -/
theorem toInt_small (k : ℕ) (hk : k < 2 ^ 31) : (BitVec.ofNat 32 k).toInt.toNat = k := by
  rw [BitVec.toInt_eq_toNat_of_lt (by simp; omega)]
  simp only [BitVec.toNat_ofNat, Int.toNat_natCast]
  exact Nat.mod_eq_of_lt (by omega)

variable (hg : ∀ i j, g (ix2 i j) = g (ix2 j i))
include hg

/-- Row `n`'s product with support row `j`. -/
theorem toSupp_at (n : Fin 96) (j : Fin 32) : toSupp g (ix2 n j) = srow g n j := by
  unfold toSupp
  pointwise
  split
  · exact hg _ _
  · next h => exact (congrArg g (congrArg (ix2 _) (Fin.ext (by show 32 + (n.val - 32) = n.val; omega)))).trans (hg _ n)

/-- Row `n`'s product with query row `j`. -/
theorem toQuery_at (n : Fin 96) (j : Fin 64) : toQuery g (ix2 n j) = qrow g n j := by
  unfold toQuery
  pointwise
  split
  · rfl
  · next h => exact congrArg g (congrArg (ix2 · _) (Fin.ext (by show 32 + (n.val - 32) = n.val; omega)))

/-- Position `a` of the reference's order is the support row that the sort puts there. -/
theorem orderS_at (n : Fin 96) (a : Fin 32) : orderS g (ix2 n a) = BitVec.ofNat 32 (top (srow g n) a).val := by
  have h := topK_idx (toSupp g) sliceFits_S96x32_S96x32 n a
  rw [show (fun j => toSupp g (ValueIdx.ix2 n j)) = srow g n from funext fun j => toSupp_at g hg n j] at h
  exact h

/-- The same for the query rows. -/
theorem orderQ_at (n : Fin 96) (a : Fin 64) : orderQ g (ix2 n a) = BitVec.ofNat 32 (top (qrow g n) a).val := by
  have h := topK_idx (toQuery g) sliceFits_S96x64_S96x64 n a
  rw [show (fun j => toQuery g (ValueIdx.ix2 n j)) = qrow g n from funext fun j => toQuery_at g hg n j] at h
  exact h

/-- The table of vertices, entry by entry. -/
theorem vertices_at (n : Fin 96) (k : Fin 97) : vertices g (ix2 n k) = BitVec.ofNat 32 (vertex g n k.val).val := by
  unfold vertices vertex
  pointwise
  simp only [orderS_at g hg, orderQ_at g hg]
  by_cases h0 : k.val = 0
  · rw [dif_pos (by omega), if_pos h0]
  · rw [dif_neg (by omega), if_neg h0]
    by_cases h1 : k.val - 1 < 32
    · rw [dif_pos h1, dif_pos h1]
    · rw [dif_neg h1, dif_neg h1, dif_pos (by omega)]
      show BitVec.ofNat 32 _ + BitVec.ofNat 32 32 = _
      rw [← BitVec.ofNat_add, Nat.add_comm]
      congr 4

/-- As start indices they are the same words. -/
theorem starts_at (n : Fin 96) (k : Fin 97) : starts g (ix3 n k 0) = BitVec.ofNat 32 (vertex g n k.val).val := by
  unfold starts
  pointwise
  rw [vertices_at g hg]
  exact select_nonneg _ (by have := (vertex g n k.val).isLt; omega) _

/-- Put together again, the products are what they were. -/
theorem whole_at (i j : Fin 96) : whole g (ix2 i j) = g (ix2 i j) := by
  unfold whole
  pointwise
  simp only [toSupp_at g hg, toQuery_at g hg]
  split
  · rfl
  · next h => exact congrArg g (congrArg (ix2 _) (Fin.ext (by show 32 + (j.val - 32) = j.val; omega)))

/-- The first gather takes the vertices' rows. -/
theorem rows_at (n : Fin 96) (k : Fin 97) (j : Fin 96) : rows g (ix3 n k j) = g (ix2 (vertex g n k.val) j) := by
  have hd := starts_at g hg n k
  have hv : (vertex g n k.val).val ≤ 95 := by have := (vertex g n k.val).isLt; omega
  refine (congrArg (whole g) (funext fun a => Fin.ext ?_ : _ = ix2 (vertex g n k.val) j)).trans (whole_at g hg _ _)
  have hs : (gather_S96x96_S96x97x1_S96x97x96_2_0_n_n_0_2_196).siIdx (ix3 n k j) ⟨0, by decide⟩ = ix3 n k 0 := by
    funext b; fin_cases b <;> rfl
  match a with
  | ⟨0, _⟩ =>
    show min ((starts g ((gather_S96x96_S96x97x1_S96x97x96_2_0_n_n_0_2_196).siIdx (ix3 n k j) ⟨0, _⟩)).toInt.toNat) 95 + 0 + 0 = _
    rw [hs, hd, toInt_small _ (by omega)]
    show min _ _ + 0 + 0 = (vertex g n k.val).val
    omega
  | ⟨1, _⟩ =>
    show 0 + 0 + j.val = j.val
    omega

/-- The second gather takes the vertices' columns of them. -/
theorem square_at (n : Fin 96) (k l : Fin 97) : square g (ix3 n k l) = g (ix2 (vertex g n k.val) (vertex g n l.val)) := by
  have hd := starts_at g hg n l
  have hv : (vertex g n l.val).val ≤ 95 := by have := (vertex g n l.val).isLt; omega
  refine (congrArg (rows g) (funext fun a => Fin.ext ?_ : _ = ix3 n k (vertex g n l.val))).trans (rows_at g hg _ _ _)
  have hs : (gather_S96x97x96_S96x97x1_S96x97x97_1_2_0_0_2_2_1971).siIdx (ix3 n k l) ⟨0, by decide⟩ = ix3 n l 0 := by
    funext b; fin_cases b <;> rfl
  match a with
  | ⟨0, _⟩ => show 0 + n.val + 0 = n.val; omega
  | ⟨1, _⟩ => show 0 + 0 + k.val = k.val; omega
  | ⟨2, _⟩ =>
    show min ((starts g ((gather_S96x97x96_S96x97x1_S96x97x97_1_2_0_0_2_2_1971).siIdx (ix3 n k l) ⟨0, _⟩)).toInt.toNat) 95 + 0 + 0 = _
    rw [hs, hd, toInt_small _ (by omega)]
    show min _ _ + 0 + 0 = (vertex g n l.val).val
    omega

omit hg in
/-- The table of the kept pairs, entry by entry. -/
theorem table : ∀ p : Fin 2640, lit0 p = BitVec.ofNat 32 (triRow p.val * 97 + triCol p.val) ∧ triRow p.val < 97 ∧ triCol p.val < 97 := by
  decide +kernel

omit hg in
/-- As start indices the kept positions are the same words. -/
theorem keptStarts_at (p : Fin 2640) : keptStarts (ix2 p 0) = BitVec.ofNat 32 (triRow p.val * 97 + triCol p.val) := by
  have e : kept (ix1 p) = BitVec.ofNat 32 (triRow p.val * 97 + triCol p.val) :=
    (congrArg lit0 (Fin.ext (Shape.rowMajor_val_one (d := ![2640]) (ix1 p)) : S2640.rowMajor (ix1 p) = p)).trans (table p).1
  have h1 := (table p).2.1
  have h2 := (table p).2.2
  unfold keptStarts
  pointwise
  rw [e]
  exact select_nonneg _ (by omega) _

/-- The reference's first result: for each row the products of its kept pairs of vertices. -/
theorem result_at (n : Fin 96) (p : Fin 2640) :
    result g (ix2 n p) = g (ix2 (vertex g n (triRow p.val)) (vertex g n (triCol p.val))) := by
  have hd := keptStarts_at p
  obtain ⟨-, h1, h2⟩ := table p
  have hs : (gather_S96x9409_S2640x1_S96x2640_0_1_n_n_1_1_961).siIdx (ix2 n p) ⟨0, by decide⟩ = ix2 p 0 := by
    funext b; fin_cases b <;> rfl
  have hr : triRow p.val * 97 + triCol p.val < 9409 := by omega
  refine (congrArg (shapeCast S96x9409 (square g) shapeCasts_S96x97x97_S96x9409) (funext fun a => Fin.ext ?_ : _ = ix2 n ⟨_, hr⟩)).trans ?_
  · match a with
    | ⟨0, _⟩ => show 0 + 0 + n.val = n.val; omega
    | ⟨1, _⟩ =>
      show min ((keptStarts ((gather_S96x9409_S2640x1_S96x2640_0_1_n_n_1_1_961).siIdx (ix2 n p) ⟨0, _⟩)).toInt.toNat) 9408 + 0 + 0 = _
      rw [hs, hd, toInt_small _ (by omega)]
      show min _ _ + 0 + 0 = triRow p.val * 97 + triCol p.val
      omega
  · refine (shapeCast_apply _ _ _ (ix3 n ⟨triRow p.val, h1⟩ ⟨triCol p.val, h2⟩) ?_).trans (square_at g hg _ _ _)
    rw [Shape.rowMajor_val_three, Shape.rowMajor_val_two]
    show (n.val * 97 + triRow p.val) * 97 + triCol p.val = n.val * 9409 + (triRow p.val * 97 + triCol p.val)
    omega

end
end Cert.PrepRef
-- ==== Proof.PrepValue.lean ====
/-
  The call that builds a half-step's graph rows: what its three results hold after the call, and that the reference
  computes the same.
-/
module
public import proofs.«01_k».proof.Proof.PrepBlock
public import proofs.«01_k».proof.Proof.PrepRef

@[expose] public section

set_option maxRecDepth 16384

noncomputable section

namespace Cert.Prep

open Cert.KPrepIdeal Cert.KPrepIdeal.Gen Cert.KPrepIdeal.Value Cert.Rank Cert.Tri
open Idealize.ShloMosaic Idealize.ShloMosaic.TcCoe Idealize.SL.Sem
open Idealize.ShloMosaic.Pipeline (Dat)

/-! ## The reference's arrays against the kernel's -/

section
variable (s : S32x512.Idx → EReal) (q : S64x512.Idx → EReal)

/-- Kernel and reference multiply the same scaled rows. -/
theorem gram_eq : PrepRef.gram s q = gram s q := by
  funext i
  unfold PrepRef.gram PrepRef.scaled PrepRef.stacked gram k0_pay2
  idx_vars i
  pointwise

/-- The reference's first result is what the kernel stores. -/
theorem pairs_eq : PrepRef.result (PrepRef.gram s q) = pairs s q := by
  rw [gram_eq]
  funext i
  obtain ⟨n, p, rfl⟩ : ∃ n p, i = ix2 n p := ⟨i 0, i 1, by funext k; fin_cases k <;> rfl⟩
  exact PrepRef.result_at (gram s q) (gram_symm s q) n p

/-- The one-hot word comparison, as a number. -/
theorem onehot_word {n : ℕ} (hn : n ≤ 2 ^ 31) (i j : Fin n) :
    (((IntOp.cmpi .eq (BitVec.ofNat 32 i.val) (BitVec.ofNat 32 j.val)).toNat : ℝ) : EReal) = if i = j then 1 else 0 := by
  have hi := i.isLt
  have hj := j.isLt
  by_cases h : i = j
  · subst h
    simp [IntOp.cmpi]
  · rw [if_neg h]
    have : BitVec.ofNat 32 i.val ≠ BitVec.ofNat 32 j.val := fun e => h (Fin.ext (word_inj (by omega) (by omega) e))
    simp [IntOp.cmpi, beq_eq_false_iff_ne.mpr this]

/-- The reference's one-hot support orders are the kernel's. -/
theorem ps_eq : PrepRef.onehotS (PrepRef.gram s q) = k0_pay5 (F := Ideal) s q := by
  rw [gram_eq]
  funext i
  obtain ⟨n, a, j, rfl⟩ : ∃ n a j, i = ix3 n a j := ⟨i 0, i 1, i 2, by funext k; fin_cases k <;> rfl⟩
  refine Eq.trans ?_ (ps_at s q n a j).symm
  unfold PrepRef.onehotS
  pointwise
  rw [PrepRef.orderS_at (gram s q) (gram_symm s q)]
  exact onehot_word (by norm_num) _ _

/-- The reference's one-hot query orders are the kernel's. -/
theorem pq_eq : PrepRef.onehotQ (PrepRef.gram s q) = pq s q := by
  rw [gram_eq]
  funext i
  obtain ⟨n, a, j, rfl⟩ : ∃ n a j, i = ix3 n a j := ⟨i 0, i 1, i 2, by funext k; fin_cases k <;> rfl⟩
  refine Eq.trans ?_ (pq_at s q n a j).symm
  unfold PrepRef.onehotQ
  pointwise
  rw [PrepRef.orderQ_at (gram s q) (gram_symm s q)]
  exact onehot_word (by norm_num) _ _

end

/-! ## The call -/

variable (m : (ℓ : Loc nD τ sig) → Buf (Elt Ideal) ℓ)

/-- The support rows, as launched. -/
abbrev aS (c : Dev nD) : S32x512.Idx → EReal := m ((c : Thread nD τ).loc main_arg0)
/-- The query rows, as launched. -/
abbrev aQ (c : Dev nD) : S64x512.Idx → EReal := m ((c : Thread nD τ).loc main_arg1)

/-- The call reads the whole of its first argument. -/
theorem blk_s (c : Dev nD) (t : Fin cfg0.N) : iblk m c 0 t = aS m c := by
  have hi : ∀ t : Fin cfg0.N, win0_0.index t 0 = 0 ∧ win0_0.index t 1 = 0 := (by decide +kernel : ∀ t : Fin grid0.N, _)
  funext i
  unfold iblk
  rw [View.read_apply]
  show V m c main_arg0 _ = _
  rw [V_main_arg0]
  refine congrArg (aS m c) (funext fun b => Fin.ext ?_)
  match b with
  | ⟨0, _⟩ => show win0_0.index t 0 * 32 + 1 * (i 0).val = (i 0).val; rw [(hi t).1]; omega
  | ⟨1, _⟩ => show win0_0.index t 1 * 512 + 1 * (i 1).val = (i 1).val; rw [(hi t).2]; omega

/-- The call reads the whole of its second argument. -/
theorem blk_q (c : Dev nD) (t : Fin cfg0.N) : iblk m c 1 t = aQ m c := by
  have hi : ∀ t : Fin cfg0.N, win0_1.index t 0 = 0 ∧ win0_1.index t 1 = 0 := (by decide +kernel : ∀ t : Fin grid0.N, _)
  funext i
  unfold iblk
  rw [View.read_apply]
  show V m c main_arg1 _ = _
  rw [V_main_arg1]
  refine congrArg (aQ m c) (funext fun b => Fin.ext ?_)
  match b with
  | ⟨0, _⟩ => show win0_1.index t 0 * 64 + 1 * (i 0).val = (i 0).val; rw [(hi t).1]; omega
  | ⟨1, _⟩ => show win0_1.index t 1 * 512 + 1 * (i 1).val = (i 1).val; rw [(hi t).2]; omega

/-- The call leaves the products of the kept pairs … -/
theorem result_pairs (c : Dev nD) : (dats m 0 c).arrAt 2 cfg0.N = pairs (aS m c) (aQ m c) := by
  have hi : ∀ t : Fin cfg0.N, win0_2.index t 0 = 0 ∧ win0_2.index t 1 = 0 := (by decide +kernel : ∀ t : Fin grid0.N, _)
  have hemb : ∀ (t : Fin cfg0.N) (y : S96x2640.Idx), ((cfg0.win 2).blk t).view.emb y = y := by
    intro t y
    refine funext fun b => Fin.ext ?_
    match b with
    | ⟨0, _⟩ => show win0_2.index t 0 * 96 + 1 * (y 0).val = (y 0).val; rw [(hi t).1]; omega
    | ⟨1, _⟩ => show win0_2.index t 1 * 2640 + 1 * (y 1).val = (y 1).val; rw [(hi t).2]; omega
  refine (dats m 0 c).arrAt_eq_of_cover 2 (pairs (aS m c) (aQ m c)) (fun t _ => ?_) (fun i => ⟨t0_0, flush0_2 t0_0, ?_⟩)
  · rw [flushed2_A]
    funext y
    rw [View.read_apply, block_pairs, blk_s, blk_q]
    exact (congrArg (pairs (aS m c) (aQ m c)) (hemb t y)).symm
  · have h := ((cfg0.win 2).blk t0_0).view.emb_mem_set i
    rwa [hemb t0_0 i] at h

/-- … the one-hot orders of the support rows … -/
theorem result_ps (c : Dev nD) : (dats m 0 c).arrAt 3 cfg0.N = k0_pay5 (F := Ideal) (aS m c) (aQ m c) := by
  have hi : ∀ t : Fin cfg0.N, win0_3.index t 0 = 0 ∧ win0_3.index t 1 = 0 ∧ win0_3.index t 2 = 0 := (by decide +kernel : ∀ t : Fin grid0.N, _)
  have hemb : ∀ (t : Fin cfg0.N) (y : S96x32x32.Idx), ((cfg0.win 3).blk t).view.emb y = y := by
    intro t y
    refine funext fun b => Fin.ext ?_
    match b with
    | ⟨0, _⟩ => show win0_3.index t 0 * 96 + 1 * (y 0).val = (y 0).val; rw [(hi t).1]; omega
    | ⟨1, _⟩ => show win0_3.index t 1 * 32 + 1 * (y 1).val = (y 1).val; rw [(hi t).2.1]; omega
    | ⟨2, _⟩ => show win0_3.index t 2 * 32 + 1 * (y 2).val = (y 2).val; rw [(hi t).2.2]; omega
  obtain ⟨P, hP⟩ : ∃ P, P = k0_pay5 (F := Ideal) (aS m c) (aQ m c) := ⟨_, rfl⟩
  rw [← hP]
  refine (dats m 0 c).arrAt_eq_of_cover 3 P (fun t _ => ?_) (fun i => ⟨t0_0, flush0_3 t0_0, ?_⟩)
  · rw [flushed3_A]
    funext y
    rw [View.read_apply, block_ps, blk_s, blk_q, ← hP]
    exact (congrArg P (hemb t y)).symm
  · have h := ((cfg0.win 3).blk t0_0).view.emb_mem_set i
    rwa [hemb t0_0 i] at h

/-- … and those of the query rows. -/
theorem result_pq (c : Dev nD) : (dats m 0 c).arrAt 4 cfg0.N = pq (aS m c) (aQ m c) := by
  have hi : ∀ t : Fin cfg0.N, win0_4.index t 0 = 0 ∧ win0_4.index t 1 = 0 ∧ win0_4.index t 2 = 0 := (by decide +kernel : ∀ t : Fin grid0.N, _)
  have hemb : ∀ (t : Fin cfg0.N) (y : S96x64x64.Idx), ((cfg0.win 4).blk t).view.emb y = y := by
    intro t y
    refine funext fun b => Fin.ext ?_
    match b with
    | ⟨0, _⟩ => show win0_4.index t 0 * 96 + 1 * (y 0).val = (y 0).val; rw [(hi t).1]; omega
    | ⟨1, _⟩ => show win0_4.index t 1 * 64 + 1 * (y 1).val = (y 1).val; rw [(hi t).2.1]; omega
    | ⟨2, _⟩ => show win0_4.index t 2 * 64 + 1 * (y 2).val = (y 2).val; rw [(hi t).2.2]; omega
  obtain ⟨P, hP⟩ : ∃ P, P = pq (aS m c) (aQ m c) := ⟨_, rfl⟩
  rw [← hP]
  refine (dats m 0 c).arrAt_eq_of_cover 4 P (fun t _ => ?_) (fun i => ⟨t0_0, flush0_4 t0_0, ?_⟩)
  · rw [flushed4_A]
    funext y
    rw [View.read_apply, block_pq, blk_s, blk_q, ← hP]
    exact (congrArg P (hemb t y)).symm
  · have h := ((cfg0.win 4).blk t0_0).view.emb_mem_set i
    rwa [hemb t0_0 i] at h

/-- The claim: from equal arguments the call and the reference end with equal results, their arguments kept. -/
theorem algebraic : Cert.algebraic_KPrepIdeal_RPrepIdeal (hKPrepIdeal := Cert.KPrepIdeal.Gen.facts) (hRPrepIdeal := Cert.RPrepIdeal.Gen.facts) :=
  fun m ρ m' ρ' _ hag => ⟨fun c => pairs (aS m c) (aQ m c), fun c => k0_pay5 (F := Ideal) (aS m c) (aQ m c), fun c => pq (aS m c) (aQ m c),
    (θ_run _ _ _).mono (fun _ h c => ⟨(h c).1.trans (result_pairs m c), (h c).2.1.trans (result_ps m c), (h c).2.2.1.trans (result_pq m c), (h c).2.2.2⟩) (Cert.KPrepIdeal.Value.run_blocks m ρ),
    (θ_run _ _ _).mono (fun _ h c => by
      have e0 : PrepRef.aS m' c = aS m c := (hag c).1
      have e1 : PrepRef.aQ m' c = aQ m c := (hag c).2
      refine ⟨(h c).1.trans ((PrepRef.out0_eq m' c).trans ?_), (h c).2.1.trans ((PrepRef.out1_eq m' c).trans ?_), (h c).2.2.1.trans ((PrepRef.out2_eq m' c).trans ?_), (h c).2.2.2⟩
      · rw [e0, e1]; exact pairs_eq _ _
      · rw [e0, e1]; exact ps_eq _ _
      · rw [e0, e1]; exact pq_eq _ _) (Cert.RPrepIdeal.Value.run m' ρ')⟩

end Cert.Prep

end
-- ==== Proof.Prep0Block.lean ====
/-
  The first half-step's call averages the shots of each class and then does what the other half-steps' call does: what
  it stores in its four results.
-/
module
public import proofs.«01_k».proof.Proof.Gen.KPrep0Ideal.Value
public import proofs.«01_k».proof.Proof.PrepBlock

@[expose] public section

set_option maxRecDepth 16384

noncomputable section

namespace Cert.Prep0

open Cert.KPrep0Ideal Cert.KPrep0Ideal.Gen Cert.Tri
open Cert.Prep (hz2 hz3 gram pairs pq piece_s piece_q piece_vs piece_vq)
open Idealize.ShloMosaic Idealize.ShloMosaic.TcCoe Idealize.SL.Sem

variable (fs : S32x5x512.Idx → EReal) (q : S64x512.Idx → EReal)

/-- The classes' average rows. -/
abbrev mean : S32x512.Idx → EReal := k0_pay3 (F := Ideal) fs

/-- The products in their orders, support rows on both sides, are those of the other half-steps at the average rows. -/
theorem ss_eq : k0_pay12 (F := Ideal) (k0_pay4 (F := Ideal) fs q) (k0_pay7 (F := Ideal) fs q)
    = Cert.KPrepIdeal.Gen.k0_pay11 (F := Ideal) (gram (mean fs) q) (Cert.KPrepIdeal.Gen.k0_pay5 (F := Ideal) (mean fs) q) := rfl

/-- The same for support rows against query rows. -/
theorem sq_eq : k0_pay13 (F := Ideal) (k0_pay4 (F := Ideal) fs q) (k0_pay6 (F := Ideal) fs q) (k0_pay7 (F := Ideal) fs q) (k0_pay8 (F := Ideal) fs q)
    = Cert.KPrepIdeal.Gen.k0_pay12 (F := Ideal) (gram (mean fs) q) (Cert.KPrepIdeal.Gen.k0_pay5 (F := Ideal) (mean fs) q)
        (Cert.KPrepIdeal.Gen.k0_pay6 (F := Ideal) (mean fs) q) (Cert.KPrepIdeal.Gen.k0_pay7 (F := Ideal) (mean fs) q)
        (iota .tc Cert.KPrepIdeal.S96x64x64 32 [2] Cert.KPrepIdeal.Gen.iota_S96x64x64_d2_w32) := rfl

section
variable (c : Dev nD) (a0 : Memref sig .tc .vmem S32x5x512 .f32) (h0 : a0.IsWhole) (a1 : Memref sig .tc .vmem S64x512 .f32) (h1 : a1.IsWhole) (a2 : Memref sig .tc .vmem S96x2640 .f32) (h2 : a2.IsWhole) (a3 : Memref sig .tc .vmem S96x32x32 .f32) (h3 : a3.IsWhole) (a4 : Memref sig .tc .vmem S96x64x64 .f32) (h4 : a4.IsWhole) (a5 : Memref sig .tc .vmem S32x512 .f32) (h5 : a5.IsWhole)

/-- The kernel stores the average rows … -/
theorem block_mean : out0_A_5 (F := Ideal) c a0 h0 a1 h1 a2 h2 a3 h3 a4 h4 a5 h5 fs q = mean fs := by
  unfold out0_A_5
  rw [View.read_writes_eq_canon _ _ _ (cover0_A_5 _ _ _ _ _ _ _ _ _ _ _ _ _ _ _)]
  unfold kernelRun0_A
  dsimp only
  try sl_unfold_words
  rw [View.canon_unit_zero hz2]
  simp only [View.readAt_eq_ld, h0.read_unread, h1.read_unread, View.ld_unit_zero (S := S32x5x512) hz3, View.ld_unit_zero (S := S64x512) hz2, shapeCast_self]

/-- … the one-hot rows of the support products … -/
theorem block_ps : out0_A_3 (F := Ideal) c a0 h0 a1 h1 a2 h2 a3 h3 a4 h4 a5 h5 fs q = Cert.KPrepIdeal.Gen.k0_pay5 (F := Ideal) (mean fs) q := by
  unfold out0_A_3
  rw [View.read_writes_eq_canon _ _ _ (cover0_A_3 _ _ _ _ _ _ _ _ _ _ _ _ _ _ _)]
  unfold kernelRun0_A
  dsimp only
  try sl_unfold_words
  rw [View.canon_unit_zero hz3]
  simp only [View.readAt_eq_ld, h0.read_unread, h1.read_unread, View.ld_unit_zero (S := S32x5x512) hz3, View.ld_unit_zero (S := S64x512) hz2, shapeCast_self]
  rfl

/-- … those of the query products … -/
theorem block_pq : out0_A_4 (F := Ideal) c a0 h0 a1 h1 a2 h2 a3 h3 a4 h4 a5 h5 fs q = pq (mean fs) q := by
  unfold out0_A_4
  rw [View.read_writes_eq_canon _ _ _ (cover0_A_4 _ _ _ _ _ _ _ _ _ _ _ _ _ _ _)]
  unfold kernelRun0_A
  dsimp only
  try sl_unfold_words
  rw [View.canon_unit_zero hz3]
  simp only [View.readAt_eq_ld, h0.read_unread, h1.read_unread, View.ld_unit_zero (S := S32x5x512) hz3, View.ld_unit_zero (S := S64x512) hz2, shapeCast_self]
  rfl

/-- … and the products of the kept pairs of vertices. -/
theorem block_pairs : out0_A_2 (F := Ideal) c a0 h0 a1 h1 a2 h2 a3 h3 a4 h4 a5 h5 fs q = pairs (mean fs) q := by
  unfold out0_A_2
  rw [View.read_writes_eq_canon _ _ _ (cover0_A_2 _ _ _ _ _ _ _ _ _ _ _ _ _ _ _)]
  funext y
  refine View.canon_apply_of_pieces (Val := Elt Ideal) (e := .f32) (pairs (mean fs) q) _ ?_ y (cover0_A_2 _ _ _ _ _ _ _ _ _ _ _ _ _ _ _ y)
  unfold kernelRun0_A
  dsimp only
  try sl_unfold_words
  simp only [View.readAt_eq_ld, h0.read_unread, h1.read_unread, View.ld_unit_zero (S := S32x5x512) hz3, View.ld_unit_zero (S := S64x512) hz2, shapeCast_self]
  refine List.forall_mem_cons.2 ⟨?_, ?_⟩
  · exact fun x => piece_q (mean fs) q 31 2576 (by decide) inb_S96x2640_S96x64_0_2576 _ (fun n j => by unfold k0_pay2; rw [sq_eq]; pointwise) (by decide +kernel) x
  refine List.forall_mem_cons.2 ⟨?_, ?_⟩
  · exact fun x => piece_q (mean fs) q 30 2512 (by decide) inb_S96x2640_S96x64_0_2512 _ (fun n j => by unfold k0_pay1; rw [sq_eq]; pointwise) (by decide +kernel) x
  refine List.forall_mem_cons.2 ⟨?_, ?_⟩
  · exact fun x => piece_s (mean fs) q 30 2511 1 (by decide) inb_S96x2640_S96x1_0_2511 _ (fun n j => by unfold k0_pay74; rw [ss_eq]; pointwise) (by decide +kernel) x
  refine List.forall_mem_cons.2 ⟨?_, ?_⟩
  · exact fun x => piece_q (mean fs) q 29 2447 (by decide) inb_S96x2640_S96x64_0_2447 _ (fun n j => by unfold k0_pay73; rw [sq_eq]; pointwise) (by decide +kernel) x
  refine List.forall_mem_cons.2 ⟨?_, ?_⟩
  · exact fun x => piece_s (mean fs) q 29 2445 2 (by decide) inb_S96x2640_S96x2_0_2445 _ (fun n j => by unfold k0_pay72; rw [ss_eq]; pointwise) (by decide +kernel) x
  refine List.forall_mem_cons.2 ⟨?_, ?_⟩
  · exact fun x => piece_q (mean fs) q 28 2381 (by decide) inb_S96x2640_S96x64_0_2381 _ (fun n j => by unfold k0_pay71; rw [sq_eq]; pointwise) (by decide +kernel) x
  refine List.forall_mem_cons.2 ⟨?_, ?_⟩
  · exact fun x => piece_s (mean fs) q 28 2378 3 (by decide) inb_S96x2640_S96x3_0_2378 _ (fun n j => by unfold k0_pay70; rw [ss_eq]; pointwise) (by decide +kernel) x
  refine List.forall_mem_cons.2 ⟨?_, ?_⟩
  · exact fun x => piece_q (mean fs) q 27 2314 (by decide) inb_S96x2640_S96x64_0_2314 _ (fun n j => by unfold k0_pay69; rw [sq_eq]; pointwise) (by decide +kernel) x
  refine List.forall_mem_cons.2 ⟨?_, ?_⟩
  · exact fun x => piece_s (mean fs) q 27 2310 4 (by decide) inb_S96x2640_S96x4_0_2310 _ (fun n j => by unfold k0_pay68; rw [ss_eq]; pointwise) (by decide +kernel) x
  refine List.forall_mem_cons.2 ⟨?_, ?_⟩
  · exact fun x => piece_q (mean fs) q 26 2246 (by decide) inb_S96x2640_S96x64_0_2246 _ (fun n j => by unfold k0_pay67; rw [sq_eq]; pointwise) (by decide +kernel) x
  refine List.forall_mem_cons.2 ⟨?_, ?_⟩
  · exact fun x => piece_s (mean fs) q 26 2241 5 (by decide) inb_S96x2640_S96x5_0_2241 _ (fun n j => by unfold k0_pay66; rw [ss_eq]; pointwise) (by decide +kernel) x
  refine List.forall_mem_cons.2 ⟨?_, ?_⟩
  · exact fun x => piece_q (mean fs) q 25 2177 (by decide) inb_S96x2640_S96x64_0_2177 _ (fun n j => by unfold k0_pay65; rw [sq_eq]; pointwise) (by decide +kernel) x
  refine List.forall_mem_cons.2 ⟨?_, ?_⟩
  · exact fun x => piece_s (mean fs) q 25 2171 6 (by decide) inb_S96x2640_S96x6_0_2171 _ (fun n j => by unfold k0_pay64; rw [ss_eq]; pointwise) (by decide +kernel) x
  refine List.forall_mem_cons.2 ⟨?_, ?_⟩
  · exact fun x => piece_q (mean fs) q 24 2107 (by decide) inb_S96x2640_S96x64_0_2107 _ (fun n j => by unfold k0_pay63; rw [sq_eq]; pointwise) (by decide +kernel) x
  refine List.forall_mem_cons.2 ⟨?_, ?_⟩
  · exact fun x => piece_s (mean fs) q 24 2100 7 (by decide) inb_S96x2640_S96x7_0_2100 _ (fun n j => by unfold k0_pay62; rw [ss_eq]; pointwise) (by decide +kernel) x
  refine List.forall_mem_cons.2 ⟨?_, ?_⟩
  · exact fun x => piece_q (mean fs) q 23 2036 (by decide) inb_S96x2640_S96x64_0_2036 _ (fun n j => by unfold k0_pay61; rw [sq_eq]; pointwise) (by decide +kernel) x
  refine List.forall_mem_cons.2 ⟨?_, ?_⟩
  · exact fun x => piece_s (mean fs) q 23 2028 8 (by decide) inb_S96x2640_S96x8_0_2028 _ (fun n j => by unfold k0_pay60; rw [ss_eq]; pointwise) (by decide +kernel) x
  refine List.forall_mem_cons.2 ⟨?_, ?_⟩
  · exact fun x => piece_q (mean fs) q 22 1964 (by decide) inb_S96x2640_S96x64_0_1964 _ (fun n j => by unfold k0_pay59; rw [sq_eq]; pointwise) (by decide +kernel) x
  refine List.forall_mem_cons.2 ⟨?_, ?_⟩
  · exact fun x => piece_s (mean fs) q 22 1955 9 (by decide) inb_S96x2640_S96x9_0_1955 _ (fun n j => by unfold k0_pay58; rw [ss_eq]; pointwise) (by decide +kernel) x
  refine List.forall_mem_cons.2 ⟨?_, ?_⟩
  · exact fun x => piece_q (mean fs) q 21 1891 (by decide) inb_S96x2640_S96x64_0_1891 _ (fun n j => by unfold k0_pay57; rw [sq_eq]; pointwise) (by decide +kernel) x
  refine List.forall_mem_cons.2 ⟨?_, ?_⟩
  · exact fun x => piece_s (mean fs) q 21 1881 10 (by decide) inb_S96x2640_S96x10_0_1881 _ (fun n j => by unfold k0_pay56; rw [ss_eq]; pointwise) (by decide +kernel) x
  refine List.forall_mem_cons.2 ⟨?_, ?_⟩
  · exact fun x => piece_q (mean fs) q 20 1817 (by decide) inb_S96x2640_S96x64_0_1817 _ (fun n j => by unfold k0_pay55; rw [sq_eq]; pointwise) (by decide +kernel) x
  refine List.forall_mem_cons.2 ⟨?_, ?_⟩
  · exact fun x => piece_s (mean fs) q 20 1806 11 (by decide) inb_S96x2640_S96x11_0_1806 _ (fun n j => by unfold k0_pay54; rw [ss_eq]; pointwise) (by decide +kernel) x
  refine List.forall_mem_cons.2 ⟨?_, ?_⟩
  · exact fun x => piece_q (mean fs) q 19 1742 (by decide) inb_S96x2640_S96x64_0_1742 _ (fun n j => by unfold k0_pay53; rw [sq_eq]; pointwise) (by decide +kernel) x
  refine List.forall_mem_cons.2 ⟨?_, ?_⟩
  · exact fun x => piece_s (mean fs) q 19 1730 12 (by decide) inb_S96x2640_S96x12_0_1730 _ (fun n j => by unfold k0_pay52; rw [ss_eq]; pointwise) (by decide +kernel) x
  refine List.forall_mem_cons.2 ⟨?_, ?_⟩
  · exact fun x => piece_q (mean fs) q 18 1666 (by decide) inb_S96x2640_S96x64_0_1666 _ (fun n j => by unfold k0_pay51; rw [sq_eq]; pointwise) (by decide +kernel) x
  refine List.forall_mem_cons.2 ⟨?_, ?_⟩
  · exact fun x => piece_s (mean fs) q 18 1653 13 (by decide) inb_S96x2640_S96x13_0_1653 _ (fun n j => by unfold k0_pay50; rw [ss_eq]; pointwise) (by decide +kernel) x
  refine List.forall_mem_cons.2 ⟨?_, ?_⟩
  · exact fun x => piece_q (mean fs) q 17 1589 (by decide) inb_S96x2640_S96x64_0_1589 _ (fun n j => by unfold k0_pay49; rw [sq_eq]; pointwise) (by decide +kernel) x
  refine List.forall_mem_cons.2 ⟨?_, ?_⟩
  · exact fun x => piece_s (mean fs) q 17 1575 14 (by decide) inb_S96x2640_S96x14_0_1575 _ (fun n j => by unfold k0_pay48; rw [ss_eq]; pointwise) (by decide +kernel) x
  refine List.forall_mem_cons.2 ⟨?_, ?_⟩
  · exact fun x => piece_q (mean fs) q 16 1511 (by decide) inb_S96x2640_S96x64_0_1511 _ (fun n j => by unfold k0_pay47; rw [sq_eq]; pointwise) (by decide +kernel) x
  refine List.forall_mem_cons.2 ⟨?_, ?_⟩
  · exact fun x => piece_s (mean fs) q 16 1496 15 (by decide) inb_S96x2640_S96x15_0_1496 _ (fun n j => by unfold k0_pay46; rw [ss_eq]; pointwise) (by decide +kernel) x
  refine List.forall_mem_cons.2 ⟨?_, ?_⟩
  · exact fun x => piece_q (mean fs) q 15 1432 (by decide) inb_S96x2640_S96x64_0_1432 _ (fun n j => by unfold k0_pay45; rw [sq_eq]; pointwise) (by decide +kernel) x
  refine List.forall_mem_cons.2 ⟨?_, ?_⟩
  · exact fun x => piece_s (mean fs) q 15 1416 16 (by decide) inb_S96x2640_S96x16_0_1416 _ (fun n j => by unfold k0_pay44; rw [ss_eq]; pointwise) (by decide +kernel) x
  refine List.forall_mem_cons.2 ⟨?_, ?_⟩
  · exact fun x => piece_q (mean fs) q 14 1352 (by decide) inb_S96x2640_S96x64_0_1352 _ (fun n j => by unfold k0_pay43; rw [sq_eq]; pointwise) (by decide +kernel) x
  refine List.forall_mem_cons.2 ⟨?_, ?_⟩
  · exact fun x => piece_s (mean fs) q 14 1335 17 (by decide) inb_S96x2640_S96x17_0_1335 _ (fun n j => by unfold k0_pay42; rw [ss_eq]; pointwise) (by decide +kernel) x
  refine List.forall_mem_cons.2 ⟨?_, ?_⟩
  · exact fun x => piece_q (mean fs) q 13 1271 (by decide) inb_S96x2640_S96x64_0_1271 _ (fun n j => by unfold k0_pay41; rw [sq_eq]; pointwise) (by decide +kernel) x
  refine List.forall_mem_cons.2 ⟨?_, ?_⟩
  · exact fun x => piece_s (mean fs) q 13 1253 18 (by decide) inb_S96x2640_S96x18_0_1253 _ (fun n j => by unfold k0_pay40; rw [ss_eq]; pointwise) (by decide +kernel) x
  refine List.forall_mem_cons.2 ⟨?_, ?_⟩
  · exact fun x => piece_q (mean fs) q 12 1189 (by decide) inb_S96x2640_S96x64_0_1189 _ (fun n j => by unfold k0_pay39; rw [sq_eq]; pointwise) (by decide +kernel) x
  refine List.forall_mem_cons.2 ⟨?_, ?_⟩
  · exact fun x => piece_s (mean fs) q 12 1170 19 (by decide) inb_S96x2640_S96x19_0_1170 _ (fun n j => by unfold k0_pay38; rw [ss_eq]; pointwise) (by decide +kernel) x
  refine List.forall_mem_cons.2 ⟨?_, ?_⟩
  · exact fun x => piece_q (mean fs) q 11 1106 (by decide) inb_S96x2640_S96x64_0_1106 _ (fun n j => by unfold k0_pay37; rw [sq_eq]; pointwise) (by decide +kernel) x
  refine List.forall_mem_cons.2 ⟨?_, ?_⟩
  · exact fun x => piece_s (mean fs) q 11 1086 20 (by decide) inb_S96x2640_S96x20_0_1086 _ (fun n j => by unfold k0_pay36; rw [ss_eq]; pointwise) (by decide +kernel) x
  refine List.forall_mem_cons.2 ⟨?_, ?_⟩
  · exact fun x => piece_q (mean fs) q 10 1022 (by decide) inb_S96x2640_S96x64_0_1022 _ (fun n j => by unfold k0_pay35; rw [sq_eq]; pointwise) (by decide +kernel) x
  refine List.forall_mem_cons.2 ⟨?_, ?_⟩
  · exact fun x => piece_s (mean fs) q 10 1001 21 (by decide) inb_S96x2640_S96x21_0_1001 _ (fun n j => by unfold k0_pay34; rw [ss_eq]; pointwise) (by decide +kernel) x
  refine List.forall_mem_cons.2 ⟨?_, ?_⟩
  · exact fun x => piece_q (mean fs) q 9 937 (by decide) inb_S96x2640_S96x64_0_937 _ (fun n j => by unfold k0_pay33; rw [sq_eq]; pointwise) (by decide +kernel) x
  refine List.forall_mem_cons.2 ⟨?_, ?_⟩
  · exact fun x => piece_s (mean fs) q 9 915 22 (by decide) inb_S96x2640_S96x22_0_915 _ (fun n j => by unfold k0_pay32; rw [ss_eq]; pointwise) (by decide +kernel) x
  refine List.forall_mem_cons.2 ⟨?_, ?_⟩
  · exact fun x => piece_q (mean fs) q 8 851 (by decide) inb_S96x2640_S96x64_0_851 _ (fun n j => by unfold k0_pay31; rw [sq_eq]; pointwise) (by decide +kernel) x
  refine List.forall_mem_cons.2 ⟨?_, ?_⟩
  · exact fun x => piece_s (mean fs) q 8 828 23 (by decide) inb_S96x2640_S96x23_0_828 _ (fun n j => by unfold k0_pay30; rw [ss_eq]; pointwise) (by decide +kernel) x
  refine List.forall_mem_cons.2 ⟨?_, ?_⟩
  · exact fun x => piece_q (mean fs) q 7 764 (by decide) inb_S96x2640_S96x64_0_764 _ (fun n j => by unfold k0_pay29; rw [sq_eq]; pointwise) (by decide +kernel) x
  refine List.forall_mem_cons.2 ⟨?_, ?_⟩
  · exact fun x => piece_s (mean fs) q 7 740 24 (by decide) inb_S96x2640_S96x24_0_740 _ (fun n j => by unfold k0_pay28; rw [ss_eq]; pointwise) (by decide +kernel) x
  refine List.forall_mem_cons.2 ⟨?_, ?_⟩
  · exact fun x => piece_q (mean fs) q 6 676 (by decide) inb_S96x2640_S96x64_0_676 _ (fun n j => by unfold k0_pay27; rw [sq_eq]; pointwise) (by decide +kernel) x
  refine List.forall_mem_cons.2 ⟨?_, ?_⟩
  · exact fun x => piece_s (mean fs) q 6 651 25 (by decide) inb_S96x2640_S96x25_0_651 _ (fun n j => by unfold k0_pay26; rw [ss_eq]; pointwise) (by decide +kernel) x
  refine List.forall_mem_cons.2 ⟨?_, ?_⟩
  · exact fun x => piece_q (mean fs) q 5 587 (by decide) inb_S96x2640_S96x64_0_587 _ (fun n j => by unfold k0_pay25; rw [sq_eq]; pointwise) (by decide +kernel) x
  refine List.forall_mem_cons.2 ⟨?_, ?_⟩
  · exact fun x => piece_s (mean fs) q 5 561 26 (by decide) inb_S96x2640_S96x26_0_561 _ (fun n j => by unfold k0_pay24; rw [ss_eq]; pointwise) (by decide +kernel) x
  refine List.forall_mem_cons.2 ⟨?_, ?_⟩
  · exact fun x => piece_q (mean fs) q 4 497 (by decide) inb_S96x2640_S96x64_0_497 _ (fun n j => by unfold k0_pay23; rw [sq_eq]; pointwise) (by decide +kernel) x
  refine List.forall_mem_cons.2 ⟨?_, ?_⟩
  · exact fun x => piece_s (mean fs) q 4 470 27 (by decide) inb_S96x2640_S96x27_0_470 _ (fun n j => by unfold k0_pay22; rw [ss_eq]; pointwise) (by decide +kernel) x
  refine List.forall_mem_cons.2 ⟨?_, ?_⟩
  · exact fun x => piece_q (mean fs) q 3 406 (by decide) inb_S96x2640_S96x64_0_406 _ (fun n j => by unfold k0_pay21; rw [sq_eq]; pointwise) (by decide +kernel) x
  refine List.forall_mem_cons.2 ⟨?_, ?_⟩
  · exact fun x => piece_s (mean fs) q 3 378 28 (by decide) inb_S96x2640_S96x28_0_378 _ (fun n j => by unfold k0_pay20; rw [ss_eq]; pointwise) (by decide +kernel) x
  refine List.forall_mem_cons.2 ⟨?_, ?_⟩
  · exact fun x => piece_q (mean fs) q 2 314 (by decide) inb_S96x2640_S96x64_0_314 _ (fun n j => by unfold k0_pay19; rw [sq_eq]; pointwise) (by decide +kernel) x
  refine List.forall_mem_cons.2 ⟨?_, ?_⟩
  · exact fun x => piece_s (mean fs) q 2 285 29 (by decide) inb_S96x2640_S96x29_0_285 _ (fun n j => by unfold k0_pay18; rw [ss_eq]; pointwise) (by decide +kernel) x
  refine List.forall_mem_cons.2 ⟨?_, ?_⟩
  · exact fun x => piece_q (mean fs) q 1 221 (by decide) inb_S96x2640_S96x64_0_221 _ (fun n j => by unfold k0_pay17; rw [sq_eq]; pointwise) (by decide +kernel) x
  refine List.forall_mem_cons.2 ⟨?_, ?_⟩
  · exact fun x => piece_s (mean fs) q 1 191 30 (by decide) inb_S96x2640_S96x30_0_191 _ (fun n j => by unfold k0_pay16; rw [ss_eq]; pointwise) (by decide +kernel) x
  refine List.forall_mem_cons.2 ⟨?_, ?_⟩
  · exact fun x => piece_q (mean fs) q 0 127 (by decide) inb_S96x2640_S96x64_0_127 _ (fun n j => by unfold k0_pay15; rw [sq_eq]; pointwise) (by decide +kernel) x
  refine List.forall_mem_cons.2 ⟨?_, ?_⟩
  · exact fun x => piece_s (mean fs) q 0 96 31 (by decide) inb_S96x2640_S96x31_0_96 _ (fun n j => by unfold k0_pay14; rw [ss_eq]; pointwise) (by decide +kernel) x
  refine List.forall_mem_cons.2 ⟨?_, ?_⟩
  · exact fun x => piece_vq (mean fs) q inb_S96x2640_S96x64_0_32 x
  refine List.forall_mem_cons.2 ⟨?_, ?_⟩
  · exact fun x => piece_vs (mean fs) q inb_S96x2640_S96x32_0_0 x
  exact fun p hp => absurd hp List.not_mem_nil

end
end Cert.Prep0
-- ==== Proof.Prep0Value.lean ====
/-
  The first half-step's call: what its four results hold after the call, and that the reference computes the same.
-/
module
public import proofs.«01_k».proof.Proof.Prep0Block
public import proofs.«01_k».proof.Proof.PrepValue
public import proofs.«01_k».proof.Proof.Gen.RPrep0Ideal.Run

@[expose] public section

set_option maxRecDepth 16384

noncomputable section

namespace Cert.Prep0

open Cert.KPrep0Ideal Cert.KPrep0Ideal.Gen Cert.KPrep0Ideal.Value
open Cert.Prep (gram pairs pq pairs_eq ps_eq pq_eq)
open Cert.PrepRef (result onehotS onehotQ)
open Idealize.ShloMosaic Idealize.ShloMosaic.TcCoe Idealize.SL.Sem
open Idealize.ShloMosaic.Pipeline (Dat)

/-! ## The reference -/

/-- The reference's average rows. -/
def meanR (fs : S32x5x512.Idx → EReal) : S32x512.Idx → EReal :=
  Host.divf (F := Ideal) (φ := .f32) (Host.reduceAdd (F := Ideal) (φ := .f32) fs (constant (F := Ideal) Cert.RPrep0Ideal.S_ .f32 0x00000000#32) Cert.RPrep0Ideal.Gen.reducesTo_S32x5x512_S32x512_d1 Cert.RPrep0Ideal.Gen.h_S_)
    (broadcastInDim S32x512 ![] Cert.RPrep0Ideal.Gen.bcast_S_S32x512 (constant (F := Ideal) Cert.RPrep0Ideal.S_ .f32 0x40A00000#32))

/-- They are the kernel's. -/
theorem mean_eq (fs : S32x5x512.Idx → EReal) : meanR fs = mean fs := by
  funext i
  unfold meanR mean k0_pay3
  idx_vars i
  pointwise

section
variable (m : (ℓ : Loc Cert.RPrep0Ideal.nD Cert.RPrep0Ideal.τ Cert.RPrep0Ideal.sig) → Buf (Elt Ideal) ℓ) (c : Dev Cert.RPrep0Ideal.nD)

/-- The shots, as launched with the reference. -/
abbrev rS : S32x5x512.Idx → EReal := m ((c.tc : Thread Cert.RPrep0Ideal.nD Cert.RPrep0Ideal.τ).loc Cert.RPrep0Ideal.main_arg0)
/-- The query rows, as launched with the reference. -/
abbrev rQ : S64x512.Idx → EReal := m ((c.tc : Thread Cert.RPrep0Ideal.nD Cert.RPrep0Ideal.τ).loc Cert.RPrep0Ideal.main_arg1)

/-- The reference's first result is the later half-steps' at the average rows … -/
theorem out0_eq : Cert.RPrep0Ideal.Value.res_main_v47 (F := Ideal) m c = result (Cert.PrepRef.gram (meanR (rS m c)) (rQ m c)) := rfl

/-- … and so are the one-hot support orders … -/
theorem out1_eq : Cert.RPrep0Ideal.Value.res_main_v17 (F := Ideal) m c = onehotS (Cert.PrepRef.gram (meanR (rS m c)) (rQ m c)) := rfl

/-- … and the one-hot query orders. -/
theorem out2_eq : Cert.RPrep0Ideal.Value.res_main_v18 (F := Ideal) m c = onehotQ (Cert.PrepRef.gram (meanR (rS m c)) (rQ m c)) := rfl

end

/-! ## The call -/

variable (m : (ℓ : Loc nD τ sig) → Buf (Elt Ideal) ℓ)

/-- The shots, as launched. -/
abbrev aS (c : Dev nD) : S32x5x512.Idx → EReal := m ((c : Thread nD τ).loc main_arg0)
/-- The query rows, as launched. -/
abbrev aQ (c : Dev nD) : S64x512.Idx → EReal := m ((c : Thread nD τ).loc main_arg1)

/-- The call reads the whole of its first argument. -/
theorem blk_s (c : Dev nD) (t : Fin cfg0.N) : iblk m c 0 t = aS m c := by
  have hi : ∀ t : Fin cfg0.N, win0_0.index t 0 = 0 ∧ win0_0.index t 1 = 0 ∧ win0_0.index t 2 = 0 := (by decide +kernel : ∀ t : Fin grid0.N, _)
  funext i
  unfold iblk
  rw [View.read_apply]
  show V m c main_arg0 _ = _
  rw [V_main_arg0]
  refine congrArg (aS m c) (funext fun b => Fin.ext ?_)
  match b with
  | ⟨0, _⟩ => show win0_0.index t 0 * 32 + 1 * (i 0).val = (i 0).val; rw [(hi t).1]; omega
  | ⟨1, _⟩ => show win0_0.index t 1 * 5 + 1 * (i 1).val = (i 1).val; rw [(hi t).2.1]; omega
  | ⟨2, _⟩ => show win0_0.index t 2 * 512 + 1 * (i 2).val = (i 2).val; rw [(hi t).2.2]; omega

/-- The call reads the whole of its second argument. -/
theorem blk_q (c : Dev nD) (t : Fin cfg0.N) : iblk m c 1 t = aQ m c := by
  have hi : ∀ t : Fin cfg0.N, win0_1.index t 0 = 0 ∧ win0_1.index t 1 = 0 := (by decide +kernel : ∀ t : Fin grid0.N, _)
  funext i
  unfold iblk
  rw [View.read_apply]
  show V m c main_arg1 _ = _
  rw [V_main_arg1]
  refine congrArg (aQ m c) (funext fun b => Fin.ext ?_)
  match b with
  | ⟨0, _⟩ => show win0_1.index t 0 * 64 + 1 * (i 0).val = (i 0).val; rw [(hi t).1]; omega
  | ⟨1, _⟩ => show win0_1.index t 1 * 512 + 1 * (i 1).val = (i 1).val; rw [(hi t).2]; omega

/-- The call leaves the products of the kept pairs … -/
theorem result_pairs (c : Dev nD) : (dats m 0 c).arrAt 2 cfg0.N = pairs (mean (aS m c)) (aQ m c) := by
  have hi : ∀ t : Fin cfg0.N, win0_2.index t 0 = 0 ∧ win0_2.index t 1 = 0 := (by decide +kernel : ∀ t : Fin grid0.N, _)
  have hemb : ∀ (t : Fin cfg0.N) (y : S96x2640.Idx), ((cfg0.win 2).blk t).view.emb y = y := by
    intro t y
    refine funext fun b => Fin.ext ?_
    match b with
    | ⟨0, _⟩ => show win0_2.index t 0 * 96 + 1 * (y 0).val = (y 0).val; rw [(hi t).1]; omega
    | ⟨1, _⟩ => show win0_2.index t 1 * 2640 + 1 * (y 1).val = (y 1).val; rw [(hi t).2]; omega
  obtain ⟨P, hP⟩ : ∃ P, P = pairs (mean (aS m c)) (aQ m c) := ⟨_, rfl⟩
  rw [← hP]
  refine (dats m 0 c).arrAt_eq_of_cover 2 P (fun t _ => ?_) (fun i => ⟨t0_0, flush0_2 t0_0, ?_⟩)
  · rw [flushed2_A]
    funext y
    rw [View.read_apply, block_pairs, blk_s, blk_q, ← hP]
    exact (congrArg P (hemb t y)).symm
  · have h := ((cfg0.win 2).blk t0_0).view.emb_mem_set i
    rwa [hemb t0_0 i] at h

/-- … the one-hot orders of the support rows … -/
theorem result_ps (c : Dev nD) : (dats m 0 c).arrAt 3 cfg0.N = Cert.KPrepIdeal.Gen.k0_pay5 (F := Ideal) (mean (aS m c)) (aQ m c) := by
  have hi : ∀ t : Fin cfg0.N, win0_3.index t 0 = 0 ∧ win0_3.index t 1 = 0 ∧ win0_3.index t 2 = 0 := (by decide +kernel : ∀ t : Fin grid0.N, _)
  have hemb : ∀ (t : Fin cfg0.N) (y : S96x32x32.Idx), ((cfg0.win 3).blk t).view.emb y = y := by
    intro t y
    refine funext fun b => Fin.ext ?_
    match b with
    | ⟨0, _⟩ => show win0_3.index t 0 * 96 + 1 * (y 0).val = (y 0).val; rw [(hi t).1]; omega
    | ⟨1, _⟩ => show win0_3.index t 1 * 32 + 1 * (y 1).val = (y 1).val; rw [(hi t).2.1]; omega
    | ⟨2, _⟩ => show win0_3.index t 2 * 32 + 1 * (y 2).val = (y 2).val; rw [(hi t).2.2]; omega
  obtain ⟨P, hP⟩ : ∃ P, P = Cert.KPrepIdeal.Gen.k0_pay5 (F := Ideal) (mean (aS m c)) (aQ m c) := ⟨_, rfl⟩
  rw [← hP]
  refine (dats m 0 c).arrAt_eq_of_cover 3 P (fun t _ => ?_) (fun i => ⟨t0_0, flush0_3 t0_0, ?_⟩)
  · rw [flushed3_A]
    funext y
    rw [View.read_apply, block_ps, blk_s, blk_q, ← hP]
    exact (congrArg P (hemb t y)).symm
  · have h := ((cfg0.win 3).blk t0_0).view.emb_mem_set i
    rwa [hemb t0_0 i] at h

/-- … those of the query rows … -/
theorem result_pq (c : Dev nD) : (dats m 0 c).arrAt 4 cfg0.N = pq (mean (aS m c)) (aQ m c) := by
  have hi : ∀ t : Fin cfg0.N, win0_4.index t 0 = 0 ∧ win0_4.index t 1 = 0 ∧ win0_4.index t 2 = 0 := (by decide +kernel : ∀ t : Fin grid0.N, _)
  have hemb : ∀ (t : Fin cfg0.N) (y : S96x64x64.Idx), ((cfg0.win 4).blk t).view.emb y = y := by
    intro t y
    refine funext fun b => Fin.ext ?_
    match b with
    | ⟨0, _⟩ => show win0_4.index t 0 * 96 + 1 * (y 0).val = (y 0).val; rw [(hi t).1]; omega
    | ⟨1, _⟩ => show win0_4.index t 1 * 64 + 1 * (y 1).val = (y 1).val; rw [(hi t).2.1]; omega
    | ⟨2, _⟩ => show win0_4.index t 2 * 64 + 1 * (y 2).val = (y 2).val; rw [(hi t).2.2]; omega
  obtain ⟨P, hP⟩ : ∃ P, P = pq (mean (aS m c)) (aQ m c) := ⟨_, rfl⟩
  rw [← hP]
  refine (dats m 0 c).arrAt_eq_of_cover 4 P (fun t _ => ?_) (fun i => ⟨t0_0, flush0_4 t0_0, ?_⟩)
  · rw [flushed4_A]
    funext y
    rw [View.read_apply, block_pq, blk_s, blk_q, ← hP]
    exact (congrArg P (hemb t y)).symm
  · have h := ((cfg0.win 4).blk t0_0).view.emb_mem_set i
    rwa [hemb t0_0 i] at h

/-- … and the average rows. -/
theorem result_mean (c : Dev nD) : (dats m 0 c).arrAt 5 cfg0.N = mean (aS m c) := by
  have hi : ∀ t : Fin cfg0.N, win0_5.index t 0 = 0 ∧ win0_5.index t 1 = 0 := (by decide +kernel : ∀ t : Fin grid0.N, _)
  have hemb : ∀ (t : Fin cfg0.N) (y : S32x512.Idx), ((cfg0.win 5).blk t).view.emb y = y := by
    intro t y
    refine funext fun b => Fin.ext ?_
    match b with
    | ⟨0, _⟩ => show win0_5.index t 0 * 32 + 1 * (y 0).val = (y 0).val; rw [(hi t).1]; omega
    | ⟨1, _⟩ => show win0_5.index t 1 * 512 + 1 * (y 1).val = (y 1).val; rw [(hi t).2]; omega
  obtain ⟨P, hP⟩ : ∃ P, P = mean (aS m c) := ⟨_, rfl⟩
  rw [← hP]
  refine (dats m 0 c).arrAt_eq_of_cover 5 P (fun t _ => ?_) (fun i => ⟨t0_0, flush0_5 t0_0, ?_⟩)
  · rw [flushed5_A]
    funext y
    rw [View.read_apply, block_mean, blk_s, ← hP]
    exact (congrArg P (hemb t y)).symm
  · have h := ((cfg0.win 5).blk t0_0).view.emb_mem_set i
    rwa [hemb t0_0 i] at h

/-- The claim: from equal arguments the call and the reference end with equal results, their arguments kept. -/
theorem algebraic : Cert.algebraic_KPrep0Ideal_RPrep0Ideal (hKPrep0Ideal := Cert.KPrep0Ideal.Gen.facts) (hRPrep0Ideal := Cert.RPrep0Ideal.Gen.facts) :=
  fun m ρ m' ρ' _ hag => ⟨fun c => pairs (mean (aS m c)) (aQ m c), fun c => Cert.KPrepIdeal.Gen.k0_pay5 (F := Ideal) (mean (aS m c)) (aQ m c), fun c => pq (mean (aS m c)) (aQ m c), fun c => mean (aS m c),
    (θ_run _ _ _).mono (fun _ h c => ⟨(h c).1.trans (result_pairs m c), (h c).2.1.trans (result_ps m c), (h c).2.2.1.trans (result_pq m c), (h c).2.2.2.1.trans (result_mean m c), (h c).2.2.2.2⟩) (Cert.KPrep0Ideal.Value.run_blocks m ρ),
    (θ_run _ _ _).mono (fun _ h c => by
      have e0 : rS m' c = aS m c := (hag c).1
      have e1 : rQ m' c = aQ m c := (hag c).2
      refine ⟨(h c).1.trans ((out0_eq m' c).trans ?_), (h c).2.1.trans ((out1_eq m' c).trans ?_), (h c).2.2.1.trans ((out2_eq m' c).trans ?_), (h c).2.2.2.1.trans ?_, (h c).2.2.2.2⟩
      · rw [e0, e1, mean_eq]; exact pairs_eq _ _
      · rw [e0, e1, mean_eq]; exact ps_eq _ _
      · rw [e0, e1, mean_eq]; exact pq_eq _ _
      · show meanR (rS m' c) = _
        rw [e0, mean_eq]) (Cert.RPrep0Ideal.Value.run m' ρ')⟩

end Cert.Prep0

end
-- ==== Proof.BwdBands.lean ====
/-
  The two scratch arrays of the backward kernel: the gradient's bands of kept pairs, laid out again as the products of
  support with support vertices and of support with query vertices.
-/
module

public import proofs.«01_k».proof.Defs
public import proofs.«01_k».proof.Proof.PrepTri
public import Idealize.ShloMosaic.Lib.Pointwise
public import Idealize.ShloMosaic.Lib.Pipeline.Value

@[expose] public section

set_option maxRecDepth 16384

noncomputable section

namespace Cert.Bwd

open Cert.Tri
open Idealize.ShloMosaic Idealize.ShloMosaic.TcCoe Idealize.SL.Sem

/-- The gradient's shape, -/
abbrev SG : Shape := ⟨2, ![96, 2640]⟩
/-- that of the pairs of support vertices, -/
abbrev SS : Shape := ⟨3, ![96, 32, 32]⟩
/-- and that of the pairs of a support with a query vertex. -/
abbrev SQ : Shape := ⟨3, ![96, 32, 64]⟩

variable (g : SG.Idx → EReal)

/-- Entry `p` of row `n` of the gradient. -/
def gAt (n : Fin 96) (p : ℕ) : EReal := if h : p < 2640 then g (ix2 n ⟨p, h⟩) else 0

/-- At a kept pair's place the gradient is the array's entry. -/
theorem gAt_eq (n : Fin 96) (p : Fin 2640) : gAt g n p.val = g (ix2 n p) := dif_pos p.isLt

/-- Where the pair of support vertices `a < b` stands among the kept pairs. -/
def posS (a b : ℕ) : ℕ := rowStart a + (b - (a + 1))

/-- Where the pair of support vertex `a` and query vertex `b` stands among the kept pairs. -/
def posQ (a b : ℕ) : ℕ := rowStart a + (31 - a) + b

/-- The gradient of the pairs of support vertices: above the diagonal, and zero elsewhere. -/
def dss : SS.Idx → EReal := fun y => if (y 1).val < (y 2).val then gAt g (y 0) (posS (y 1).val (y 2).val) else 0

/-- The gradient of the pairs of a support with a query vertex. -/
def dsq : SQ.Idx → EReal := fun y => gAt g (y 0) (posQ (y 1).val (y 2).val)

/-- A band of the gradient's columns, laid out with an axis of one, read at an entry. -/
theorem band_at (off w : ℕ) (inb) (hc) (n : Fin 96) (j : Fin w) :
    shapeCast ⟨3, ![96, 1, w]⟩ (View.ld (Val := Elt Ideal) (e' := .f32) g (Rect.unit (s := SG) ![0, off] ![96, w] inb)) hc (ix3 n 0 j)
      = gAt g n (off + j.val) := by
  have hb : off + j.val < 2640 := by
    have := inb 1
    simp only [Matrix.cons_val_one, Matrix.cons_val_fin_one] at this
    have hj := j.isLt
    have : off + w ≤ 2640 := this
    omega
  unfold gAt
  rw [dif_pos hb]
  rw [shapeCast_apply _ hc (ix3 n 0 j) (ix2 n j : (⟨2, ![96, w]⟩ : Shape).Idx) (by
    rw [Shape.rowMajor_val_three, Shape.rowMajor_val_two]
    show n.val * w + j.val = (n.val * 1 + 0) * w + j.val
    ring)]
  refine congrArg g (funext fun a => Fin.ext ?_)
  match a with
  | ⟨0, _⟩ => show 0 + 1 * n.val = n.val; omega
  | ⟨1, _⟩ => show off + 1 * j.val = off + j.val; omega

/-- Reading what stores left, the last store first: either the last store holds the place, or the earlier ones do. -/
theorem canon_step {S : Shape} (r : Rect S) (w : r.shape.Idx → EReal) (L : List (View.Piece (Elt Ideal) S .f32)) (y : S.Idx) (v : EReal)
    (h1 : ∀ x, r.emb x = y → w x = v) (h2 : y ∉ r.set → View.canon L y = v) :
    View.canon ((⟨r, w⟩ : View.Piece (Elt Ideal) S .f32) :: L) y = v := by
  by_cases hm : y ∈ r.set
  · obtain ⟨x, rfl⟩ := r.exists_idx_of_mem hm
    rw [show r.idx x = r.emb x from rfl, View.canon_cons_emb]
    exact h1 x rfl
  · rw [View.canon_cons_of_not_mem _ _ hm]
    exact h2 hm

/-- One more band of support pairs: if the earlier stores leave `dss` on the rows before `a` (and off the triangle), then
    with row `a`'s band they leave it on the rows up to `a`. -/
theorem step_s (a off w : ℕ) (ha : a + 1 + w = 32) (hoff : rowStart a = off) (inb) (inb') (hc) (L : List (View.Piece (Elt Ideal) SS .f32))
    (h : ∀ y : SS.Idx, ((y 1).val < (y 2).val → (y 1).val < a) → View.canon L y = dss g y) (y : SS.Idx)
    (hy : (y 1).val < (y 2).val → (y 1).val < a + 1) :
    View.canon ((⟨Rect.unit (s := SS) ![0, a, a + 1] ![96, 1, w] inb,
      shapeCast ⟨3, ![96, 1, w]⟩ (View.ld (Val := Elt Ideal) (e' := .f32) g (Rect.unit (s := SG) ![0, off] ![96, w] inb')) hc⟩
        : View.Piece (Elt Ideal) SS .f32) :: L) y = dss g y := by
  refine canon_step _ _ L y _ (fun x hx => ?_) (fun hm => h y fun hlt => ?_)
  · subst hx
    obtain ⟨n, z, j, rfl⟩ : ∃ n z j, x = (ix3 n z j : (⟨3, ![96, 1, w]⟩ : Shape).Idx) :=
      ⟨x 0, x 1, x 2, by funext k; fin_cases k <;> rfl⟩
    obtain rfl : z = 0 := Subsingleton.elim _ _
    have hj : j.val < w := j.isLt
    refine (band_at g off w inb' hc n j).trans ?_
    have e0 : (Rect.unit (s := SS) ![0, a, a + 1] ![96, 1, w] inb).emb (ix3 n 0 j) 0 = n := Fin.ext (by show 0 + 1 * n.val = n.val; omega)
    have e1 : ((Rect.unit (s := SS) ![0, a, a + 1] ![96, 1, w] inb).emb (ix3 n 0 j) 1).val = a := by show a + 1 * 0 = a; omega
    have e2 : ((Rect.unit (s := SS) ![0, a, a + 1] ![96, 1, w] inb).emb (ix3 n 0 j) 2).val = a + 1 + j.val := by show a + 1 + 1 * j.val = _; omega
    unfold dss
    rw [e0, e1, e2, if_pos (by omega)]
    unfold posS
    rw [hoff]
    congr 1
    omega
  · by_contra hge
    have h1 := hy hlt
    refine hm (Rect.mem_set_unit.2 fun b => ?_)
    have h0 : (y 0).val < 96 := (y 0).isLt
    have h2 : (y 2).val < 32 := (y 2).isLt
    match b with
    | ⟨0, _⟩ => exact ⟨Nat.zero_le _, by show (y 0).val < 0 + 96; omega⟩
    | ⟨1, _⟩ => exact ⟨by show a ≤ (y 1).val; omega, by show (y 1).val < a + 1; omega⟩
    | ⟨2, _⟩ => exact ⟨by show a + 1 ≤ (y 2).val; omega, by show (y 2).val < a + 1 + w; omega⟩

/-- One more band of support-query pairs: if the earlier stores leave `dsq` on the rows before `a`, then with row `a`'s
    band they leave it on the rows up to `a`. -/
theorem step_q (a off : ℕ) (ha : a < 32) (hoff : rowStart a + (31 - a) = off) (inb) (inb') (hc) (L : List (View.Piece (Elt Ideal) SQ .f32))
    (h : ∀ y : SQ.Idx, (y 1).val < a → View.canon L y = dsq g y) (y : SQ.Idx) (hy : (y 1).val < a + 1) :
    View.canon ((⟨Rect.unit (s := SQ) ![0, a, 0] ![96, 1, 64] inb,
      shapeCast ⟨3, ![96, 1, 64]⟩ (View.ld (Val := Elt Ideal) (e' := .f32) g (Rect.unit (s := SG) ![0, off] ![96, 64] inb')) hc⟩
        : View.Piece (Elt Ideal) SQ .f32) :: L) y = dsq g y := by
  refine canon_step _ _ L y _ (fun x hx => ?_) (fun hm => h y ?_)
  · subst hx
    obtain ⟨n, z, j, rfl⟩ : ∃ n z j, x = (ix3 n z j : (⟨3, ![96, 1, 64]⟩ : Shape).Idx) :=
      ⟨x 0, x 1, x 2, by funext k; fin_cases k <;> rfl⟩
    obtain rfl : z = 0 := Subsingleton.elim _ _
    refine (band_at g off 64 inb' hc n j).trans ?_
    have e0 : (Rect.unit (s := SQ) ![0, a, 0] ![96, 1, 64] inb).emb (ix3 n 0 j) 0 = n := Fin.ext (by show 0 + 1 * n.val = n.val; omega)
    have e1 : ((Rect.unit (s := SQ) ![0, a, 0] ![96, 1, 64] inb).emb (ix3 n 0 j) 1).val = a := by show a + 1 * 0 = a; omega
    have e2 : ((Rect.unit (s := SQ) ![0, a, 0] ![96, 1, 64] inb).emb (ix3 n 0 j) 2).val = j.val := by show 0 + 1 * j.val = _; omega
    unfold dsq
    rw [e0, e1, e2]
    unfold posQ
    rw [hoff]
  · by_contra hge
    refine hm (Rect.mem_set_unit.2 fun b => ?_)
    have h0 : (y 0).val < 96 := (y 0).isLt
    have h2 : (y 2).val < 64 := (y 2).isLt
    match b with
    | ⟨0, _⟩ => exact ⟨Nat.zero_le _, by show (y 0).val < 0 + 96; omega⟩
    | ⟨1, _⟩ => exact ⟨by show a ≤ (y 1).val; omega, by show (y 1).val < a + 1; omega⟩
    | ⟨2, _⟩ => exact ⟨Nat.zero_le _, by show (y 2).val < 0 + 64; omega⟩

/-- The zeros stored first leave `dss` off the triangle. -/
theorem base_s (off : Fin 3 → ℕ) (ho : off = 0) (inb) (w : SS.Idx → EReal) (hw : ∀ x, w x = 0) (y : SS.Idx)
    (hy : (y 1).val < (y 2).val → (y 1).val < 0) :
    View.canon [(⟨Rect.unit (s := SS) off SS.size inb, w⟩ : View.Piece (Elt Ideal) SS .f32)] y = dss g y := by
  rw [View.canon_unit_zero ho]
  unfold dss
  rw [if_neg (fun h => Nat.not_lt_zero _ (hy h)), hw]

/-- A load of the whole array reads what the stores left. -/
theorem load_of_canon {S : Shape} {sig : RefSig} {κ : Kind} {sp : Space} (v : View sig κ sp S .f32) (G : S.Idx → EReal)
    (off : Fin S.rank → ℕ) (ho : off = 0) (inb) (L : List (View.Piece (Elt Ideal) S .f32)) (h : ∀ y, View.canon L y = G y) :
    v.readCov L (Rect.unit (s := S) off S.size inb).toLoadRect = G := by
  rw [View.readCov_eq_canon']
  funext j
  rw [h]
  subst ho
  refine congrArg G (funext fun a => Fin.ext ?_)
  show 0 + 1 * (j a).val = (j a).val
  omega

end Cert.Bwd
-- ==== Proof.BwdSBlock.lean ====
/-
  What the backward kernel for the support rows stores in its result, from the five arrays it reads.
-/
module

public import proofs.«01_k».proof.Proof.BwdBands
public import proofs.«01_k».proof.Proof.Gen.KBwdSIdeal.Value
public import Idealize.ShloMosaic.Lib.Claim

@[expose] public section

set_option maxRecDepth 16384

noncomputable section

namespace Cert.Bwd.S

open Cert.KBwdSIdeal Cert.KBwdSIdeal.Gen Cert.Bwd
open Idealize.ShloMosaic Idealize.ShloMosaic.TcCoe Idealize.SL.Sem

/-- The origin of a plane. -/
theorem hz2 : (![0, 0] : Fin 2 → ℕ) = 0 := by funext i; fin_cases i <;> rfl
/-- The origin of a space. -/
theorem hz3 : (![0, 0, 0] : Fin 3 → ℕ) = 0 := by funext i; fin_cases i <;> rfl

variable (x0 : S96x2640.Idx → EReal) (x1 : S96x32x32.Idx → EReal) (x2 : S96x64x64.Idx → EReal)
  (x3 : S32x512.Idx → EReal) (x4 : S64x512.Idx → EReal)

/-- The gradient's columns of the products of a row with its support vertices, -/
abbrev dvs : S96x32.Idx → EReal :=
  View.ld (Val := Elt Ideal) (e' := .f32) x0 (Rect.unit (s := S96x2640) ![0, 0] S96x32.size inb_S96x2640_S96x32_0_0)
/-- and those of the products with its query vertices. -/
abbrev dvq : S96x64.Idx → EReal :=
  View.ld (Val := Elt Ideal) (e' := .f32) x0 (Rect.unit (s := S96x2640) ![0, 32] S96x64.size inb_S96x2640_S96x64_0_32)

/-- The kernel's result as one term. -/
def stored : S32x512.Idx → EReal :=
  k0_pay1 (F := Ideal) x3 (k0_pay5 (F := Ideal) x3 x4)
    (k0_pay71 (F := Ideal) x1 x2 (k0_pay4 (F := Ideal) x3 x4) (k0_pay5 (F := Ideal) x3 x4) (dvs x0) (dvq x0) (dss x0) (dsq x0))
    (k0_pay72 (F := Ideal) (k0_pay3 (F := Ideal) x3 x4))
    (k0_pay73 (F := Ideal) x1 x2 (k0_pay3 (F := Ideal) x3 x4) (k0_pay5 (F := Ideal) x3 x4) (dvs x0) (dvq x0) (dss x0) (dsq x0))

section
variable (c : Dev nD) (a0 : Memref sig .tc .vmem S96x2640 .f32) (h0 : a0.IsWhole) (a1 : Memref sig .tc .vmem S96x32x32 .f32) (h1 : a1.IsWhole)
  (a2 : Memref sig .tc .vmem S96x64x64 .f32) (h2 : a2.IsWhole) (a3 : Memref sig .tc .vmem S32x512 .f32) (h3 : a3.IsWhole)
  (a4 : Memref sig .tc .vmem S64x512 .f32) (h4 : a4.IsWhole) (a5 : Memref sig .tc .vmem S32x512 .f32) (h5 : a5.IsWhole)
  (a6 : Memref sig .tc .vmem S96x32x32 .f32) (h6 : a6.IsWhole) (a7 : Memref sig .tc .vmem S96x32x64 .f32) (h7 : a7.IsWhole)

/-- The kernel stores that term. -/
theorem block :
    out0_A_5 (F := Ideal) c a0 h0 a1 h1 a2 h2 a3 h3 a4 h4 a5 h5 a6 h6 a7 h7 x0 x1 x2 x3 x4 = stored x0 x1 x2 x3 x4 := by
  unfold out0_A_5
  rw [View.read_writes_eq_canon _ _ _ (cover0_A_5 _ _ _ _ _ _ _ _ _ _ _ _ _ _ _ _ _ _ _ _ _ _)]
  unfold kernelRun0_A
  dsimp only
  try sl_unfold_words
  rw [View.canon_unit_zero hz2]
  simp only [View.readAt_eq_ld, h0.read_unread, h1.read_unread, h2.read_unread, h3.read_unread, h4.read_unread,
    View.ld_unit_zero (S := S32x512) hz2, View.ld_unit_zero (S := S64x512) hz2,
    View.ld_unit_zero (S := S96x32x32) hz3, View.ld_unit_zero (S := S96x64x64) hz3, shapeCast_self]
  rw [load_of_canon (S := S96x32x32) a6.view (dss x0) ![0, 0, 0] hz3 _ _ ?_,
    load_of_canon (S := S96x32x64) a7.view (dsq x0) ![0, 0, 0] hz3 _ _ ?_]
  · rfl
  · intro y
    have hy : (y 1).val < 32 := (y 1).isLt
    refine step_q x0 31 2576 (by omega) rfl inb_S96x32x64_S96x1x64_0_31_0 inb_S96x2640_S96x64_0_2576 _ _ (fun y hy => ?_) y hy
    refine step_q x0 30 2512 (by omega) rfl inb_S96x32x64_S96x1x64_0_30_0 inb_S96x2640_S96x64_0_2512 _ _ (fun y hy => ?_) y hy
    refine step_q x0 29 2447 (by omega) rfl inb_S96x32x64_S96x1x64_0_29_0 inb_S96x2640_S96x64_0_2447 _ _ (fun y hy => ?_) y hy
    refine step_q x0 28 2381 (by omega) rfl inb_S96x32x64_S96x1x64_0_28_0 inb_S96x2640_S96x64_0_2381 _ _ (fun y hy => ?_) y hy
    refine step_q x0 27 2314 (by omega) rfl inb_S96x32x64_S96x1x64_0_27_0 inb_S96x2640_S96x64_0_2314 _ _ (fun y hy => ?_) y hy
    refine step_q x0 26 2246 (by omega) rfl inb_S96x32x64_S96x1x64_0_26_0 inb_S96x2640_S96x64_0_2246 _ _ (fun y hy => ?_) y hy
    refine step_q x0 25 2177 (by omega) rfl inb_S96x32x64_S96x1x64_0_25_0 inb_S96x2640_S96x64_0_2177 _ _ (fun y hy => ?_) y hy
    refine step_q x0 24 2107 (by omega) rfl inb_S96x32x64_S96x1x64_0_24_0 inb_S96x2640_S96x64_0_2107 _ _ (fun y hy => ?_) y hy
    refine step_q x0 23 2036 (by omega) rfl inb_S96x32x64_S96x1x64_0_23_0 inb_S96x2640_S96x64_0_2036 _ _ (fun y hy => ?_) y hy
    refine step_q x0 22 1964 (by omega) rfl inb_S96x32x64_S96x1x64_0_22_0 inb_S96x2640_S96x64_0_1964 _ _ (fun y hy => ?_) y hy
    refine step_q x0 21 1891 (by omega) rfl inb_S96x32x64_S96x1x64_0_21_0 inb_S96x2640_S96x64_0_1891 _ _ (fun y hy => ?_) y hy
    refine step_q x0 20 1817 (by omega) rfl inb_S96x32x64_S96x1x64_0_20_0 inb_S96x2640_S96x64_0_1817 _ _ (fun y hy => ?_) y hy
    refine step_q x0 19 1742 (by omega) rfl inb_S96x32x64_S96x1x64_0_19_0 inb_S96x2640_S96x64_0_1742 _ _ (fun y hy => ?_) y hy
    refine step_q x0 18 1666 (by omega) rfl inb_S96x32x64_S96x1x64_0_18_0 inb_S96x2640_S96x64_0_1666 _ _ (fun y hy => ?_) y hy
    refine step_q x0 17 1589 (by omega) rfl inb_S96x32x64_S96x1x64_0_17_0 inb_S96x2640_S96x64_0_1589 _ _ (fun y hy => ?_) y hy
    refine step_q x0 16 1511 (by omega) rfl inb_S96x32x64_S96x1x64_0_16_0 inb_S96x2640_S96x64_0_1511 _ _ (fun y hy => ?_) y hy
    refine step_q x0 15 1432 (by omega) rfl inb_S96x32x64_S96x1x64_0_15_0 inb_S96x2640_S96x64_0_1432 _ _ (fun y hy => ?_) y hy
    refine step_q x0 14 1352 (by omega) rfl inb_S96x32x64_S96x1x64_0_14_0 inb_S96x2640_S96x64_0_1352 _ _ (fun y hy => ?_) y hy
    refine step_q x0 13 1271 (by omega) rfl inb_S96x32x64_S96x1x64_0_13_0 inb_S96x2640_S96x64_0_1271 _ _ (fun y hy => ?_) y hy
    refine step_q x0 12 1189 (by omega) rfl inb_S96x32x64_S96x1x64_0_12_0 inb_S96x2640_S96x64_0_1189 _ _ (fun y hy => ?_) y hy
    refine step_q x0 11 1106 (by omega) rfl inb_S96x32x64_S96x1x64_0_11_0 inb_S96x2640_S96x64_0_1106 _ _ (fun y hy => ?_) y hy
    refine step_q x0 10 1022 (by omega) rfl inb_S96x32x64_S96x1x64_0_10_0 inb_S96x2640_S96x64_0_1022 _ _ (fun y hy => ?_) y hy
    refine step_q x0 9 937 (by omega) rfl inb_S96x32x64_S96x1x64_0_9_0 inb_S96x2640_S96x64_0_937 _ _ (fun y hy => ?_) y hy
    refine step_q x0 8 851 (by omega) rfl inb_S96x32x64_S96x1x64_0_8_0 inb_S96x2640_S96x64_0_851 _ _ (fun y hy => ?_) y hy
    refine step_q x0 7 764 (by omega) rfl inb_S96x32x64_S96x1x64_0_7_0 inb_S96x2640_S96x64_0_764 _ _ (fun y hy => ?_) y hy
    refine step_q x0 6 676 (by omega) rfl inb_S96x32x64_S96x1x64_0_6_0 inb_S96x2640_S96x64_0_676 _ _ (fun y hy => ?_) y hy
    refine step_q x0 5 587 (by omega) rfl inb_S96x32x64_S96x1x64_0_5_0 inb_S96x2640_S96x64_0_587 _ _ (fun y hy => ?_) y hy
    refine step_q x0 4 497 (by omega) rfl inb_S96x32x64_S96x1x64_0_4_0 inb_S96x2640_S96x64_0_497 _ _ (fun y hy => ?_) y hy
    refine step_q x0 3 406 (by omega) rfl inb_S96x32x64_S96x1x64_0_3_0 inb_S96x2640_S96x64_0_406 _ _ (fun y hy => ?_) y hy
    refine step_q x0 2 314 (by omega) rfl inb_S96x32x64_S96x1x64_0_2_0 inb_S96x2640_S96x64_0_314 _ _ (fun y hy => ?_) y hy
    refine step_q x0 1 221 (by omega) rfl inb_S96x32x64_S96x1x64_0_1_0 inb_S96x2640_S96x64_0_221 _ _ (fun y hy => ?_) y hy
    refine step_q x0 0 127 (by omega) rfl inb_S96x32x64_S96x1x64_0_0_0 inb_S96x2640_S96x64_0_127 _ _ (fun y hy => ?_) y hy
    exact absurd hy (Nat.not_lt_zero _)
  · intro y
    have hy : (y 1).val < (y 2).val → (y 1).val < 31 := fun h => by have h2 : (y 2).val < 32 := (y 2).isLt; omega
    refine step_s x0 30 2511 1 rfl rfl inb_S96x32x32_S96x1x1_0_30_31 inb_S96x2640_S96x1_0_2511 _ _ (fun y hy => ?_) y hy
    refine step_s x0 29 2445 2 rfl rfl inb_S96x32x32_S96x1x2_0_29_30 inb_S96x2640_S96x2_0_2445 _ _ (fun y hy => ?_) y hy
    refine step_s x0 28 2378 3 rfl rfl inb_S96x32x32_S96x1x3_0_28_29 inb_S96x2640_S96x3_0_2378 _ _ (fun y hy => ?_) y hy
    refine step_s x0 27 2310 4 rfl rfl inb_S96x32x32_S96x1x4_0_27_28 inb_S96x2640_S96x4_0_2310 _ _ (fun y hy => ?_) y hy
    refine step_s x0 26 2241 5 rfl rfl inb_S96x32x32_S96x1x5_0_26_27 inb_S96x2640_S96x5_0_2241 _ _ (fun y hy => ?_) y hy
    refine step_s x0 25 2171 6 rfl rfl inb_S96x32x32_S96x1x6_0_25_26 inb_S96x2640_S96x6_0_2171 _ _ (fun y hy => ?_) y hy
    refine step_s x0 24 2100 7 rfl rfl inb_S96x32x32_S96x1x7_0_24_25 inb_S96x2640_S96x7_0_2100 _ _ (fun y hy => ?_) y hy
    refine step_s x0 23 2028 8 rfl rfl inb_S96x32x32_S96x1x8_0_23_24 inb_S96x2640_S96x8_0_2028 _ _ (fun y hy => ?_) y hy
    refine step_s x0 22 1955 9 rfl rfl inb_S96x32x32_S96x1x9_0_22_23 inb_S96x2640_S96x9_0_1955 _ _ (fun y hy => ?_) y hy
    refine step_s x0 21 1881 10 rfl rfl inb_S96x32x32_S96x1x10_0_21_22 inb_S96x2640_S96x10_0_1881 _ _ (fun y hy => ?_) y hy
    refine step_s x0 20 1806 11 rfl rfl inb_S96x32x32_S96x1x11_0_20_21 inb_S96x2640_S96x11_0_1806 _ _ (fun y hy => ?_) y hy
    refine step_s x0 19 1730 12 rfl rfl inb_S96x32x32_S96x1x12_0_19_20 inb_S96x2640_S96x12_0_1730 _ _ (fun y hy => ?_) y hy
    refine step_s x0 18 1653 13 rfl rfl inb_S96x32x32_S96x1x13_0_18_19 inb_S96x2640_S96x13_0_1653 _ _ (fun y hy => ?_) y hy
    refine step_s x0 17 1575 14 rfl rfl inb_S96x32x32_S96x1x14_0_17_18 inb_S96x2640_S96x14_0_1575 _ _ (fun y hy => ?_) y hy
    refine step_s x0 16 1496 15 rfl rfl inb_S96x32x32_S96x1x15_0_16_17 inb_S96x2640_S96x15_0_1496 _ _ (fun y hy => ?_) y hy
    refine step_s x0 15 1416 16 rfl rfl inb_S96x32x32_S96x1x16_0_15_16 inb_S96x2640_S96x16_0_1416 _ _ (fun y hy => ?_) y hy
    refine step_s x0 14 1335 17 rfl rfl inb_S96x32x32_S96x1x17_0_14_15 inb_S96x2640_S96x17_0_1335 _ _ (fun y hy => ?_) y hy
    refine step_s x0 13 1253 18 rfl rfl inb_S96x32x32_S96x1x18_0_13_14 inb_S96x2640_S96x18_0_1253 _ _ (fun y hy => ?_) y hy
    refine step_s x0 12 1170 19 rfl rfl inb_S96x32x32_S96x1x19_0_12_13 inb_S96x2640_S96x19_0_1170 _ _ (fun y hy => ?_) y hy
    refine step_s x0 11 1086 20 rfl rfl inb_S96x32x32_S96x1x20_0_11_12 inb_S96x2640_S96x20_0_1086 _ _ (fun y hy => ?_) y hy
    refine step_s x0 10 1001 21 rfl rfl inb_S96x32x32_S96x1x21_0_10_11 inb_S96x2640_S96x21_0_1001 _ _ (fun y hy => ?_) y hy
    refine step_s x0 9 915 22 rfl rfl inb_S96x32x32_S96x1x22_0_9_10 inb_S96x2640_S96x22_0_915 _ _ (fun y hy => ?_) y hy
    refine step_s x0 8 828 23 rfl rfl inb_S96x32x32_S96x1x23_0_8_9 inb_S96x2640_S96x23_0_828 _ _ (fun y hy => ?_) y hy
    refine step_s x0 7 740 24 rfl rfl inb_S96x32x32_S96x1x24_0_7_8 inb_S96x2640_S96x24_0_740 _ _ (fun y hy => ?_) y hy
    refine step_s x0 6 651 25 rfl rfl inb_S96x32x32_S96x1x25_0_6_7 inb_S96x2640_S96x25_0_651 _ _ (fun y hy => ?_) y hy
    refine step_s x0 5 561 26 rfl rfl inb_S96x32x32_S96x1x26_0_5_6 inb_S96x2640_S96x26_0_561 _ _ (fun y hy => ?_) y hy
    refine step_s x0 4 470 27 rfl rfl inb_S96x32x32_S96x1x27_0_4_5 inb_S96x2640_S96x27_0_470 _ _ (fun y hy => ?_) y hy
    refine step_s x0 3 378 28 rfl rfl inb_S96x32x32_S96x1x28_0_3_4 inb_S96x2640_S96x28_0_378 _ _ (fun y hy => ?_) y hy
    refine step_s x0 2 285 29 rfl rfl inb_S96x32x32_S96x1x29_0_2_3 inb_S96x2640_S96x29_0_285 _ _ (fun y hy => ?_) y hy
    refine step_s x0 1 191 30 rfl rfl inb_S96x32x32_S96x1x30_0_1_2 inb_S96x2640_S96x30_0_191 _ _ (fun y hy => ?_) y hy
    refine step_s x0 0 96 31 rfl rfl inb_S96x32x32_S96x1x31_0_0_1 inb_S96x2640_S96x31_0_96 _ _ (fun y hy => ?_) y hy
    refine base_s x0 ![0, 0, 0] hz3 _ _ (fun x => ?_) y hy
    unfold k0_pay6
    pointwise
end

end Cert.Bwd.S
-- ==== Proof.BwdPairs.lean ====
/-
  A sum over the kept pairs of a 97-vertex graph, taken apart: the pairs of the first vertex with the support and with the
  query vertices, the pairs of support vertices, and the pairs of a support with a query vertex.
-/
module

public import proofs.«01_k».proof.Proof.BwdBands

@[expose] public section

set_option maxRecDepth 16384

noncomputable section

namespace Cert.Bwd

open Cert.Tri

/-- The first 96 kept pairs are those of the first vertex. -/
theorem tri_first : ∀ p : Fin 96, triRow p.val = 0 ∧ triCol p.val = p.val + 1 := by decide +kernel

/-- The pairs of vertex `a + 1` stand together, in the order of the later vertices. -/
theorem tri_band : ∀ (a : Fin 32) (x : Fin 95), x.val < 95 - a.val →
    triRow (rowStart a.val + x.val) = a.val + 1 ∧ triCol (rowStart a.val + x.val) = a.val + 2 + x.val := by decide +kernel

/-- Each band begins where the one before it ends. -/
theorem rowStart_succ : ∀ a : Fin 32, rowStart (a.val + 1) = rowStart a.val + (95 - a.val) := by decide +kernel

variable {M : Type} [AddCommMonoid M]

/-- A sum over the pairs before the band of vertex `A + 1`. -/
theorem sum_bands (F : ℕ → M) : ∀ A : ℕ, A ≤ 32 → ∑ p ∈ Finset.range (rowStart A), F p
    = ∑ p ∈ Finset.range 96, F p + ∑ a ∈ Finset.range A, ∑ x ∈ Finset.range (95 - a), F (rowStart a + x)
  | 0, _ => by
    rw [show rowStart 0 = 96 from rfl, Finset.sum_range_zero, add_zero]
  | A + 1, h => by
    rw [rowStart_succ ⟨A, by omega⟩, Finset.sum_range_add, sum_bands F A (by omega),
      Finset.sum_range_succ (fun a => ∑ x ∈ Finset.range (95 - a), F (rowStart a + x)) A, add_assoc]

/-- The band of vertex `a + 1`: the pairs with later support vertices, then those with query vertices. -/
theorem sum_band (F : ℕ → M) (a : ℕ) (ha : a < 32) : ∑ x ∈ Finset.range (95 - a), F (rowStart a + x)
    = (∑ b : Fin 32, if a < b.val then F (posS a b.val) else 0) + ∑ b : Fin 64, F (posQ a b.val) := by
  rw [show 95 - a = (31 - a) + 64 by omega, Finset.sum_range_add]
  congr 1
  · rw [← Finset.sum_range (fun b => if a < b then F (posS a b) else 0), show 32 = (a + 1) + (31 - a) by omega,
      Finset.sum_range_add]
    rw [Finset.sum_eq_zero (s := Finset.range (a + 1)) (fun b hb => if_neg (by have := Finset.mem_range.1 hb; omega)), zero_add]
    refine Finset.sum_congr rfl fun x hx => ?_
    rw [if_pos (by omega)]
    unfold posS
    congr 1
    omega

/-- A sum over the kept pairs, taken apart. -/
theorem sum_pairs (K : ℕ → ℕ → ℕ → M) : ∑ p : Fin 2640, K (triRow p.val) (triCol p.val) p.val
    = ((∑ a : Fin 32, K 0 (a.val + 1) a.val) + ∑ b : Fin 64, K 0 (b.val + 33) (32 + b.val))
      + ((∑ a : Fin 32, ∑ b : Fin 32, if a.val < b.val then K (a.val + 1) (b.val + 1) (posS a.val b.val) else 0)
        + ∑ a : Fin 32, ∑ b : Fin 64, K (a.val + 1) (b.val + 33) (posQ a.val b.val)) := by
  rw [← Finset.sum_range (fun p => K (triRow p) (triCol p) p), show 2640 = rowStart 32 from rfl, sum_bands _ 32 le_rfl]
  congr 1
  · rw [show 96 = 32 + 64 from rfl, Finset.sum_range_add, Finset.sum_range, Finset.sum_range]
    congr 1
  · rw [Finset.sum_range, ← Finset.sum_add_distrib]
    refine Finset.sum_congr rfl fun a _ => ?_
    rw [sum_band (fun p => K (triRow p) (triCol p) p) a.val a.isLt]
    congr 1
    · refine Finset.sum_congr rfl fun b _ => ?_
      by_cases h : a.val < b.val
      · rw [if_pos h, if_pos h]
        obtain ⟨h1, h2⟩ := tri_band a ⟨b.val - (a.val + 1), by omega⟩ (by simp only; omega)
        unfold posS
        rw [h1, h2]
        congr 1
        show a.val + 2 + (b.val - (a.val + 1)) = _
        omega
      · rw [if_neg h, if_neg h]
    · refine Finset.sum_congr rfl fun b _ => ?_
      obtain ⟨h1, h2⟩ := tri_band a ⟨(31 - a.val) + b.val, by omega⟩ (by simp only; omega)
      unfold posQ
      rw [Nat.add_assoc, h1, h2]
      congr 1
      show a.val + 2 + (31 - a.val + b.val) = _
      omega

end Cert.Bwd
-- ==== Proof.BwdSim.lean ====
/-
  The gradient of the products of the scaled rows, gathered from the gradient of the kept pairs: the sum over the rows'
  graphs of the entries of the pairs that stand at a place.
-/
module

public import proofs.«01_k».proof.Proof.BwdPairs
public import proofs.«01_k».proof.Proof.PrepBlock

@[expose] public section

set_option maxRecDepth 16384

noncomputable section

namespace Cert.Bwd

open Cert.Tri Cert.Prep
open Idealize.ShloMosaic Idealize.ShloMosaic.TcCoe Idealize.SL.Sem

variable (g : SG.Idx → EReal) (s : Fin 96 → Fin 32 → Fin 32) (q : Fin 96 → Fin 64 → Fin 64)

/-- What the pairs of the first vertices put at a place: row `i`'s graph at the columns of its vertices. -/
def simV (i j : Fin 96) : EReal :=
  (∑ a : Fin 32, if sx (s i a) = j then gAt g i a.val else 0) + ∑ b : Fin 64, if qx (q i b) = j then gAt g i (32 + b.val) else 0

/-- What the pairs of support vertices put at a place. -/
def simS (i j : Fin 96) : EReal :=
  ∑ n : Fin 96, ∑ a : Fin 32, ∑ b : Fin 32,
    if sx (s n a) = i ∧ sx (s n b) = j then (if a.val < b.val then gAt g n (posS a.val b.val) else 0) else 0

/-- What the pairs of a support with a query vertex put at a place. -/
def simQ (i j : Fin 96) : EReal :=
  ∑ n : Fin 96, ∑ a : Fin 32, ∑ b : Fin 64, if sx (s n a) = i ∧ qx (q n b) = j then gAt g n (posQ a.val b.val) else 0

/-- The gradient of the products of the scaled rows, before it is made symmetric. -/
def dsim (i j : Fin 96) : EReal := simV g s q i j + (simS g s i j + simQ g s q i j)

/-- A support row isn't a query row. -/
theorem sx_ne_qx (a : Fin 32) (b : Fin 64) : sx a ≠ qx b := fun h => by
  have := congrArg Fin.val h
  simp only at this
  omega

/-- Support rows keep their numbers apart, -/
theorem sx_inj {a b : Fin 32} : sx a = sx b ↔ a = b := ⟨fun h => by have := congrArg Fin.val h; exact Fin.ext this, fun h => by rw [h]⟩

/-- and so do query rows. -/
theorem qx_inj {a b : Fin 64} : qx a = qx b ↔ a = b := ⟨fun h => Fin.ext (by have := congrArg Fin.val h; simp only at this; omega), fun h => by rw [h]⟩

/-- A row of the whole is a support row or a query row. -/
theorem sx_or_qx (i : Fin 96) : (∃ a, i = sx a) ∨ ∃ b, i = qx b := by
  by_cases h : i.val < 32
  · exact Or.inl ⟨⟨i.val, h⟩, rfl⟩
  · exact Or.inr ⟨⟨i.val - 32, by omega⟩, Fin.ext (by show i.val = 32 + (i.val - 32); omega)⟩

/-- Against a one-hot row a product is the entry or zero, -/
theorem mul_ind (p : Prop) [Decidable p] (x : EReal) : (if p then (1 : EReal) else 0) * x = if p then x else 0 := by
  split <;> simp

/-- in either order. -/
theorem mul_ind' (p : Prop) [Decidable p] (x : EReal) : x * (if p then (1 : EReal) else 0) = if p then x else 0 := by
  split <;> simp

/-- A sum of entries chosen by a condition, itself chosen by another. -/
theorem ite_sum {n : ℕ} (p : Prop) [Decidable p] (r : Fin n → Prop) [DecidablePred r] (x : Fin n → EReal) :
    (if p then ∑ a, (if r a then x a else 0) else 0) = ∑ a, if r a ∧ p then x a else 0 := by
  by_cases h : p <;> simp [h]

/-- What the kernel's row sums put at a support column. -/
theorem simV_s (i : Fin 96) (j : Fin 32) : simV g s q i (sx j) = ∑ a : Fin 32, if s i a = j then gAt g i a.val else 0 := by
  unfold simV
  rw [Finset.sum_eq_zero (s := (Finset.univ : Finset (Fin 64))) (fun b _ => if_neg (fun h => sx_ne_qx _ _ h.symm)), add_zero]
  simp only [sx_inj]

/-- What they put at a query column. -/
theorem simV_q (i : Fin 96) (j : Fin 64) : simV g s q i (qx j) = ∑ b : Fin 64, if q i b = j then gAt g i (32 + b.val) else 0 := by
  unfold simV
  rw [Finset.sum_eq_zero (s := (Finset.univ : Finset (Fin 32))) (fun b _ => if_neg (sx_ne_qx _ _)), zero_add]
  simp only [qx_inj]

/-- Pairs of support vertices add nothing to the query rows, -/
theorem simS_row (i : Fin 64) (j : Fin 96) : simS g s (qx i) j = 0 :=
  Finset.sum_eq_zero fun _ _ => Finset.sum_eq_zero fun _ _ => Finset.sum_eq_zero fun _ _ => if_neg fun h => sx_ne_qx _ _ h.1
/-- nor to the query columns; -/
theorem simS_col (i : Fin 96) (j : Fin 64) : simS g s i (qx j) = 0 :=
  Finset.sum_eq_zero fun _ _ => Finset.sum_eq_zero fun _ _ => Finset.sum_eq_zero fun _ _ => if_neg fun h => sx_ne_qx _ _ h.2
/-- the others add nothing to the query rows, -/
theorem simQ_row (i : Fin 64) (j : Fin 96) : simQ g s q (qx i) j = 0 :=
  Finset.sum_eq_zero fun _ _ => Finset.sum_eq_zero fun _ _ => Finset.sum_eq_zero fun _ _ => if_neg fun h => sx_ne_qx _ _ h.1
/-- nor to the support columns. -/
theorem simQ_col (i : Fin 96) (j : Fin 32) : simQ g s q i (sx j) = 0 :=
  Finset.sum_eq_zero fun _ _ => Finset.sum_eq_zero fun _ _ => Finset.sum_eq_zero fun _ _ => if_neg fun h => sx_ne_qx _ _ h.2.symm

/-- The kernel's two products for the pairs of support vertices. -/
theorem simS_eq (i j : Fin 32) : simS g s (sx i) (sx j)
    = ∑ n : Fin 96, ∑ b : Fin 32, (∑ a : Fin 32, (if s n a = i then (1 : EReal) else 0) * dss g (ix3 n a b)) * (if s n b = j then 1 else 0) := by
  unfold simS
  refine Finset.sum_congr rfl fun n _ => ?_
  rw [Finset.sum_comm]
  refine Finset.sum_congr rfl fun b _ => ?_
  simp only [mul_ind, mul_ind', ite_sum, sx_inj]
  rfl

/-- The kernel's two products for the pairs of a support with a query vertex. -/
theorem simQ_eq (i : Fin 32) (j : Fin 64) : simQ g s q (sx i) (qx j)
    = ∑ n : Fin 96, ∑ b : Fin 64, (∑ a : Fin 32, (if s n a = i then (1 : EReal) else 0) * dsq g (ix3 n a b)) * (if q n b = j then 1 else 0) := by
  unfold simQ
  refine Finset.sum_congr rfl fun n _ => ?_
  rw [Finset.sum_comm]
  refine Finset.sum_congr rfl fun b _ => ?_
  simp only [mul_ind, mul_ind', ite_sum, sx_inj, qx_inj]
  rfl

/-- Vertex `k` of row `n`'s graph in the given orders: the row itself, then its support rows, then its query rows. -/
def vtx (n : Fin 96) (k : ℕ) : Fin 96 :=
  if k = 0 then n
  else if h : k - 1 < 32 then sx (s n ⟨k - 1, h⟩)
  else if h : k - 33 < 64 then qx (q n ⟨k - 33, h⟩)
  else n

/-- The first vertices after the row itself are its support order, -/
theorem vtx_s (n : Fin 96) (a : Fin 32) : vtx s q n (a.val + 1) = sx (s n a) := by
  unfold vtx
  rw [if_neg (by omega), dif_pos (show a.val + 1 - 1 < 32 by omega)]
  rfl

/-- the others its query order. -/
theorem vtx_q (n : Fin 96) (b : Fin 64) : vtx s q n (b.val + 33) = qx (q n b) := by
  unfold vtx
  rw [if_neg (by omega), dif_neg (by omega), dif_pos (show b.val + 33 - 33 < 64 by omega)]
  congr 3

/-- The sum over all rows' kept pairs that stand at a place is `dsim` there. -/
theorem dsim_eq (i j : Fin 96) : ∑ n : Fin 96, ∑ p : Fin 2640,
      (if vtx s q n (triRow p.val) = i ∧ vtx s q n (triCol p.val) = j then g (ix2 n p) else 0) = dsim g s q i j := by
  have h : ∀ n : Fin 96, ∑ p : Fin 2640, (if vtx s q n (triRow p.val) = i ∧ vtx s q n (triCol p.val) = j then g (ix2 n p) else 0)
      = ((∑ a : Fin 32, if n = i ∧ sx (s n a) = j then gAt g n a.val else 0)
          + ∑ b : Fin 64, if n = i ∧ qx (q n b) = j then gAt g n (32 + b.val) else 0)
        + ((∑ a : Fin 32, ∑ b : Fin 32, if a.val < b.val then
              (if sx (s n a) = i ∧ sx (s n b) = j then gAt g n (posS a.val b.val) else 0) else 0)
          + ∑ a : Fin 32, ∑ b : Fin 64, if sx (s n a) = i ∧ qx (q n b) = j then gAt g n (posQ a.val b.val) else 0) := by
    intro n
    refine Eq.trans (Finset.sum_congr rfl fun p _ => ?_)
      ((sum_pairs fun r c p => if vtx s q n r = i ∧ vtx s q n c = j then gAt g n p else 0).trans ?_)
    · rw [gAt_eq]
    · simp only [vtx_s, vtx_q]
      rfl
  simp only [h, Finset.sum_add_distrib]
  unfold dsim simV simS simQ
  congr 1
  · congr 1
    · rw [Finset.sum_comm]
      refine Finset.sum_congr rfl fun a _ => ?_
      rw [Finset.sum_eq_single i (fun n _ hn => if_neg fun h => hn h.1) (fun h => absurd (Finset.mem_univ i) h)]
      simp only [true_and]
    · rw [Finset.sum_comm]
      refine Finset.sum_congr rfl fun a _ => ?_
      rw [Finset.sum_eq_single i (fun n _ hn => if_neg fun h => hn h.1) (fun h => absurd (Finset.mem_univ i) h)]
      simp only [true_and]
  · congr 1
    refine Finset.sum_congr rfl fun n _ => Finset.sum_congr rfl fun a _ => Finset.sum_congr rfl fun b _ => ?_
    by_cases h1 : a.val < b.val <;> by_cases h2 : sx (s n a) = i ∧ sx (s n b) = j <;> simp [h1, h2]

end Cert.Bwd
-- ==== Proof.BwdRef.lean ====
/-
  What the backward reference computes up to the gradient of the scaled rows: the vertices of each row's graph, the
  scattered gradient of the kept pairs, and the gradient of the rows from it.
-/
module
public import proofs.«01_k».proof.Proof.Gen.RBwdSIdeal.Run
public import proofs.«01_k».proof.Proof.PrepRef
public import proofs.«01_k».proof.Proof.BwdSim
public import Idealize.ShloMosaic.Lib.Routing.OpsPair

@[expose] public section

set_option maxRecDepth 16384

noncomputable section

namespace Cert.BwdRef

open Cert.RBwdSIdeal Cert.RBwdSIdeal.Gen Cert.RBwdSIdeal.Value Cert.Rank Cert.Tri Cert.Bwd Cert.Prep
open Idealize.ShloMosaic Idealize.ShloMosaic.TcCoe Idealize.SL.Sem Idealize.ShloMosaic.Routing

section
variable (g : S96x2640.Idx → EReal) (G : S96x96.Idx → EReal) (t : IVec S2640 32) (t' : IVec S2640 32)

/-- The vertices of each row's graph. -/
def vertices : IVec S96x97 32 :=
  concatenate S96x97 1 [⟨S96x1, broadcastInDim S96x1 ![0] bcast_S96_S96x1_0 (iotaInDim S96 32 0)⟩, ⟨S96x32, PrepRef.orderS G⟩, ⟨S96x64, addi (PrepRef.orderQ G) (broadcastInDim S96x64 ![] bcast_S_S96x64 (constantI S_ 32 32#32))⟩] concatenates_S96x1_S96x32_S96x64_S96x97_d1

/-- The vertices that a table of positions picks in each row. -/
def ends : IVec S96x2640 32 :=
  Host.gather gather_S96x97_S2640x1_S96x2640_0_1_n_n_1_1_961 (vertices G) (broadcastInDim S2640x1 ![0] bcast_S2640_S2640x1_0 (select (constantI S2640 1 0#1) (addi t (broadcastInDim S2640 ![] bcast_S_S2640 (constantI S_ 32 97#32))) t))

/-- The same as one coordinate of a place. -/
def coord : IVec S96x2640x1 32 :=
  broadcastInDim S96x2640x1 ![0, 1] bcast_S96x2640_S96x2640x1_0_1 (select (cmpi .slt (ends G t) (broadcastInDim S96x2640 ![] bcast_S_S96x2640 (constantI S_ 32 0#32))) (addi (ends G t) (broadcastInDim S96x2640 ![] bcast_S_S96x2640 (constantI S_ 32 96#32))) (ends G t))

/-- The place of each kept pair. -/
def places : IVec S96x2640x2 32 :=
  concatenate S96x2640x2 2 [⟨S96x2640x1, coord G t⟩, ⟨S96x2640x1, coord G t'⟩] concatenates_S96x2640x1_S96x2640x1_S96x2640x2_d2

/-- The gradient of the kept pairs added up at their places. -/
def scattered : S96x96.Idx → EReal :=
  Host.scatterAdd (F := Ideal) (φ := .f32) scatter_S96x96_S96x2640x2_S96x2640_n_01_01_2 (broadcastInDim S96x96 ![] bcast_S_S96x96 (constant S_ .f32 0x00000000#32)) (places G t t') g

variable (D : S96x96.Idx → EReal) (f : S96x512.Idx → EReal)

/-- Its columns of query rows. -/
def toQ : S96x64.Idx → EReal := extractStridedSlice S96x64 ![0, 32] D slices_S96x96_S96x64_0_32
/-- Its columns of support rows, turned. -/
def toS : S32x96.Idx → EReal := transpose S32x96 [1, 0] (extractStridedSlice S96x32 ![0, 0] D slices_S96x96_S96x32_0_0) transposes_S96x32_S32x96_1_0

/-- The gradient of the three blocks of products, each at its place. -/
def blocks : S96x96.Idx → EReal :=
  addf (F := Ideal) (φ := .f32) (addf (F := Ideal) (φ := .f32) (pad S96x96 ![0, 32] ![64, 0] ![0, 0] (addf (F := Ideal) (φ := .f32) (extractStridedSlice S32x64 ![0, 0] (toQ D) slices_S96x64_S32x64_0_0) (extractStridedSlice S32x64 ![0, 32] (toS D) slices_S32x96_S32x64_0_32)) (constant (F := Ideal) S_ .f32 0x00000000#32) pads_S32x64_S96x96_0640_3200 h_S_) (pad S96x96 ![32, 32] ![0, 0] ![0, 0] (extractStridedSlice S64x64 ![32, 0] (toQ D) slices_S96x64_S64x64_32_0) (constant (F := Ideal) S_ .f32 0x00000000#32) pads_S64x64_S96x96_3200_3200 h_S_)) (pad S96x96 ![0, 0] ![64, 64] ![0, 0] (extractStridedSlice S32x32 ![0, 0] (toS D) slices_S32x96_S32x32_0_0) (constant (F := Ideal) S_ .f32 0x00000000#32) pads_S32x32_S96x96_0640_0640 h_S_)

/-- The gradient of the scaled rows from it. -/
def grad : S96x512.Idx → EReal :=
  addf (F := Ideal) (φ := .f32) (Host.dotGeneral (F := Ideal) (φ₁ := .f32) (φ₂ := .f32) dot_S96x96_S512x96_S96x512_1_1_0_0_n_n none (blocks D) (transpose S512x96 [1, 0] f transposes_S96x512_S512x96_1_0)) (transpose S96x512 [1, 0] (transpose S512x96 [1, 0] (Host.dotGeneral (F := Ideal) (φ₁ := .f32) (φ₂ := .f32) dot_S96x96_S96x512_S96x512_0_0_1_1_n_n none (blocks D) f) transposes_S96x512_S512x96_1_0) transposes_S512x96_S96x512_1_0)

end

/-! ## Read entry by entry -/

section
variable (g : S96x2640.Idx → EReal) (G : S96x96.Idx → EReal) (t : IVec S2640 32) (t' : IVec S2640 32)

/-- Each row's support rows in descending order of their products with it, -/
def ordS (n : Fin 96) (a : Fin 32) : Fin 32 := top (PrepRef.srow G n) a
/-- and its query rows. -/
def ordQ (n : Fin 96) (a : Fin 64) : Fin 64 := top (PrepRef.qrow G n) a

variable (hG : ∀ i j, G (ix2 i j) = G (ix2 j i))
include hG

/-- The list of a row's vertices, as words. -/
theorem vertices_at (n : Fin 96) (k : Fin 97) : vertices G (ix2 n k) = BitVec.ofNat 32 (vtx (ordS G) (ordQ G) n k.val).val := by
  unfold vertices vtx ordS ordQ
  pointwise
  simp only [PrepRef.orderS_at G hG, PrepRef.orderQ_at G hG]
  by_cases h0 : k.val = 0
  · rw [dif_pos (by omega), if_pos h0]
  · rw [dif_neg (by omega), if_neg h0]
    by_cases h1 : k.val - 1 < 32
    · rw [dif_pos (by omega), dif_pos h1]
    · rw [dif_neg (by omega), dif_neg h1, dif_pos (by omega)]
      show BitVec.ofNat 32 _ + BitVec.ofNat 32 32 = _
      rw [← BitVec.ofNat_add, Nat.add_comm]
      congr 4

/-- A table of positions picks these vertices. -/
theorem ends_at (r : ℕ → ℕ) (ht : ∀ p : Fin 2640, t (ix1 p) = BitVec.ofNat 32 (r p.val) ∧ r p.val < 97) (n : Fin 96) (p : Fin 2640) :
    ends G t (ix2 n p) = BitVec.ofNat 32 (vtx (ordS G) (ordQ G) n (r p.val)).val := by
  obtain ⟨h1, h2⟩ := ht p
  refine (congrArg (vertices G) (funext fun a => Fin.ext ?_ : _ = ix2 n ⟨r p.val, h2⟩)).trans (vertices_at G hG _ _)
  have hs : (gather_S96x97_S2640x1_S96x2640_0_1_n_n_1_1_961).siIdx (ix2 n p) ⟨0, by decide⟩ = ix2 p 0 := by
    funext b; fin_cases b <;> rfl
  have hd : (broadcastInDim S2640x1 ![0] bcast_S2640_S2640x1_0 (select (constantI S2640 1 0#1) (addi t (broadcastInDim S2640 ![] bcast_S_S2640 (constantI S_ 32 97#32))) t)) (ix2 p 0)
      = BitVec.ofNat 32 (r p.val) := by
    pointwise
    exact h1
  match a with
  | ⟨0, _⟩ => show 0 + 0 + n.val = n.val; omega
  | ⟨1, _⟩ =>
    show min (((broadcastInDim S2640x1 ![0] bcast_S2640_S2640x1_0 (select (constantI S2640 1 0#1) (addi t (broadcastInDim S2640 ![] bcast_S_S2640 (constantI S_ 32 97#32))) t)) ((gather_S96x97_S2640x1_S96x2640_0_1_n_n_1_1_961).siIdx (ix2 n p) ⟨0, _⟩)).toInt.toNat) 96 + 0 + 0 = _
    rw [hs, hd, PrepRef.toInt_small _ (by omega)]
    show min _ _ + 0 + 0 = r p.val
    omega

/-- A kept pair's vertex, as a word, found through the table. -/
theorem coord_at (r : ℕ → ℕ) (ht : ∀ p : Fin 2640, t (ix1 p) = BitVec.ofNat 32 (r p.val) ∧ r p.val < 97) (n : Fin 96) (p : Fin 2640) :
    coord G t (ix3 n p 0) = BitVec.ofNat 32 (vtx (ordS G) (ordQ G) n (r p.val)).val := by
  unfold coord
  pointwise
  rw [ends_at G t hG r ht]
  exact PrepRef.select_nonneg _ (by have := (vtx (ordS G) (ordQ G) n (r p.val)).isLt; omega) _

omit hG in
/-- A small word read as an integer is the number. -/
theorem toInt_word (x : Fin 96) (i : Fin 96) : (BitVec.ofNat 32 x.val).toInt = (i.val : ℤ) ↔ x = i := by
  rw [BitVec.toInt_eq_toNat_of_lt (by simp; omega)]
  simp only [BitVec.toNat_ofNat, Nat.cast_inj]
  rw [Nat.mod_eq_of_lt (by omega)]
  exact Fin.val_inj

variable (ht : ∀ p : Fin 2640, t (ix1 p) = BitVec.ofNat 32 (triRow p.val) ∧ triRow p.val < 97)
  (ht' : ∀ p : Fin 2640, t' (ix1 p) = BitVec.ofNat 32 (triCol p.val) ∧ triCol p.val < 97)
include ht ht'

/-- A kept pair's place. -/
theorem lands (n : Fin 96) (p : Fin 2640) (i j : Fin 96) :
    (scatter_S96x96_S96x2640x2_S96x2640_n_01_01_2).resultIdx? (ix2 n p) (places G t t') = some (ix2 i j)
      ↔ vtx (ordS G) (ordQ G) n (triRow p.val) = i ∧ vtx (ordS G) (ordQ G) n (triCol p.val) = j := by
  have e0 : places G t t' (ix3 n p 0) = coord G t (ix3 n p 0) := by
    unfold places
    pointwise
  have e1 : places G t t' (ix3 n p 1) = coord G t' (ix3 n p 0) := by
    unfold places
    pointwise
  refine (scatter_lands2 scatter_S96x96_S96x2640x2_S96x2640_n_01_01_2 rfl rfl rfl (places G t t') n p i j).trans ?_
  show (places G t t' (ix3 n p 0)).toInt = _ ∧ (places G t t' (ix3 n p 1)).toInt = _ ↔ _
  rw [e0, e1, coord_at G t hG triRow ht, coord_at G t' hG triCol ht', toInt_word, toInt_word]

/-- The scattered gradient is the sum over the pairs that stand at a place. -/
theorem scattered_at (i j : Fin 96) : scattered g G t t' (ix2 i j) = dsim g (ordS G) (ordQ G) i j := by
  rw [← dsim_eq]
  have h0 : (broadcastInDim S96x96 ![] bcast_S_S96x96 (constant (F := Ideal) S_ .f32 0x00000000#32)) (ix2 i j) = (0 : EReal) := by
    pointwise
  unfold scattered Host.scatterAdd
  rw [Ideal.hostScatterAdd_def]
  unfold Ideal.hostScatterAdd
  rw [h0, zero_add, Finset.sum_filter, ValueIdx.sum_idx2]
  refine Finset.sum_congr rfl fun n _ => Finset.sum_congr rfl fun p _ => ?_
  exact if_congr (lands G t t' hG ht ht' n p i j) rfl rfl

end

section
variable (D : S96x96.Idx → EReal) (f : S96x512.Idx → EReal)

/-- The four blocks: among the support rows the gradient arrives turned. -/
theorem blocks_ss (i j : Fin 32) : blocks D (ix2 (sx i) (sx j)) = D (ix2 (sx j) (sx i)) := by
  unfold blocks toQ toS
  pointwise
  simp only [false_and, and_false, dite_false, add_zero, zero_add]
/-- Support against query both parts of the gradient arrive, -/
theorem blocks_sq (i : Fin 32) (j : Fin 64) : blocks D (ix2 (sx i) (qx j)) = D (ix2 (sx i) (qx j)) + D (ix2 (qx j) (sx i)) := by
  unfold blocks toQ toS
  pointwise
  simp only [false_and, and_false, dite_false, add_zero, zero_add]
/-- query against support none, -/
theorem blocks_qs (i : Fin 64) (j : Fin 32) : blocks D (ix2 (qx i) (sx j)) = 0 := by
  unfold blocks toQ toS
  pointwise
  simp only [false_and, and_false, dite_false, add_zero, zero_add]
/-- among the query rows the one. -/
theorem blocks_qq (i : Fin 64) (j : Fin 64) : blocks D (ix2 (qx i) (qx j)) = D (ix2 (qx i) (qx j)) := by
  unfold blocks toQ toS
  pointwise
  simp only [false_and, and_false, dite_false, add_zero, zero_add]

/-- Made symmetric, the four blocks are the gradient made symmetric. -/
theorem blocks_symm (i j : Fin 96) : blocks D (ix2 i j) + blocks D (ix2 j i) = D (ix2 i j) + D (ix2 j i) := by
  rcases sx_or_qx i with ⟨i, rfl⟩ | ⟨i, rfl⟩ <;> rcases sx_or_qx j with ⟨j, rfl⟩ | ⟨j, rfl⟩
  · rw [blocks_ss, blocks_ss, add_comm]
  · rw [blocks_sq, blocks_qs, add_zero]
  · rw [blocks_sq, blocks_qs, zero_add, add_comm]
  · rw [blocks_qq, blocks_qq]

/-- The gradient of the scaled rows, as two sums. -/
theorem grad_at (i : Fin 96) (k : Fin 512) : grad D f (ix2 i k)
    = (∑ j : Fin 96, blocks D (ix2 i j) * f (ix2 j k)) + ∑ j : Fin 96, blocks D (ix2 j i) * f (ix2 j k) := by
  unfold grad
  obtain ⟨d, hd⟩ : ∃ d, d = blocks D := ⟨_, rfl⟩
  rw [← hd]
  pointwise

end
end Cert.BwdRef
-- ==== Proof.BwdBack.lean ====
/-
  What the backward reference computes from the gradient of the scaled rows: the gradient of the rows themselves.
-/
module
public import proofs.«01_k».proof.Proof.BwdRef

@[expose] public section

set_option maxRecDepth 16384

noncomputable section

namespace Cert.BwdRef

open Cert.RBwdSIdeal Cert.RBwdSIdeal.Gen Cert.RBwdSIdeal.Value
open Idealize.ShloMosaic Idealize.ShloMosaic.TcCoe Idealize.SL.Sem

/-- Each row's norm. -/
def norm (x : S96x512.Idx → EReal) : S96x1.Idx → EReal :=
  Host.sqrt (F := Ideal) (φ := .f32) (broadcastInDim S96x1 ![0] bcast_S96_S96x1_0 (Host.reduceAdd (F := Ideal) (φ := .f32) (mulf (F := Ideal) (φ := .f32) x x) (constant S_ .f32 0x00000000#32) reducesTo_S96x512_S96_d1 h_S_))

/-- What each row is divided by. -/
def divisor (N : S96x1.Idx → EReal) : S96x1.Idx → EReal :=
  maximumf (F := Ideal) (φ := .f32) N (broadcastInDim S96x1 ![] bcast_S_S96x1 (constant (F := Ideal) S_ .f32 0x2B8CBCCC#32))

variable (x d : S96x512.Idx → EReal) (N M : S96x1.Idx → EReal)

/-- Half the gradient of each row's squared norm. -/
def corr : S96x512.Idx → EReal :=
  broadcastInDim S96x512 ![0] bcast_S96_S96x512_0 (Host.reduceAdd (F := Ideal) (φ := .f32) (mulf (F := Ideal) (φ := .f32) (mulf (F := Ideal) (φ := .f32) (Host.negf (F := Ideal) (φ := .f32) (shapeCast _ (Host.reduceAdd (F := Ideal) (φ := .f32) (mulf (F := Ideal) (φ := .f32) (mulf (F := Ideal) (φ := .f32) d (broadcastInDim S96x512 ![0, 1] bcast_S96x1_S96x512_0_1 (Host.divf (F := Ideal) (φ := .f32) (broadcastInDim S96x1 ![] bcast_S_S96x1 (constant S_ .f32 0x3F800000#32)) (mulf (F := Ideal) (φ := .f32) M M)))) x) (constant S_ .f32 0x00000000#32) reducesTo_S96x512_S96_d1 h_S_) shapeCasts_S96_S96x1)) (select (cmpf (F := Ideal) (φ := .f32) .ogt N (broadcastInDim S96x1 ![] bcast_S_S96x1 (constant S_ .f32 0x2B8CBCCC#32))) (broadcastInDim S96x1 ![] bcast_S_S96x1 (constant S_ .f32 0x3F800000#32)) (select (cmpf (F := Ideal) (φ := .f32) .oeq N (broadcastInDim S96x1 ![] bcast_S_S96x1 (constant S_ .f32 0x2B8CBCCC#32))) (broadcastInDim S96x1 ![] bcast_S_S96x1 (constant S_ .f32 0x3F000000#32)) (broadcastInDim S96x1 ![] bcast_S_S96x1 (constant S_ .f32 0x00000000#32))))) (Host.divf (F := Ideal) (φ := .f32) (broadcastInDim S96x1 ![] bcast_S_S96x1 (constant S_ .f32 0x3F000000#32)) N)) (constant S_ .f32 0x00000000#32) reducesTo_S96x1_S96_d1 h_S_)

/-- The gradient of the rows. -/
def back : S96x512.Idx → EReal :=
  addf (F := Ideal) (φ := .f32) (Host.divf (F := Ideal) (φ := .f32) d (broadcastInDim S96x512 ![0, 1] bcast_S96x1_S96x512_0_1 M)) (addf (F := Ideal) (φ := .f32) (mulf (F := Ideal) (φ := .f32) x (corr x d N M)) (mulf (F := Ideal) (φ := .f32) (corr x d N M) x))

/-- A row's norm is the square root of its sum of squares. -/
theorem norm_at (i : Fin 96) : norm x (ix2 i 0) = Ideal.sqrt (∑ k : Fin 512, x (ix2 i k) * x (ix2 i k)) := by
  unfold norm
  pointwise

/-- What a row is divided by is the larger of its norm and the smallest divisor. -/
theorem divisor_at (i : Fin 96) : divisor N (ix2 i 0) = max (N (ix2 i 0)) (Ideal.ofBits .f32 0x2B8CBCCC#32) := by
  unfold divisor
  pointwise

/-- Half the gradient of the squared norm, entry by entry. -/
theorem corr_at (i : Fin 96) (k : Fin 512) : corr x d N M (ix2 i k)
    = (-∑ l : Fin 512, d (ix2 i l) * Ideal.div 1 (M (ix2 i 0) * M (ix2 i 0)) * x (ix2 i l))
        * (if Ideal.ofBits .f32 0x2B8CBCCC#32 < N (ix2 i 0) then 1
            else if N (ix2 i 0) = Ideal.ofBits .f32 0x2B8CBCCC#32 then Ideal.ofBits .f32 0x3F000000#32 else 0)
        * Ideal.div (Ideal.ofBits .f32 0x3F000000#32) (N (ix2 i 0)) := by
  unfold corr
  pointwise
  exact Fin.sum_univ_one _

/-- The gradient of the rows, entry by entry. -/
theorem back_at (i : Fin 96) (k : Fin 512) : back x d N M (ix2 i k)
    = Ideal.div (d (ix2 i k)) (M (ix2 i 0)) + (x (ix2 i k) * corr x d N M (ix2 i k) + corr x d N M (ix2 i k) * x (ix2 i k)) := by
  unfold back
  obtain ⟨c, hc⟩ : ∃ c, c = corr x d N M := ⟨_, rfl⟩
  rw [← hc]
  pointwise

end Cert.BwdRef
-- ==== Proof.BwdKernel.lean ====
/-
  The arithmetic of the backward kernel, entry by entry.
-/
module

public import proofs.«01_k».proof.Proof.BwdSim
public import proofs.«01_k».proof.Proof.BwdSBlock

@[expose] public section

set_option maxRecDepth 16384

noncomputable section

namespace Cert.Bwd.S

open Cert.KBwdSIdeal Cert.KBwdSIdeal.Gen Cert.Bwd Cert.Prep
open Idealize.ShloMosaic Idealize.ShloMosaic.TcCoe Idealize.SL.Sem

variable (g : S96x2640.Idx → EReal) (P : S96x32x32.Idx → EReal) (Q : S96x64x64.Idx → EReal) (f : S96x512.Idx → EReal)

/-- Row by row, one-hot rows against the gradient of the row's first pairs, support columns. -/
abbrev rowS : S96x32.Idx → EReal :=
  multiReduction (F := Ideal) (φ := .f32) .add [1] S96x32
    (mulf (F := Ideal) (φ := .f32) P (broadcastTo S96x32x32 (shapeCast S96x32x1 (dvs g) shapeCasts_S96x32_S96x32x1) broadcasts_S96x32x1_S96x32x32))
    0x00000000#32 reduces_S96x32x32_S96x32 (.inl rfl) rfl

/-- The same for the query columns. -/
abbrev rowQ : S96x64.Idx → EReal :=
  multiReduction (F := Ideal) (φ := .f32) .add [1] S96x64
    (mulf (F := Ideal) (φ := .f32) Q (broadcastTo S96x64x64 (shapeCast S96x64x1 (dvq g) shapeCasts_S96x64_S96x64x1) broadcasts_S96x64x1_S96x64x64))
    0x00000000#32 reduces_S96x64x64_S96x64 (.inl rfl) rfl

/-- The pairs of support vertices, put at their places and summed over the rows. -/
abbrev pairS : S32x32.Idx → EReal :=
  multiReduction (F := Ideal) (φ := .f32) .add [0] S32x32
    (matmul (F := Ideal) (φ₁ := .f32) (φ₂ := .f32) dot_S96x32x32_S96x32x32_S96x32x32_2_1_1_2_0_0 none
      (matmul (F := Ideal) (φ₁ := .f32) (φ₂ := .f32) dot_S96x32x32_S96x32x32_S96x32x32_1_1_2_2_0_0 none P (dss g) (constant S96x32x32 .f32 0x00000000#32))
      P (constant S96x32x32 .f32 0x00000000#32)) 0x00000000#32 reduces_S96x32x32_S32x32 (.inl rfl) rfl

/-- The pairs of a support with a query vertex, put at their places and summed over the rows. -/
abbrev pairQ : S32x64.Idx → EReal :=
  multiReduction (F := Ideal) (φ := .f32) .add [0] S32x64
    (matmul (F := Ideal) (φ₁ := .f32) (φ₂ := .f32) dot_S96x32x64_S96x64x64_S96x32x64_2_1_1_2_0_0 none
      (matmul (F := Ideal) (φ₁ := .f32) (φ₂ := .f32) dot_S96x32x32_S96x32x64_S96x32x64_1_1_2_2_0_0 none P (dsq g) (constant S96x32x64 .f32 0x00000000#32))
      Q (constant S96x32x64 .f32 0x00000000#32)) 0x00000000#32 reduces_S96x32x64_S32x64 (.inl rfl) rfl

/-- The gradient of a row's products with the support rows: a sum over the places of its order; -/
theorem rowS_at (n : Fin 96) (j : Fin 32) : rowS g P (ix2 n j) = ∑ a : Fin 32, P (ix3 n a j) * gAt g n a.val := by
  have h : ∀ a : Fin 32, dvs g (ix2 n a) = gAt g n a.val := fun a => by
    unfold gAt
    rw [dif_pos (by omega)]
    refine congrArg g (funext fun b => Fin.ext ?_)
    match b with
    | ⟨0, _⟩ => show 0 + 1 * n.val = n.val; omega
    | ⟨1, _⟩ => show 0 + 1 * a.val = a.val; omega
  obtain ⟨d, hd⟩ : ∃ d, d = dvs g := ⟨_, rfl⟩
  unfold rowS
  rw [← hd] at h ⊢
  pointwise
  simp only [h]

/-- with the query rows. -/
theorem rowQ_at (n : Fin 96) (j : Fin 64) : rowQ g Q (ix2 n j) = ∑ a : Fin 64, Q (ix3 n a j) * gAt g n (32 + a.val) := by
  have h : ∀ a : Fin 64, dvq g (ix2 n a) = gAt g n (32 + a.val) := fun a => by
    unfold gAt
    rw [dif_pos (by omega)]
    refine congrArg g (funext fun b => Fin.ext ?_)
    match b with
    | ⟨0, _⟩ => show 0 + 1 * n.val = n.val; omega
    | ⟨1, _⟩ => show 32 + 1 * a.val = 32 + a.val; omega
  obtain ⟨d, hd⟩ : ∃ d, d = dvq g := ⟨_, rfl⟩
  unfold rowQ
  rw [← hd] at h ⊢
  pointwise
  simp only [h]

/-- The gradient of the products among the support rows: a sum over all rows and pairs of places; -/
theorem pairS_at (i j : Fin 32) : pairS g P (ix2 i j)
    = ∑ n : Fin 96, ∑ b : Fin 32, (∑ a : Fin 32, P (ix3 n a i) * dss g (ix3 n a b)) * P (ix3 n b j) := by
  obtain ⟨d, hd⟩ : ∃ d, d = dss g := ⟨_, rfl⟩
  unfold pairS
  rw [← hd]
  pointwise

/-- between support and query rows. -/
theorem pairQ_at (i : Fin 32) (j : Fin 64) : pairQ g P Q (ix2 i j)
    = ∑ n : Fin 96, ∑ b : Fin 64, (∑ a : Fin 32, P (ix3 n a i) * dsq g (ix3 n a b)) * Q (ix3 n b j) := by
  obtain ⟨d, hd⟩ : ∃ d, d = dsq g := ⟨_, rfl⟩
  unfold pairQ
  rw [← hd]
  pointwise

/-- The kernel's gradient of the products of the scaled rows, from its four parts. -/
def full (a : S96x32.Idx → EReal) (b : S96x64.Idx → EReal) (c : S32x32.Idx → EReal) (d : S32x64.Idx → EReal) : S96x96.Idx → EReal :=
  addf (F := Ideal) (φ := .f32)
    (concatenate S96x96 1 [⟨S96x32, a⟩, ⟨S96x64, b⟩] concatenates_S96x32_S96x64_S96x96_d1)
    (concatenate S96x96 0 [⟨S32x96, concatenate S32x96 1 [⟨S32x32, c⟩, ⟨S32x64, d⟩] concatenates_S32x32_S32x64_S32x96_d1⟩,
      ⟨S64x96, broadcast S64x96 (Scalar.ofBits (F := Ideal) .f32 0x00000000#32)⟩] concatenates_S32x96_S64x96_S96x96_d0)

section
variable (a : S96x32.Idx → EReal) (b : S96x64.Idx → EReal) (c : S32x32.Idx → EReal) (d : S32x64.Idx → EReal)

/-- The four parts put together: among the support rows, -/
theorem full_ss (i j : Fin 32) : full a b c d (ix2 (sx i) (sx j)) = a (ix2 (sx i) j) + c (ix2 i j) := by
  unfold full
  pointwise
/-- support against query, -/
theorem full_sq (i : Fin 32) (j : Fin 64) : full a b c d (ix2 (sx i) (qx j)) = b (ix2 (sx i) j) + d (ix2 i j) := by
  unfold full
  pointwise
/-- query against support, -/
theorem full_qs (i : Fin 64) (j : Fin 32) : full a b c d (ix2 (qx i) (sx j)) = a (ix2 (qx i) j) + 0 := by
  unfold full
  pointwise
/-- and among the query rows. -/
theorem full_qq (i : Fin 64) (j : Fin 64) : full a b c d (ix2 (qx i) (qx j)) = b (ix2 (qx i) j) + 0 := by
  unfold full
  pointwise
end

/-- With one-hot rows it is `dsim`. -/
theorem full_eq (s : Fin 96 → Fin 32 → Fin 32) (q : Fin 96 → Fin 64 → Fin 64)
    (hP : ∀ n a j, P (ix3 n a j) = if s n a = j then 1 else 0) (hQ : ∀ n a j, Q (ix3 n a j) = if q n a = j then 1 else 0)
    (i j : Fin 96) : full (rowS g P) (rowQ g Q) (pairS g P) (pairQ g P Q) (ix2 i j) = dsim g s q i j := by
  unfold dsim
  rcases sx_or_qx i with ⟨i, rfl⟩ | ⟨i, rfl⟩ <;> rcases sx_or_qx j with ⟨j, rfl⟩ | ⟨j, rfl⟩
  · rw [full_ss, rowS_at, pairS_at, simV_s, simS_eq, simQ_col, add_zero]
    simp only [hP, mul_ind]
  · rw [full_sq, rowQ_at, pairQ_at, simV_q, simQ_eq, simS_col, zero_add]
    simp only [hP, hQ, mul_ind]
  · rw [full_qs, rowS_at, simV_s, simQ_col, simS_row]
    simp only [hP, mul_ind, add_zero]
  · rw [full_qq, rowQ_at, simV_q, simQ_row, simS_row]
    simp only [hQ, mul_ind, add_zero]

/-- The kernel's gradient of the scaled rows: the symmetric part of `dsim` times the scaled rows. -/
theorem pay70_at (s : Fin 96 → Fin 32 → Fin 32) (q : Fin 96 → Fin 64 → Fin 64)
    (hP : ∀ n a j, P (ix3 n a j) = if s n a = j then 1 else 0) (hQ : ∀ n a j, Q (ix3 n a j) = if q n a = j then 1 else 0)
    (i : Fin 96) (k : Fin 512) :
    k0_pay70 (F := Ideal) P Q f (dvs g) (dvq g) (dss g) (dsq g) (ix2 i k)
      = ∑ j : Fin 96, (dsim g s q i j + dsim g s q j i) * f (ix2 j k) := by
  have h := full_eq g P Q s q hP hQ
  obtain ⟨D, hD⟩ : ∃ D, D = full (rowS g P) (rowQ g Q) (pairS g P) (pairQ g P Q) := ⟨_, rfl⟩
  have e : k0_pay70 (F := Ideal) P Q f (dvs g) (dvq g) (dss g) (dsq g)
      = matmul (F := Ideal) (φ₁ := .f32) (φ₂ := .f32) dot_S96x96_S96x512_S96x512_1_0_0_1_n_n none
        (addf (F := Ideal) (φ := .f32) D (transpose S96x96 [1, 0] D transposes_S96x96_p1_0_S96x96)) f (constant S96x512 .f32 0x00000000#32) := by
    rw [hD]
    rfl
  rw [← hD] at h
  rw [e]
  pointwise
  simp only [h]

end Cert.Bwd.S
-- ==== Proof.BwdReal.lean ====
/-
  The gradient of a row divided by its norm, kernel's and reference's way: of a row of reals, and of a row whose norm is
  infinite.
-/
module
public import Idealize.ShloMosaic.Lib.Pointwise
public import Idealize.ShloMosaic.Lib.IdealHost

@[expose] public section

noncomputable section

namespace Cert.Bwd

open Idealize.ShloMosaic

/-- Dividing reals by a real other than zero. -/
theorem div_real (x y : ℝ) (h : y ≠ 0) : Ideal.div (x : EReal) (y : EReal) = ((x / y : ℝ) : EReal) := by
  rw [Ideal.div_coe h, ← EReal.coe_mul]
  congr 1
  ring

/-- Dividing by infinity gives zero. -/
theorem div_top (x : EReal) : Ideal.div x ⊤ = 0 := by
  unfold Ideal.div
  rw [if_neg EReal.top_ne_zero, EReal.inv_top, mul_zero]

/-- A sum of reals is the sum taken over the reals. -/
theorem sum_real {n : ℕ} (f : Fin n → ℝ) : ∑ k, (f k : EReal) = ((∑ k, f k : ℝ) : EReal) := by
  exact (map_sum (⟨⟨fun x : ℝ => (x : EReal), EReal.coe_zero⟩, EReal.coe_add⟩ : ℝ →+ EReal) f Finset.univ).symm

/-- The smallest divisor is a positive real. -/
theorem eps_real : ∃ e : ℝ, 0 < e ∧ Ideal.ofBits .f32 0x2B8CBCCC#32 = (e : EReal) := by
  refine ⟨_, ?_, by simp [Ideal.ofBits, Ideal.ieee]; rfl⟩
  norm_num

/-- The constant ½ is ½. -/
theorem half_real : Ideal.ofBits .f32 0x3F000000#32 = ((1 / 2 : ℝ) : EReal) := by
  simp [Ideal.ofBits, Ideal.ieee]
  rw [← EReal.coe_mul]
  congr 1
  norm_num

/-- An extended real that is a real. -/
def IsReal (y : EReal) : Prop := ∃ r : ℝ, y = (r : EReal)

/-- Zero is real; -/
theorem IsReal.zero : IsReal 0 := ⟨0, rfl⟩
/-- sums of reals are; -/
theorem IsReal.add {x y : EReal} : IsReal x → IsReal y → IsReal (x + y) := fun ⟨a, ha⟩ ⟨b, hb⟩ => ⟨a + b, by rw [ha, hb]; rfl⟩
/-- products; -/
theorem IsReal.mul {x y : EReal} : IsReal x → IsReal y → IsReal (x * y) := fun ⟨a, ha⟩ ⟨b, hb⟩ => ⟨a * b, by rw [ha, hb, EReal.coe_mul]⟩
/-- choices; -/
theorem IsReal.ite {x y : EReal} (p : Prop) [Decidable p] (hx : IsReal x) (hy : IsReal y) : IsReal (if p then x else y) := by
  split
  exacts [hx, hy]
/-- longer sums. -/
theorem IsReal.sum {n : ℕ} {f : Fin n → EReal} (h : ∀ k, IsReal (f k)) : IsReal (∑ k, f k) := by
  choose r hr using h
  exact ⟨∑ k, r k, by rw [← sum_real]; exact Finset.sum_congr rfl fun k _ => hr k⟩

/-- What a row is divided by is a real, not zero. -/
theorem max_real (e n : ℝ) (he : 0 < e) : ∃ m : ℝ, m ≠ 0 ∧ max (n : EReal) (e : EReal) = (m : EReal) :=
  ⟨max n e, (lt_of_lt_of_le he (le_max_right n e)).ne', (EReal.coe_strictMono.monotone.map_max).symm⟩

/-- A real over the larger of a real and a positive real is real. -/
theorem IsReal.div {x : EReal} (e n : ℝ) (he : 0 < e) : IsReal x → IsReal (Ideal.div x (max (n : EReal) (e : EReal))) := fun ⟨r, hr⟩ => by
  obtain ⟨m, hm, e⟩ := max_real e n he
  exact ⟨r / m, by rw [e, hr, div_real _ _ hm]⟩

/-- Two sums of products with the same reals are one. -/
theorem sum_two {n : ℕ} (a b f : Fin n → EReal) (ha : ∀ k, IsReal (a k)) (hb : ∀ k, IsReal (b k)) (hf : ∀ k, IsReal (f k)) :
    (∑ k, a k * f k) + ∑ k, b k * f k = ∑ k, (a k + b k) * f k := by
  rw [← Finset.sum_add_distrib]
  refine Finset.sum_congr rfl fun k _ => ?_
  obtain ⟨x, hx⟩ := ha k
  obtain ⟨y, hy⟩ := hb k
  obtain ⟨z, hz⟩ := hf k
  rw [hx, hy, hz, ← EReal.coe_add, ← EReal.coe_mul, ← EReal.coe_mul, ← EReal.coe_mul, ← EReal.coe_add]
  congr 1
  ring

/-- No square is negative. -/
theorem square_nonneg (x : EReal) : 0 ≤ x * x := by
  induction x with
  | bot => simp
  | top => simp
  | coe r => rw [← EReal.coe_mul]; exact EReal.coe_nonneg.mpr (mul_self_nonneg r)

/-- A sum of squares is infinite, or all that is squared is real. -/
theorem squares_cases {n : ℕ} (x : Fin n → EReal) : ∑ k, x k * x k = ⊤ ∨ ∀ k, IsReal (x k) := by
  by_cases h : ∑ k, x k * x k = ⊤
  · exact Or.inl h
  · refine Or.inr fun k => ?_
    have hle : x k * x k ≤ ∑ k, x k * x k := Finset.single_le_sum (f := fun k => x k * x k) (fun l _ => square_nonneg (x l)) (Finset.mem_univ k)
    have hlt : x k * x k < ⊤ := lt_of_le_of_lt hle (lt_top_iff_ne_top.mpr h)
    generalize x k = y at hlt ⊢
    induction y with
    | bot => simp at hlt
    | top => simp at hlt
    | coe r => exact ⟨r, rfl⟩

/-- Where the norm is infinite, a row's gradient is zero both ways. -/
theorem row_top {w : ℕ} (x d : Fin w → EReal) (e h : EReal) (k : Fin w) (C : EReal)
    (hC : C = (-∑ l, d l * Ideal.div 1 (max ⊤ e * max ⊤ e) * x l)
        * (if e < ⊤ then 1 else if ⊤ = e then h else 0) * Ideal.div ((1 / 2 : ℝ) : EReal) ⊤) :
    Ideal.div (d k) (max ⊤ e) + (x k * C + C * x k)
      = Ideal.div (d k) (max ⊤ e)
        - (if e < ⊤ then Ideal.div (∑ l, d l * Ideal.div (x l) (max ⊤ e)) ⊤ else 0) * Ideal.div (x k) (max ⊤ e) := by
  have hm : max ⊤ e = ⊤ := max_eq_left le_top
  rw [hm] at hC ⊢
  rw [div_top, mul_zero] at hC
  simp only [hC, div_top, mul_zero, zero_mul, add_zero, sub_zero]

/-- A row's gradient by the rule for a quotient and a square root, and by the projection along the row, where the norm
    isn't the smallest divisor. -/
theorem row_eq {w : ℕ} (x d : Fin w → ℝ) (n e : ℝ) (he : 0 < e) (hne : (n : EReal) ≠ e) (h : EReal) (k : Fin w) (C : EReal)
    (hC : C = (-∑ l, (d l : EReal) * Ideal.div 1 (max (n : EReal) e * max (n : EReal) e) * (x l : EReal))
        * (if (e : EReal) < n then 1 else if (n : EReal) = e then h else 0) * Ideal.div ((1 / 2 : ℝ) : EReal) n) :
    Ideal.div (d k) (max (n : EReal) e) + ((x k : EReal) * C + C * (x k : EReal))
      = Ideal.div (d k) (max (n : EReal) e)
        - (if (e : EReal) < n then Ideal.div (∑ l, (d l : EReal) * Ideal.div (x l) (max (n : EReal) e)) n else 0)
          * Ideal.div (x k) (max (n : EReal) e) := by
  by_cases hlt : (e : EReal) < n
  · have hl : e < n := EReal.coe_lt_coe_iff.mp hlt
    have hn : n ≠ 0 := (he.trans hl).ne'
    rw [max_eq_left hlt.le] at hC ⊢
    rw [if_pos hlt, mul_one, ← EReal.coe_mul, ← EReal.coe_one] at hC
    rw [if_pos hlt]
    simp only [div_real _ _ hn, div_real _ _ (mul_ne_zero hn hn), ← EReal.coe_mul, sum_real, ← EReal.coe_neg] at hC ⊢
    rw [hC]
    simp only [← EReal.coe_mul, ← EReal.coe_add, ← EReal.coe_sub]
    congr 1
    have e1 : ∑ l, d l * (1 / (n * n)) * x l = (∑ l, d l * x l) * (1 / (n * n)) := by
      rw [Finset.sum_mul]; exact Finset.sum_congr rfl fun l _ => by ring
    have e2 : ∑ l, d l * (x l / n) = (∑ l, d l * x l) * (1 / n) := by
      rw [Finset.sum_mul]; exact Finset.sum_congr rfl fun l _ => by ring
    rw [e1, e2]
    field_simp
    ring
  · rw [if_neg hlt, if_neg hne, mul_zero, zero_mul] at hC
    rw [if_neg hlt, hC, mul_zero, zero_mul, zero_mul, add_zero, add_zero, sub_zero]

end Cert.Bwd
-- ==== Proof.BwdMath.lean ====
/-
  The backward kernel's gradient of the rows is the reference's, where the gradient of the graph is real, the one-hot rows
  are the orders of the products and the row's norm isn't the smallest divisor.
-/
module
public import proofs.«01_k».proof.Proof.BwdBack
public import proofs.«01_k».proof.Proof.BwdKernel
public import proofs.«01_k».proof.Proof.BwdReal
public import proofs.«01_k».proof.Proof.PrepValue

@[expose] public section

set_option maxRecDepth 16384

noncomputable section

namespace Cert.Bwd

open Cert.KBwdSIdeal Cert.KBwdSIdeal.Gen Cert.Prep Cert.Tri
open Idealize.ShloMosaic Idealize.ShloMosaic.TcCoe Idealize.SL.Sem
open Cert.BwdRef (ordS ordQ scattered grad blocks norm divisor back)

/-! ## What is real -/

/-- The gradient at a kept pair's place is real; -/
theorem gAt_real (g : SG.Idx → EReal) (hg : ∀ i, IsReal (g i)) (n : Fin 96) (p : ℕ) : IsReal (gAt g n p) := by
  unfold gAt
  split
  exacts [hg _, IsReal.zero]

/-- so is the gradient of the products, -/
theorem dsim_real (g : SG.Idx → EReal) (hg : ∀ i, IsReal (g i)) (s : Fin 96 → Fin 32 → Fin 32) (q : Fin 96 → Fin 64 → Fin 64) (i j : Fin 96) :
    IsReal (dsim g s q i j) := by
  have h := gAt_real g hg
  unfold dsim simV simS simQ
  refine IsReal.add (IsReal.add (IsReal.sum fun a => ?_) (IsReal.sum fun a => ?_)) (IsReal.add
    (IsReal.sum fun n => IsReal.sum fun a => IsReal.sum fun b => ?_) (IsReal.sum fun n => IsReal.sum fun a => IsReal.sum fun b => ?_))
  · exact IsReal.ite _ (h _ _) IsReal.zero
  · exact IsReal.ite _ (h _ _) IsReal.zero
  · exact IsReal.ite _ (IsReal.ite _ (h _ _) IsReal.zero) IsReal.zero
  · exact IsReal.ite _ (h _ _) IsReal.zero

/-- and its four blocks. -/
theorem blocks_real (D : S96x96.Idx → EReal) (hD : ∀ i j, IsReal (D (ix2 i j))) (i j : Fin 96) : IsReal (blocks D (ix2 i j)) := by
  rcases sx_or_qx i with ⟨i, rfl⟩ | ⟨i, rfl⟩ <;> rcases sx_or_qx j with ⟨j, rfl⟩ | ⟨j, rfl⟩
  · rw [BwdRef.blocks_ss]; exact hD _ _
  · rw [BwdRef.blocks_sq]; exact (hD _ _).add (hD _ _)
  · rw [BwdRef.blocks_qs]; exact IsReal.zero
  · rw [BwdRef.blocks_qq]; exact hD _ _

/-- The norm of a row of reals is real. -/
theorem norm_real (x : S96x512.Idx → EReal) (i : Fin 96) (hx : ∀ k, IsReal (x (ix2 i k))) : IsReal (norm x (ix2 i 0)) := by
  obtain ⟨r, hr⟩ : IsReal (∑ k : Fin 512, x (ix2 i k) * x (ix2 i k)) := IsReal.sum fun k => (hx k).mul (hx k)
  have h0 : ¬ r < 0 := by
    have : (0 : EReal) ≤ (r : EReal) := by
      rw [← hr]
      exact Finset.sum_nonneg fun k _ => square_nonneg _
    exact not_lt.mpr (EReal.coe_nonneg.mp this)
  refine ⟨Real.sqrt r, ?_⟩
  rw [BwdRef.norm_at, hr]
  show (if r < 0 then ⊥ else (Real.sqrt r : EReal)) = _
  rw [if_neg h0]

/-- A row's norm is infinite, or the row is real. -/
theorem norm_cases (x : S96x512.Idx → EReal) (i : Fin 96) : norm x (ix2 i 0) = ⊤ ∨ ∀ k, IsReal (x (ix2 i k)) := by
  rcases squares_cases fun k : Fin 512 => x (ix2 i k) with h | h
  · refine Or.inl ?_
    rw [BwdRef.norm_at, h]
    rfl
  · exact Or.inr h

/-! ## Kernel and reference -/

section
variable (s : S32x512.Idx → EReal) (q : S64x512.Idx → EReal)

/-- The kernel's norms are the reference's, -/
theorem norm_eq (i : Fin 96) : k0_pay3 (F := Ideal) s q (ix2 i 0) = norm (PrepRef.stacked s q) (ix2 i 0) := by
  rw [BwdRef.norm_at]
  unfold k0_pay3
  obtain ⟨x, hx⟩ : ∃ x, x = k0_pay2 (F := Ideal) s q := ⟨_, rfl⟩
  have hx' : x = PrepRef.stacked s q := hx
  rw [← hx, ← hx']
  pointwise

/-- and so is what it divides by, -/
theorem pay4_at (i : Fin 96) : k0_pay4 (F := Ideal) s q (ix2 i 0) = max (norm (PrepRef.stacked s q) (ix2 i 0)) (Ideal.ofBits .f32 0x2B8CBCCC#32) := by
  rw [← norm_eq]
  unfold k0_pay4
  obtain ⟨N, hN⟩ : ∃ N, N = k0_pay3 (F := Ideal) s q := ⟨_, rfl⟩
  rw [← hN]
  pointwise

/-- the scaled rows entry by entry, -/
theorem pay5_at (i : Fin 96) (k : Fin 512) : k0_pay5 (F := Ideal) s q (ix2 i k)
    = Ideal.div (PrepRef.stacked s q (ix2 i k)) (max (norm (PrepRef.stacked s q) (ix2 i 0)) (Ideal.ofBits .f32 0x2B8CBCCC#32)) := by
  rw [← pay4_at]
  unfold k0_pay5
  obtain ⟨x, hx⟩ : ∃ x, x = k0_pay2 (F := Ideal) s q := ⟨_, rfl⟩
  have hx' : x = PrepRef.stacked s q := hx
  obtain ⟨N, hN⟩ : ∃ N, N = k0_pay4 (F := Ideal) s q := ⟨_, rfl⟩
  rw [← hN, ← hx, ← hx']
  pointwise

/-- and whole. -/
theorem scaled_eq : PrepRef.scaled (PrepRef.stacked s q) = k0_pay5 (F := Ideal) s q := by
  funext i
  obtain ⟨n, p, rfl⟩ : ∃ n p, i = ix2 n p := ⟨i 0, i 1, by funext k; fin_cases k <;> rfl⟩
  rw [pay5_at]
  obtain ⟨N, hN⟩ : ∃ N, N = norm (PrepRef.stacked s q) := ⟨_, rfl⟩
  obtain ⟨x, hx⟩ : ∃ x, x = PrepRef.stacked s q := ⟨_, rfl⟩
  rw [← hN, ← hx]
  have e : PrepRef.scaled x = Host.divf (F := Ideal) (φ := .f32) x (broadcastInDim S96x512 ![0, 1] Cert.RBwdSIdeal.Gen.bcast_S96x1_S96x512_0_1 (divisor N)) := by
    rw [hN, ← hx]
    rfl
  rw [e, ← BwdRef.divisor_at]
  obtain ⟨M, hM⟩ : ∃ M, M = divisor N := ⟨_, rfl⟩
  rw [← hM]
  pointwise

/-- The products are symmetric. -/
theorem gramR_symm (i j : Fin 96) : PrepRef.gram s q (ix2 i j) = PrepRef.gram s q (ix2 j i) := by
  rw [gram_eq]
  exact gram_symm s q i j

end

section
variable (g : S96x2640.Idx → EReal) (P : S96x32x32.Idx → EReal) (Q : S96x64x64.Idx → EReal) (s : S32x512.Idx → EReal) (q : S64x512.Idx → EReal)
  (hP : ∀ n a j, P (ix3 n a j) = if ordS (PrepRef.gram s q) n a = j then 1 else 0)
  (hQ : ∀ n a j, Q (ix3 n a j) = if ordQ (PrepRef.gram s q) n a = j then 1 else 0)
  (hg : ∀ i, IsReal (g i))
  (t t' : IVec Cert.RBwdSIdeal.S2640 32)
  (ht : ∀ p : Fin 2640, t (ix1 p) = BitVec.ofNat 32 (triRow p.val) ∧ triRow p.val < 97)
  (ht' : ∀ p : Fin 2640, t' (ix1 p) = BitVec.ofNat 32 (triCol p.val) ∧ triCol p.val < 97)

/-- The kernel's gradient of the scaled rows. -/
abbrev kgrad : S96x512.Idx → EReal :=
  k0_pay70 (F := Ideal) P Q (k0_pay5 (F := Ideal) s q) (S.dvs g) (S.dvq g) (dss g) (dsq g)

/-- The scaled rows are real, whatever the rows: those of infinite norm are zero. -/
theorem pay5_real (i : Fin 96) (k : Fin 512) : IsReal (k0_pay5 (F := Ideal) s q (ix2 i k)) := by
  rw [pay5_at]
  rcases norm_cases (PrepRef.stacked s q) i with h | h
  · rw [h, max_eq_left le_top, div_top]
    exact IsReal.zero
  · obtain ⟨n, hn⟩ := norm_real _ i h
    obtain ⟨e, he, hε⟩ := eps_real
    rw [hn, hε]
    exact IsReal.div e n he (h k)

include hP hQ hg in
/-- The kernel's gradient of the scaled rows is real. -/
theorem kgrad_real (i : Fin 96) (k : Fin 512) : IsReal (kgrad g P Q s q (ix2 i k)) := by
  unfold kgrad
  rw [S.pay70_at g P Q _ _ _ hP hQ]
  exact IsReal.sum fun j => ((dsim_real g hg _ _ _ _).add (dsim_real g hg _ _ _ _)).mul (pay5_real s q j k)

include hP hQ hg ht ht' in
/-- The reference's gradient of the scaled rows is the kernel's. -/
theorem grad_eq (i : Fin 96) (k : Fin 512) :
    grad (scattered g (PrepRef.gram s q) t t') (PrepRef.scaled (PrepRef.stacked s q)) (ix2 i k) = kgrad g P Q s q (ix2 i k) := by
  have hD := BwdRef.scattered_at g (PrepRef.gram s q) t t' (gramR_symm s q) ht ht'
  obtain ⟨D, hDD⟩ : ∃ D, D = scattered g (PrepRef.gram s q) t t' := ⟨_, rfl⟩
  rw [← hDD] at hD ⊢
  have hDr : ∀ i j, IsReal (D (ix2 i j)) := fun i j => by rw [hD]; exact dsim_real g hg _ _ _ _
  rw [BwdRef.grad_at, scaled_eq, sum_two _ _ _ (fun j => blocks_real D hDr i j) (fun j => blocks_real D hDr j i) (fun j => pay5_real s q j k)]
  unfold kgrad
  rw [S.pay70_at g P Q _ _ _ hP hQ]
  refine Finset.sum_congr rfl fun j _ => ?_
  rw [BwdRef.blocks_symm, hD, hD]

/-- The kernel's first summand of the rows' gradient, -/
theorem pay71_at (d : S96x512.Idx → EReal) (hd : d = kgrad g P Q s q) (i : Fin 96) (k : Fin 512) :
    k0_pay71 (F := Ideal) P Q (k0_pay4 (F := Ideal) s q) (k0_pay5 (F := Ideal) s q) (S.dvs g) (S.dvq g) (dss g) (dsq g) (ix2 i k)
      = Ideal.div (d (ix2 i k)) (k0_pay4 (F := Ideal) s q (ix2 i 0)) := by
  unfold kgrad at hd
  unfold k0_pay71
  rw [← hd]
  obtain ⟨M, hM⟩ : ∃ M, M = k0_pay4 (F := Ideal) s q := ⟨_, rfl⟩
  rw [← hM]
  pointwise

/-- and the factor of its second. -/
theorem pay73_at (d : S96x512.Idx → EReal) (hd : d = kgrad g P Q s q) (i : Fin 96) :
    k0_pay73 (F := Ideal) P Q (k0_pay3 (F := Ideal) s q) (k0_pay5 (F := Ideal) s q) (S.dvs g) (S.dvq g) (dss g) (dsq g) (ix2 i 0)
      = Ideal.div (∑ l : Fin 512, d (ix2 i l) * k0_pay5 (F := Ideal) s q (ix2 i l)) (k0_pay3 (F := Ideal) s q (ix2 i 0)) := by
  unfold kgrad at hd
  unfold k0_pay73
  rw [← hd]
  obtain ⟨M, hM⟩ : ∃ M, M = k0_pay3 (F := Ideal) s q := ⟨_, rfl⟩
  obtain ⟨f, hf⟩ : ∃ f, f = k0_pay5 (F := Ideal) s q := ⟨_, rfl⟩
  rw [← hM, ← hf]
  pointwise

include hP hQ hg ht ht' in
/-- The reference's gradient of a row is the kernel's, where the row's norm isn't the smallest divisor. -/
theorem back_eq (i : Fin 96) (hne : norm (PrepRef.stacked s q) (ix2 i 0) ≠ Ideal.ofBits .f32 0x2B8CBCCC#32) (k : Fin 512) :
    back (PrepRef.stacked s q) (grad (scattered g (PrepRef.gram s q) t t') (PrepRef.scaled (PrepRef.stacked s q)))
        (norm (PrepRef.stacked s q)) (divisor (norm (PrepRef.stacked s q))) (ix2 i k)
      = k0_pay71 (F := Ideal) P Q (k0_pay4 (F := Ideal) s q) (k0_pay5 (F := Ideal) s q) (S.dvs g) (S.dvq g) (dss g) (dsq g) (ix2 i k)
        - (if Ideal.ofBits .f32 0x2B8CBCCC#32 < k0_pay3 (F := Ideal) s q (ix2 i 0) then
            k0_pay73 (F := Ideal) P Q (k0_pay3 (F := Ideal) s q) (k0_pay5 (F := Ideal) s q) (S.dvs g) (S.dvq g) (dss g) (dsq g) (ix2 i 0)
            else 0) * k0_pay5 (F := Ideal) s q (ix2 i k) := by
  have hdr := kgrad_real g P Q s q hP hQ hg i
  have hde := grad_eq g P Q s q hP hQ hg t t' ht ht' i
  obtain ⟨d, hd⟩ : ∃ d, d = kgrad g P Q s q := ⟨_, rfl⟩
  have h71 := pay71_at g P Q s q d hd i k
  have h73 := pay73_at g P Q s q d hd i
  rw [← hd] at hdr hde
  rw [h71, h73, pay4_at, norm_eq]
  obtain ⟨d', hd'⟩ : ∃ d', d' = grad (scattered g (PrepRef.gram s q) t t') (PrepRef.scaled (PrepRef.stacked s q)) := ⟨_, rfl⟩
  rw [← hd'] at hde ⊢
  simp only [pay5_at]
  have hcase := norm_cases (PrepRef.stacked s q) i
  have hnr := norm_real (PrepRef.stacked s q) i
  obtain ⟨x, hx⟩ : ∃ x, x = PrepRef.stacked s q := ⟨_, rfl⟩
  rw [← hx] at hcase hnr hne ⊢
  obtain ⟨N, hN⟩ : ∃ N, N = norm x := ⟨_, rfl⟩
  rw [← hN] at hcase hnr hne ⊢
  have hc := BwdRef.corr_at x d' N (divisor N) i k
  rw [BwdRef.back_at]
  rw [BwdRef.divisor_at] at hc ⊢
  rcases hcase with hn | hxr
  · simp only [hde, hn, half_real] at hc ⊢
    exact row_top (fun l => x (ix2 i l)) (fun l => d (ix2 i l)) _ _ k _ hc
  · obtain ⟨e, he, hε⟩ := eps_real
    obtain ⟨n, hn⟩ := hnr hxr
    choose y hy using hxr
    choose b hb using hdr
    simp only [hde, hb, hy, hn, hε, half_real] at hc hne ⊢
    exact row_eq y b n e he hne _ k _ hc

end
end Cert.Bwd
-- ==== Proof.BwdBits.lean ====
/-
  Bits of comparisons that hold everywhere, read: the arrays are equal, the entries are real.
-/
module
public import proofs.«01_k».proof.Proof.BwdBack
public import proofs.«01_k».proof.Proof.BwdReal
public import proofs.«01_k».proof.Proof.PrepValue

@[expose] public section

noncomputable section

namespace Cert.Bwd

open Cert.RBwdSIdeal Cert.Prep
open Idealize.ShloMosaic Idealize.ShloMosaic.TcCoe Idealize.SL.Sem

/-- The infinity of the comparison. -/
theorem ofBits_top : Ideal.ofBits .f32 0x7F800000#32 = ⊤ := by
  simp [Ideal.ofBits, Ideal.ieee]

/-- Below infinity in absolute value is real. -/
theorem real_of_abs (x : EReal) (h : max x (-x) < ⊤) : IsReal x := by
  induction x with
  | bot => simp at h
  | top => simp at h
  | coe r => exact ⟨r, rfl⟩

/-- Compared below infinity in absolute value everywhere, the entries are real. -/
theorem real_of_bits {S : Shape} (x : FVec Ideal S .f32) (hb : S_.BroadcastsInDim S (![] : Fin 0 → Fin S.rank))
    (h : cmpf (F := Ideal) (φ := .f32) .olt (Host.absf (F := Ideal) (φ := .f32) x) (broadcastInDim S ![] hb (constant (F := Ideal) S_ .f32 0x7F800000#32)) = fun _ => 1#1)
    (i : S.Idx) : IsReal (x i) := by
  have h1 : BitVec.ofBool (decide (max (x i) (-x i) < Ideal.ofBits .f32 0x7F800000#32)) = 1#1 := congrFun h i
  rw [ofBool_iff, ofBits_top] at h1
  exact real_of_abs _ h1

/-- Compared equal everywhere is equal. -/
theorem eq_of_bits {S : Shape} (x y : FVec Ideal S .f32) (h : cmpf (F := Ideal) (φ := .f32) .oeq x y = fun _ => 1#1) : x = y := by
  funext i
  have h1 : BitVec.ofBool (decide (x i = y i)) = 1#1 := congrFun h i
  rwa [ofBool_iff] at h1

end Cert.Bwd
-- ==== Proof.BwdPreS.lean ====
/-
  What the condition on the backward call's arguments says of them: the one-hot rows are the orders of the products,
  the gradient's entries are real, and no norm of the rows that the call moves is the smallest divisor.
-/
module
public import proofs.«01_k».proof.Pre_ordered_s
public import proofs.«01_k».proof.Proof.BwdBits

@[expose] public section

set_option maxRecDepth 16384

noncomputable section

namespace Cert.Bwd.S

open Cert.Pre_ordered_s Cert.Prep Cert.Bwd
open Idealize.ShloMosaic Idealize.ShloMosaic.TcCoe Idealize.SL.Sem

variable [Facts]

section
variable (g : FVec Ideal S96x2640 .f32) (P : FVec Ideal S96x32x32 .f32) (Q : FVec Ideal S96x64x64 .f32) (s : FVec Ideal S32x512 .f32) (q : FVec Ideal S64x512 .f32)

/-- The one-hot support rows are the reference's orders, -/
theorem onehot_s (h : (fn (F := Ideal) g P Q s q).1 = fun _ => 1#1) (n : Fin 96) (a j : Fin 32) :
    P (ix3 n a j) = if BwdRef.ordS (PrepRef.gram s q) n a = j then 1 else 0 := by
  have e : P = PrepRef.onehotS (PrepRef.gram s q) := eq_of_bits P (PrepRef.onehotS (PrepRef.gram s q)) h
  rw [e]
  unfold PrepRef.onehotS
  pointwise
  rw [PrepRef.orderS_at (PrepRef.gram s q) (by rw [gram_eq]; exact gram_symm s q)]
  exact onehot_word (by norm_num) _ _

/-- and so are the query rows. -/
theorem onehot_q (h : (fn (F := Ideal) g P Q s q).2.1 = fun _ => 1#1) (n : Fin 96) (a j : Fin 64) :
    Q (ix3 n a j) = if BwdRef.ordQ (PrepRef.gram s q) n a = j then 1 else 0 := by
  have e : Q = PrepRef.onehotQ (PrepRef.gram s q) := eq_of_bits Q (PrepRef.onehotQ (PrepRef.gram s q)) h
  rw [e]
  unfold PrepRef.onehotQ
  pointwise
  rw [PrepRef.orderQ_at (PrepRef.gram s q) (by rw [gram_eq]; exact gram_symm s q)]
  exact onehot_word (by norm_num) _ _

/-- The gradient's entries are real. -/
theorem real_g (h : (fn (F := Ideal) g P Q s q).2.2.1 = fun _ => 1#1) (i : S96x2640.Idx) : IsReal (g i) :=
  real_of_bits g Facts.bcast_S_S96x2640 h i

/-- No norm of a row that the call moves is the smallest divisor. -/
theorem norm_ne (h : (fn (F := Ideal) g P Q s q).2.2.2 = fun _ => 1#1) (i : Fin 32) :
    BwdRef.norm (PrepRef.stacked s q) (ix2 (sx i) 0) ≠ Ideal.ofBits .f32 0x2B8CBCCC#32 := by
  have h1 : BitVec.ofBool (decide (fn_norm_1 (F := Ideal) s (ix1 i) ≠ Ideal.ofBits .f32 0x2B8CBCCC#32)) = 1#1 := congrFun h (ix1 i)
  rw [ofBool_iff] at h1
  have e1 : fn_norm_1 (F := Ideal) s (ix1 i) = Ideal.sqrt (∑ k : Fin 512, s (ix2 i k) * s (ix2 i k)) := by
    unfold fn_norm_1
    dsimp only
    pointwise
  have e2 : ∀ k : Fin 512, PrepRef.stacked s q (ix2 (sx i) k) = s (ix2 i k) := by
    intro k
    unfold PrepRef.stacked
    pointwise
  rw [BwdRef.norm_at]
  simp only [e2]
  rwa [e1] at h1

end
end Cert.Bwd.S
-- ==== Proof.BwdSValue.lean ====
/-
  The backward call that moves the support rows: what its result holds after the call, and that the reference computes the
  same.
-/
module
public import proofs.«01_k».proof.Defs
public import proofs.«01_k».proof.Proof.Gen.RBwdSIdeal.Run
public import proofs.«01_k».proof.Proof.BwdSBlock
public import proofs.«01_k».proof.Proof.BwdMath
public import proofs.«01_k».proof.Proof.BwdPreS
public import Idealize.ShloMosaic.Lib.Claim

@[expose] public section

set_option maxRecDepth 16384

noncomputable section

namespace Cert.Bwd.S

open Cert.KBwdSIdeal Cert.KBwdSIdeal.Gen Cert.KBwdSIdeal.Value Cert.Tri Cert.Bwd Cert.Prep
open Idealize.ShloMosaic Idealize.ShloMosaic.TcCoe Idealize.SL.Sem
open Idealize.ShloMosaic.Pipeline (Dat)
open Idealize.ShloMosaic.StableHlo (launchContents)

/-! ## The reference -/

/-- The table of the kept pairs' first positions, entry by entry, -/
theorem table_row : ∀ p : Fin 2640, Cert.RBwdSIdeal.lit0 p = BitVec.ofNat 32 (triRow p.val) ∧ triRow p.val < 97 := by
  decide +kernel

/-- and of their second. -/
theorem table_col : ∀ p : Fin 2640, Cert.RBwdSIdeal.lit1 p = BitVec.ofNat 32 (triCol p.val) ∧ triCol p.val < 97 := by
  decide +kernel

/-- The first table as an array, -/
def firsts : IVec Cert.RBwdSIdeal.S2640 32 := fun i => Cert.RBwdSIdeal.lit0 (Cert.RBwdSIdeal.S2640.rowMajor i)
/-- and the second. -/
def seconds : IVec Cert.RBwdSIdeal.S2640 32 := fun i => Cert.RBwdSIdeal.lit1 (Cert.RBwdSIdeal.S2640.rowMajor i)

/-- The first table, entry by entry, -/
theorem firsts_at (p : Fin 2640) : firsts (ix1 p) = BitVec.ofNat 32 (triRow p.val) ∧ triRow p.val < 97 :=
  ⟨(congrArg Cert.RBwdSIdeal.lit0 (Fin.ext (Shape.rowMajor_val_one (d := ![2640]) (ix1 p)) : Cert.RBwdSIdeal.S2640.rowMajor (ix1 p) = p)).trans (table_row p).1, (table_row p).2⟩
/-- and the second. -/
theorem seconds_at (p : Fin 2640) : seconds (ix1 p) = BitVec.ofNat 32 (triCol p.val) ∧ triCol p.val < 97 :=
  ⟨(congrArg Cert.RBwdSIdeal.lit1 (Fin.ext (Shape.rowMajor_val_one (d := ![2640]) (ix1 p)) : Cert.RBwdSIdeal.S2640.rowMajor (ix1 p) = p)).trans (table_col p).1, (table_col p).2⟩

/-- The reference's moved rows. -/
def moved (g : S96x2640.Idx → EReal) (s : S32x512.Idx → EReal) (q : S64x512.Idx → EReal) : S32x512.Idx → EReal :=
  subf (F := Ideal) (φ := .f32) s (mulf (F := Ideal) (φ := .f32) (broadcastInDim S32x512 ![] Cert.RBwdSIdeal.Gen.bcast_S_S32x512 (constant (F := Ideal) Cert.RBwdSIdeal.S_ .f32 0x3A83126F#32))
    (extractStridedSlice S32x512 ![0, 0] (BwdRef.back (PrepRef.stacked s q)
      (BwdRef.grad (BwdRef.scattered g (PrepRef.gram s q) firsts seconds) (PrepRef.scaled (PrepRef.stacked s q)))
      (BwdRef.norm (PrepRef.stacked s q)) (BwdRef.divisor (BwdRef.norm (PrepRef.stacked s q)))) Cert.RBwdSIdeal.Gen.slices_S96x512_S32x512_0_0))

section
variable (m : (ℓ : Loc Cert.RBwdSIdeal.nD Cert.RBwdSIdeal.τ Cert.RBwdSIdeal.sig) → Buf (Elt Ideal) ℓ) (c : Dev Cert.RBwdSIdeal.nD)

/-- The gradient, as launched with the reference. -/
abbrev rG : S96x2640.Idx → EReal := m ((c.tc : Thread Cert.RBwdSIdeal.nD Cert.RBwdSIdeal.τ).loc Cert.RBwdSIdeal.main_arg0)
/-- The support rows, as launched with the reference. -/
abbrev rS : S32x512.Idx → EReal := m ((c.tc : Thread Cert.RBwdSIdeal.nD Cert.RBwdSIdeal.τ).loc Cert.RBwdSIdeal.main_arg3)
/-- The query rows, as launched with the reference. -/
abbrev rQ : S64x512.Idx → EReal := m ((c.tc : Thread Cert.RBwdSIdeal.nD Cert.RBwdSIdeal.τ).loc Cert.RBwdSIdeal.main_arg4)

/-- The kept pairs' first vertices, in these words. -/
theorem ends_eq : Cert.RBwdSIdeal.Value.res_main_v39 (F := Ideal) (launchContents m c) = BwdRef.ends (PrepRef.gram (rS m c) (rQ m c)) firsts := rfl
/-- The second. -/
theorem ends_eq' : Cert.RBwdSIdeal.Value.res_main_v44 (F := Ideal) (launchContents m c) = BwdRef.ends (PrepRef.gram (rS m c) (rQ m c)) seconds := rfl

/-- The scattered gradient, in these words. -/
theorem scattered_eq : Cert.RBwdSIdeal.Value.res_main_v60 (F := Ideal) (launchContents m c)
    = BwdRef.scattered (rG m c) (PrepRef.gram (rS m c) (rQ m c)) firsts seconds := by
  unfold Cert.RBwdSIdeal.Value.res_main_v60 Cert.RBwdSIdeal.Value.res_main_v57
  rw [ends_eq, ends_eq']
  rfl

/-- The gradient of the scaled rows, in these words. -/
theorem grad_words : Cert.RBwdSIdeal.Value.res_main_v78 (F := Ideal) (launchContents m c)
    = BwdRef.grad (BwdRef.scattered (rG m c) (PrepRef.gram (rS m c) (rQ m c)) firsts seconds) (PrepRef.scaled (PrepRef.stacked (rS m c) (rQ m c))) := by
  rw [← scattered_eq]
  rfl

/-- The gradient of the rows, in these words. -/
theorem back_words : Cert.RBwdSIdeal.Value.res_main_v89 (F := Ideal) (launchContents m c)
    = BwdRef.back (PrepRef.stacked (rS m c) (rQ m c))
      (BwdRef.grad (BwdRef.scattered (rG m c) (PrepRef.gram (rS m c) (rQ m c)) firsts seconds) (PrepRef.scaled (PrepRef.stacked (rS m c) (rQ m c))))
      (BwdRef.norm (PrepRef.stacked (rS m c) (rQ m c))) (BwdRef.divisor (BwdRef.norm (PrepRef.stacked (rS m c) (rQ m c)))) := by
  rw [← grad_words]
  rfl

/-- The reference's result, in these words. -/
theorem out_words : subf (F := Ideal) (φ := .f32) (launchContents m c (Proc.devRef .tc Cert.RBwdSIdeal.main_arg3)) (mulf (F := Ideal) (φ := .f32) (broadcastInDim S32x512 ![] Cert.RBwdSIdeal.Gen.bcast_S_S32x512 (constant (F := Ideal) Cert.RBwdSIdeal.S_ .f32 0x3A83126F#32))
      (extractStridedSlice S32x512 ![0, 0] (Cert.RBwdSIdeal.Value.res_main_v89 (F := Ideal) (launchContents m c)) Cert.RBwdSIdeal.Gen.slices_S96x512_S32x512_0_0))
    = moved (rG m c) (rS m c) (rQ m c) := by
  rw [back_words]
  rfl

end

/-! ## The reference's rows are the kernel's -/

section
variable (g : S96x2640.Idx → EReal) (P : S96x32x32.Idx → EReal) (Q : S96x64x64.Idx → EReal) (s : S32x512.Idx → EReal) (q : S64x512.Idx → EReal)

/-- The kernel's moved rows, entry by entry. -/
theorem stored_at (i : Fin 32) (k : Fin 512) : stored g P Q s q (ix2 i k)
    = s (ix2 i k) - Ideal.ofBits .f32 0x3A83126F#32
      * (Cert.KBwdSIdeal.Gen.k0_pay71 (F := Ideal) P Q (Cert.KBwdSIdeal.Gen.k0_pay4 (F := Ideal) s q) (Cert.KBwdSIdeal.Gen.k0_pay5 (F := Ideal) s q) (S.dvs g) (S.dvq g) (dss g) (dsq g) (ix2 (sx i) k)
        - (if Ideal.ofBits .f32 0x2B8CBCCC#32 < Cert.KBwdSIdeal.Gen.k0_pay3 (F := Ideal) s q (ix2 (sx i) 0) then
            Cert.KBwdSIdeal.Gen.k0_pay73 (F := Ideal) P Q (Cert.KBwdSIdeal.Gen.k0_pay3 (F := Ideal) s q) (Cert.KBwdSIdeal.Gen.k0_pay5 (F := Ideal) s q) (S.dvs g) (S.dvq g) (dss g) (dsq g) (ix2 (sx i) 0)
            else 0) * Cert.KBwdSIdeal.Gen.k0_pay5 (F := Ideal) s q (ix2 (sx i) k)) := by
  obtain ⟨d, hd⟩ : ∃ d, d = Cert.KBwdSIdeal.Gen.k0_pay71 (F := Ideal) P Q (Cert.KBwdSIdeal.Gen.k0_pay4 (F := Ideal) s q) (Cert.KBwdSIdeal.Gen.k0_pay5 (F := Ideal) s q) (S.dvs g) (S.dvq g) (dss g) (dsq g) := ⟨_, rfl⟩
  obtain ⟨y, hy⟩ : ∃ y, y = Cert.KBwdSIdeal.Gen.k0_pay73 (F := Ideal) P Q (Cert.KBwdSIdeal.Gen.k0_pay3 (F := Ideal) s q) (Cert.KBwdSIdeal.Gen.k0_pay5 (F := Ideal) s q) (S.dvs g) (S.dvq g) (dss g) (dsq g) := ⟨_, rfl⟩
  obtain ⟨f, hf⟩ : ∃ f, f = Cert.KBwdSIdeal.Gen.k0_pay5 (F := Ideal) s q := ⟨_, rfl⟩
  obtain ⟨N, hN⟩ : ∃ N, N = Cert.KBwdSIdeal.Gen.k0_pay3 (F := Ideal) s q := ⟨_, rfl⟩
  have e : stored g P Q s q = k0_pay1 (F := Ideal) s f d (k0_pay72 (F := Ideal) N) y := by
    rw [hd, hy, hf, hN]
    rfl
  rw [e, ← hd, ← hy, ← hf, ← hN]
  unfold k0_pay1 k0_pay72
  pointwise

variable [Cert.Pre_ordered_s.Facts]

/-- Under the condition the reference's moved rows are the kernel's. -/
theorem moved_eq (h0 : (Cert.Pre_ordered_s.fn (F := Ideal) g P Q s q).1 = fun _ => 1#1) (h1 : (Cert.Pre_ordered_s.fn (F := Ideal) g P Q s q).2.1 = fun _ => 1#1)
    (h2 : (Cert.Pre_ordered_s.fn (F := Ideal) g P Q s q).2.2.1 = fun _ => 1#1) (h3 : (Cert.Pre_ordered_s.fn (F := Ideal) g P Q s q).2.2.2 = fun _ => 1#1) :
    moved g s q = stored g P Q s q := by
  funext i
  obtain ⟨n, k, rfl⟩ : ∃ n k, i = ix2 n k := ⟨i 0, i 1, by funext b; fin_cases b <;> rfl⟩
  have hb := back_eq g P Q s q (onehot_s g P Q s q h0) (onehot_q g P Q s q h1) (real_g g P Q s q h2)
    firsts seconds firsts_at seconds_at (sx n) (norm_ne g P Q s q h3 n) k
  rw [stored_at, ← hb]
  unfold moved
  obtain ⟨B, hB⟩ : ∃ B, B = BwdRef.back (PrepRef.stacked s q)
      (BwdRef.grad (BwdRef.scattered g (PrepRef.gram s q) firsts seconds) (PrepRef.scaled (PrepRef.stacked s q)))
      (BwdRef.norm (PrepRef.stacked s q)) (BwdRef.divisor (BwdRef.norm (PrepRef.stacked s q))) := ⟨_, rfl⟩
  rw [← hB]
  pointwise

end

/-! ## The call -/

variable (m : (ℓ : Loc nD τ sig) → Buf (Elt Ideal) ℓ)

/-- The gradient, as launched. -/
abbrev a0 (c : Dev nD) : S96x2640.Idx → EReal := m ((c : Thread nD τ).loc main_arg0)
/-- The one-hot support orders, as launched. -/
abbrev a1 (c : Dev nD) : S96x32x32.Idx → EReal := m ((c : Thread nD τ).loc main_arg1)
/-- The one-hot query orders, as launched. -/
abbrev a2 (c : Dev nD) : S96x64x64.Idx → EReal := m ((c : Thread nD τ).loc main_arg2)
/-- The support rows, as launched. -/
abbrev a3 (c : Dev nD) : S32x512.Idx → EReal := m ((c : Thread nD τ).loc main_arg3)
/-- The query rows, as launched. -/
abbrev a4 (c : Dev nD) : S64x512.Idx → EReal := m ((c : Thread nD τ).loc main_arg4)

/-- The call reads the whole of argument 0. -/
theorem blk_0 (c : Dev nD) (t : Fin cfg0.N) : iblk m c 0 t = a0 m c := by
  have hi : ∀ t : Fin cfg0.N, win0_0.index t 0 = 0 ∧ win0_0.index t 1 = 0 := (by decide +kernel : ∀ t : Fin grid0.N, _)
  funext i
  unfold iblk
  rw [View.read_apply]
  show V m c main_arg0 _ = _
  rw [V_main_arg0]
  refine congrArg (a0 m c) (funext fun b => Fin.ext ?_)
  match b with
  | ⟨0, _⟩ => show win0_0.index t 0 * 96 + 1 * (i 0).val = (i 0).val; rw [(hi t).1]; omega
  | ⟨1, _⟩ => show win0_0.index t 1 * 2640 + 1 * (i 1).val = (i 1).val; rw [(hi t).2]; omega

/-- The call reads the whole of argument 1. -/
theorem blk_1 (c : Dev nD) (t : Fin cfg0.N) : iblk m c 1 t = a1 m c := by
  have hi : ∀ t : Fin cfg0.N, win0_1.index t 0 = 0 ∧ win0_1.index t 1 = 0 ∧ win0_1.index t 2 = 0 := (by decide +kernel : ∀ t : Fin grid0.N, _)
  funext i
  unfold iblk
  rw [View.read_apply]
  show V m c main_arg1 _ = _
  rw [V_main_arg1]
  refine congrArg (a1 m c) (funext fun b => Fin.ext ?_)
  match b with
  | ⟨0, _⟩ => show win0_1.index t 0 * 96 + 1 * (i 0).val = (i 0).val; rw [(hi t).1]; omega
  | ⟨1, _⟩ => show win0_1.index t 1 * 32 + 1 * (i 1).val = (i 1).val; rw [(hi t).2.1]; omega
  | ⟨2, _⟩ => show win0_1.index t 2 * 32 + 1 * (i 2).val = (i 2).val; rw [(hi t).2.2]; omega

/-- The call reads the whole of argument 2. -/
theorem blk_2 (c : Dev nD) (t : Fin cfg0.N) : iblk m c 2 t = a2 m c := by
  have hi : ∀ t : Fin cfg0.N, win0_2.index t 0 = 0 ∧ win0_2.index t 1 = 0 ∧ win0_2.index t 2 = 0 := (by decide +kernel : ∀ t : Fin grid0.N, _)
  funext i
  unfold iblk
  rw [View.read_apply]
  show V m c main_arg2 _ = _
  rw [V_main_arg2]
  refine congrArg (a2 m c) (funext fun b => Fin.ext ?_)
  match b with
  | ⟨0, _⟩ => show win0_2.index t 0 * 96 + 1 * (i 0).val = (i 0).val; rw [(hi t).1]; omega
  | ⟨1, _⟩ => show win0_2.index t 1 * 64 + 1 * (i 1).val = (i 1).val; rw [(hi t).2.1]; omega
  | ⟨2, _⟩ => show win0_2.index t 2 * 64 + 1 * (i 2).val = (i 2).val; rw [(hi t).2.2]; omega

/-- The call reads the whole of argument 3. -/
theorem blk_3 (c : Dev nD) (t : Fin cfg0.N) : iblk m c 3 t = a3 m c := by
  have hi : ∀ t : Fin cfg0.N, win0_3.index t 0 = 0 ∧ win0_3.index t 1 = 0 := (by decide +kernel : ∀ t : Fin grid0.N, _)
  funext i
  unfold iblk
  rw [View.read_apply]
  show V m c main_arg3 _ = _
  rw [V_main_arg3]
  refine congrArg (a3 m c) (funext fun b => Fin.ext ?_)
  match b with
  | ⟨0, _⟩ => show win0_3.index t 0 * 32 + 1 * (i 0).val = (i 0).val; rw [(hi t).1]; omega
  | ⟨1, _⟩ => show win0_3.index t 1 * 512 + 1 * (i 1).val = (i 1).val; rw [(hi t).2]; omega

/-- The call reads the whole of argument 4. -/
theorem blk_4 (c : Dev nD) (t : Fin cfg0.N) : iblk m c 4 t = a4 m c := by
  have hi : ∀ t : Fin cfg0.N, win0_4.index t 0 = 0 ∧ win0_4.index t 1 = 0 := (by decide +kernel : ∀ t : Fin grid0.N, _)
  funext i
  unfold iblk
  rw [View.read_apply]
  show V m c main_arg4 _ = _
  rw [V_main_arg4]
  refine congrArg (a4 m c) (funext fun b => Fin.ext ?_)
  match b with
  | ⟨0, _⟩ => show win0_4.index t 0 * 64 + 1 * (i 0).val = (i 0).val; rw [(hi t).1]; omega
  | ⟨1, _⟩ => show win0_4.index t 1 * 512 + 1 * (i 1).val = (i 1).val; rw [(hi t).2]; omega

/-- The call leaves the moved rows. -/
theorem result (c : Dev nD) : (dats m 0 c).arrAt 5 cfg0.N = stored (a0 m c) (a1 m c) (a2 m c) (a3 m c) (a4 m c) := by
  have hi : ∀ t : Fin cfg0.N, win0_5.index t 0 = 0 ∧ win0_5.index t 1 = 0 := (by decide +kernel : ∀ t : Fin grid0.N, _)
  have hemb : ∀ (t : Fin cfg0.N) (y : S32x512.Idx), ((cfg0.win 5).blk t).view.emb y = y := by
    intro t y
    refine funext fun b => Fin.ext ?_
    match b with
    | ⟨0, _⟩ => show win0_5.index t 0 * 32 + 1 * (y 0).val = (y 0).val; rw [(hi t).1]; omega
    | ⟨1, _⟩ => show win0_5.index t 1 * 512 + 1 * (y 1).val = (y 1).val; rw [(hi t).2]; omega
  obtain ⟨R, hR⟩ : ∃ R, R = stored (a0 m c) (a1 m c) (a2 m c) (a3 m c) (a4 m c) := ⟨_, rfl⟩
  rw [← hR]
  refine (dats m 0 c).arrAt_eq_of_cover 5 R (fun t _ => ?_) (fun i => ⟨t0_0, flush0_5 t0_0, ?_⟩)
  · rw [flushed5_A]
    funext y
    rw [View.read_apply, block, blk_0, blk_1, blk_2, blk_3, blk_4, ← hR]
    exact (congrArg R (hemb t y)).symm
  · have h := ((cfg0.win 5).blk t0_0).view.emb_mem_set i
    rwa [hemb t0_0 i] at h

/-- Under the condition kernel and reference leave the same rows. -/
theorem algebraic [hPre : Cert.Pre_ordered_s.Facts] : Cert.algebraic_KBwdSIdeal_RBwdSIdeal_pre_ordered_s (hKBwdSIdeal := Cert.KBwdSIdeal.Gen.facts) (hRBwdSIdeal := Cert.RBwdSIdeal.Gen.facts) (hPre_ordered_s := hPre) :=
  fun m ρ m' ρ' hpre hag => ⟨fun c => stored (a0 m c) (a1 m c) (a2 m c) (a3 m c) (a4 m c),
    (θ_run _ _ _).mono (fun _ h c => ⟨(h c).1.trans (result m c), (h c).2⟩) (Cert.KBwdSIdeal.Value.run_blocks m ρ),
    (θ_run _ _ _).mono (fun _ h c => by
      have e0 : rG m' c = a0 m c := (hag c).1
      have e3 : rS m' c = a3 m c := (hag c).2.2.2.1
      have e4 : rQ m' c = a4 m c := (hag c).2.2.2.2
      obtain ⟨h0, h1, h2, h3⟩ := hpre c
      refine ⟨(h c).1.trans ((out_words m' c).trans ?_), (h c).2⟩
      rw [e0, e3, e4]
      exact moved_eq _ _ _ _ _ h0 h1 h2 h3) (Cert.RBwdSIdeal.Value.run m' ρ')⟩

end Cert.Bwd.S

end
-- ==== Proof.BwdQBlock.lean ====
/-
  What the backward kernel for the query rows stores in its result, from the five arrays it reads.
-/
module

public import proofs.«01_k».proof.Proof.BwdBands
public import proofs.«01_k».proof.Proof.Gen.KBwdQIdeal.Value
public import Idealize.ShloMosaic.Lib.Claim

@[expose] public section

set_option maxRecDepth 16384

noncomputable section

namespace Cert.Bwd.Q

open Cert.KBwdQIdeal Cert.KBwdQIdeal.Gen Cert.Bwd
open Idealize.ShloMosaic Idealize.ShloMosaic.TcCoe Idealize.SL.Sem

/-- The origin of a plane. -/
theorem hz2 : (![0, 0] : Fin 2 → ℕ) = 0 := by funext i; fin_cases i <;> rfl
/-- The origin of a space. -/
theorem hz3 : (![0, 0, 0] : Fin 3 → ℕ) = 0 := by funext i; fin_cases i <;> rfl

variable (x0 : S96x2640.Idx → EReal) (x1 : S96x32x32.Idx → EReal) (x2 : S96x64x64.Idx → EReal)
  (x3 : S32x512.Idx → EReal) (x4 : S64x512.Idx → EReal)

/-- The gradient's columns of the products of a row with its support vertices, -/
abbrev dvs : S96x32.Idx → EReal :=
  View.ld (Val := Elt Ideal) (e' := .f32) x0 (Rect.unit (s := S96x2640) ![0, 0] S96x32.size inb_S96x2640_S96x32_0_0)
/-- and those of the products with its query vertices. -/
abbrev dvq : S96x64.Idx → EReal :=
  View.ld (Val := Elt Ideal) (e' := .f32) x0 (Rect.unit (s := S96x2640) ![0, 32] S96x64.size inb_S96x2640_S96x64_0_32)

/-- The kernel's result as one term. -/
def stored : S64x512.Idx → EReal :=
  k0_pay1 (F := Ideal) x4 (k0_pay5 (F := Ideal) x3 x4)
    (k0_pay71 (F := Ideal) x1 x2 (k0_pay4 (F := Ideal) x3 x4) (k0_pay5 (F := Ideal) x3 x4) (dvs x0) (dvq x0) (dss x0) (dsq x0))
    (k0_pay72 (F := Ideal) (k0_pay3 (F := Ideal) x3 x4))
    (k0_pay73 (F := Ideal) x1 x2 (k0_pay3 (F := Ideal) x3 x4) (k0_pay5 (F := Ideal) x3 x4) (dvs x0) (dvq x0) (dss x0) (dsq x0))

section
variable (c : Dev nD) (a0 : Memref sig .tc .vmem S96x2640 .f32) (h0 : a0.IsWhole) (a1 : Memref sig .tc .vmem S96x32x32 .f32) (h1 : a1.IsWhole)
  (a2 : Memref sig .tc .vmem S96x64x64 .f32) (h2 : a2.IsWhole) (a3 : Memref sig .tc .vmem S32x512 .f32) (h3 : a3.IsWhole)
  (a4 : Memref sig .tc .vmem S64x512 .f32) (h4 : a4.IsWhole) (a5 : Memref sig .tc .vmem S64x512 .f32) (h5 : a5.IsWhole)
  (a6 : Memref sig .tc .vmem S96x32x32 .f32) (h6 : a6.IsWhole) (a7 : Memref sig .tc .vmem S96x32x64 .f32) (h7 : a7.IsWhole)

/-- The kernel stores that term. -/
theorem block :
    out0_A_5 (F := Ideal) c a0 h0 a1 h1 a2 h2 a3 h3 a4 h4 a5 h5 a6 h6 a7 h7 x0 x1 x2 x3 x4 = stored x0 x1 x2 x3 x4 := by
  unfold out0_A_5
  rw [View.read_writes_eq_canon _ _ _ (cover0_A_5 _ _ _ _ _ _ _ _ _ _ _ _ _ _ _ _ _ _ _ _ _ _)]
  unfold kernelRun0_A
  dsimp only
  try sl_unfold_words
  rw [View.canon_unit_zero hz2]
  simp only [View.readAt_eq_ld, h0.read_unread, h1.read_unread, h2.read_unread, h3.read_unread, h4.read_unread,
    View.ld_unit_zero (S := S32x512) hz2, View.ld_unit_zero (S := S64x512) hz2,
    View.ld_unit_zero (S := S96x32x32) hz3, View.ld_unit_zero (S := S96x64x64) hz3, shapeCast_self]
  rw [load_of_canon (S := S96x32x32) a6.view (dss x0) ![0, 0, 0] hz3 _ _ ?_,
    load_of_canon (S := S96x32x64) a7.view (dsq x0) ![0, 0, 0] hz3 _ _ ?_]
  · rfl
  · intro y
    have hy : (y 1).val < 32 := (y 1).isLt
    refine step_q x0 31 2576 (by omega) rfl inb_S96x32x64_S96x1x64_0_31_0 inb_S96x2640_S96x64_0_2576 _ _ (fun y hy => ?_) y hy
    refine step_q x0 30 2512 (by omega) rfl inb_S96x32x64_S96x1x64_0_30_0 inb_S96x2640_S96x64_0_2512 _ _ (fun y hy => ?_) y hy
    refine step_q x0 29 2447 (by omega) rfl inb_S96x32x64_S96x1x64_0_29_0 inb_S96x2640_S96x64_0_2447 _ _ (fun y hy => ?_) y hy
    refine step_q x0 28 2381 (by omega) rfl inb_S96x32x64_S96x1x64_0_28_0 inb_S96x2640_S96x64_0_2381 _ _ (fun y hy => ?_) y hy
    refine step_q x0 27 2314 (by omega) rfl inb_S96x32x64_S96x1x64_0_27_0 inb_S96x2640_S96x64_0_2314 _ _ (fun y hy => ?_) y hy
    refine step_q x0 26 2246 (by omega) rfl inb_S96x32x64_S96x1x64_0_26_0 inb_S96x2640_S96x64_0_2246 _ _ (fun y hy => ?_) y hy
    refine step_q x0 25 2177 (by omega) rfl inb_S96x32x64_S96x1x64_0_25_0 inb_S96x2640_S96x64_0_2177 _ _ (fun y hy => ?_) y hy
    refine step_q x0 24 2107 (by omega) rfl inb_S96x32x64_S96x1x64_0_24_0 inb_S96x2640_S96x64_0_2107 _ _ (fun y hy => ?_) y hy
    refine step_q x0 23 2036 (by omega) rfl inb_S96x32x64_S96x1x64_0_23_0 inb_S96x2640_S96x64_0_2036 _ _ (fun y hy => ?_) y hy
    refine step_q x0 22 1964 (by omega) rfl inb_S96x32x64_S96x1x64_0_22_0 inb_S96x2640_S96x64_0_1964 _ _ (fun y hy => ?_) y hy
    refine step_q x0 21 1891 (by omega) rfl inb_S96x32x64_S96x1x64_0_21_0 inb_S96x2640_S96x64_0_1891 _ _ (fun y hy => ?_) y hy
    refine step_q x0 20 1817 (by omega) rfl inb_S96x32x64_S96x1x64_0_20_0 inb_S96x2640_S96x64_0_1817 _ _ (fun y hy => ?_) y hy
    refine step_q x0 19 1742 (by omega) rfl inb_S96x32x64_S96x1x64_0_19_0 inb_S96x2640_S96x64_0_1742 _ _ (fun y hy => ?_) y hy
    refine step_q x0 18 1666 (by omega) rfl inb_S96x32x64_S96x1x64_0_18_0 inb_S96x2640_S96x64_0_1666 _ _ (fun y hy => ?_) y hy
    refine step_q x0 17 1589 (by omega) rfl inb_S96x32x64_S96x1x64_0_17_0 inb_S96x2640_S96x64_0_1589 _ _ (fun y hy => ?_) y hy
    refine step_q x0 16 1511 (by omega) rfl inb_S96x32x64_S96x1x64_0_16_0 inb_S96x2640_S96x64_0_1511 _ _ (fun y hy => ?_) y hy
    refine step_q x0 15 1432 (by omega) rfl inb_S96x32x64_S96x1x64_0_15_0 inb_S96x2640_S96x64_0_1432 _ _ (fun y hy => ?_) y hy
    refine step_q x0 14 1352 (by omega) rfl inb_S96x32x64_S96x1x64_0_14_0 inb_S96x2640_S96x64_0_1352 _ _ (fun y hy => ?_) y hy
    refine step_q x0 13 1271 (by omega) rfl inb_S96x32x64_S96x1x64_0_13_0 inb_S96x2640_S96x64_0_1271 _ _ (fun y hy => ?_) y hy
    refine step_q x0 12 1189 (by omega) rfl inb_S96x32x64_S96x1x64_0_12_0 inb_S96x2640_S96x64_0_1189 _ _ (fun y hy => ?_) y hy
    refine step_q x0 11 1106 (by omega) rfl inb_S96x32x64_S96x1x64_0_11_0 inb_S96x2640_S96x64_0_1106 _ _ (fun y hy => ?_) y hy
    refine step_q x0 10 1022 (by omega) rfl inb_S96x32x64_S96x1x64_0_10_0 inb_S96x2640_S96x64_0_1022 _ _ (fun y hy => ?_) y hy
    refine step_q x0 9 937 (by omega) rfl inb_S96x32x64_S96x1x64_0_9_0 inb_S96x2640_S96x64_0_937 _ _ (fun y hy => ?_) y hy
    refine step_q x0 8 851 (by omega) rfl inb_S96x32x64_S96x1x64_0_8_0 inb_S96x2640_S96x64_0_851 _ _ (fun y hy => ?_) y hy
    refine step_q x0 7 764 (by omega) rfl inb_S96x32x64_S96x1x64_0_7_0 inb_S96x2640_S96x64_0_764 _ _ (fun y hy => ?_) y hy
    refine step_q x0 6 676 (by omega) rfl inb_S96x32x64_S96x1x64_0_6_0 inb_S96x2640_S96x64_0_676 _ _ (fun y hy => ?_) y hy
    refine step_q x0 5 587 (by omega) rfl inb_S96x32x64_S96x1x64_0_5_0 inb_S96x2640_S96x64_0_587 _ _ (fun y hy => ?_) y hy
    refine step_q x0 4 497 (by omega) rfl inb_S96x32x64_S96x1x64_0_4_0 inb_S96x2640_S96x64_0_497 _ _ (fun y hy => ?_) y hy
    refine step_q x0 3 406 (by omega) rfl inb_S96x32x64_S96x1x64_0_3_0 inb_S96x2640_S96x64_0_406 _ _ (fun y hy => ?_) y hy
    refine step_q x0 2 314 (by omega) rfl inb_S96x32x64_S96x1x64_0_2_0 inb_S96x2640_S96x64_0_314 _ _ (fun y hy => ?_) y hy
    refine step_q x0 1 221 (by omega) rfl inb_S96x32x64_S96x1x64_0_1_0 inb_S96x2640_S96x64_0_221 _ _ (fun y hy => ?_) y hy
    refine step_q x0 0 127 (by omega) rfl inb_S96x32x64_S96x1x64_0_0_0 inb_S96x2640_S96x64_0_127 _ _ (fun y hy => ?_) y hy
    exact absurd hy (Nat.not_lt_zero _)
  · intro y
    have hy : (y 1).val < (y 2).val → (y 1).val < 31 := fun h => by have h2 : (y 2).val < 32 := (y 2).isLt; omega
    refine step_s x0 30 2511 1 rfl rfl inb_S96x32x32_S96x1x1_0_30_31 inb_S96x2640_S96x1_0_2511 _ _ (fun y hy => ?_) y hy
    refine step_s x0 29 2445 2 rfl rfl inb_S96x32x32_S96x1x2_0_29_30 inb_S96x2640_S96x2_0_2445 _ _ (fun y hy => ?_) y hy
    refine step_s x0 28 2378 3 rfl rfl inb_S96x32x32_S96x1x3_0_28_29 inb_S96x2640_S96x3_0_2378 _ _ (fun y hy => ?_) y hy
    refine step_s x0 27 2310 4 rfl rfl inb_S96x32x32_S96x1x4_0_27_28 inb_S96x2640_S96x4_0_2310 _ _ (fun y hy => ?_) y hy
    refine step_s x0 26 2241 5 rfl rfl inb_S96x32x32_S96x1x5_0_26_27 inb_S96x2640_S96x5_0_2241 _ _ (fun y hy => ?_) y hy
    refine step_s x0 25 2171 6 rfl rfl inb_S96x32x32_S96x1x6_0_25_26 inb_S96x2640_S96x6_0_2171 _ _ (fun y hy => ?_) y hy
    refine step_s x0 24 2100 7 rfl rfl inb_S96x32x32_S96x1x7_0_24_25 inb_S96x2640_S96x7_0_2100 _ _ (fun y hy => ?_) y hy
    refine step_s x0 23 2028 8 rfl rfl inb_S96x32x32_S96x1x8_0_23_24 inb_S96x2640_S96x8_0_2028 _ _ (fun y hy => ?_) y hy
    refine step_s x0 22 1955 9 rfl rfl inb_S96x32x32_S96x1x9_0_22_23 inb_S96x2640_S96x9_0_1955 _ _ (fun y hy => ?_) y hy
    refine step_s x0 21 1881 10 rfl rfl inb_S96x32x32_S96x1x10_0_21_22 inb_S96x2640_S96x10_0_1881 _ _ (fun y hy => ?_) y hy
    refine step_s x0 20 1806 11 rfl rfl inb_S96x32x32_S96x1x11_0_20_21 inb_S96x2640_S96x11_0_1806 _ _ (fun y hy => ?_) y hy
    refine step_s x0 19 1730 12 rfl rfl inb_S96x32x32_S96x1x12_0_19_20 inb_S96x2640_S96x12_0_1730 _ _ (fun y hy => ?_) y hy
    refine step_s x0 18 1653 13 rfl rfl inb_S96x32x32_S96x1x13_0_18_19 inb_S96x2640_S96x13_0_1653 _ _ (fun y hy => ?_) y hy
    refine step_s x0 17 1575 14 rfl rfl inb_S96x32x32_S96x1x14_0_17_18 inb_S96x2640_S96x14_0_1575 _ _ (fun y hy => ?_) y hy
    refine step_s x0 16 1496 15 rfl rfl inb_S96x32x32_S96x1x15_0_16_17 inb_S96x2640_S96x15_0_1496 _ _ (fun y hy => ?_) y hy
    refine step_s x0 15 1416 16 rfl rfl inb_S96x32x32_S96x1x16_0_15_16 inb_S96x2640_S96x16_0_1416 _ _ (fun y hy => ?_) y hy
    refine step_s x0 14 1335 17 rfl rfl inb_S96x32x32_S96x1x17_0_14_15 inb_S96x2640_S96x17_0_1335 _ _ (fun y hy => ?_) y hy
    refine step_s x0 13 1253 18 rfl rfl inb_S96x32x32_S96x1x18_0_13_14 inb_S96x2640_S96x18_0_1253 _ _ (fun y hy => ?_) y hy
    refine step_s x0 12 1170 19 rfl rfl inb_S96x32x32_S96x1x19_0_12_13 inb_S96x2640_S96x19_0_1170 _ _ (fun y hy => ?_) y hy
    refine step_s x0 11 1086 20 rfl rfl inb_S96x32x32_S96x1x20_0_11_12 inb_S96x2640_S96x20_0_1086 _ _ (fun y hy => ?_) y hy
    refine step_s x0 10 1001 21 rfl rfl inb_S96x32x32_S96x1x21_0_10_11 inb_S96x2640_S96x21_0_1001 _ _ (fun y hy => ?_) y hy
    refine step_s x0 9 915 22 rfl rfl inb_S96x32x32_S96x1x22_0_9_10 inb_S96x2640_S96x22_0_915 _ _ (fun y hy => ?_) y hy
    refine step_s x0 8 828 23 rfl rfl inb_S96x32x32_S96x1x23_0_8_9 inb_S96x2640_S96x23_0_828 _ _ (fun y hy => ?_) y hy
    refine step_s x0 7 740 24 rfl rfl inb_S96x32x32_S96x1x24_0_7_8 inb_S96x2640_S96x24_0_740 _ _ (fun y hy => ?_) y hy
    refine step_s x0 6 651 25 rfl rfl inb_S96x32x32_S96x1x25_0_6_7 inb_S96x2640_S96x25_0_651 _ _ (fun y hy => ?_) y hy
    refine step_s x0 5 561 26 rfl rfl inb_S96x32x32_S96x1x26_0_5_6 inb_S96x2640_S96x26_0_561 _ _ (fun y hy => ?_) y hy
    refine step_s x0 4 470 27 rfl rfl inb_S96x32x32_S96x1x27_0_4_5 inb_S96x2640_S96x27_0_470 _ _ (fun y hy => ?_) y hy
    refine step_s x0 3 378 28 rfl rfl inb_S96x32x32_S96x1x28_0_3_4 inb_S96x2640_S96x28_0_378 _ _ (fun y hy => ?_) y hy
    refine step_s x0 2 285 29 rfl rfl inb_S96x32x32_S96x1x29_0_2_3 inb_S96x2640_S96x29_0_285 _ _ (fun y hy => ?_) y hy
    refine step_s x0 1 191 30 rfl rfl inb_S96x32x32_S96x1x30_0_1_2 inb_S96x2640_S96x30_0_191 _ _ (fun y hy => ?_) y hy
    refine step_s x0 0 96 31 rfl rfl inb_S96x32x32_S96x1x31_0_0_1 inb_S96x2640_S96x31_0_96 _ _ (fun y hy => ?_) y hy
    refine base_s x0 ![0, 0, 0] hz3 _ _ (fun x => ?_) y hy
    unfold k0_pay6
    pointwise
end

end Cert.Bwd.Q
-- ==== Proof.BwdPreQ.lean ====
/-
  What the condition on the backward call's arguments says of them: the one-hot rows are the orders of the products,
  the gradient's entries are real, and no norm of the rows that the call moves is the smallest divisor.
-/
module
public import proofs.«01_k».proof.Pre_ordered_q
public import proofs.«01_k».proof.Proof.BwdBits

@[expose] public section

set_option maxRecDepth 16384

noncomputable section

namespace Cert.Bwd.Q

open Cert.Pre_ordered_q Cert.Prep Cert.Bwd
open Idealize.ShloMosaic Idealize.ShloMosaic.TcCoe Idealize.SL.Sem

variable [Facts]

section
variable (g : FVec Ideal S96x2640 .f32) (P : FVec Ideal S96x32x32 .f32) (Q : FVec Ideal S96x64x64 .f32) (s : FVec Ideal S32x512 .f32) (q : FVec Ideal S64x512 .f32)

/-- The one-hot support rows are the reference's orders, -/
theorem onehot_s (h : (fn (F := Ideal) g P Q s q).1 = fun _ => 1#1) (n : Fin 96) (a j : Fin 32) :
    P (ix3 n a j) = if BwdRef.ordS (PrepRef.gram s q) n a = j then 1 else 0 := by
  have e : P = PrepRef.onehotS (PrepRef.gram s q) := eq_of_bits P (PrepRef.onehotS (PrepRef.gram s q)) h
  rw [e]
  unfold PrepRef.onehotS
  pointwise
  rw [PrepRef.orderS_at (PrepRef.gram s q) (by rw [gram_eq]; exact gram_symm s q)]
  exact onehot_word (by norm_num) _ _

/-- and so are the query rows. -/
theorem onehot_q (h : (fn (F := Ideal) g P Q s q).2.1 = fun _ => 1#1) (n : Fin 96) (a j : Fin 64) :
    Q (ix3 n a j) = if BwdRef.ordQ (PrepRef.gram s q) n a = j then 1 else 0 := by
  have e : Q = PrepRef.onehotQ (PrepRef.gram s q) := eq_of_bits Q (PrepRef.onehotQ (PrepRef.gram s q)) h
  rw [e]
  unfold PrepRef.onehotQ
  pointwise
  rw [PrepRef.orderQ_at (PrepRef.gram s q) (by rw [gram_eq]; exact gram_symm s q)]
  exact onehot_word (by norm_num) _ _

/-- The gradient's entries are real. -/
theorem real_g (h : (fn (F := Ideal) g P Q s q).2.2.1 = fun _ => 1#1) (i : S96x2640.Idx) : IsReal (g i) :=
  real_of_bits g Facts.bcast_S_S96x2640 h i

/-- No norm of a row that the call moves is the smallest divisor. -/
theorem norm_ne (h : (fn (F := Ideal) g P Q s q).2.2.2 = fun _ => 1#1) (i : Fin 64) :
    BwdRef.norm (PrepRef.stacked s q) (ix2 (qx i) 0) ≠ Ideal.ofBits .f32 0x2B8CBCCC#32 := by
  have h1 : BitVec.ofBool (decide (fn_norm_1 (F := Ideal) q (ix1 i) ≠ Ideal.ofBits .f32 0x2B8CBCCC#32)) = 1#1 := congrFun h (ix1 i)
  rw [ofBool_iff] at h1
  have e1 : fn_norm_1 (F := Ideal) q (ix1 i) = Ideal.sqrt (∑ k : Fin 512, q (ix2 i k) * q (ix2 i k)) := by
    unfold fn_norm_1
    dsimp only
    pointwise
  have e2 : ∀ k : Fin 512, PrepRef.stacked s q (ix2 (qx i) k) = q (ix2 i k) := by
    intro k
    unfold PrepRef.stacked
    pointwise
  rw [BwdRef.norm_at]
  simp only [e2]
  rwa [e1] at h1

end
end Cert.Bwd.Q
-- ==== Proof.BwdQValue.lean ====
/-
  The backward call that moves the query rows: what its result holds after the call, and that the reference computes the
  same.
-/
module
public import proofs.«01_k».proof.Defs
public import proofs.«01_k».proof.Proof.Gen.RBwdQIdeal.Run
public import proofs.«01_k».proof.Proof.BwdQBlock
public import proofs.«01_k».proof.Proof.BwdMath
public import proofs.«01_k».proof.Proof.BwdPreQ
public import Idealize.ShloMosaic.Lib.Claim

@[expose] public section

set_option maxRecDepth 16384

noncomputable section

namespace Cert.Bwd.Q

open Cert.KBwdQIdeal Cert.KBwdQIdeal.Gen Cert.KBwdQIdeal.Value Cert.Tri Cert.Bwd Cert.Prep
open Idealize.ShloMosaic Idealize.ShloMosaic.TcCoe Idealize.SL.Sem
open Idealize.ShloMosaic.Pipeline (Dat)
open Idealize.ShloMosaic.StableHlo (launchContents)

/-! ## The reference -/

/-- The table of the kept pairs' first positions, entry by entry, -/
theorem table_row : ∀ p : Fin 2640, Cert.RBwdQIdeal.lit0 p = BitVec.ofNat 32 (triRow p.val) ∧ triRow p.val < 97 := by
  decide +kernel

/-- and of their second. -/
theorem table_col : ∀ p : Fin 2640, Cert.RBwdQIdeal.lit1 p = BitVec.ofNat 32 (triCol p.val) ∧ triCol p.val < 97 := by
  decide +kernel

/-- The first table as an array, -/
def firsts : IVec Cert.RBwdQIdeal.S2640 32 := fun i => Cert.RBwdQIdeal.lit0 (Cert.RBwdQIdeal.S2640.rowMajor i)
/-- and the second. -/
def seconds : IVec Cert.RBwdQIdeal.S2640 32 := fun i => Cert.RBwdQIdeal.lit1 (Cert.RBwdQIdeal.S2640.rowMajor i)

/-- The first table, entry by entry, -/
theorem firsts_at (p : Fin 2640) : firsts (ix1 p) = BitVec.ofNat 32 (triRow p.val) ∧ triRow p.val < 97 :=
  ⟨(congrArg Cert.RBwdQIdeal.lit0 (Fin.ext (Shape.rowMajor_val_one (d := ![2640]) (ix1 p)) : Cert.RBwdQIdeal.S2640.rowMajor (ix1 p) = p)).trans (table_row p).1, (table_row p).2⟩
/-- and the second. -/
theorem seconds_at (p : Fin 2640) : seconds (ix1 p) = BitVec.ofNat 32 (triCol p.val) ∧ triCol p.val < 97 :=
  ⟨(congrArg Cert.RBwdQIdeal.lit1 (Fin.ext (Shape.rowMajor_val_one (d := ![2640]) (ix1 p)) : Cert.RBwdQIdeal.S2640.rowMajor (ix1 p) = p)).trans (table_col p).1, (table_col p).2⟩

/-- The reference's moved rows. -/
def moved (g : S96x2640.Idx → EReal) (s : S32x512.Idx → EReal) (q : S64x512.Idx → EReal) : S64x512.Idx → EReal :=
  subf (F := Ideal) (φ := .f32) q (mulf (F := Ideal) (φ := .f32) (broadcastInDim S64x512 ![] Cert.RBwdQIdeal.Gen.bcast_S_S64x512 (constant (F := Ideal) Cert.RBwdQIdeal.S_ .f32 0x3A83126F#32))
    (extractStridedSlice S64x512 ![32, 0] (BwdRef.back (PrepRef.stacked s q)
      (BwdRef.grad (BwdRef.scattered g (PrepRef.gram s q) firsts seconds) (PrepRef.scaled (PrepRef.stacked s q)))
      (BwdRef.norm (PrepRef.stacked s q)) (BwdRef.divisor (BwdRef.norm (PrepRef.stacked s q)))) Cert.RBwdQIdeal.Gen.slices_S96x512_S64x512_32_0))

section
variable (m : (ℓ : Loc Cert.RBwdQIdeal.nD Cert.RBwdQIdeal.τ Cert.RBwdQIdeal.sig) → Buf (Elt Ideal) ℓ) (c : Dev Cert.RBwdQIdeal.nD)

/-- The gradient, as launched with the reference. -/
abbrev rG : S96x2640.Idx → EReal := m ((c.tc : Thread Cert.RBwdQIdeal.nD Cert.RBwdQIdeal.τ).loc Cert.RBwdQIdeal.main_arg0)
/-- The support rows, as launched with the reference. -/
abbrev rS : S32x512.Idx → EReal := m ((c.tc : Thread Cert.RBwdQIdeal.nD Cert.RBwdQIdeal.τ).loc Cert.RBwdQIdeal.main_arg3)
/-- The query rows, as launched with the reference. -/
abbrev rQ : S64x512.Idx → EReal := m ((c.tc : Thread Cert.RBwdQIdeal.nD Cert.RBwdQIdeal.τ).loc Cert.RBwdQIdeal.main_arg4)

/-- The kept pairs' first vertices, in these words. -/
theorem ends_eq : Cert.RBwdQIdeal.Value.res_main_v39 (F := Ideal) (launchContents m c) = BwdRef.ends (PrepRef.gram (rS m c) (rQ m c)) firsts := rfl
/-- The second. -/
theorem ends_eq' : Cert.RBwdQIdeal.Value.res_main_v44 (F := Ideal) (launchContents m c) = BwdRef.ends (PrepRef.gram (rS m c) (rQ m c)) seconds := rfl

/-- The scattered gradient, in these words. -/
theorem scattered_eq : Cert.RBwdQIdeal.Value.res_main_v60 (F := Ideal) (launchContents m c)
    = BwdRef.scattered (rG m c) (PrepRef.gram (rS m c) (rQ m c)) firsts seconds := by
  unfold Cert.RBwdQIdeal.Value.res_main_v60 Cert.RBwdQIdeal.Value.res_main_v57
  rw [ends_eq, ends_eq']
  rfl

/-- The gradient of the scaled rows, in these words. -/
theorem grad_words : Cert.RBwdQIdeal.Value.res_main_v78 (F := Ideal) (launchContents m c)
    = BwdRef.grad (BwdRef.scattered (rG m c) (PrepRef.gram (rS m c) (rQ m c)) firsts seconds) (PrepRef.scaled (PrepRef.stacked (rS m c) (rQ m c))) := by
  rw [← scattered_eq]
  rfl

/-- The gradient of the rows, in these words. -/
theorem back_words : Cert.RBwdQIdeal.Value.res_main_v89 (F := Ideal) (launchContents m c)
    = BwdRef.back (PrepRef.stacked (rS m c) (rQ m c))
      (BwdRef.grad (BwdRef.scattered (rG m c) (PrepRef.gram (rS m c) (rQ m c)) firsts seconds) (PrepRef.scaled (PrepRef.stacked (rS m c) (rQ m c))))
      (BwdRef.norm (PrepRef.stacked (rS m c) (rQ m c))) (BwdRef.divisor (BwdRef.norm (PrepRef.stacked (rS m c) (rQ m c)))) := by
  rw [← grad_words]
  rfl

/-- The reference's result, in these words. -/
theorem out_words : subf (F := Ideal) (φ := .f32) (launchContents m c (Proc.devRef .tc Cert.RBwdQIdeal.main_arg4)) (mulf (F := Ideal) (φ := .f32) (broadcastInDim S64x512 ![] Cert.RBwdQIdeal.Gen.bcast_S_S64x512 (constant (F := Ideal) Cert.RBwdQIdeal.S_ .f32 0x3A83126F#32))
      (extractStridedSlice S64x512 ![32, 0] (Cert.RBwdQIdeal.Value.res_main_v89 (F := Ideal) (launchContents m c)) Cert.RBwdQIdeal.Gen.slices_S96x512_S64x512_32_0))
    = moved (rG m c) (rS m c) (rQ m c) := by
  rw [back_words]
  rfl

end

/-! ## The reference's rows are the kernel's -/

section
variable (g : S96x2640.Idx → EReal) (P : S96x32x32.Idx → EReal) (Q : S96x64x64.Idx → EReal) (s : S32x512.Idx → EReal) (q : S64x512.Idx → EReal)

/-- The kernel's moved rows, entry by entry. -/
theorem stored_at (i : Fin 64) (k : Fin 512) : stored g P Q s q (ix2 i k)
    = q (ix2 i k) - Ideal.ofBits .f32 0x3A83126F#32
      * (Cert.KBwdSIdeal.Gen.k0_pay71 (F := Ideal) P Q (Cert.KBwdSIdeal.Gen.k0_pay4 (F := Ideal) s q) (Cert.KBwdSIdeal.Gen.k0_pay5 (F := Ideal) s q) (S.dvs g) (S.dvq g) (dss g) (dsq g) (ix2 (qx i) k)
        - (if Ideal.ofBits .f32 0x2B8CBCCC#32 < Cert.KBwdSIdeal.Gen.k0_pay3 (F := Ideal) s q (ix2 (qx i) 0) then
            Cert.KBwdSIdeal.Gen.k0_pay73 (F := Ideal) P Q (Cert.KBwdSIdeal.Gen.k0_pay3 (F := Ideal) s q) (Cert.KBwdSIdeal.Gen.k0_pay5 (F := Ideal) s q) (S.dvs g) (S.dvq g) (dss g) (dsq g) (ix2 (qx i) 0)
            else 0) * Cert.KBwdSIdeal.Gen.k0_pay5 (F := Ideal) s q (ix2 (qx i) k)) := by
  obtain ⟨d, hd⟩ : ∃ d, d = Cert.KBwdSIdeal.Gen.k0_pay71 (F := Ideal) P Q (Cert.KBwdSIdeal.Gen.k0_pay4 (F := Ideal) s q) (Cert.KBwdSIdeal.Gen.k0_pay5 (F := Ideal) s q) (S.dvs g) (S.dvq g) (dss g) (dsq g) := ⟨_, rfl⟩
  obtain ⟨y, hy⟩ : ∃ y, y = Cert.KBwdSIdeal.Gen.k0_pay73 (F := Ideal) P Q (Cert.KBwdSIdeal.Gen.k0_pay3 (F := Ideal) s q) (Cert.KBwdSIdeal.Gen.k0_pay5 (F := Ideal) s q) (S.dvs g) (S.dvq g) (dss g) (dsq g) := ⟨_, rfl⟩
  obtain ⟨f, hf⟩ : ∃ f, f = Cert.KBwdSIdeal.Gen.k0_pay5 (F := Ideal) s q := ⟨_, rfl⟩
  obtain ⟨N, hN⟩ : ∃ N, N = Cert.KBwdSIdeal.Gen.k0_pay3 (F := Ideal) s q := ⟨_, rfl⟩
  have e : stored g P Q s q = k0_pay1 (F := Ideal) q f d (k0_pay72 (F := Ideal) N) y := by
    rw [hd, hy, hf, hN]
    rfl
  rw [e, ← hd, ← hy, ← hf, ← hN]
  unfold k0_pay1 k0_pay72
  pointwise

variable [Cert.Pre_ordered_q.Facts]

/-- Under the condition the reference's moved rows are the kernel's. -/
theorem moved_eq (h0 : (Cert.Pre_ordered_q.fn (F := Ideal) g P Q s q).1 = fun _ => 1#1) (h1 : (Cert.Pre_ordered_q.fn (F := Ideal) g P Q s q).2.1 = fun _ => 1#1)
    (h2 : (Cert.Pre_ordered_q.fn (F := Ideal) g P Q s q).2.2.1 = fun _ => 1#1) (h3 : (Cert.Pre_ordered_q.fn (F := Ideal) g P Q s q).2.2.2 = fun _ => 1#1) :
    moved g s q = stored g P Q s q := by
  funext i
  obtain ⟨n, k, rfl⟩ : ∃ n k, i = ix2 n k := ⟨i 0, i 1, by funext b; fin_cases b <;> rfl⟩
  have hb := back_eq g P Q s q (onehot_s g P Q s q h0) (onehot_q g P Q s q h1) (real_g g P Q s q h2)
    firsts seconds firsts_at seconds_at (qx n) (norm_ne g P Q s q h3 n) k
  rw [stored_at, ← hb]
  unfold moved
  obtain ⟨B, hB⟩ : ∃ B, B = BwdRef.back (PrepRef.stacked s q)
      (BwdRef.grad (BwdRef.scattered g (PrepRef.gram s q) firsts seconds) (PrepRef.scaled (PrepRef.stacked s q)))
      (BwdRef.norm (PrepRef.stacked s q)) (BwdRef.divisor (BwdRef.norm (PrepRef.stacked s q))) := ⟨_, rfl⟩
  rw [← hB]
  pointwise

end

/-! ## The call -/

variable (m : (ℓ : Loc nD τ sig) → Buf (Elt Ideal) ℓ)

/-- The gradient, as launched. -/
abbrev a0 (c : Dev nD) : S96x2640.Idx → EReal := m ((c : Thread nD τ).loc main_arg0)
/-- The one-hot support orders, as launched. -/
abbrev a1 (c : Dev nD) : S96x32x32.Idx → EReal := m ((c : Thread nD τ).loc main_arg1)
/-- The one-hot query orders, as launched. -/
abbrev a2 (c : Dev nD) : S96x64x64.Idx → EReal := m ((c : Thread nD τ).loc main_arg2)
/-- The support rows, as launched. -/
abbrev a3 (c : Dev nD) : S32x512.Idx → EReal := m ((c : Thread nD τ).loc main_arg3)
/-- The query rows, as launched. -/
abbrev a4 (c : Dev nD) : S64x512.Idx → EReal := m ((c : Thread nD τ).loc main_arg4)

/-- The call reads the whole of argument 0. -/
theorem blk_0 (c : Dev nD) (t : Fin cfg0.N) : iblk m c 0 t = a0 m c := by
  have hi : ∀ t : Fin cfg0.N, win0_0.index t 0 = 0 ∧ win0_0.index t 1 = 0 := (by decide +kernel : ∀ t : Fin grid0.N, _)
  funext i
  unfold iblk
  rw [View.read_apply]
  show V m c main_arg0 _ = _
  rw [V_main_arg0]
  refine congrArg (a0 m c) (funext fun b => Fin.ext ?_)
  match b with
  | ⟨0, _⟩ => show win0_0.index t 0 * 96 + 1 * (i 0).val = (i 0).val; rw [(hi t).1]; omega
  | ⟨1, _⟩ => show win0_0.index t 1 * 2640 + 1 * (i 1).val = (i 1).val; rw [(hi t).2]; omega

/-- The call reads the whole of argument 1. -/
theorem blk_1 (c : Dev nD) (t : Fin cfg0.N) : iblk m c 1 t = a1 m c := by
  have hi : ∀ t : Fin cfg0.N, win0_1.index t 0 = 0 ∧ win0_1.index t 1 = 0 ∧ win0_1.index t 2 = 0 := (by decide +kernel : ∀ t : Fin grid0.N, _)
  funext i
  unfold iblk
  rw [View.read_apply]
  show V m c main_arg1 _ = _
  rw [V_main_arg1]
  refine congrArg (a1 m c) (funext fun b => Fin.ext ?_)
  match b with
  | ⟨0, _⟩ => show win0_1.index t 0 * 96 + 1 * (i 0).val = (i 0).val; rw [(hi t).1]; omega
  | ⟨1, _⟩ => show win0_1.index t 1 * 32 + 1 * (i 1).val = (i 1).val; rw [(hi t).2.1]; omega
  | ⟨2, _⟩ => show win0_1.index t 2 * 32 + 1 * (i 2).val = (i 2).val; rw [(hi t).2.2]; omega

/-- The call reads the whole of argument 2. -/
theorem blk_2 (c : Dev nD) (t : Fin cfg0.N) : iblk m c 2 t = a2 m c := by
  have hi : ∀ t : Fin cfg0.N, win0_2.index t 0 = 0 ∧ win0_2.index t 1 = 0 ∧ win0_2.index t 2 = 0 := (by decide +kernel : ∀ t : Fin grid0.N, _)
  funext i
  unfold iblk
  rw [View.read_apply]
  show V m c main_arg2 _ = _
  rw [V_main_arg2]
  refine congrArg (a2 m c) (funext fun b => Fin.ext ?_)
  match b with
  | ⟨0, _⟩ => show win0_2.index t 0 * 96 + 1 * (i 0).val = (i 0).val; rw [(hi t).1]; omega
  | ⟨1, _⟩ => show win0_2.index t 1 * 64 + 1 * (i 1).val = (i 1).val; rw [(hi t).2.1]; omega
  | ⟨2, _⟩ => show win0_2.index t 2 * 64 + 1 * (i 2).val = (i 2).val; rw [(hi t).2.2]; omega

/-- The call reads the whole of argument 3. -/
theorem blk_3 (c : Dev nD) (t : Fin cfg0.N) : iblk m c 3 t = a3 m c := by
  have hi : ∀ t : Fin cfg0.N, win0_3.index t 0 = 0 ∧ win0_3.index t 1 = 0 := (by decide +kernel : ∀ t : Fin grid0.N, _)
  funext i
  unfold iblk
  rw [View.read_apply]
  show V m c main_arg3 _ = _
  rw [V_main_arg3]
  refine congrArg (a3 m c) (funext fun b => Fin.ext ?_)
  match b with
  | ⟨0, _⟩ => show win0_3.index t 0 * 32 + 1 * (i 0).val = (i 0).val; rw [(hi t).1]; omega
  | ⟨1, _⟩ => show win0_3.index t 1 * 512 + 1 * (i 1).val = (i 1).val; rw [(hi t).2]; omega

/-- The call reads the whole of argument 4. -/
theorem blk_4 (c : Dev nD) (t : Fin cfg0.N) : iblk m c 4 t = a4 m c := by
  have hi : ∀ t : Fin cfg0.N, win0_4.index t 0 = 0 ∧ win0_4.index t 1 = 0 := (by decide +kernel : ∀ t : Fin grid0.N, _)
  funext i
  unfold iblk
  rw [View.read_apply]
  show V m c main_arg4 _ = _
  rw [V_main_arg4]
  refine congrArg (a4 m c) (funext fun b => Fin.ext ?_)
  match b with
  | ⟨0, _⟩ => show win0_4.index t 0 * 64 + 1 * (i 0).val = (i 0).val; rw [(hi t).1]; omega
  | ⟨1, _⟩ => show win0_4.index t 1 * 512 + 1 * (i 1).val = (i 1).val; rw [(hi t).2]; omega

/-- The call leaves the moved rows. -/
theorem result (c : Dev nD) : (dats m 0 c).arrAt 5 cfg0.N = stored (a0 m c) (a1 m c) (a2 m c) (a3 m c) (a4 m c) := by
  have hi : ∀ t : Fin cfg0.N, win0_5.index t 0 = 0 ∧ win0_5.index t 1 = 0 := (by decide +kernel : ∀ t : Fin grid0.N, _)
  have hemb : ∀ (t : Fin cfg0.N) (y : S64x512.Idx), ((cfg0.win 5).blk t).view.emb y = y := by
    intro t y
    refine funext fun b => Fin.ext ?_
    match b with
    | ⟨0, _⟩ => show win0_5.index t 0 * 64 + 1 * (y 0).val = (y 0).val; rw [(hi t).1]; omega
    | ⟨1, _⟩ => show win0_5.index t 1 * 512 + 1 * (y 1).val = (y 1).val; rw [(hi t).2]; omega
  obtain ⟨R, hR⟩ : ∃ R, R = stored (a0 m c) (a1 m c) (a2 m c) (a3 m c) (a4 m c) := ⟨_, rfl⟩
  rw [← hR]
  refine (dats m 0 c).arrAt_eq_of_cover 5 R (fun t _ => ?_) (fun i => ⟨t0_0, flush0_5 t0_0, ?_⟩)
  · rw [flushed5_A]
    funext y
    rw [View.read_apply, block, blk_0, blk_1, blk_2, blk_3, blk_4, ← hR]
    exact (congrArg R (hemb t y)).symm
  · have h := ((cfg0.win 5).blk t0_0).view.emb_mem_set i
    rwa [hemb t0_0 i] at h

/-- Under the condition kernel and reference leave the same rows. -/
theorem algebraic [hPre : Cert.Pre_ordered_q.Facts] : Cert.algebraic_KBwdQIdeal_RBwdQIdeal_pre_ordered_q (hKBwdQIdeal := Cert.KBwdQIdeal.Gen.facts) (hRBwdQIdeal := Cert.RBwdQIdeal.Gen.facts) (hPre_ordered_q := hPre) :=
  fun m ρ m' ρ' hpre hag => ⟨fun c => stored (a0 m c) (a1 m c) (a2 m c) (a3 m c) (a4 m c),
    (θ_run _ _ _).mono (fun _ h c => ⟨(h c).1.trans (result m c), (h c).2⟩) (Cert.KBwdQIdeal.Value.run_blocks m ρ),
    (θ_run _ _ _).mono (fun _ h c => by
      have e0 : rG m' c = a0 m c := (hag c).1
      have e3 : rS m' c = a3 m c := (hag c).2.2.2.1
      have e4 : rQ m' c = a4 m c := (hag c).2.2.2.2
      obtain ⟨h0, h1, h2, h3⟩ := hpre c
      refine ⟨(h c).1.trans ((out_words m' c).trans ?_), (h c).2⟩
      rw [e0, e3, e4]
      exact moved_eq _ _ _ _ _ h0 h1 h2 h3) (Cert.RBwdQIdeal.Value.run m' ρ')⟩

end Cert.Bwd.Q

end
-- ==== Proof.lean ====
/-
  The certificate: for each of the calls, the frames of the kernel, of its exact reading and of its reference, and the
  equation of the exact reading with the reference.
-/
module

public import proofs.«01_k».proof.Defs
public import proofs.«01_k».proof.Proof.Gen.KMlp12.Frame
public import proofs.«01_k».proof.Proof.Gen.KMlp3.Frame
public import proofs.«01_k».proof.Proof.Gen.KFinal.Frame
public import proofs.«01_k».proof.Proof.Gen.KPrep.Frame
public import proofs.«01_k».proof.Proof.Gen.KPrep0.Frame
public import proofs.«01_k».proof.Proof.Gen.KBwdS.Frame
public import proofs.«01_k».proof.Proof.Gen.KBwdQ.Frame
public import proofs.«01_k».proof.Proof.Mlp12Value
public import proofs.«01_k».proof.Proof.Mlp3Value
public import proofs.«01_k».proof.Proof.FinalValue
public import proofs.«01_k».proof.Proof.PrepValue
public import proofs.«01_k».proof.Proof.Prep0Value
public import proofs.«01_k».proof.Proof.BwdSValue
public import proofs.«01_k».proof.Proof.BwdQValue
public import proofs.«01_k».proof.Proof.Gen.Pre_ordered_s
public import proofs.«01_k».proof.Proof.Gen.Pre_ordered_q
public import Idealize.ShloMosaic.Adequacy
public import Idealize.ShloMosaic.Init

@[expose] public section

noncomputable section

namespace Cert.Proof

open Idealize.ShloMosaic Idealize.SL.Sem

/-- The reference of the call leaves its arguments as they were, and no counter raised: it declares no semaphore. -/
theorem frame_RMlp12 : Cert.quiescent_RMlp12Ideal (hRMlp12Ideal := Cert.RMlp12Ideal.Gen.facts) := fun m ρ _ =>
  (θ_run _ _ _).mono (fun r h => ⟨fun c => (h c).2, sem_eq_zero_of_no_sems (by decide) r.2⟩) (Cert.RMlp12Ideal.Value.run m ρ)

/-- The reference of the call leaves its arguments as they were, and no counter raised: it declares no semaphore. -/
theorem frame_RMlp3 : Cert.quiescent_RMlp3Ideal (hRMlp3Ideal := Cert.RMlp3Ideal.Gen.facts) := fun m ρ _ =>
  (θ_run _ _ _).mono (fun r h => ⟨fun c => (h c).2, sem_eq_zero_of_no_sems (by decide) r.2⟩) (Cert.RMlp3Ideal.Value.run m ρ)

/-- The reference of the call leaves its arguments as they were, and no counter raised: it declares no semaphore. -/
theorem frame_RFinal : Cert.quiescent_RFinalIdeal (hRFinalIdeal := Cert.RFinalIdeal.Gen.facts) := fun m ρ _ =>
  (θ_run _ _ _).mono (fun r h => ⟨fun c => (h c).2, sem_eq_zero_of_no_sems (by decide) r.2⟩) (Cert.RFinalIdeal.Value.run m ρ)

/-- The reference of the call leaves its arguments as they were, and no counter raised: it declares no semaphore. -/
theorem frame_RPrep : Cert.quiescent_RPrepIdeal (hRPrepIdeal := Cert.RPrepIdeal.Gen.facts) := fun m ρ _ =>
  (θ_run _ _ _).mono (fun r h => ⟨fun c => (h c).2.2.2, sem_eq_zero_of_no_sems (by decide) r.2⟩) (Cert.RPrepIdeal.Value.run m ρ)

/-- The reference of the call leaves its arguments as they were, and no counter raised: it declares no semaphore. -/
theorem frame_RPrep0 : Cert.quiescent_RPrep0Ideal (hRPrep0Ideal := Cert.RPrep0Ideal.Gen.facts) := fun m ρ _ =>
  (θ_run _ _ _).mono (fun r h => ⟨fun c => (h c).2.2.2.2, sem_eq_zero_of_no_sems (by decide) r.2⟩) (Cert.RPrep0Ideal.Value.run m ρ)

/-- The reference of the call leaves its arguments as they were, and no counter raised: it declares no semaphore. -/
theorem frame_RBwdS : Cert.quiescent_RBwdSIdeal (hRBwdSIdeal := Cert.RBwdSIdeal.Gen.facts) := fun m ρ _ =>
  (θ_run _ _ _).mono (fun r h => ⟨fun c => (h c).2, sem_eq_zero_of_no_sems (by decide) r.2⟩) (Cert.RBwdSIdeal.Value.run m ρ)

/-- The reference of the call leaves its arguments as they were, and no counter raised: it declares no semaphore. -/
theorem frame_RBwdQ : Cert.quiescent_RBwdQIdeal (hRBwdQIdeal := Cert.RBwdQIdeal.Gen.facts) := fun m ρ _ =>
  (θ_run _ _ _).mono (fun r h => ⟨fun c => (h c).2, sem_eq_zero_of_no_sems (by decide) r.2⟩) (Cert.RBwdQIdeal.Value.run m ρ)

/-- Everything claimed. -/
theorem claim : Cert.Claim :=
  ⟨Cert.KMlp12.Gen.facts, Cert.KMlp12Ideal.Gen.facts, Cert.RMlp12Ideal.Gen.facts, Cert.KMlp3.Gen.facts, Cert.KMlp3Ideal.Gen.facts, Cert.RMlp3Ideal.Gen.facts, Cert.KFinal.Gen.facts, Cert.KFinalIdeal.Gen.facts, Cert.RFinalIdeal.Gen.facts,
    Cert.KPrep.Gen.facts, Cert.KPrepIdeal.Gen.facts, Cert.RPrepIdeal.Gen.facts, Cert.KPrep0.Gen.facts, Cert.KPrep0Ideal.Gen.facts, Cert.RPrep0Ideal.Gen.facts,
    Cert.KBwdS.Gen.facts, Cert.KBwdSIdeal.Gen.facts, Cert.RBwdSIdeal.Gen.facts, Cert.KBwdQ.Gen.facts, Cert.KBwdQIdeal.Gen.facts, Cert.RBwdQIdeal.Gen.facts,
    Cert.Pre_ordered_s.Gen.facts, Cert.Pre_ordered_q.Gen.facts,
    fun m ρ _ => Cert.KMlp12.Gen.frame m ρ, fun m ρ _ => Cert.KMlp12Ideal.Gen.frame m ρ, frame_RMlp12,
    fun m ρ _ => Cert.KMlp3.Gen.frame m ρ, fun m ρ _ => Cert.KMlp3Ideal.Gen.frame m ρ, frame_RMlp3,
    fun m ρ _ => Cert.KFinal.Gen.frame m ρ, fun m ρ _ => Cert.KFinalIdeal.Gen.frame m ρ, frame_RFinal,
    fun m ρ _ => Cert.KPrep.Gen.frame m ρ, fun m ρ _ => Cert.KPrepIdeal.Gen.frame m ρ, frame_RPrep,
    fun m ρ _ => Cert.KPrep0.Gen.frame m ρ, fun m ρ _ => Cert.KPrep0Ideal.Gen.frame m ρ, frame_RPrep0,
    fun m ρ _ => Cert.KBwdS.Gen.frame m ρ, fun m ρ _ => Cert.KBwdSIdeal.Gen.frame m ρ, fun m ρ _ => Cert.KBwdSIdeal.Gen.frame m ρ, frame_RBwdS, fun m ρ _ => frame_RBwdS m ρ trivial,
    fun m ρ _ => Cert.KBwdQ.Gen.frame m ρ, fun m ρ _ => Cert.KBwdQIdeal.Gen.frame m ρ, fun m ρ _ => Cert.KBwdQIdeal.Gen.frame m ρ, frame_RBwdQ, fun m ρ _ => frame_RBwdQ m ρ trivial,
    trivial, Cert.Mlp12.algebraic,
    trivial, Cert.Mlp3.algebraic,
    trivial, Cert.Final.algebraic,
    trivial, Cert.Prep.algebraic,
    trivial, Cert.Prep0.algebraic,
    trivial, Cert.Bwd.S.algebraic,
    trivial, Cert.Bwd.Q.algebraic⟩

end Cert.Proof

end
